-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v99_0)) (v1 : (c : Dev Cert.Kernel13Ideal.nD) → Buf (Elt Ideal) ((c.tc : Thread Cert.Kernel13Ideal.nD Cert.Kernel13Ideal.τ).loc Cert.Kernel13Ideal.main_v99_1)) (v2 : (c : Dev Cert.Kernel13Ideal.nD) → Buf (Elt Ideal) ((c.tc : Thread Cert.Kernel13Ideal.nD Cert.Kernel13Ideal.τ).loc Cert.Kernel13Ideal.main_v99_2)) (v3 : (c : Dev Cert.Kernel13Ideal.nD) → Buf (Elt Ideal) ((c.tc : Thread Cert.Kernel13Ideal.nD Cert.Kernel13Ideal.τ).loc Cert.Kernel13Ideal.main_v99_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v99_0) = v0 c
          ∧ r.2.mem ((c.tc : Thread Cert.Kernel13Ideal.nD Cert.Kernel13Ideal.τ).loc Cert.Kernel13Ideal.main_v99_1) = v1 c
          ∧ r.2.mem ((c.tc : Thread Cert.Kernel13Ideal.nD Cert.Kernel13Ideal.τ).loc Cert.Kernel13Ideal.main_v99_2) = v2 c
          ∧ r.2.mem ((c.tc : Thread Cert.Kernel13Ideal.nD Cert.Kernel13Ideal.τ).loc Cert.Kernel13Ideal.main_v99_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v172) = v0 c
          ∧ r.2.mem ((c.tc : Thread Cert.Reference13Ideal.nD Cert.Reference13Ideal.τ).loc Cert.Reference13Ideal.main_v174) = v1 c
          ∧ r.2.mem ((c.tc : Thread Cert.Reference13Ideal.nD Cert.Reference13Ideal.τ).loc Cert.Reference13Ideal.main_v177) = v2 c
          ∧ r.2.mem ((c.tc : Thread Cert.Reference13Ideal.nD Cert.Reference13Ideal.τ).loc Cert.Reference13Ideal.main_v180) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v94_0)) (v1 : (c : Dev Cert.Kernel14Ideal.nD) → Buf (Elt Ideal) ((c.tc : Thread Cert.Kernel14Ideal.nD Cert.Kernel14Ideal.τ).loc Cert.Kernel14Ideal.main_v94_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v94_0) = v0 c
          ∧ r.2.mem ((c.tc : Thread Cert.Kernel14Ideal.nD Cert.Kernel14Ideal.τ).loc Cert.Kernel14Ideal.main_v94_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v179) = v0 c
          ∧ r.2.mem ((c.tc : Thread Cert.Reference14Ideal.nD Cert.Reference14Ideal.τ).loc Cert.Reference14Ideal.main_v184) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S1024x8192 : Shape := ⟨2, ![1024, 8192]⟩
abbrev S256x256 : Shape := ⟨2, ![256, 256]⟩
abbrev S1x256x256 : Shape := ⟨3, ![1, 256, 256]⟩
abbrev S8192x256 : Shape := ⟨2, ![8192, 256]⟩
abbrev S16x256x512 : Shape := ⟨3, ![16, 256, 512]⟩
abbrev S_ : Shape := ⟨0, ![]⟩

class Facts : Prop where
  bitsLt_bf16_f32 : FTy.bits .bf16 < FTy.bits .f32
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S1024x8192 .bf16) (main_arg1 : FVec F S256x256 .bf16) (main_arg2 : FVec F S1x256x256 .bf16) (main_arg3 : FVec F S8192x256 .bf16) (main_arg4 : FVec F S16x256x512 .bf16) : IVec S_ 1 :=
  let main_v0 : FVec F S1024x8192 .f32 := (extf .f32 · bitsLt_bf16_f32) main_arg0
  let main_v1 : FVec F S1024x8192 .f32 := Host.absf main_v0
  let main_cst : FVec F S_ .f32 := constant S_ .f32 0x7F800000#32
  let main_v2 : FVec F S1024x8192 .f32 := broadcastInDim S1024x8192 ![] bcast_S_S1024x8192 main_cst
  let main_v3 : IVec S1024x8192 1 := cmpf .olt main_v1 main_v2
  let main_c : IVec S_ 1 := constantI S_ 1 1#1
  let main_v4 : IVec S_ 1 := (fun x v => Host.reduce IntOp.andi x v reducesTo_S1024x8192_S_d0_1 h_S_) main_v3 main_c
  let main_v5 : FVec F S256x256 .f32 := (extf .f32 · bitsLt_bf16_f32) main_arg1
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  let main_v11 : FVec F S8192x256 .f32 := (extf .f32 · bitsLt_bf16_f32) main_arg3
  let main_v12 : FVec F S8192x256 .f32 := Host.absf main_v11
  let main_cst_2 : FVec F S_ .f32 := constant S_ .f32 0x7F800000#32
  let main_v13 : FVec F S8192x256 .f32 := broadcastInDim S8192x256 ![] bcast_S_S8192x256 main_cst_2
  let main_v14 : IVec S8192x256 1 := cmpf .olt main_v12 main_v13
  let main_c_3 : IVec S_ 1 := constantI S_ 1 1#1
  let main_v15 : IVec S_ 1 := (fun x v => Host.reduce IntOp.andi x v reducesTo_S8192x256_S_d0_1 h_S_) main_v14 main_c_3
  let main_v16 : IVec S_ 1 := andi main_v10 main_v15
  main_v16
-- ==== Pre_finite2.lean ====
abbrev S2048x8192 : Shape := ⟨2, ![2048, 8192]⟩
abbrev S256x2048 : Shape := ⟨2, ![256, 2048]⟩
abbrev S1x1024x256 : Shape := ⟨3, ![1, 1024, 256]⟩
abbrev S8192x2048 : Shape := ⟨2, ![8192, 2048]⟩
abbrev S16x1024x512 : Shape := ⟨3, ![16, 1024, 512]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S2048x8192 .bf16) (main_arg1 : FVec F S256x2048 .bf16) (main_arg2 : FVec F S1x1024x256 .bf16) (main_arg3 : FVec F S8192x2048 .bf16) (main_arg4 : FVec F S16x1024x512 .bf16) : IVec S_ 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  let main_c : IVec S_ 1 := constantI S_ 1 1#1
  let main_v4 : IVec S_ 1 := (fun x v => Host.reduce IntOp.andi x v reducesTo_S2048x8192_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S8192x2048 .f32 := (extf .f32 · bitsLt_bf16_f32) main_arg3
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  main_v16
-- ==== Kernel.lean ====
abbrev S1024x8192 : Shape := ⟨2, ![1024, 8192]⟩
abbrev S256x256 : Shape := ⟨2, ![256, 256]⟩
abbrev S1x256x256 : Shape := ⟨3, ![1, 256, 256]⟩
abbrev S8192x256 : Shape := ⟨2, ![8192, 256]⟩
abbrev S16x256x512 : Shape := ⟨3, ![16, 256, 512]⟩
abbrev S8192x1024 : Shape := ⟨2, ![8192, 1024]⟩
abbrev S128x2048 : Shape := ⟨2, ![128, 2048]⟩
abbrev S256x128 : Shape := ⟨2, ![256, 128]⟩
abbrev S1x128x256 : Shape := ⟨3, ![1, 128, 256]⟩
abbrev S8192x128 : Shape := ⟨2, ![8192, 128]⟩
abbrev S16x128x512 : Shape := ⟨3, ![16, 128, 512]⟩
abbrev S2048x128 : Shape := ⟨2, ![2048, 128]⟩
abbrev S4x512x512 : Shape := ⟨3, ![4, 512, 512]⟩
abbrev S128x512 : Shape := ⟨2, ![128, 512]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S512x128 : Shape := ⟨2, ![512, 128]⟩
abbrev S512x512 : Shape := ⟨2, ![512, 512]⟩
abbrev S1x512x512 : Shape := ⟨3, ![1, 512, 512]⟩
abbrev S128x256 : Shape := ⟨2, ![128, 256]⟩
abbrev S1x128x512 : Shape := ⟨3, ![1, 128, 512]⟩

abbrev nBuf : Space → Nat
  | .hbm => 6
  | .vmem => 13
  | .smem => 0
  | _ => 0

abbrev bufTy : (tb : Table) → Fin (tcTables nBuf tb) → BufTy
  | .hbm, ⟨0, _⟩ => ⟨S1024x8192, .bf16⟩
  | .hbm, ⟨1, _⟩ => ⟨S256x256, .bf16⟩
  | .hbm, ⟨2, _⟩ => ⟨S1x256x256, .bf16⟩
  | .hbm, ⟨3, _⟩ => ⟨S8192x256, .bf16⟩
  | .hbm, ⟨4, _⟩ => ⟨S16x256x512, .bf16⟩
  | .hbm, ⟨5, _⟩ => ⟨S8192x1024, .bf16⟩
  | .local _ .vmem, ⟨0, _⟩ => ⟨S128x2048, .bf16⟩
  | .local _ .vmem, ⟨1, _⟩ => ⟨S128x2048, .bf16⟩
  | .local _ .vmem, ⟨2, _⟩ => ⟨S256x128, .bf16⟩
  | .local _ .vmem, ⟨3, _⟩ => ⟨S256x128, .bf16⟩
  | .local _ .vmem, ⟨4, _⟩ => ⟨S1x128x256, .bf16⟩
  | .local _ .vmem, ⟨5, _⟩ => ⟨S1x128x256, .bf16⟩
  | .local _ .vmem, ⟨6, _⟩ => ⟨S8192x128, .bf16⟩
  | .local _ .vmem, ⟨7, _⟩ => ⟨S8192x128, .bf16⟩
  | .local _ .vmem, ⟨8, _⟩ => ⟨S16x128x512, .bf16⟩
  | .local _ .vmem, ⟨9, _⟩ => ⟨S16x128x512, .bf16⟩
  | .local _ .vmem, ⟨10, _⟩ => ⟨S2048x128, .bf16⟩
  | .local _ .vmem, ⟨11, _⟩ => ⟨S2048x128, .bf16⟩
  | .local _ .vmem, ⟨12, _⟩ => ⟨S4x512x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1024x8192 : Shape := ⟨2, ![1024, 8192]⟩
abbrev S256x256 : Shape := ⟨2, ![256, 256]⟩
abbrev S1x256x256 : Shape := ⟨3, ![1, 256, 256]⟩
abbrev S8192x256 : Shape := ⟨2, ![8192, 256]⟩
abbrev S16x256x512 : Shape := ⟨3, ![16, 256, 512]⟩
abbrev S8192x1024 : Shape := ⟨2, ![8192, 1024]⟩
abbrev S8192x2x4x128 : Shape := ⟨4, ![8192, 2, 4, 128]⟩
abbrev S8448x256 : Shape := ⟨2, ![8448, 256]⟩
abbrev S8448x2x128 : Shape := ⟨3, ![8448, 2, 128]⟩
abbrev S16x512x256 : Shape := ⟨3, ![16, 512, 256]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩

abbrev nBuf : Space → Nat
  | .hbm => 43
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S256x256, .bf16⟩
  | .hbm, ⟨2, _⟩ => ⟨S1x256x256, .bf16⟩
  | .hbm, ⟨3, _⟩ => ⟨S8192x256, .bf16⟩
  | .hbm, ⟨4, _⟩ => ⟨S16x256x512, .bf16⟩
  | .hbm, ⟨5, _⟩ => ⟨S1024x8192, .f32⟩
  | .hbm, ⟨6, _⟩ => ⟨S256x256, .f32⟩
  | .hbm, ⟨7, _⟩ => ⟨S1x256x256, .f32⟩
  | .hbm, ⟨8, _⟩ => ⟨S8192x256, .f32⟩
  | .hbm, ⟨9, _⟩ => ⟨S16x256x512, .f32⟩
  | .hbm, ⟨10, _⟩ => ⟨S8192x1024, .f32⟩
  | .hbm, ⟨11, _⟩ => ⟨S8192x2x4x128, .f32⟩
  | .hbm, ⟨12, _⟩ => ⟨S8448x256, .f32⟩
  | .hbm, ⟨13, _⟩ => ⟨S8448x2x128, .f32⟩
  | .hbm, ⟨14, _⟩ => ⟨S16x512x256, .f32⟩
  | .hbm, ⟨15, _⟩ => ⟨S8192x256, .f32⟩
  | .hbm, ⟨16, _⟩ => ⟨S256x256, .f32⟩
  | .hbm, ⟨17, _⟩ => ⟨S256x256, .f32⟩
  | .hbm, ⟨18, _⟩ => ⟨S8448x256, .f32⟩
  | .hbm, ⟨19, _⟩ => ⟨S8448x2x128, .f32⟩
  | .hbm, ⟨20, _⟩ => ⟨S2x8448x8192x4, .f32⟩
  | .hbm, ⟨21, _⟩ => ⟨S2x4x8192x8448, .f32⟩
  | .hbm, ⟨22, _⟩ => ⟨S2x4x8192x8448, .bf16⟩
  | .hbm, ⟨23, _⟩ => ⟨S2x4x8192x8448, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x8448, .f32⟩
  | .hbm, ⟨28, _⟩ => ⟨S2x4x8192x8448, .f32⟩
  | .hbm, ⟨29, _⟩ => ⟨S_, .f32⟩
  | .hbm, ⟨30, _⟩ => ⟨S2x4x8192x8448, .f32⟩
  | .hbm, ⟨31, _⟩ => ⟨S2x4x8192x8448, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x8448, .f32⟩
  | .hbm, ⟨36, _⟩ => ⟨S2x4x8192x8448, .f32⟩
  | .hbm, ⟨37, _⟩ => ⟨S2x4x8192x8448, .bf16⟩
  | .hbm, ⟨38, _⟩ => ⟨S2x4x8192x8448, .f32⟩
  | .hbm, ⟨39, _⟩ => ⟨S2x128x4x8192, .f32⟩
  | .hbm, ⟨40, _⟩ => ⟨S8192x2x4x128, .f32⟩
  | .hbm, ⟨41, _⟩ => ⟨S8192x1024, .f32⟩
  | .hbm, ⟨42, _⟩ => ⟨S8192x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel2.lean ====
abbrev S2048x8192 : Shape := ⟨2, ![2048, 8192]⟩
abbrev S256x2048 : Shape := ⟨2, ![256, 2048]⟩
abbrev S1x1024x256 : Shape := ⟨3, ![1, 1024, 256]⟩
abbrev S8192x2048 : Shape := ⟨2, ![8192, 2048]⟩
abbrev S16x1024x512 : Shape := ⟨3, ![16, 1024, 512]⟩
abbrev S8192x1024 : Shape := ⟨2, ![8192, 1024]⟩
abbrev S256x256 : Shape := ⟨2, ![256, 256]⟩
abbrev S1x128x256 : Shape := ⟨3, ![1, 128, 256]⟩
abbrev S8192x256 : Shape := ⟨2, ![8192, 256]⟩
abbrev S16x128x512 : Shape := ⟨3, ![16, 128, 512]⟩
abbrev S2048x128 : Shape := ⟨2, ![2048, 128]⟩
abbrev S4x512x512 : Shape := ⟨3, ![4, 512, 512]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S512x256 : Shape := ⟨2, ![512, 256]⟩
abbrev S512x512 : Shape := ⟨2, ![512, 512]⟩
abbrev S1x512x512 : Shape := ⟨3, ![1, 512, 512]⟩
abbrev S128x256 : Shape := ⟨2, ![128, 256]⟩
abbrev S128x512 : Shape := ⟨2, ![128, 512]⟩
abbrev S1x128x512 : Shape := ⟨3, ![1, 128, 512]⟩
abbrev S512x128 : Shape := ⟨2, ![512, 128]⟩

abbrev nBuf : Space → Nat
  | .hbm => 6
  | .vmem => 13
  | .smem => 0
  | _ => 0

abbrev bufTy : (tb : Table) → Fin (tcTables nBuf tb) → BufTy
  | .hbm, ⟨0, _⟩ => ⟨S2048x8192, .bf16⟩
  | .hbm, ⟨1, _⟩ => ⟨S256x2048, .bf16⟩
  | .hbm, ⟨2, _⟩ => ⟨S1x1024x256, .bf16⟩
  | .hbm, ⟨3, _⟩ => ⟨S8192x2048, .bf16⟩
  | .hbm, ⟨4, _⟩ => ⟨S16x1024x512, .bf16⟩
  | .hbm, ⟨5, _⟩ => ⟨S8192x1024, .bf16⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x256, .bf16⟩
  | .local _ .vmem, ⟨4, _⟩ => ⟨S1x128x256, .bf16⟩
  | .local _ .vmem, ⟨5, _⟩ => ⟨S1x128x256, .bf16⟩
  | .local _ .vmem, ⟨6, _⟩ => ⟨S8192x256, .bf16⟩
  | .local _ .vmem, ⟨7, _⟩ => ⟨S8192x256, .bf16⟩
  | .local _ .vmem, ⟨8, _⟩ => ⟨S16x128x512, .bf16⟩
  | .local _ .vmem, ⟨9, _⟩ => ⟨S16x128x512, .bf16⟩
  | .local _ .vmem, ⟨10, _⟩ => ⟨S2048x128, .bf16⟩
  | .local _ .vmem, ⟨11, _⟩ => ⟨S2048x128, .bf16⟩
  | .local _ .vmem, ⟨12, _⟩ => ⟨S4x512x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x8192 : Shape := ⟨2, ![2048, 8192]⟩
abbrev S256x2048 : Shape := ⟨2, ![256, 2048]⟩
abbrev S1x1024x256 : Shape := ⟨3, ![1, 1024, 256]⟩
abbrev S8192x2048 : Shape := ⟨2, ![8192, 2048]⟩
abbrev S16x1024x512 : Shape := ⟨3, ![16, 1024, 512]⟩
abbrev S8192x8x1x256 : Shape := ⟨4, ![8192, 8, 1, 256]⟩
abbrev S8448x2048 : Shape := ⟨2, ![8448, 2048]⟩
abbrev S8448x8x256 : Shape := ⟨3, ![8448, 8, 256]⟩
abbrev S16x512x1024 : Shape := ⟨3, ![16, 512, 1024]⟩
abbrev S8192x1024 : Shape := ⟨2, ![8192, 1024]⟩
abbrev S1024x256 : Shape := ⟨2, ![1024, 256]⟩
abbrev S256x1024 : Shape := ⟨2, ![256, 1024]⟩
abbrev S8448x1024 : Shape := ⟨2, ![8448, 1024]⟩
abbrev S8448x8x128 : Shape := ⟨3, ![8448, 8, 128]⟩
abbrev S8x8448x8192x1 : Shape := ⟨4, ![8, 8448, 8192, 1]⟩
abbrev S8x1x8192x8448 : Shape := ⟨4, ![8, 1, 8192, 8448]⟩
abbrev S_ : Shape := ⟨0, ![]⟩
abbrev S8x1x8192 : Shape := ⟨3, ![8, 1, 8192]⟩
abbrev S8x1x8192x1 : Shape := ⟨4, ![8, 1, 8192, 1]⟩
abbrev S8x128x1x8192 : Shape := ⟨4, ![8, 128, 1, 8192]⟩
abbrev S8192x8x1x128 : Shape := ⟨4, ![8192, 8, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S256x2048, .bf16⟩
  | .hbm, ⟨2, _⟩ => ⟨S1x1024x256, .bf16⟩
  | .hbm, ⟨3, _⟩ => ⟨S8192x2048, .bf16⟩
  | .hbm, ⟨4, _⟩ => ⟨S16x1024x512, .bf16⟩
  | .hbm, ⟨5, _⟩ => ⟨S2048x8192, .f32⟩
  | .hbm, ⟨6, _⟩ => ⟨S256x2048, .f32⟩
  | .hbm, ⟨7, _⟩ => ⟨S1x1024x256, .f32⟩
  | .hbm, ⟨8, _⟩ => ⟨S8192x2048, .f32⟩
  | .hbm, ⟨9, _⟩ => ⟨S16x1024x512, .f32⟩
  | .hbm, ⟨10, _⟩ => ⟨S8192x2048, .f32⟩
  | .hbm, ⟨11, _⟩ => ⟨S8192x8x1x256, .f32⟩
  | .hbm, ⟨12, _⟩ => ⟨S8448x2048, .f32⟩
  | .hbm, ⟨13, _⟩ => ⟨S8448x8x256, .f32⟩
  | .hbm, ⟨14, _⟩ => ⟨S16x512x1024, .f32⟩
  | .hbm, ⟨15, _⟩ => ⟨S8192x1024, .f32⟩
  | .hbm, ⟨16, _⟩ => ⟨S1024x256, .f32⟩
  | .hbm, ⟨17, _⟩ => ⟨S256x1024, .f32⟩
  | .hbm, ⟨18, _⟩ => ⟨S8448x1024, .f32⟩
  | .hbm, ⟨19, _⟩ => ⟨S8448x8x128, .f32⟩
  | .hbm, ⟨20, _⟩ => ⟨S8x8448x8192x1, .f32⟩
  | .hbm, ⟨21, _⟩ => ⟨S8x1x8192x8448, .f32⟩
  | .hbm, ⟨22, _⟩ => ⟨S8x1x8192x8448, .bf16⟩
  | .hbm, ⟨23, _⟩ => ⟨S8x1x8192x8448, .f32⟩
  | .hbm, ⟨24, _⟩ => ⟨S_, .f32⟩
  | .hbm, ⟨25, _⟩ => ⟨S8x1x8192, .f32⟩
  | .hbm, ⟨26, _⟩ => ⟨S8x1x8192x1, .f32⟩
  | .hbm, ⟨27, _⟩ => ⟨S8x1x8192x8448, .f32⟩
  | .hbm, ⟨28, _⟩ => ⟨S8x1x8192x8448, .f32⟩
  | .hbm, ⟨29, _⟩ => ⟨S_, .f32⟩
  | .hbm, ⟨30, _⟩ => ⟨S8x1x8192x8448, .f32⟩
  | .hbm, ⟨31, _⟩ => ⟨S8x1x8192x8448, .f32⟩
  | .hbm, ⟨32, _⟩ => ⟨S_, .f32⟩
  | .hbm, ⟨33, _⟩ => ⟨S8x1x8192, .f32⟩
  | .hbm, ⟨34, _⟩ => ⟨S8x1x8192x1, .f32⟩
  | .hbm, ⟨35, _⟩ => ⟨S8x1x8192x8448, .f32⟩
  | .hbm, ⟨36, _⟩ => ⟨S8x1x8192x8448, .f32⟩
  | .hbm, ⟨37, _⟩ => ⟨S8x1x8192x8448, .bf16⟩
  | .hbm, ⟨38, _⟩ => ⟨S8x1x8192x8448, .f32⟩
  | .hbm, ⟨39, _⟩ => ⟨S8x128x1x8192, .f32⟩
  | .hbm, ⟨40, _⟩ => ⟨S8192x8x1x128, .f32⟩
  | .hbm, ⟨41, _⟩ => ⟨S8192x1024, .f32⟩
  | .hbm, ⟨42, _⟩ => ⟨S8192x1024, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel3.lean ====
abbrev S8192x2048 : Shape := ⟨2, ![8192, 2048]⟩
abbrev S2x2048x15936 : Shape := ⟨3, ![2, 2048, 15936]⟩
abbrev S2x2048x14848 : Shape := ⟨3, ![2, 2048, 14848]⟩
abbrev S8192x14848 : Shape := ⟨2, ![8192, 14848]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x15936, .f32⟩
  | .hbm, ⟨2, _⟩ => ⟨S2x2048x14848, .f32⟩
  | .hbm, ⟨3, _⟩ => ⟨S2x2048x14848, .bf16⟩
  | .hbm, ⟨4, _⟩ => ⟨S8192x14848, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2x2048x15936 : Shape := ⟨3, ![2, 2048, 15936]⟩
abbrev S1x2048x15936 : Shape := ⟨3, ![1, 2048, 15936]⟩
abbrev S2048x15936 : Shape := ⟨2, ![2048, 15936]⟩
abbrev S2048x14848 : Shape := ⟨2, ![2048, 14848]⟩
abbrev S8192x14848 : Shape := ⟨2, ![8192, 14848]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15936, .f32⟩
  | .hbm, ⟨2, _⟩ => ⟨S8192x2048, .f32⟩
  | .hbm, ⟨3, _⟩ => ⟨S1x2048x15936, .f32⟩
  | .hbm, ⟨4, _⟩ => ⟨S2048x15936, .f32⟩
  | .hbm, ⟨5, _⟩ => ⟨S2048x14848, .f32⟩
  | .hbm, ⟨6, _⟩ => ⟨S8192x14848, .f32⟩
  | .hbm, ⟨7, _⟩ => ⟨S8192x14848, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2x2048x8192 : Shape := ⟨3, ![2, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x8192 : Shape := ⟨2, ![8192, 8192]⟩
abbrev S2x8192x2048 : Shape := ⟨3, ![2, 8192, 2048]⟩
abbrev S8192x2048 : Shape := ⟨2, ![8192, 2048]⟩
abbrev S2x12288 : Shape := ⟨2, ![2, 12288]⟩
abbrev S1024x8192 : Shape := ⟨2, ![1024, 8192]⟩
abbrev S1x8192x256 : Shape := ⟨3, ![1, 8192, 256]⟩
abbrev S1024x256 : Shape := ⟨2, ![1024, 256]⟩
abbrev S2x256 : Shape := ⟨2, ![2, 256]⟩
abbrev S8192x256 : Shape := ⟨2, ![8192, 256]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S8192x2048, .f32⟩
  | .hbm, ⟨3, _⟩ => ⟨S2x12288, .f32⟩
  | .hbm, ⟨4, _⟩ => ⟨S2x8192x2048, .bf16⟩
  | .hbm, ⟨5, _⟩ => ⟨S8192x2048, .f32⟩
  | .local _ .vmem, ⟨0, _⟩ => ⟨S1024x8192, .bf16⟩
  | .local _ .vmem, ⟨1, _⟩ => ⟨S1024x8192, .bf16⟩
  | .local _ .vmem, ⟨2, _⟩ => ⟨S1x8192x256, .bf16⟩
  | .local _ .vmem, ⟨3, _⟩ => ⟨S1x8192x256, .bf16⟩
  | .local _ .vmem, ⟨4, _⟩ => ⟨S1024x256, .f32⟩
  | .local _ .vmem, ⟨5, _⟩ => ⟨S1024x256, .f32⟩
  | .local _ .vmem, ⟨6, _⟩ => ⟨S2x256, .f32⟩
  | .local _ .vmem, ⟨7, _⟩ => ⟨S2x256, .f32⟩
  | .local _ .vmem, ⟨8, _⟩ => ⟨S1024x256, .f32⟩
  | .local _ .vmem, ⟨9, _⟩ => ⟨S1024x256, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x8192 : Shape := ⟨2, ![8192, 8192]⟩
abbrev S2x8192x2048 : Shape := ⟨3, ![2, 8192, 2048]⟩
abbrev S8192x2048 : Shape := ⟨2, ![8192, 2048]⟩
abbrev S2x12288 : Shape := ⟨2, ![2, 12288]⟩
abbrev S1x12288 : Shape := ⟨2, ![1, 12288]⟩
abbrev S1x2048 : Shape := ⟨2, ![1, 2048]⟩
abbrev S1x8192x2048 : Shape := ⟨3, ![1, 8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S8192x2048, .f32⟩
  | .hbm, ⟨3, _⟩ => ⟨S2x12288, .f32⟩
  | .hbm, ⟨4, _⟩ => ⟨S1x12288, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x8192, .f32⟩
  | .hbm, ⟨12, _⟩ => ⟨S1x8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S8192x2048 : Shape := ⟨2, ![8192, 2048]⟩
abbrev S2x2048x2048 : Shape := ⟨3, ![2, 2048, 2048]⟩
abbrev S2x12288 : Shape := ⟨2, ![2, 12288]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x12288, .f32⟩
  | .hbm, ⟨4, _⟩ => ⟨S2x2048, .f32⟩
  | .hbm, ⟨5, _⟩ => ⟨S2x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S2x2048, .f32⟩
  | .local _ .vmem, ⟨6, _⟩ => ⟨S1x2048, .f32⟩
  | .local _ .vmem, ⟨7, _⟩ => ⟨S2x2048, .f32⟩
  | .local _ .vmem, ⟨8, _⟩ => ⟨S2x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8192x2048 : Shape := ⟨2, ![8192, 2048]⟩
abbrev S2x2048x2048 : Shape := ⟨3, ![2, 2048, 2048]⟩
abbrev S2x12288 : Shape := ⟨2, ![2, 12288]⟩
abbrev S2x2048 : Shape := ⟨2, ![2, 2048]⟩
abbrev S1x12288 : Shape := ⟨2, ![1, 12288]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x12288, .f32⟩
  | .hbm, ⟨4, _⟩ => ⟨S2x2048, .f32⟩
  | .hbm, ⟨5, _⟩ => ⟨S1x12288, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S1x2048x2048, .f32⟩
  | .hbm, ⟨14, _⟩ => ⟨S2048x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel7.lean ====
abbrev S8192x1024 : Shape := ⟨2, ![8192, 1024]⟩
abbrev S8192x14848 : Shape := ⟨2, ![8192, 14848]⟩
abbrev S2x8192 : Shape := ⟨2, ![2, 8192]⟩
abbrev S2x4x1024x2048 : Shape := ⟨4, ![2, 4, 1024, 2048]⟩
abbrev S1x8192 : Shape := ⟨2, ![1, 8192]⟩
abbrev S8192 : Shape := ⟨1, ![8192]⟩
abbrev S8192x2048 : Shape := ⟨2, ![8192, 2048]⟩
abbrev S1024x1024 : Shape := ⟨2, ![1024, 1024]⟩
abbrev S1024x512 : Shape := ⟨2, ![1024, 512]⟩
abbrev S1x512 : Shape := ⟨2, ![1, 512]⟩
abbrev S1x1x1024x512 : Shape := ⟨4, ![1, 1, 1024, 512]⟩
abbrev S1024x256 : Shape := ⟨2, ![1024, 256]⟩
abbrev S1x256 : Shape := ⟨2, ![1, 256]⟩
abbrev S1x1x1024x256 : Shape := ⟨4, ![1, 1, 1024, 256]⟩

abbrev nBuf : Space → Nat
  | .hbm => 12
  | .vmem => 34
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x14848, .bf16⟩
  | .hbm, ⟨5, _⟩ => ⟨S2x8192, .f32⟩
  | .hbm, ⟨6, _⟩ => ⟨S2x4x1024x2048, .f32⟩
  | .hbm, ⟨7, _⟩ => ⟨S1x8192, .f32⟩
  | .hbm, ⟨8, _⟩ => ⟨S8192, .f32⟩
  | .hbm, ⟨9, _⟩ => ⟨S2x4x1024x2048, .bf16⟩
  | .hbm, ⟨10, _⟩ => ⟨S1x8192, .f32⟩
  | .hbm, ⟨11, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x1x1024x512, .bf16⟩
  | .local _ .vmem, ⟨25, _⟩ => ⟨S1x1x1024x512, .bf16⟩
  | .local _ .vmem, ⟨26, _⟩ => ⟨S1x1x1024x512, .bf16⟩
  | .local _ .vmem, ⟨27, _⟩ => ⟨S1x1x1024x512, .bf16⟩
  | .local _ .vmem, ⟨28, _⟩ => ⟨S1x1x1024x512, .bf16⟩
  | .local _ .vmem, ⟨29, _⟩ => ⟨S1x1x1024x512, .bf16⟩
  | .local _ .vmem, ⟨30, _⟩ => ⟨S1x1x1024x512, .bf16⟩
  | .local _ .vmem, ⟨31, _⟩ => ⟨S1x1x1024x512, .bf16⟩
  | .local _ .vmem, ⟨32, _⟩ => ⟨S1024x512, .bf16⟩
  | .local _ .vmem, ⟨33, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference7Ideal.lean ====
abbrev S8192x1024 : Shape := ⟨2, ![8192, 1024]⟩
abbrev S8192x14848 : Shape := ⟨2, ![8192, 14848]⟩
abbrev S2x8192 : Shape := ⟨2, ![2, 8192]⟩
abbrev S2x4x1024x2048 : Shape := ⟨4, ![2, 4, 1024, 2048]⟩
abbrev S8192x8192 : Shape := ⟨2, ![8192, 8192]⟩
abbrev S1x8192 : Shape := ⟨2, ![1, 8192]⟩
abbrev S8192 : Shape := ⟨1, ![8192]⟩
abbrev S_ : Shape := ⟨0, ![]⟩
abbrev S8192x4x2048 : Shape := ⟨3, ![8192, 4, 2048]⟩
abbrev S8192x1x1024 : Shape := ⟨3, ![8192, 1, 1024]⟩
abbrev S8192x4x1024 : Shape := ⟨3, ![8192, 4, 1024]⟩
abbrev S1x4x1024x2048 : Shape := ⟨4, ![1, 4, 1024, 2048]⟩
abbrev S4x1024x2048 : Shape := ⟨3, ![4, 1024, 2048]⟩
abbrev S4x2048x8192 : Shape := ⟨3, ![4, 2048, 8192]⟩
abbrev S8192x2048 : Shape := ⟨2, ![8192, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x14848, .bf16⟩
  | .hbm, ⟨5, _⟩ => ⟨S2x8192, .f32⟩
  | .hbm, ⟨6, _⟩ => ⟨S2x4x1024x2048, .f32⟩
  | .hbm, ⟨7, _⟩ => ⟨S8192x8192, .bf16⟩
  | .hbm, ⟨8, _⟩ => ⟨S8192x8192, .f32⟩
  | .hbm, ⟨9, _⟩ => ⟨S1x8192, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x4x2048, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1x1024, .f32⟩
  | .hbm, ⟨29, _⟩ => ⟨S8192x1x1024, .f32⟩
  | .hbm, ⟨30, _⟩ => ⟨S8192x1x1024, .f32⟩
  | .hbm, ⟨31, _⟩ => ⟨S8192x4x1024, .f32⟩
  | .hbm, ⟨32, _⟩ => ⟨S1x4x1024x2048, .f32⟩
  | .hbm, ⟨33, _⟩ => ⟨S4x1024x2048, .f32⟩
  | .hbm, ⟨34, _⟩ => ⟨S4x2048x8192, .f32⟩
  | .hbm, ⟨35, _⟩ => ⟨S8192x4x2048, .f32⟩
  | .hbm, ⟨36, _⟩ => ⟨S8192x4x2048, .f32⟩
  | .hbm, ⟨37, _⟩ => ⟨S_, .f32⟩
  | .hbm, ⟨38, _⟩ => ⟨S8192x2048, .f32⟩
  | .hbm, ⟨39, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S16x2048 : Shape := ⟨2, ![16, 2048]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v3 : BitVec 32 := Scalar.muli arg4 c16_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32 : BitVec 32 := 16#32
  let v3 : BitVec 32 := Scalar.muli arg4 c16_i32
  let v4 : BitVec 32 := v3
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S8192x2048 : Shape := ⟨2, ![8192, 2048]⟩
abbrev S2x2048x15936 : Shape := ⟨3, ![2, 2048, 15936]⟩
abbrev S2x2048x1088 : Shape := ⟨3, ![2, 2048, 1088]⟩
abbrev S_ : Shape := ⟨0, ![]⟩
abbrev S2x2048x1152 : Shape := ⟨3, ![2, 2048, 1152]⟩
abbrev S8192x1152 : Shape := ⟨2, ![8192, 1152]⟩
abbrev S1024x2048 : Shape := ⟨2, ![1024, 2048]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x15936, .f32⟩
  | .hbm, ⟨2, _⟩ => ⟨S2x2048x1088, .f32⟩
  | .hbm, ⟨3, _⟩ => ⟨S_, .i32⟩
  | .hbm, ⟨4, _⟩ => ⟨S_, .f32⟩
  | .hbm, ⟨5, _⟩ => ⟨S2x2048x1152, .f32⟩
  | .hbm, ⟨6, _⟩ => ⟨S8192x1152, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1152, .f32⟩
  | .local _ .vmem, ⟨3, _⟩ => ⟨S1024x1152, .bf16⟩
  | .local _ .vmem, ⟨4, _⟩ => ⟨S1024x1152, .bf16⟩
  | .local _ .vmem, ⟨5, _⟩ => ⟨S2048x1152, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2x2048x15936 : Shape := ⟨3, ![2, 2048, 15936]⟩
abbrev S1x2048x15936 : Shape := ⟨3, ![1, 2048, 15936]⟩
abbrev S2048x15936 : Shape := ⟨2, ![2048, 15936]⟩
abbrev S2048x1088 : Shape := ⟨2, ![2048, 1088]⟩
abbrev S8192x1088 : Shape := ⟨2, ![8192, 1088]⟩
abbrev S_ : Shape := ⟨0, ![]⟩
abbrev S8192x1152 : Shape := ⟨2, ![8192, 1152]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15936, .f32⟩
  | .hbm, ⟨2, _⟩ => ⟨S8192x2048, .f32⟩
  | .hbm, ⟨3, _⟩ => ⟨S1x2048x15936, .f32⟩
  | .hbm, ⟨4, _⟩ => ⟨S2048x15936, .f32⟩
  | .hbm, ⟨5, _⟩ => ⟨S2048x1088, .f32⟩
  | .hbm, ⟨6, _⟩ => ⟨S8192x1088, .f32⟩
  | .hbm, ⟨7, _⟩ => ⟨S_, .i32⟩
  | .hbm, ⟨8, _⟩ => ⟨S_, .f32⟩
  | .hbm, ⟨9, _⟩ => ⟨S8192x1152, .f32⟩
  | .hbm, ⟨10, _⟩ => ⟨S8192x1152, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S8192x2048 : Shape := ⟨2, ![8192, 2048]⟩
abbrev S2x2048 : Shape := ⟨2, ![2, 2048]⟩
abbrev S2x12288 : Shape := ⟨2, ![2, 12288]⟩
abbrev S1x2048 : Shape := ⟨2, ![1, 2048]⟩
abbrev S2048 : Shape := ⟨1, ![2048]⟩
abbrev S1024x2048 : Shape := ⟨2, ![1024, 2048]⟩
abbrev S16x2048 : Shape := ⟨2, ![16, 2048]⟩
abbrev S16 : Shape := ⟨1, ![16]⟩
abbrev S16x1 : Shape := ⟨2, ![16, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x12288, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2x2048, .f32⟩
  | .local _ .vmem, ⟨4, _⟩ => ⟨S2x2048, .f32⟩
  | .local _ .vmem, ⟨5, _⟩ => ⟨S1024x2048, .bf16⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v8 : BitVec 32 := Scalar.muli arg6 c16_i32
  v8
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32 : BitVec 32 := 16#32
  let v8 : BitVec 32 := Scalar.muli arg6 c16_i32
  let v9 : BitVec 32 := v8
  let v10 : Index := Scalar.indexCast v9
  let c0_6 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x2048 : Shape := ⟨2, ![8192, 2048]⟩
abbrev S2x2048 : Shape := ⟨2, ![2, 2048]⟩
abbrev S2x12288 : Shape := ⟨2, ![2, 12288]⟩
abbrev S1x12288 : Shape := ⟨2, ![1, 12288]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x12288, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel13.lean ====
abbrev S8192x1152 : Shape := ⟨2, ![8192, 1152]⟩
abbrev S2x128 : Shape := ⟨2, ![2, 128]⟩
abbrev S2x512 : Shape := ⟨2, ![2, 512]⟩
abbrev S2x512x2048 : Shape := ⟨3, ![2, 512, 2048]⟩
abbrev S2x512x8x256 : Shape := ⟨4, ![2, 512, 8, 256]⟩
abbrev S2x512x8x128 : Shape := ⟨4, ![2, 512, 8, 128]⟩
abbrev S2x512x1024 : Shape := ⟨3, ![2, 512, 1024]⟩
abbrev S1x128 : Shape := ⟨2, ![1, 128]⟩
abbrev S128 : Shape := ⟨1, ![128]⟩
abbrev S1x512 : Shape := ⟨2, ![1, 512]⟩
abbrev S512 : Shape := ⟨1, ![512]⟩
abbrev S1x512x1024 : Shape := ⟨3, ![1, 512, 1024]⟩
abbrev S512x1024 : Shape := ⟨2, ![512, 1024]⟩
abbrev S128x1 : Shape := ⟨2, ![128, 1]⟩
abbrev S64 : Shape := ⟨1, ![64]⟩
abbrev S64x1 : Shape := ⟨2, ![64, 1]⟩
abbrev S32 : Shape := ⟨1, ![32]⟩
abbrev S_ : Shape := ⟨0, ![]⟩
abbrev S1x32 : Shape := ⟨2, ![1, 32]⟩
abbrev S128x32 : Shape := ⟨2, ![128, 32]⟩
abbrev S64x32 : Shape := ⟨2, ![64, 32]⟩
abbrev S128x1x32 : Shape := ⟨3, ![128, 1, 32]⟩
abbrev S128x64x32 : Shape := ⟨3, ![128, 64, 32]⟩
abbrev S8192x32 : Shape := ⟨2, ![8192, 32]⟩
abbrev S1x64x32 : Shape := ⟨3, ![1, 64, 32]⟩
abbrev S8192x128 : Shape := ⟨2, ![8192, 128]⟩
abbrev S16 : Shape := ⟨1, ![16]⟩
abbrev S1x16 : Shape := ⟨2, ![1, 16]⟩
abbrev S128x16 : Shape := ⟨2, ![128, 16]⟩
abbrev S64x16 : Shape := ⟨2, ![64, 16]⟩
abbrev S128x1x16 : Shape := ⟨3, ![128, 1, 16]⟩
abbrev S128x64x16 : Shape := ⟨3, ![128, 64, 16]⟩
abbrev S8192x16 : Shape := ⟨2, ![8192, 16]⟩
abbrev S1x64x16 : Shape := ⟨3, ![1, 64, 16]⟩
abbrev S8192x64 : Shape := ⟨2, ![8192, 64]⟩
abbrev S8192x256 : Shape := ⟨2, ![8192, 256]⟩
abbrev S8192x2048 : Shape := ⟨2, ![8192, 2048]⟩
abbrev S16x256x512 : Shape := ⟨3, ![16, 256, 512]⟩
abbrev S16x1024x512 : Shape := ⟨3, ![16, 1024, 512]⟩
abbrev S512x256 : Shape := ⟨2, ![512, 256]⟩
abbrev S512x512 : Shape := ⟨2, ![512, 512]⟩
abbrev S512x128 : Shape := ⟨2, ![512, 128]⟩
abbrev S512x2048 : Shape := ⟨2, ![512, 2048]⟩
abbrev S1x256x512 : Shape := ⟨3, ![1, 256, 512]⟩
abbrev S1x1024x512 : Shape := ⟨3, ![1, 1024, 512]⟩
abbrev S512x1 : Shape := ⟨2, ![512, 1]⟩
abbrev S128x128 : Shape := ⟨2, ![128, 128]⟩
abbrev S128x512 : Shape := ⟨2, ![128, 512]⟩
abbrev S256x512 : Shape := ⟨2, ![256, 512]⟩
abbrev S1024x512 : Shape := ⟨2, ![1024, 512]⟩

abbrev nBuf : Space → Nat
  | .hbm => 119
  | .vmem => 28
  | .smem => 0
  | _ => 0

abbrev bufTy : (tb : Table) → Fin (tcTables nBuf tb) → BufTy
  | .hbm, ⟨0, _⟩ => ⟨S8192x1152, .bf16⟩
  | .hbm, ⟨1, _⟩ => ⟨S2x128, .f32⟩
  | .hbm, ⟨2, _⟩ => ⟨S2x512, .f32⟩
  | .hbm, ⟨3, _⟩ => ⟨S2x512x2048, .f32⟩
  | .hbm, ⟨4, _⟩ => ⟨S2x512x8x256, .f32⟩
  | .hbm, ⟨5, _⟩ => ⟨S2x512x8x128, .f32⟩
  | .hbm, ⟨6, _⟩ => ⟨S2x512x1024, .f32⟩
  | .hbm, ⟨7, _⟩ => ⟨S2x512x1024, .bf16⟩
  | .hbm, ⟨8, _⟩ => ⟨S2x512x8x128, .f32⟩
  | .hbm, ⟨9, _⟩ => ⟨S2x512x1024, .f32⟩
  | .hbm, ⟨10, _⟩ => ⟨S2x512x1024, .bf16⟩
  | .hbm, ⟨11, _⟩ => ⟨S1x128, .f32⟩
  | .hbm, ⟨12, _⟩ => ⟨S128, .f32⟩
  | .hbm, ⟨13, _⟩ => ⟨S1x512, .f32⟩
  | .hbm, ⟨14, _⟩ => ⟨S512, .f32⟩
  | .hbm, ⟨15, _⟩ => ⟨S1x512x1024, .bf16⟩
  | .hbm, ⟨16, _⟩ => ⟨S512x1024, .bf16⟩
  | .hbm, ⟨17, _⟩ => ⟨S1x512x1024, .bf16⟩
  | .hbm, ⟨18, _⟩ => ⟨S512x1024, .bf16⟩
  | .hbm, ⟨19, _⟩ => ⟨S128, .f32⟩
  | .hbm, ⟨20, _⟩ => ⟨S128x1, .f32⟩
  | .hbm, ⟨21, _⟩ => ⟨S64, .f32⟩
  | .hbm, ⟨22, _⟩ => ⟨S64x1, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S1x32, .f32⟩
  | .hbm, ⟨38, _⟩ => ⟨S128x32, .f32⟩
  | .hbm, ⟨39, _⟩ => ⟨S128x32, .f32⟩
  | .hbm, ⟨40, _⟩ => ⟨S128x32, .f32⟩
  | .hbm, ⟨41, _⟩ => ⟨S1x32, .f32⟩
  | .hbm, ⟨42, _⟩ => ⟨S64x32, .f32⟩
  | .hbm, ⟨43, _⟩ => ⟨S64x32, .f32⟩
  | .hbm, ⟨44, _⟩ => ⟨S64x32, .f32⟩
  | .hbm, ⟨45, _⟩ => ⟨S128x32, .f32⟩
  | .hbm, ⟨46, _⟩ => ⟨S64x32, .f32⟩
  | .hbm, ⟨47, _⟩ => ⟨S128x1x32, .f32⟩
  | .hbm, ⟨48, _⟩ => ⟨S128x64x32, .f32⟩
  | .hbm, ⟨49, _⟩ => ⟨S8192x32, .f32⟩
  | .hbm, ⟨50, _⟩ => ⟨S1x64x32, .f32⟩
  | .hbm, ⟨51, _⟩ => ⟨S128x64x32, .f32⟩
  | .hbm, ⟨52, _⟩ => ⟨S8192x32, .f32⟩
  | .hbm, ⟨53, _⟩ => ⟨S128x32, .f32⟩
  | .hbm, ⟨54, _⟩ => ⟨S64x32, .f32⟩
  | .hbm, ⟨55, _⟩ => ⟨S128x1x32, .f32⟩
  | .hbm, ⟨56, _⟩ => ⟨S128x64x32, .f32⟩
  | .hbm, ⟨57, _⟩ => ⟨S8192x32, .f32⟩
  | .hbm, ⟨58, _⟩ => ⟨S1x64x32, .f32⟩
  | .hbm, ⟨59, _⟩ => ⟨S128x64x32, .f32⟩
  | .hbm, ⟨60, _⟩ => ⟨S8192x32, .f32⟩
  | .hbm, ⟨61, _⟩ => ⟨S8192x128, .f32⟩
  | .hbm, ⟨62, _⟩ => ⟨S8192x32, .f32⟩
  | .hbm, ⟨63, _⟩ => ⟨S8192x32, .f32⟩
  | .hbm, ⟨64, _⟩ => ⟨S8192x128, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S1x16, .f32⟩
  | .hbm, ⟨80, _⟩ => ⟨S128x16, .f32⟩
  | .hbm, ⟨81, _⟩ => ⟨S128x16, .f32⟩
  | .hbm, ⟨82, _⟩ => ⟨S128x16, .f32⟩
  | .hbm, ⟨83, _⟩ => ⟨S1x16, .f32⟩
  | .hbm, ⟨84, _⟩ => ⟨S64x16, .f32⟩
  | .hbm, ⟨85, _⟩ => ⟨S64x16, .f32⟩
  | .hbm, ⟨86, _⟩ => ⟨S64x16, .f32⟩
  | .hbm, ⟨87, _⟩ => ⟨S128x16, .f32⟩
  | .hbm, ⟨88, _⟩ => ⟨S64x16, .f32⟩
  | .hbm, ⟨89, _⟩ => ⟨S128x1x16, .f32⟩
  | .hbm, ⟨90, _⟩ => ⟨S128x64x16, .f32⟩
  | .hbm, ⟨91, _⟩ => ⟨S8192x16, .f32⟩
  | .hbm, ⟨92, _⟩ => ⟨S1x64x16, .f32⟩
  | .hbm, ⟨93, _⟩ => ⟨S128x64x16, .f32⟩
  | .hbm, ⟨94, _⟩ => ⟨S8192x16, .f32⟩
  | .hbm, ⟨95, _⟩ => ⟨S128x16, .f32⟩
  | .hbm, ⟨96, _⟩ => ⟨S64x16, .f32⟩
  | .hbm, ⟨97, _⟩ => ⟨S128x1x16, .f32⟩
  | .hbm, ⟨98, _⟩ => ⟨S128x64x16, .f32⟩
  | .hbm, ⟨99, _⟩ => ⟨S8192x16, .f32⟩
  | .hbm, ⟨100, _⟩ => ⟨S1x64x16, .f32⟩
  | .hbm, ⟨101, _⟩ => ⟨S128x64x16, .f32⟩
  | .hbm, ⟨102, _⟩ => ⟨S8192x16, .f32⟩
  | .hbm, ⟨103, _⟩ => ⟨S8192x64, .f32⟩
  | .hbm, ⟨104, _⟩ => ⟨S8192x16, .f32⟩
  | .hbm, ⟨105, _⟩ => ⟨S8192x16, .f32⟩
  | .hbm, ⟨106, _⟩ => ⟨S8192x64, .f32⟩
  | .hbm, ⟨107, _⟩ => ⟨S_, .i32⟩
  | .hbm, ⟨108, _⟩ => ⟨S_, .f32⟩
  | .hbm, ⟨109, _⟩ => ⟨S8192x128, .f32⟩
  | .hbm, ⟨110, _⟩ => ⟨S_, .i32⟩
  | .hbm, ⟨111, _⟩ => ⟨S_, .f32⟩
  | .hbm, ⟨112, _⟩ => ⟨S8192x128, .f32⟩
  | .hbm, ⟨113, _⟩ => ⟨S1x128, .f32⟩
  | .hbm, ⟨114, _⟩ => ⟨S1x512, .f32⟩
  | .hbm, ⟨115, _⟩ => ⟨S8192x256, .bf16⟩
  | .hbm, ⟨116, _⟩ => ⟨S8192x2048, .bf16⟩
  | .hbm, ⟨117, _⟩ => ⟨S16x256x512, .bf16⟩
  | .hbm, ⟨118, _⟩ => ⟨S16x1024x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x256, .bf16⟩
  | .local _ .vmem, ⟨21, _⟩ => ⟨S512x256, .bf16⟩
  | .local _ .vmem, ⟨22, _⟩ => ⟨S512x2048, .bf16⟩
  | .local _ .vmem, ⟨23, _⟩ => ⟨S512x2048, .bf16⟩
  | .local _ .vmem, ⟨24, _⟩ => ⟨S1x256x512, .bf16⟩
  | .local _ .vmem, ⟨25, _⟩ => ⟨S1x256x512, .bf16⟩
  | .local _ .vmem, ⟨26, _⟩ => ⟨S1x1024x512, .bf16⟩
  | .local _ .vmem, ⟨27, _⟩ => ⟨S1x1024x512, .bf16⟩
  | _, _ => ⟨S8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_3 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_c : Ref sig .tc := ⟨.hbm, 107, rfl⟩
abbrev main_call0_v0 : Ref sig .tc := ⟨.hbm, 108, rfl⟩
abbrev main_v95 : Ref sig .tc := ⟨.hbm, 109, rfl⟩
abbrev main_c_7 : Ref sig .tc := ⟨.hbm, 110, rfl⟩
abbrev main_call1_v0 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99_0 : Ref sig .tc := ⟨.hbm, 115, rfl⟩
abbrev main_v99_1 : Ref sig .tc := ⟨.hbm, 116, rfl⟩
abbrev main_v99_2 : Ref sig .tc := ⟨.hbm, 117, rfl⟩
abbrev main_v99_3 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference13Ideal.lean ====
abbrev S8192x1152 : Shape := ⟨2, ![8192, 1152]⟩
abbrev S2x128 : Shape := ⟨2, ![2, 128]⟩
abbrev S2x512 : Shape := ⟨2, ![2, 512]⟩
abbrev S2x512x2048 : Shape := ⟨3, ![2, 512, 2048]⟩
abbrev S8192x256 : Shape := ⟨2, ![8192, 256]⟩
abbrev S8192x512 : Shape := ⟨2, ![8192, 512]⟩
abbrev S8192x64 : Shape := ⟨2, ![8192, 64]⟩
abbrev S8192x2x128 : Shape := ⟨3, ![8192, 2, 128]⟩
abbrev S1x128 : Shape := ⟨2, ![1, 128]⟩
abbrev S128 : Shape := ⟨1, ![128]⟩
abbrev S_ : Shape := ⟨0, ![]⟩
abbrev S8192x2 : Shape := ⟨2, ![8192, 2]⟩
abbrev S8192x2x1 : Shape := ⟨3, ![8192, 2, 1]⟩
abbrev S1x1x128 : Shape := ⟨3, ![1, 1, 128]⟩
abbrev S1x512 : Shape := ⟨2, ![1, 512]⟩
abbrev S512 : Shape := ⟨1, ![512]⟩
abbrev S8192 : Shape := ⟨1, ![8192]⟩
abbrev S8192x1 : Shape := ⟨2, ![8192, 1]⟩
abbrev S1x512x2048 : Shape := ⟨3, ![1, 512, 2048]⟩
abbrev S512x2048 : Shape := ⟨2, ![512, 2048]⟩
abbrev S8192x2048 : Shape := ⟨2, ![8192, 2048]⟩
abbrev S8192x8x256 : Shape := ⟨3, ![8192, 8, 256]⟩
abbrev S8192x8x128 : Shape := ⟨3, ![8192, 8, 128]⟩
abbrev S128x64 : Shape := ⟨2, ![128, 64]⟩
abbrev S64 : Shape := ⟨1, ![64]⟩
abbrev S1x64 : Shape := ⟨2, ![1, 64]⟩
abbrev S32 : Shape := ⟨1, ![32]⟩
abbrev S1x32 : Shape := ⟨2, ![1, 32]⟩
abbrev S8192x32 : Shape := ⟨2, ![8192, 32]⟩
abbrev S8192x2x64 : Shape := ⟨3, ![8192, 2, 64]⟩
abbrev S8192x1x32 : Shape := ⟨3, ![8192, 1, 32]⟩
abbrev S8192x2x32 : Shape := ⟨3, ![8192, 2, 32]⟩
abbrev S8192x1x64 : Shape := ⟨3, ![8192, 1, 64]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x64 : Shape := ⟨3, ![8192, 8, 64]⟩
abbrev S16x512x256 : Shape := ⟨3, ![16, 512, 256]⟩
abbrev S16x256x512 : Shape := ⟨3, ![16, 256, 512]⟩
abbrev S16x512x1024 : Shape := ⟨3, ![16, 512, 1024]⟩
abbrev S16x1024x512 : Shape := ⟨3, ![16, 1024, 512]⟩

abbrev nBuf : Space → Nat
  | .hbm => 201
  | .vmem => 0
  | .smem => 0
  | _ => 0

abbrev hbmTy0_0 (i : Nat) : BufTy := match i % 128 with
  | 0 => ⟨S8192x1152, .bf16⟩
  | 1 => ⟨S2x128, .f32⟩
  | 2 => ⟨S2x512, .f32⟩
  | 3 => ⟨S2x512x2048, .f32⟩
  | 4 => ⟨S8192x1152, .f32⟩
  | 5 => ⟨S8192x256, .f32⟩
  | 6 => ⟨S8192x256, .f32⟩
  | 7 => ⟨S8192x512, .f32⟩
  | 8 => ⟨S8192x64, .f32⟩
  | 9 => ⟨S8192x64, .f32⟩
  | 10 => ⟨S8192x2x128, .f32⟩
  | 11 => ⟨S1x128, .f32⟩
  | 12 => ⟨S128, .f32⟩
  | 13 => ⟨S8192x2x128, .f32⟩
  | 14 => ⟨S_, .f32⟩
  | 15 => ⟨S8192x2, .f32⟩
  | 16 => ⟨S8192x2x1, .f32⟩
  | 17 => ⟨S_, .f32⟩
  | 18 => ⟨S8192x2x1, .f32⟩
  | 19 => ⟨S8192x2x1, .f32⟩
  | 20 => ⟨S_, .f32⟩
  | 21 => ⟨S8192x2x1, .f32⟩
  | 22 => ⟨S8192x2x1, .f32⟩
  | 23 => ⟨S8192x2x1, .f32⟩
  | 24 => ⟨S8192x2x128, .f32⟩
  | 25 => ⟨S8192x2x128, .f32⟩
  | 26 => ⟨S1x1x128, .f32⟩
  | 27 => ⟨S8192x2x128, .f32⟩
  | 28 => ⟨S8192x2x128, .f32⟩
  | 29 => ⟨S1x512, .f32⟩
  | 30 => ⟨S512, .f32⟩
  | 31 => ⟨S8192x512, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S1x512x2048, .f32⟩
  | 48 => ⟨S512x2048, .f32⟩
  | 49 => ⟨S8192x2048, .f32⟩
  | 50 => ⟨S8192x8x256, .f32⟩
  | 51 => ⟨S8192x8x128, .f32⟩
  | 52 => ⟨S8192x8x128, .f32⟩
  | 53 => ⟨S128, .i32⟩
  | 54 => ⟨S128x64, .i32⟩
  | 55 => ⟨S8192, .i32⟩
  | 56 => ⟨S8192, .f32⟩
  | 57 => ⟨S64, .i32⟩
  | 58 => ⟨S1x64, .i32⟩
  | 59 => ⟨S128x64, .i32⟩
  | 60 => ⟨S8192, .i32⟩
  | 61 => ⟨S8192, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S8192x1, .f32⟩
  | 77 => ⟨S1x32, .f32⟩
  | 78 => ⟨S8192x32, .f32⟩
  | 79 => ⟨S8192x32, .f32⟩
  | 80 => ⟨S8192x32, .f32⟩
  | 81 => ⟨S8192x1, .f32⟩
  | 82 => ⟨S1x32, .f32⟩
  | 83 => ⟨S8192x32, .f32⟩
  | 84 => ⟨S8192x32, .f32⟩
  | 85 => ⟨S8192x32, .f32⟩
  | 86 => ⟨S8192x2x64, .f32⟩
  | 87 => ⟨S8192x2x64, .f32⟩
  | 88 => ⟨S8192x32, .f32⟩
  | 89 => ⟨S8192x1x32, .f32⟩
  | 90 => ⟨S8192x32, .f32⟩
  | 91 => ⟨S8192x1x32, .f32⟩
  | 92 => ⟨S8192x2x32, .f32⟩
  | 93 => ⟨S8192x2x32, .f32⟩
  | 94 => ⟨S8192x2x32, .f32⟩
  | 95 => ⟨S8192x2x32, .f32⟩
  | 96 => ⟨S8192x2x32, .f32⟩
  | 97 => ⟨S8192x2x32, .f32⟩
  | 98 => ⟨S8192x2x32, .f32⟩
  | 99 => ⟨S8192x2x32, .f32⟩
  | 100 => ⟨S8192x2x32, .f32⟩
  | 101 => ⟨S8192x2x32, .f32⟩
  | 102 => ⟨S8192x2x32, .f32⟩
  | 103 => ⟨S8192x2x32, .f32⟩
  | 104 => ⟨S8192x2x64, .f32⟩
  | 105 => ⟨S8192x32, .f32⟩
  | 106 => ⟨S8192x1x32, .f32⟩
  | 107 => ⟨S8192x32, .f32⟩
  | 108 => ⟨S8192x1x32, .f32⟩
  | 109 => ⟨S8192x2x32, .f32⟩
  | 110 => ⟨S8192x2x32, .f32⟩
  | 111 => ⟨S8192x2x32, .f32⟩
  | 112 => ⟨S8192x2x32, .f32⟩
  | 113 => ⟨S8192x2x32, .f32⟩
  | 114 => ⟨S8192x2x32, .f32⟩
  | 115 => ⟨S8192x2x32, .f32⟩
  | 116 => ⟨S8192x2x32, .f32⟩
  | 117 => ⟨S8192x2x32, .f32⟩
  | 118 => ⟨S8192x2x32, .f32⟩
  | 119 => ⟨S8192x2x32, .f32⟩
  | 120 => ⟨S8192x2x32, .f32⟩
  | 121 => ⟨S8192x2x64, .f32⟩
  | 122 => ⟨S8192x2x128, .f32⟩
  | 123 => ⟨S8192x1x64, .f32⟩
  | 124 => ⟨S128, .i32⟩
  | 125 => ⟨S128x64, .i32⟩
  | 126 => ⟨S8192, .i32⟩
  | 127 => ⟨S8192, .f32⟩
  | _ => ⟨S8192x1152, .bf16⟩

abbrev hbmTy0_1 (i : Nat) : BufTy := match i % 128 with
  | 0 => ⟨S64, .i32⟩
  | 1 => ⟨S1x64, .i32⟩
  | 2 => ⟨S128x64, .i32⟩
  | 3 => ⟨S8192, .i32⟩
  | 4 => ⟨S8192, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S8192x1, .f32⟩
  | 20 => ⟨S1x16, .f32⟩
  | 21 => ⟨S8192x16, .f32⟩
  | 22 => ⟨S8192x16, .f32⟩
  | 23 => ⟨S8192x16, .f32⟩
  | 24 => ⟨S8192x1, .f32⟩
  | 25 => ⟨S1x16, .f32⟩
  | 26 => ⟨S8192x16, .f32⟩
  | 27 => ⟨S8192x16, .f32⟩
  | 28 => ⟨S8192x16, .f32⟩
  | 29 => ⟨S8192x1x32, .f32⟩
  | 30 => ⟨S8192x1x32, .f32⟩
  | 31 => ⟨S8192x16, .f32⟩
  | 32 => ⟨S8192x1x16, .f32⟩
  | 33 => ⟨S8192x16, .f32⟩
  | 34 => ⟨S8192x1x16, .f32⟩
  | 35 => ⟨S8192x1x16, .f32⟩
  | 36 => ⟨S8192x1x16, .f32⟩
  | 37 => ⟨S8192x1x16, .f32⟩
  | 38 => ⟨S8192x1x16, .f32⟩
  | 39 => ⟨S8192x1x16, .f32⟩
  | 40 => ⟨S8192x1x16, .f32⟩
  | 41 => ⟨S8192x1x16, .f32⟩
  | 42 => ⟨S8192x1x16, .f32⟩
  | 43 => ⟨S8192x1x32, .f32⟩
  | 44 => ⟨S8192x16, .f32⟩
  | 45 => ⟨S8192x1x16, .f32⟩
  | 46 => ⟨S8192x16, .f32⟩
  | 47 => ⟨S8192x1x16, .f32⟩
  | 48 => ⟨S8192x1x16, .f32⟩
  | 49 => ⟨S8192x1x16, .f32⟩
  | 50 => ⟨S8192x1x16, .f32⟩
  | 51 => ⟨S8192x1x16, .f32⟩
  | 52 => ⟨S8192x1x16, .f32⟩
  | 53 => ⟨S8192x1x16, .f32⟩
  | 54 => ⟨S8192x1x16, .f32⟩
  | 55 => ⟨S8192x1x16, .f32⟩
  | 56 => ⟨S8192x1x32, .f32⟩
  | 57 => ⟨S8192x1x64, .f32⟩
  | 58 => ⟨S8192x8x64, .f32⟩
  | 59 => ⟨S_, .i32⟩
  | 60 => ⟨S_, .f32⟩
  | 61 => ⟨S8192x8x128, .f32⟩
  | 62 => ⟨S8192x8x256, .f32⟩
  | 63 => ⟨S8192x256, .f32⟩
  | 64 => ⟨S8192x256, .bf16⟩
  | 65 => ⟨S8192x2048, .f32⟩
  | 66 => ⟨S8192x2048, .bf16⟩
  | 67 => ⟨S16x512x256, .f32⟩
  | 68 => ⟨S16x256x512, .f32⟩
  | 69 => ⟨S16x256x512, .bf16⟩
  | 70 => ⟨S16x512x1024, .f32⟩
  | 71 => ⟨S16x1024x512, .f32⟩
  | 72 => ⟨S16x1024x512, .bf16⟩
  | _ => ⟨S8192x1152, .bf16⟩

abbrev hbmTy (i : Nat) : BufTy := match i / 128 with
  | 0 => hbmTy0_0 i
  | 1 => hbmTy0_1 i
  | _ => ⟨S8192x1152, .bf16⟩

abbrev bufTy : (tb : Table) → Fin (tcTables nBuf tb) → BufTy
  | .hbm, ⟨i, _⟩ => hbmTy i
  | _, _ => ⟨S8192x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_cst_9 : Ref sig .tc := ⟨.hbm, 134, rfl⟩
abbrev main_v120 : Ref sig .tc := ⟨.hbm, 135, rfl⟩
abbrev main_v121 : Ref sig .tc := ⟨.hbm, 136, rfl⟩
abbrev main_cst_10 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_cst_11 : Ref sig .tc := ⟨.hbm, 141, rfl⟩
abbrev main_v125 : Ref sig .tc := ⟨.hbm, 142, rfl⟩
abbrev main_v126 : Ref sig .tc := ⟨.hbm, 143, rfl⟩
abbrev main_cst_12 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_c : Ref sig .tc := ⟨.hbm, 187, rfl⟩
abbrev main_call0_v0 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩

abbrev nD : Nat := 1
abbrev τ : Topo := Topo.v7x

variable {F : FTy → Type} [FloatOps F]
-- ==== Kernel14.lean ====
abbrev S8192x14848 : Shape := ⟨2, ![8192, 14848]⟩
abbrev S2x128 : Shape := ⟨2, ![2, 128]⟩
abbrev S2x512 : Shape := ⟨2, ![2, 512]⟩
abbrev S2x512x1536 : Shape := ⟨3, ![2, 512, 1536]⟩
abbrev S2x512x8x192 : Shape := ⟨4, ![2, 512, 8, 192]⟩
abbrev S_ : Shape := ⟨0, ![]⟩
abbrev S2x512x8x256 : Shape := ⟨4, ![2, 512, 8, 256]⟩
abbrev S2x512x2048 : Shape := ⟨3, ![2, 512, 2048]⟩
abbrev S1x128 : Shape := ⟨2, ![1, 128]⟩
abbrev S128 : Shape := ⟨1, ![128]⟩
abbrev S1x512 : Shape := ⟨2, ![1, 512]⟩
abbrev S512 : Shape := ⟨1, ![512]⟩
abbrev S1x512x2048 : Shape := ⟨3, ![1, 512, 2048]⟩
abbrev S512x2048 : Shape := ⟨2, ![512, 2048]⟩
abbrev S128x1 : Shape := ⟨2, ![128, 1]⟩
abbrev S64 : Shape := ⟨1, ![64]⟩
abbrev S64x1 : Shape := ⟨2, ![64, 1]⟩
abbrev S32 : Shape := ⟨1, ![32]⟩
abbrev S1x32 : Shape := ⟨2, ![1, 32]⟩
abbrev S128x32 : Shape := ⟨2, ![128, 32]⟩
abbrev S64x32 : Shape := ⟨2, ![64, 32]⟩
abbrev S128x1x32 : Shape := ⟨3, ![128, 1, 32]⟩
abbrev S128x64x32 : Shape := ⟨3, ![128, 64, 32]⟩
abbrev S8192x32 : Shape := ⟨2, ![8192, 32]⟩
abbrev S1x64x32 : Shape := ⟨3, ![1, 64, 32]⟩
abbrev S8192x128 : Shape := ⟨2, ![8192, 128]⟩
abbrev S16 : Shape := ⟨1, ![16]⟩
abbrev S1x16 : Shape := ⟨2, ![1, 16]⟩
abbrev S128x16 : Shape := ⟨2, ![128, 16]⟩
abbrev S64x16 : Shape := ⟨2, ![64, 16]⟩
abbrev S128x1x16 : Shape := ⟨3, ![128, 1, 16]⟩
abbrev S128x64x16 : Shape := ⟨3, ![128, 64, 16]⟩
abbrev S8192x16 : Shape := ⟨2, ![8192, 16]⟩
abbrev S1x64x16 : Shape := ⟨3, ![1, 64, 16]⟩
abbrev S8192x64 : Shape := ⟨2, ![8192, 64]⟩
abbrev S1024x8192 : Shape := ⟨2, ![1024, 8192]⟩
abbrev S2048x8192 : Shape := ⟨2, ![2048, 8192]⟩
abbrev S256x1024 : Shape := ⟨2, ![256, 1024]⟩
abbrev S256x512 : Shape := ⟨2, ![256, 512]⟩
abbrev S256x128 : Shape := ⟨2, ![256, 128]⟩
abbrev S1024x256 : Shape := ⟨2, ![1024, 256]⟩
abbrev S2048x256 : Shape := ⟨2, ![2048, 256]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S256x2048 : Shape := ⟨2, ![256, 2048]⟩

abbrev nBuf : Space → Nat
  | .hbm => 114
  | .vmem => 19
  | .smem => 0
  | _ => 0

abbrev bufTy : (tb : Table) → Fin (tcTables nBuf tb) → BufTy
  | .hbm, ⟨0, _⟩ => ⟨S8192x14848, .bf16⟩
  | .hbm, ⟨1, _⟩ => ⟨S2x128, .f32⟩
  | .hbm, ⟨2, _⟩ => ⟨S2x512, .f32⟩
  | .hbm, ⟨3, _⟩ => ⟨S2x512x1536, .f32⟩
  | .hbm, ⟨4, _⟩ => ⟨S2x512x8x192, .f32⟩
  | .hbm, ⟨5, _⟩ => ⟨S_, .i32⟩
  | .hbm, ⟨6, _⟩ => ⟨S_, .f32⟩
  | .hbm, ⟨7, _⟩ => ⟨S2x512x8x256, .f32⟩
  | .hbm, ⟨8, _⟩ => ⟨S2x512x2048, .f32⟩
  | .hbm, ⟨9, _⟩ => ⟨S2x512x2048, .bf16⟩
  | .hbm, ⟨10, _⟩ => ⟨S1x128, .f32⟩
  | .hbm, ⟨11, _⟩ => ⟨S128, .f32⟩
  | .hbm, ⟨12, _⟩ => ⟨S1x512, .f32⟩
  | .hbm, ⟨13, _⟩ => ⟨S512, .f32⟩
  | .hbm, ⟨14, _⟩ => ⟨S1x512x2048, .bf16⟩
  | .hbm, ⟨15, _⟩ => ⟨S512x2048, .bf16⟩
  | .hbm, ⟨16, _⟩ => ⟨S128, .f32⟩
  | .hbm, ⟨17, _⟩ => ⟨S128x1, .f32⟩
  | .hbm, ⟨18, _⟩ => ⟨S64, .f32⟩
  | .hbm, ⟨19, _⟩ => ⟨S64x1, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S1x32, .f32⟩
  | .hbm, ⟨35, _⟩ => ⟨S128x32, .f32⟩
  | .hbm, ⟨36, _⟩ => ⟨S128x32, .f32⟩
  | .hbm, ⟨37, _⟩ => ⟨S128x32, .f32⟩
  | .hbm, ⟨38, _⟩ => ⟨S1x32, .f32⟩
  | .hbm, ⟨39, _⟩ => ⟨S64x32, .f32⟩
  | .hbm, ⟨40, _⟩ => ⟨S64x32, .f32⟩
  | .hbm, ⟨41, _⟩ => ⟨S64x32, .f32⟩
  | .hbm, ⟨42, _⟩ => ⟨S128x32, .f32⟩
  | .hbm, ⟨43, _⟩ => ⟨S64x32, .f32⟩
  | .hbm, ⟨44, _⟩ => ⟨S128x1x32, .f32⟩
  | .hbm, ⟨45, _⟩ => ⟨S128x64x32, .f32⟩
  | .hbm, ⟨46, _⟩ => ⟨S8192x32, .f32⟩
  | .hbm, ⟨47, _⟩ => ⟨S1x64x32, .f32⟩
  | .hbm, ⟨48, _⟩ => ⟨S128x64x32, .f32⟩
  | .hbm, ⟨49, _⟩ => ⟨S8192x32, .f32⟩
  | .hbm, ⟨50, _⟩ => ⟨S128x32, .f32⟩
  | .hbm, ⟨51, _⟩ => ⟨S64x32, .f32⟩
  | .hbm, ⟨52, _⟩ => ⟨S128x1x32, .f32⟩
  | .hbm, ⟨53, _⟩ => ⟨S128x64x32, .f32⟩
  | .hbm, ⟨54, _⟩ => ⟨S8192x32, .f32⟩
  | .hbm, ⟨55, _⟩ => ⟨S1x64x32, .f32⟩
  | .hbm, ⟨56, _⟩ => ⟨S128x64x32, .f32⟩
  | .hbm, ⟨57, _⟩ => ⟨S8192x32, .f32⟩
  | .hbm, ⟨58, _⟩ => ⟨S8192x128, .f32⟩
  | .hbm, ⟨59, _⟩ => ⟨S8192x32, .f32⟩
  | .hbm, ⟨60, _⟩ => ⟨S8192x32, .f32⟩
  | .hbm, ⟨61, _⟩ => ⟨S8192x128, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S1x16, .f32⟩
  | .hbm, ⟨77, _⟩ => ⟨S128x16, .f32⟩
  | .hbm, ⟨78, _⟩ => ⟨S128x16, .f32⟩
  | .hbm, ⟨79, _⟩ => ⟨S128x16, .f32⟩
  | .hbm, ⟨80, _⟩ => ⟨S1x16, .f32⟩
  | .hbm, ⟨81, _⟩ => ⟨S64x16, .f32⟩
  | .hbm, ⟨82, _⟩ => ⟨S64x16, .f32⟩
  | .hbm, ⟨83, _⟩ => ⟨S64x16, .f32⟩
  | .hbm, ⟨84, _⟩ => ⟨S128x16, .f32⟩
  | .hbm, ⟨85, _⟩ => ⟨S64x16, .f32⟩
  | .hbm, ⟨86, _⟩ => ⟨S128x1x16, .f32⟩
  | .hbm, ⟨87, _⟩ => ⟨S128x64x16, .f32⟩
  | .hbm, ⟨88, _⟩ => ⟨S8192x16, .f32⟩
  | .hbm, ⟨89, _⟩ => ⟨S1x64x16, .f32⟩
  | .hbm, ⟨90, _⟩ => ⟨S128x64x16, .f32⟩
  | .hbm, ⟨91, _⟩ => ⟨S8192x16, .f32⟩
  | .hbm, ⟨92, _⟩ => ⟨S128x16, .f32⟩
  | .hbm, ⟨93, _⟩ => ⟨S64x16, .f32⟩
  | .hbm, ⟨94, _⟩ => ⟨S128x1x16, .f32⟩
  | .hbm, ⟨95, _⟩ => ⟨S128x64x16, .f32⟩
  | .hbm, ⟨96, _⟩ => ⟨S8192x16, .f32⟩
  | .hbm, ⟨97, _⟩ => ⟨S1x64x16, .f32⟩
  | .hbm, ⟨98, _⟩ => ⟨S128x64x16, .f32⟩
  | .hbm, ⟨99, _⟩ => ⟨S8192x16, .f32⟩
  | .hbm, ⟨100, _⟩ => ⟨S8192x64, .f32⟩
  | .hbm, ⟨101, _⟩ => ⟨S8192x16, .f32⟩
  | .hbm, ⟨102, _⟩ => ⟨S8192x16, .f32⟩
  | .hbm, ⟨103, _⟩ => ⟨S8192x64, .f32⟩
  | .hbm, ⟨104, _⟩ => ⟨S_, .i32⟩
  | .hbm, ⟨105, _⟩ => ⟨S_, .f32⟩
  | .hbm, ⟨106, _⟩ => ⟨S8192x128, .f32⟩
  | .hbm, ⟨107, _⟩ => ⟨S_, .i32⟩
  | .hbm, ⟨108, _⟩ => ⟨S_, .f32⟩
  | .hbm, ⟨109, _⟩ => ⟨S8192x128, .f32⟩
  | .hbm, ⟨110, _⟩ => ⟨S1x128, .f32⟩
  | .hbm, ⟨111, _⟩ => ⟨S1x512, .f32⟩
  | .hbm, ⟨112, _⟩ => ⟨S1024x8192, .bf16⟩
  | .hbm, ⟨113, _⟩ => ⟨S2048x8192, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S1x128, .f32⟩
  | .local _ .vmem, ⟨5, _⟩ => ⟨S1x512, .f32⟩
  | .local _ .vmem, ⟨6, _⟩ => ⟨S512x2048, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1024x256, .bf16⟩
  | .local _ .vmem, ⟨16, _⟩ => ⟨S1024x256, .bf16⟩
  | .local _ .vmem, ⟨17, _⟩ => ⟨S2048x256, .bf16⟩
  | .local _ .vmem, ⟨18, _⟩ => ⟨S2048x256, .bf16⟩
  | _, _ => ⟨S8192x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_c_7 : Ref sig .tc := ⟨.hbm, 104, rfl⟩
abbrev main_call1_v0 : Ref sig .tc := ⟨.hbm, 105, rfl⟩
abbrev main_v90 : Ref sig .tc := ⟨.hbm, 106, rfl⟩
abbrev main_c_8 : Ref sig .tc := ⟨.hbm, 107, rfl⟩
abbrev main_call2_v0 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94_0 : Ref sig .tc := ⟨.hbm, 112, rfl⟩
abbrev main_v94_1 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S8192x14848 : Shape := ⟨2, ![8192, 14848]⟩
abbrev S2x128 : Shape := ⟨2, ![2, 128]⟩
abbrev S2x512 : Shape := ⟨2, ![2, 512]⟩
abbrev S2x512x1536 : Shape := ⟨3, ![2, 512, 1536]⟩
abbrev S8192x1024 : Shape := ⟨2, ![8192, 1024]⟩
abbrev S8192x512 : Shape := ⟨2, ![8192, 512]⟩
abbrev S8192x8x128 : Shape := ⟨3, ![8192, 8, 128]⟩
abbrev S1x128 : Shape := ⟨2, ![1, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S1x512 : Shape := ⟨2, ![1, 512]⟩
abbrev S512 : Shape := ⟨1, ![512]⟩
abbrev S8192 : Shape := ⟨1, ![8192]⟩
abbrev S8192x1 : Shape := ⟨2, ![8192, 1]⟩
abbrev S1x512x1536 : Shape := ⟨3, ![1, 512, 1536]⟩
abbrev S512x1536 : Shape := ⟨2, ![512, 1536]⟩
abbrev S8192x1536 : Shape := ⟨2, ![8192, 1536]⟩
abbrev S8192x8x192 : Shape := ⟨3, ![8192, 8, 192]⟩
abbrev S8192x8x64 : Shape := ⟨3, ![8192, 8, 64]⟩
abbrev S128x64 : Shape := ⟨2, ![128, 64]⟩
abbrev S64 : Shape := ⟨1, ![64]⟩
abbrev S1x64 : Shape := ⟨2, ![1, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x8x256 : Shape := ⟨3, ![8192, 8, 256]⟩
abbrev S1024x8192 : Shape := ⟨2, ![1024, 8192]⟩
abbrev S8192x2048 : Shape := ⟨2, ![8192, 2048]⟩
abbrev S2048x8192 : Shape := ⟨2, ![2048, 8192]⟩

abbrev nBuf : Space → Nat
  | .hbm => 207
  | .vmem => 0
  | .smem => 0
  | _ => 0

abbrev hbmTy0_0 (i : Nat) : BufTy := match i % 128 with
  | 0 => ⟨S8192x14848, .bf16⟩
  | 1 => ⟨S2x128, .f32⟩
  | 2 => ⟨S2x512, .f32⟩
  | 3 => ⟨S2x512x1536, .f32⟩
  | 4 => ⟨S8192x1024, .bf16⟩
  | 5 => ⟨S8192x1024, .f32⟩
  | 6 => ⟨S8192x512, .bf16⟩
  | 7 => ⟨S8192x512, .f32⟩
  | 8 => ⟨S8192x8x128, .f32⟩
  | 9 => ⟨S1x128, .f32⟩
  | 10 => ⟨S128, .f32⟩
  | 11 => ⟨S8192x8x128, .f32⟩
  | 12 => ⟨S_, .f32⟩
  | 13 => ⟨S8192x8, .f32⟩
  | 14 => ⟨S8192x8x1, .f32⟩
  | 15 => ⟨S_, .f32⟩
  | 16 => ⟨S8192x8x1, .f32⟩
  | 17 => ⟨S8192x8x1, .f32⟩
  | 18 => ⟨S_, .f32⟩
  | 19 => ⟨S8192x8x1, .f32⟩
  | 20 => ⟨S8192x8x1, .f32⟩
  | 21 => ⟨S8192x8x1, .f32⟩
  | 22 => ⟨S8192x8x128, .f32⟩
  | 23 => ⟨S8192x8x128, .f32⟩
  | 24 => ⟨S1x1x128, .f32⟩
  | 25 => ⟨S8192x8x128, .f32⟩
  | 26 => ⟨S8192x8x128, .f32⟩
  | 27 => ⟨S1x512, .f32⟩
  | 28 => ⟨S512, .f32⟩
  | 29 => ⟨S8192x512, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S1x512x1536, .f32⟩
  | 46 => ⟨S512x1536, .f32⟩
  | 47 => ⟨S8192x1536, .f32⟩
  | 48 => ⟨S8192x8x192, .f32⟩
  | 49 => ⟨S8192x8x128, .f32⟩
  | 50 => ⟨S8192x8x64, .f32⟩
  | 51 => ⟨S128, .i32⟩
  | 52 => ⟨S128x64, .i32⟩
  | 53 => ⟨S8192, .i32⟩
  | 54 => ⟨S8192, .f32⟩
  | 55 => ⟨S64, .i32⟩
  | 56 => ⟨S1x64, .i32⟩
  | 57 => ⟨S128x64, .i32⟩
  | 58 => ⟨S8192, .i32⟩
  | 59 => ⟨S8192, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S8192x1, .f32⟩
  | 75 => ⟨S1x32, .f32⟩
  | 76 => ⟨S8192x32, .f32⟩
  | 77 => ⟨S8192x32, .f32⟩
  | 78 => ⟨S8192x32, .f32⟩
  | 79 => ⟨S8192x1, .f32⟩
  | 80 => ⟨S1x32, .f32⟩
  | 81 => ⟨S8192x32, .f32⟩
  | 82 => ⟨S8192x32, .f32⟩
  | 83 => ⟨S8192x32, .f32⟩
  | 84 => ⟨S8192x8x64, .f32⟩
  | 85 => ⟨S8192x8x64, .f32⟩
  | 86 => ⟨S8192x32, .f32⟩
  | 87 => ⟨S8192x1x32, .f32⟩
  | 88 => ⟨S8192x32, .f32⟩
  | 89 => ⟨S8192x1x32, .f32⟩
  | 90 => ⟨S8192x8x32, .f32⟩
  | 91 => ⟨S8192x8x32, .f32⟩
  | 92 => ⟨S8192x8x32, .f32⟩
  | 93 => ⟨S8192x8x32, .f32⟩
  | 94 => ⟨S8192x8x32, .f32⟩
  | 95 => ⟨S8192x8x32, .f32⟩
  | 96 => ⟨S8192x8x32, .f32⟩
  | 97 => ⟨S8192x8x32, .f32⟩
  | 98 => ⟨S8192x8x32, .f32⟩
  | 99 => ⟨S8192x8x32, .f32⟩
  | 100 => ⟨S8192x8x32, .f32⟩
  | 101 => ⟨S8192x8x32, .f32⟩
  | 102 => ⟨S8192x8x64, .f32⟩
  | 103 => ⟨S8192x32, .f32⟩
  | 104 => ⟨S8192x1x32, .f32⟩
  | 105 => ⟨S8192x32, .f32⟩
  | 106 => ⟨S8192x1x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S8192x8x32, .f32⟩
  | 117 => ⟨S8192x8x32, .f32⟩
  | 118 => ⟨S8192x8x32, .f32⟩
  | 119 => ⟨S8192x8x64, .f32⟩
  | 120 => ⟨S8192x8x128, .f32⟩
  | 121 => ⟨S128, .i32⟩
  | 122 => ⟨S128x64, .i32⟩
  | 123 => ⟨S8192, .i32⟩
  | 124 => ⟨S8192, .f32⟩
  | 125 => ⟨S64, .i32⟩
  | 126 => ⟨S1x64, .i32⟩
  | 127 => ⟨S128x64, .i32⟩
  | _ => ⟨S8192x14848, .bf16⟩

abbrev hbmTy0_1 (i : Nat) : BufTy := match i % 128 with
  | 0 => ⟨S8192, .i32⟩
  | 1 => ⟨S8192, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x1, .f32⟩
  | 22 => ⟨S1x16, .f32⟩
  | 23 => ⟨S8192x16, .f32⟩
  | 24 => ⟨S8192x16, .f32⟩
  | 25 => ⟨S8192x16, .f32⟩
  | 26 => ⟨S8192x8x32, .f32⟩
  | 27 => ⟨S8192x8x32, .f32⟩
  | 28 => ⟨S8192x16, .f32⟩
  | 29 => ⟨S8192x1x16, .f32⟩
  | 30 => ⟨S8192x16, .f32⟩
  | 31 => ⟨S8192x1x16, .f32⟩
  | 32 => ⟨S8192x8x16, .f32⟩
  | 33 => ⟨S8192x8x16, .f32⟩
  | 34 => ⟨S8192x8x16, .f32⟩
  | 35 => ⟨S8192x8x16, .f32⟩
  | 36 => ⟨S8192x8x16, .f32⟩
  | 37 => ⟨S8192x8x16, .f32⟩
  | 38 => ⟨S8192x8x16, .f32⟩
  | 39 => ⟨S8192x8x16, .f32⟩
  | 40 => ⟨S8192x8x16, .f32⟩
  | 41 => ⟨S8192x8x16, .f32⟩
  | 42 => ⟨S8192x8x16, .f32⟩
  | 43 => ⟨S8192x8x16, .f32⟩
  | 44 => ⟨S8192x8x32, .f32⟩
  | 45 => ⟨S8192x16, .f32⟩
  | 46 => ⟨S8192x1x16, .f32⟩
  | 47 => ⟨S8192x16, .f32⟩
  | 48 => ⟨S8192x1x16, .f32⟩
  | 49 => ⟨S8192x8x16, .f32⟩
  | 50 => ⟨S8192x8x16, .f32⟩
  | 51 => ⟨S8192x8x16, .f32⟩
  | 52 => ⟨S8192x8x16, .f32⟩
  | 53 => ⟨S8192x8x16, .f32⟩
  | 54 => ⟨S8192x8x16, .f32⟩
  | 55 => ⟨S8192x8x16, .f32⟩
  | 56 => ⟨S8192x8x16, .f32⟩
  | 57 => ⟨S8192x8x16, .f32⟩
  | 58 => ⟨S8192x8x16, .f32⟩
  | 59 => ⟨S8192x8x16, .f32⟩
  | 60 => ⟨S8192x8x16, .f32⟩
  | 61 => ⟨S8192x8x32, .f32⟩
  | 62 => ⟨S8192x8x64, .f32⟩
  | 63 => ⟨S8192x8x192, .f32⟩
  | 64 => ⟨S_, .i32⟩
  | 65 => ⟨S_, .f32⟩
  | 66 => ⟨S8192x8x256, .f32⟩
  | 67 => ⟨S_, .f32⟩
  | 68 => ⟨S8192x8x128, .f32⟩
  | 69 => ⟨S8192x8x128, .f32⟩
  | 70 => ⟨S8192x1024, .f32⟩
  | 71 => ⟨S1024x8192, .f32⟩
  | 72 => ⟨S1024x8192, .bf16⟩
  | 73 => ⟨S_, .f32⟩
  | 74 => ⟨S8192x8x256, .f32⟩
  | 75 => ⟨S8192x8x256, .f32⟩
  | 76 => ⟨S8192x2048, .f32⟩
  | 77 => ⟨S2048x8192, .f32⟩
  | 78 => ⟨S2048x8192, .bf16⟩
  | _ => ⟨S8192x14848, .bf16⟩

abbrev hbmTy (i : Nat) : BufTy := match i / 128 with
  | 0 => hbmTy0_0 i
  | 1 => hbmTy0_1 i
  | _ => ⟨S8192x14848, .bf16⟩

abbrev bufTy : (tb : Table) → Fin (tcTables nBuf tb) → BufTy
  | .hbm, ⟨i, _⟩ => hbmTy i
  | _, _ => ⟨S8192x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_9 : Ref sig .tc := ⟨.hbm, 131, rfl⟩
abbrev main_v117 : Ref sig .tc := ⟨.hbm, 132, rfl⟩
abbrev main_v118 : Ref sig .tc := ⟨.hbm, 133, rfl⟩
abbrev main_cst_10 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_11 : Ref sig .tc := ⟨.hbm, 138, rfl⟩
abbrev main_v122 : Ref sig .tc := ⟨.hbm, 139, rfl⟩
abbrev main_v123 : Ref sig .tc := ⟨.hbm, 140, rfl⟩
abbrev main_cst_12 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_c : Ref sig .tc := ⟨.hbm, 192, rfl⟩
abbrev main_call0_v0 : Ref sig .tc := ⟨.hbm, 193, rfl⟩
abbrev main_v174 : Ref sig .tc := ⟨.hbm, 194, rfl⟩
abbrev main_cst_13 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_cst_14 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩

abbrev nD : Nat := 1
abbrev τ : Topo := Topo.v7x

variable {F : FTy → Type} [FloatOps F]
-- ==== Proof.Online.lean ====
/-
  Attention over a list of key chunks, one chunk at a time, as a kernel's vector operations spell it: the scores of a
  chunk (keys by queries), their column maximum, the running maximum, the weights 2^(score - maximum), the running sum
  of the weights and the running weighted sum of the values, both scaled down whenever the maximum grows, and at the end
  their quotient. Everything is stated for any extents, so that every attention call reads its blocks with it.
-/
module

public import Idealize.ShloMosaic.Lib.MatmulPlain

@[expose] public section

noncomputable section

namespace Cert.Online

open Idealize.ShloMosaic

variable {F : FTy → Type} [FloatOps F]

/-- A float matrix. -/
abbrev Mat (F : FTy → Type) (a b : ℕ) (φ : FTy) := FVec F ⟨2, ![a, b]⟩ φ

/-! ## The shape conditions, for any extents -/

theorem reduces_rows (n r : ℕ) : (⟨2, ![n, r]⟩ : Shape).Reduces [0] ⟨1, ![r]⟩ :=
  ⟨rfl, Nat.one_pos, fun b => by fin_cases b; rfl⟩

theorem casts_row (r : ℕ) : (⟨1, ![r]⟩ : Shape).ShapeCasts ⟨2, ![1, r]⟩ := by
  simp [Shape.ShapeCasts, Shape.numel, Fin.prod_univ_succ]

theorem casts_slot (n r : ℕ) : (⟨2, ![n, r]⟩ : Shape).ShapeCasts ⟨3, ![1, n, r]⟩ := by
  simp [Shape.ShapeCasts, Shape.numel, Fin.prod_univ_succ]

theorem casts_unslot (n r : ℕ) : (⟨3, ![1, n, r]⟩ : Shape).ShapeCasts ⟨2, ![n, r]⟩ := by
  simp [Shape.ShapeCasts, Shape.numel, Fin.prod_univ_succ]

theorem broadcasts_row (n r : ℕ) : (⟨2, ![1, r]⟩ : Shape).Broadcasts ⟨2, ![n, r]⟩ :=
  ⟨le_rfl, fun a => by fin_cases a; exacts [.inl rfl, .inr fun _ => rfl]⟩

theorem transposes (e r : ℕ) : (⟨2, ![e, r]⟩ : Shape).Transposes [1, 0] ⟨2, ![r, e]⟩ := by
  exact ⟨(by decide : [(1 : Fin 2), 0].Perm (List.finRange 2)), rfl, fun b => by fin_cases b <;> rfl⟩

/-! ## One chunk -/

variable {n₀ n d e r : ℕ}

/-- The scores of a chunk: keys by queries. -/
def scores (k : Mat F n d .bf16) (q : Mat F d r .bf16) : Mat F n r .f32 :=
  matmul (DotDims.plain n d r) none k q (constant _ .f32 0x00000000#32)

/-- The greatest score of each query. -/
def colMax (s : Mat F n r .f32) : Mat F 1 r .f32 :=
  shapeCast _ (multiReduction .maximumf [0] ⟨1, ![r]⟩ s 0xFF800000#32 (reduces_rows n r) (.inl rfl) rfl) (casts_row r)

/-- The sum of each query's weights. -/
def colSum (p : Mat F n r .f32) : Mat F 1 r .f32 :=
  shapeCast _ (multiReduction .add [0] ⟨1, ![r]⟩ p 0x00000000#32 (reduces_rows n r) (.inl rfl) rfl) (casts_row r)

/-- The weights of a chunk's scores, which lay in a scratch slot meanwhile, below the maximum `m`. -/
def weights (s : Mat F n r .f32) (m : Mat F 1 r .f32) : Mat F n r .f32 :=
  exp2 (subf (shapeCast _ (shapeCast ⟨3, ![1, n, r]⟩ s (casts_slot n r)) (casts_unslot n r))
    (broadcastTo _ m (broadcasts_row n r)))

/-- The values of a chunk (feature by token), weighted and added up. -/
def mix (v : FVec F ⟨3, ![1, e, n]⟩ .bf16) (p : Mat F n r .f32) : Mat F e r .f32 :=
  matmul (DotDims.plain e n r) none (shapeCast ⟨2, ![e, n]⟩ v (casts_unslot e n)) (truncf .bf16 p (by decide))
    (constant _ .f32 0x00000000#32)

/-! ## Chunk after chunk -/

variable {N : ℕ} (k₀ : Mat F n₀ d .bf16) (v₀ : FVec F ⟨3, ![1, e, n₀]⟩ .bf16) (k : Fin N → Mat F n d .bf16)
  (v : Fin N → FVec F ⟨3, ![1, e, n]⟩ .bf16) (q : Mat F d r .bf16)

/-- The greatest score among the first chunk and the `g` next ones. -/
def runMax : (g : ℕ) → g ≤ N → Mat F 1 r .f32
  | 0, _ => colMax (scores k₀ q)
  | g + 1, h => maximumf (runMax g (Nat.le_of_succ_le h)) (colMax (scores (k ⟨g, h⟩) q))

/-- The first chunk's weights when it is met. -/
def firstWeights : Mat F n₀ r .f32 := weights (scores k₀ q) (runMax k₀ k q 0 (Nat.zero_le _))

/-- A later chunk's weights when it is met. -/
def laterWeights (g : ℕ) (h : g < N) : Mat F n r .f32 := weights (scores (k ⟨g, h⟩) q) (runMax k₀ k q (g + 1) h)

/-- What the earlier sums are multiplied by when a chunk raises the maximum. -/
def decay (g : ℕ) (h : g < N) : Mat F 1 r .f32 :=
  exp2 (subf (runMax k₀ k q g (Nat.le_of_lt h)) (runMax k₀ k q (g + 1) h))

/-- The running sum of the weights. -/
def runSum : (g : ℕ) → g ≤ N → Mat F 1 r .f32
  | 0, _ => colSum (firstWeights k₀ k q)
  | g + 1, h => addf (mulf (decay k₀ k q g h) (runSum g (Nat.le_of_succ_le h))) (colSum (laterWeights k₀ k q g h))

/-- The running weighted sum of the values. -/
def runMix : (g : ℕ) → g ≤ N → Mat F e r .f32
  | 0, _ => mix v₀ (firstWeights k₀ k q)
  | g + 1, h => addf (mulf (broadcastTo _ (decay k₀ k q g h) (broadcasts_row e r)) (runMix g (Nat.le_of_succ_le h)))
      (mix (v ⟨g, h⟩) (laterWeights k₀ k q g h))

/-- The attention of a block of queries, query by feature. -/
def result : Mat F r e .bf16 :=
  truncf .bf16 (transpose ⟨2, ![r, e]⟩ [1, 0] (divf (runMix k₀ v₀ k v q N le_rfl)
    (broadcastTo _ (runSum k₀ k q N le_rfl) (broadcasts_row e r))) (transposes e r)) (by decide)

end Cert.Online

end
-- ==== Proof.Softmax.lean ====
/-
  The softmax taken chunk by chunk, on extended reals. Scores `s k` and values `v k` are numbered from 0; a running
  maximum, a running sum of the weights 2^(s - maximum) and a running weighted sum of the values, updated for one chunk
  after the other, end at the maximum, the sum and the weighted sum over all tokens seen. The scores are real numbers;
  the values may be infinite.
-/
module

public import Idealize.ShloMosaic.PureOps.Ideal.Laws

@[expose] public section

noncomputable section

namespace Cert.Softmax

open Idealize.ShloMosaic
open scoped BigOperators

/-! ## Real scores -/

/-- An extended real that is a real number. -/
def IsReal (x : EReal) : Prop := ∃ r : ℝ, x = r

theorem IsReal.sup {x y : EReal} (hx : IsReal x) (hy : IsReal y) : IsReal (x ⊔ y) := by
  rcases le_total x y with h | h
  · rwa [sup_eq_right.2 h]
  · rwa [sup_eq_left.2 h]

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.sum {ι : Type*} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

/-- The greatest of a nonempty set of real scores is real. -/
theorem isReal_sup (s : ℕ → EReal) (hs : ∀ k, IsReal (s k)) : ∀ n, 0 < n → IsReal ((Finset.range n).sup s)
  | 1, _ => by simpa using hs 0
  | n + 2, _ => by
    rw [Finset.range_add_one, Finset.sup_insert]
    exact (hs _).sup (isReal_sup s hs (n + 1) (Nat.succ_pos n))

/-- The greatest of `a + b` scores is the greater of the first `a`'s and the next `b`'s. -/
theorem sup_range_add (s : ℕ → EReal) (a b : ℕ) :
    (Finset.range (a + b)).sup s = (Finset.range a).sup s ⊔ (Finset.range b).sup fun i => s (a + i) := by
  induction b with
  | zero => simp
  | succ b ih =>
    rw [Nat.add_succ, Finset.range_add_one, Finset.sup_insert, ih, Finset.range_add_one (n := b), Finset.sup_insert,
      sup_left_comm]

/-! ## Powers of two -/

theorem exp2_coe (r : ℝ) : Ideal.exp2 (r : EReal) = ((Real.rpow 2 r : ℝ) : EReal) := rfl

theorem exp2_pos {x : EReal} (hx : IsReal x) : 0 < Ideal.exp2 x := by
  obtain ⟨r, rfl⟩ := hx
  rw [exp2_coe]
  exact_mod_cast Real.rpow_pos_of_pos two_pos r

theorem IsReal.sub {x y : EReal} : IsReal x → IsReal y → IsReal (x - y) := by
  rintro ⟨a, rfl⟩ ⟨b, rfl⟩
  exact ⟨a - b, (EReal.coe_sub a b).symm⟩

theorem IsReal.exp2 {x : EReal} (hx : IsReal x) : IsReal (Ideal.exp2 x) := by
  obtain ⟨r, rfl⟩ := hx
  exact ⟨_, rfl⟩

/-- Raising the maximum from `m` to `m'` scales a weight by `2^(m - m')`. -/
theorem exp2_rescale {m m' x : EReal} (hm : IsReal m) (hm' : IsReal m') (hx : IsReal x) :
    Ideal.exp2 (m - m') * Ideal.exp2 (x - m) = Ideal.exp2 (x - m') := by
  obtain ⟨a, rfl⟩ := hm
  obtain ⟨b, rfl⟩ := hm'
  obtain ⟨c, rfl⟩ := hx
  rw [← EReal.coe_sub, ← EReal.coe_sub, ← EReal.coe_sub, exp2_coe, exp2_coe, exp2_coe, ← EReal.coe_mul]
  congr 1
  show (2 : ℝ) ^ (a - b) * (2 : ℝ) ^ (c - a) = (2 : ℝ) ^ (c - b)
  rw [← Real.rpow_add two_pos]
  congr 1
  ring

/-- A nonnegative real factor goes into a sum, whatever the terms. -/
theorem mul_sum {ι : Type*} (S : Finset ι) (f : ι → EReal) {a : EReal} (ha : IsReal a) (h0 : 0 ≤ a) :
    a * ∑ i ∈ S, f i = ∑ i ∈ S, a * f i := by
  classical
  obtain ⟨r, rfl⟩ := ha
  induction S using Finset.induction_on with
  | empty => simp
  | insert i S hi ih =>
    rw [Finset.sum_insert hi, Finset.sum_insert hi, ← ih,
      EReal.left_distrib_of_nonneg_of_ne_top h0 (EReal.coe_ne_top r)]

/-! ## One chunk more -/

variable (s v : ℕ → EReal)

/-- The sum of the weights of the first `n` tokens below the maximum `m`. -/
def weightSum (m : EReal) (n : ℕ) : EReal := ∑ k ∈ Finset.range n, Ideal.exp2 (s k - m)

/-- The weighted sum of the values of the first `n` tokens below the maximum `m`. -/
def valueSum (m : EReal) (n : ℕ) : EReal := ∑ k ∈ Finset.range n, v k * Ideal.exp2 (s k - m)

theorem weightSum_step (hs : ∀ k, IsReal (s k)) {m m' : EReal} (hm : IsReal m) (hm' : IsReal m') (a b : ℕ) :
    Ideal.exp2 (m - m') * weightSum s m a + ∑ i ∈ Finset.range b, Ideal.exp2 (s (a + i) - m')
      = weightSum s m' (a + b) := by
  unfold weightSum
  rw [Finset.sum_range_add, mul_sum _ _ (hm.sub hm').exp2 (exp2_pos (hm.sub hm')).le]
  congr 1
  exact Finset.sum_congr rfl fun k _ => exp2_rescale hm hm' (hs k)

theorem valueSum_step (hs : ∀ k, IsReal (s k)) {m m' : EReal} (hm : IsReal m) (hm' : IsReal m') (a b : ℕ) :
    Ideal.exp2 (m - m') * valueSum s v m a + ∑ i ∈ Finset.range b, v (a + i) * Ideal.exp2 (s (a + i) - m')
      = valueSum s v m' (a + b) := by
  unfold valueSum
  rw [Finset.sum_range_add, mul_sum _ _ (hm.sub hm').exp2 (exp2_pos (hm.sub hm')).le]
  congr 1
  refine Finset.sum_congr rfl fun k _ => ?_
  rw [mul_left_comm, exp2_rescale hm hm' (hs k)]

/-! ## The quotient at the end -/

theorem weightSum_pos (hs : ∀ k, IsReal (s k)) {m : EReal} (hm : IsReal m) {n : ℕ} (hn : 0 < n) :
    0 < weightSum s m n := by
  refine lt_of_lt_of_le (exp2_pos ((hs 0).sub hm)) ?_
  exact Finset.single_le_sum (f := fun k => Ideal.exp2 (s k - m)) (fun k _ => (exp2_pos ((hs k).sub hm)).le)
    (Finset.mem_range.2 hn)

theorem weightSum_isReal (hs : ∀ k, IsReal (s k)) {m : EReal} (hm : IsReal m) (n : ℕ) : IsReal (weightSum s m n) :=
  IsReal.sum _ _ fun k _ => ((hs k).sub hm).exp2

/-- Dividing the weighted sum by the sum of the weights is weighting by the divided weights. -/
theorem valueSum_div (hs : ∀ k, IsReal (s k)) {m : EReal} (hm : IsReal m) {n : ℕ} (hn : 0 < n) :
    Ideal.div (valueSum s v m n) (weightSum s m n)
      = ∑ k ∈ Finset.range n, v k * Ideal.div (Ideal.exp2 (s k - m)) (weightSum s m n) := by
  have hpos := weightSum_pos s hs hm hn
  have hinv : IsReal (weightSum s m n)⁻¹ := by
    obtain ⟨r, hr⟩ := weightSum_isReal s hs hm n
    exact ⟨r⁻¹, by rw [hr]; rfl⟩
  simp only [Ideal.div, if_neg hpos.ne']
  rw [mul_comm, valueSum, mul_sum _ _ hinv (EReal.inv_nonneg_of_nonneg hpos.le)]
  refine Finset.sum_congr rfl fun k _ => ?_
  rw [mul_left_comm, mul_comm (weightSum s m n)⁻¹]

end Cert.Softmax

end
-- ==== Proof.OnlineIdeal.lean ====
/-
  The chunk-by-chunk attention (Online.lean) on extended reals, read at one query and one feature: the softmax-weighted
  sum of the values over all chunks.
-/
module

public import proofs.«01_k».proof.Proof.Online
public import proofs.«01_k».proof.Proof.Softmax
public import Idealize.ShloMosaic.Lib.Pipeline.Value
public import Idealize.ShloMosaic.Lib.ValueIdx
public import Idealize.ShloMosaic.Lib.Pointwise
public import Idealize.ShloMosaic.Lib.IdealHost

@[expose] public section

noncomputable section

namespace Cert.Softmax

open Idealize.ShloMosaic

/-- Softmax attention over the first `T` tokens, in base two: the values weighted by `2^(s - max s)` over the sum of
    these powers. -/
def attention (s v : ℕ → EReal) (T : ℕ) : EReal :=
  ∑ k ∈ Finset.range T, v k * Ideal.div (Ideal.exp2 (s k - (Finset.range T).sup s))
    (weightSum s ((Finset.range T).sup s) T)

/-- The greatest of a family over `Fin n`, by its numbers. -/
theorem sup_univ_eq {n : ℕ} (f : Fin n → EReal) (s : ℕ → EReal) (h : ∀ i, f i = s i) :
    Finset.univ.sup f = (Finset.range n).sup s :=
  le_antisymm (Finset.sup_le fun i _ => by rw [h i]; exact Finset.le_sup (f := s) (Finset.mem_range.2 i.isLt))
    (Finset.sup_le fun i hi => by
      rw [← h ⟨i, Finset.mem_range.1 hi⟩]; exact Finset.le_sup (f := f) (Finset.mem_univ _))

/-- The sum of a family over `Fin n`, by its numbers. -/
theorem sum_univ_eq {n : ℕ} (f : Fin n → EReal) (s : ℕ → EReal) (h : ∀ i, f i = s i) :
    ∑ i, f i = ∑ i ∈ Finset.range n, s i := by
  rw [Finset.sum_congr rfl fun i _ => h i, ← Fin.sum_univ_eq_sum_range]

end Cert.Softmax

namespace Cert.Online

open Idealize.ShloMosaic Cert.Softmax

variable {n₀ n d e r : ℕ}

/-! ## The shape operations at an index -/

theorem ofBits_negInf : Ideal.ofBits .f32 0xFF800000#32 = ⊥ := by simp [Ideal.ofBits, Ideal.ieee]

theorem lift_rows (j : Fin r) (k : Fin n) : (reduces_rows n r).lift (ix1 j) k = ix2 k j := by
  funext a
  apply Fin.ext
  match a with
  | ⟨0, _⟩ => rfl
  | ⟨1, _⟩ => rfl

theorem cast_row_apply {α : Type} (x : (⟨1, ![r]⟩ : Shape).Idx → α) (j : Fin r) :
    shapeCast ⟨2, ![1, r]⟩ x (casts_row r) (ix2 0 j) = x (ix1 j) :=
  shapeCast_apply x _ _ _ (by
    rw [Shape.rowMajor_val_one, Shape.rowMajor_val_two]; show j.val = 0 * r + j.val; omega)

theorem unslot_apply {α : Type} (x : (⟨3, ![1, e, n]⟩ : Shape).Idx → α) (f : Fin e) (i : Fin n) :
    shapeCast ⟨2, ![e, n]⟩ x (casts_unslot e n) (ix2 f i) = x (ix3 0 f i) :=
  shapeCast_apply x _ _ _ (by
    rw [Shape.rowMajor_val_three, Shape.rowMajor_val_two]; show (0 * e + f.val) * n + i.val = f.val * n + i.val; simp)

theorem bcast_row_apply {α : Type} (x : (⟨2, ![1, r]⟩ : Shape).Idx → α) (i : Fin n) (j : Fin r) :
    broadcastTo ⟨2, ![n, r]⟩ x (broadcasts_row n r) (ix2 i j) = x (ix2 0 j) :=
  broadcastTo_apply x _ _ _ fun a => by
    match a with
    | ⟨0, _⟩ => rfl
    | ⟨1, _⟩ =>
      by_cases h : r = 1
      · subst h; simp [ix2]
      · simp [ix2, h]

theorem transpose_at {α : Type} (x : (⟨2, ![e, r]⟩ : Shape).Idx → α) (j : Fin r) (f : Fin e) :
    transpose ⟨2, ![r, e]⟩ [1, 0] x (transposes e r) (ix2 j f) = x (ix2 f j) :=
  transpose_apply [1, 0] x _ _ _ fun b => by
    match b with
    | ⟨0, _⟩ => rfl
    | ⟨1, _⟩ => rfl

/-! ## One chunk at a query -/

/-- A matrix product from a zero accumulator, at an index. -/
theorem matmul_apply {φ₁ φ₂ : FTy} (x : Mat Ideal n d φ₁) (y : Mat Ideal d r φ₂) (i : Fin n) (j : Fin r) :
    FloatOps.matmul (DotDims.plain n d r) none x y (constant ⟨2, ![n, r]⟩ .f32 0x00000000#32 : Mat Ideal n r .f32) (ix2 i j)
      = ∑ c : Fin d, x (ix2 i c) * y (ix2 c j) :=
  (Ideal.matmul_plain_apply none x y _ i j).trans (by
    rw [show (constant ⟨2, ![n, r]⟩ .f32 0x00000000#32 : Mat Ideal n r .f32) (ValueIdx.ix2 i j) = 0
      from Ideal.ofBits_zero_f32, zero_add]
    rfl)

theorem scores_apply (k : Mat Ideal n d .bf16) (q : Mat Ideal d r .bf16) (i : Fin n) (j : Fin r) :
    scores k q (ix2 i j) = ∑ c : Fin d, k (ix2 i c) * q (ix2 c j) :=
  matmul_apply k q i j

theorem colMax_apply (x : Mat Ideal n r .f32) (j : Fin r) :
    colMax x (ix2 0 j) = Finset.univ.sup fun i : Fin n => x (ix2 i j) := by
  refine (cast_row_apply _ j).trans ?_
  refine (Ideal.multiReduction_maximumf_single x _ (reduces_rows n r) _ _ (ix1 j)).trans ?_
  rw [show (FloatOps.ofBits .f32 0xFF800000#32 : Ideal .f32) = ⊥ from ofBits_negInf]
  show Finset.fold max ⊥ _ _ = Finset.fold max ⊥ _ _
  congr 1
  funext i
  exact congrArg x (lift_rows j i)

theorem colSum_apply (x : Mat Ideal n r .f32) (j : Fin r) :
    colSum x (ix2 0 j) = ∑ i : Fin n, x (ix2 i j) := by
  refine (cast_row_apply _ j).trans ?_
  refine (Ideal.multiReduction_add_single x _ (reduces_rows n r) _ _ (ix1 j)).trans ?_
  exact Finset.sum_congr rfl fun i _ => congrArg x (lift_rows j i)

theorem weights_apply (x : Mat Ideal n r .f32) (m : Mat Ideal 1 r .f32) (i : Fin n) (j : Fin r) :
    weights x m (ix2 i j) = Ideal.exp2 (x (ix2 i j) - m (ix2 0 j)) := by
  unfold weights
  rw [shapeCast_shapeCast]
  show Ideal.exp2 (x (ix2 i j) - broadcastTo _ m (broadcasts_row n r) (ix2 i j)) = _
  rw [bcast_row_apply]

theorem mix_apply (v : FVec Ideal ⟨3, ![1, e, n]⟩ .bf16) (p : Mat Ideal n r .f32) (f : Fin e) (j : Fin r) :
    mix v p (ix2 f j) = ∑ i : Fin n, v (ix3 0 f i) * p (ix2 i j) := by
  refine (matmul_apply _ _ f j).trans ?_
  refine Finset.sum_congr rfl fun i _ => ?_
  rw [unslot_apply]
  rfl

/-! ## All chunks at a query -/

variable {N : ℕ} (k₀ : Mat Ideal n₀ d .bf16) (v₀ : FVec Ideal ⟨3, ![1, e, n₀]⟩ .bf16) (k : Fin N → Mat Ideal n d .bf16)
  (v : Fin N → FVec Ideal ⟨3, ![1, e, n]⟩ .bf16) (q : Mat Ideal d r .bf16)

/-- The scores of query `j`, numbered through the chunks, are `s`. -/
def ScoresAre (j : Fin r) (s : ℕ → EReal) : Prop :=
  (∀ i : Fin n₀, scores k₀ q (ix2 i j) = s i) ∧
    ∀ (g : Fin N) (i : Fin n), scores (k g) q (ix2 i j) = s (n₀ + n * g + i)

/-- The values' feature `f`, numbered through the chunks, is `u`. -/
def ValuesAre (f : Fin e) (u : ℕ → EReal) : Prop :=
  (∀ i : Fin n₀, v₀ (ix3 0 f i) = u i) ∧ ∀ (g : Fin N) (i : Fin n), v g (ix3 0 f i) = u (n₀ + n * g + i)

variable {k₀ v₀ k v q} {j : Fin r} {f : Fin e} {s u : ℕ → EReal}

theorem runMax_apply (hs : ScoresAre k₀ k q j s) : ∀ (g : ℕ) (h : g ≤ N),
    runMax k₀ k q g h (ix2 0 j) = (Finset.range (n₀ + n * g)).sup s
  | 0, _ => by
    unfold runMax
    rw [colMax_apply]
    exact sup_univ_eq _ _ hs.1
  | g + 1, h => by
    unfold runMax
    show runMax k₀ k q g _ (ix2 0 j) ⊔ colMax _ (ix2 0 j) = _
    rw [runMax_apply hs g, colMax_apply, Nat.mul_succ, ← Nat.add_assoc, sup_range_add s (n₀ + n * g) n]
    congr 1
    exact sup_univ_eq _ (fun i => s (n₀ + n * g + i)) (hs.2 ⟨g, h⟩)

theorem firstWeights_apply (hs : ScoresAre k₀ k q j s) (i : Fin n₀) :
    firstWeights k₀ k q (ix2 i j) = Ideal.exp2 (s i - (Finset.range n₀).sup s) := by
  unfold firstWeights
  rw [weights_apply, hs.1, runMax_apply hs]
  rfl

theorem laterWeights_apply (hs : ScoresAre k₀ k q j s) (g : ℕ) (h : g < N) (i : Fin n) :
    laterWeights k₀ k q g h (ix2 i j)
      = Ideal.exp2 (s (n₀ + n * g + i) - (Finset.range (n₀ + n * (g + 1))).sup s) := by
  unfold laterWeights
  rw [weights_apply, hs.2, runMax_apply hs]

theorem decay_apply (hs : ScoresAre k₀ k q j s) (g : ℕ) (h : g < N) :
    decay k₀ k q g h (ix2 0 j)
      = Ideal.exp2 ((Finset.range (n₀ + n * g)).sup s - (Finset.range (n₀ + n * (g + 1))).sup s) := by
  unfold decay
  show Ideal.exp2 (runMax k₀ k q g _ (ix2 0 j) - runMax k₀ k q (g + 1) _ (ix2 0 j)) = _
  rw [runMax_apply hs, runMax_apply hs]

theorem runSum_apply (hs : ScoresAre k₀ k q j s) (hr : ∀ k, IsReal (s k)) (h0 : 0 < n₀) : ∀ (g : ℕ) (h : g ≤ N),
    runSum k₀ k q g h (ix2 0 j) = weightSum s ((Finset.range (n₀ + n * g)).sup s) (n₀ + n * g)
  | 0, _ => by
    unfold runSum
    rw [colSum_apply]
    exact sum_univ_eq _ _ (firstWeights_apply hs)
  | g + 1, h => by
    unfold runSum
    show decay k₀ k q g _ (ix2 0 j) * runSum k₀ k q g _ (ix2 0 j) + colSum _ (ix2 0 j) = _
    rw [runSum_apply hs hr h0 g, decay_apply hs, colSum_apply,
      sum_univ_eq _ (fun i => Ideal.exp2 (s (n₀ + n * g + i) - (Finset.range (n₀ + n * (g + 1))).sup s))
        (laterWeights_apply hs g h),
      weightSum_step s hr (isReal_sup s hr _ (by omega)) (isReal_sup s hr _ (by omega)), Nat.add_assoc, ← Nat.mul_succ]

theorem runMix_apply (hs : ScoresAre k₀ k q j s) (hu : ValuesAre v₀ v f u) (hr : ∀ k, IsReal (s k)) (h0 : 0 < n₀) :
    ∀ (g : ℕ) (h : g ≤ N),
    runMix k₀ v₀ k v q g h (ix2 f j) = valueSum s u ((Finset.range (n₀ + n * g)).sup s) (n₀ + n * g)
  | 0, _ => by
    unfold runMix
    rw [mix_apply]
    exact sum_univ_eq _ (fun i => u i * Ideal.exp2 (s i - (Finset.range (n₀ + n * 0)).sup s))
      fun i => by rw [firstWeights_apply hs, hu.1]; rfl
  | g + 1, h => by
    unfold runMix
    show broadcastTo _ (decay k₀ k q g _) _ (ix2 f j) * runMix k₀ v₀ k v q g _ (ix2 f j) + mix _ _ (ix2 f j) = _
    rw [bcast_row_apply, runMix_apply hs hu hr h0 g, decay_apply hs, mix_apply,
      sum_univ_eq _ (fun i => u (n₀ + n * g + i) * Ideal.exp2 (s (n₀ + n * g + i) - (Finset.range (n₀ + n * (g + 1))).sup s))
        (fun i => by rw [laterWeights_apply hs g h, hu.2]),
      valueSum_step s u hr (isReal_sup s hr _ (by omega)) (isReal_sup s hr _ (by omega)), Nat.add_assoc, ← Nat.mul_succ]

/-- The attention of the block, at a query and a feature: the softmax attention over all chunks. -/
theorem result_apply (hs : ScoresAre k₀ k q j s) (hu : ValuesAre v₀ v f u) (hr : ∀ k, IsReal (s k)) (h0 : 0 < n₀) :
    result k₀ v₀ k v q (ix2 j f) = attention s u (n₀ + n * N) := by
  unfold result
  show transpose ⟨2, ![r, e]⟩ [1, 0] (divf (runMix k₀ v₀ k v q N _) (broadcastTo _ (runSum k₀ k q N _) _)) _ (ix2 j f) = _
  rw [transpose_at]
  show Ideal.div (runMix k₀ v₀ k v q N _ (ix2 f j)) (broadcastTo _ (runSum k₀ k q N _) _ (ix2 f j)) = _
  rw [bcast_row_apply, runMix_apply hs hu hr h0, runSum_apply hs hr h0]
  exact valueSum_div s u hr (isReal_sup s hr _ (by omega)) (by omega)

end Cert.Online

end
-- ==== Proof.Spec.lean ====
/-
  The attention the certificate speaks of, at one query and one feature, from the arrays the layer hands over: the
  context's 256 keys and values come first, then the 8192 tokens' own, the latter's values stored in 16 slots of 512
  tokens.  Tokens are numbered through, so the sums run over `0 … 8447`.
-/
module

public import proofs.«01_k».proof.Proof.OnlineIdeal

@[expose] public section

noncomputable section

namespace Cert.Spec

open Idealize.ShloMosaic Cert.Softmax

variable {w u d p : ℕ}

/-- Feature `c` of the key of token `t`: the context's below 256, the layer's own above. -/
def key (kc : (⟨2, ![256, w]⟩ : Shape).Idx → EReal) (kx : (⟨2, ![8192, w]⟩ : Shape).Idx → EReal) (t : ℕ) (c : Fin w) :
    EReal :=
  if h : t < 256 then kc (ix2 ⟨t, h⟩ c) else if h : t - 256 < 8192 then kx (ix2 ⟨t - 256, h⟩ c) else 0

/-- Feature `c` of the value of token `t`. -/
def value (vc : (⟨3, ![1, w, 256]⟩ : Shape).Idx → EReal) (vx : (⟨3, ![16, w, 512]⟩ : Shape).Idx → EReal) (t : ℕ)
    (c : Fin w) : EReal :=
  if h : t < 256 then vc (ix3 0 c ⟨t, h⟩)
  else if h : (t - 256) / 512 < 16 then vx (ix3 ⟨(t - 256) / 512, h⟩ c ⟨(t - 256) % 512, Nat.mod_lt _ (by decide)⟩)
  else 0

/-- The score of token `t` for the query at `row`: the key's features `ck` against the query's features `cq`. -/
def score (kc : (⟨2, ![256, w]⟩ : Shape).Idx → EReal) (kx : (⟨2, ![8192, w]⟩ : Shape).Idx → EReal)
    (qt : (⟨2, ![u, p]⟩ : Shape).Idx → EReal) (ck : Fin d → Fin w) (cq : Fin d → Fin u) (row : Fin p) (t : ℕ) : EReal :=
  ∑ c : Fin d, key kc kx t (ck c) * qt (ix2 (cq c) row)

/-- Every entry of an array is a real number. -/
def AllReal {ι : Type} (x : ι → EReal) : Prop := ∀ i, IsReal (x i)

theorem key_isReal {kc : (⟨2, ![256, w]⟩ : Shape).Idx → EReal} {kx : (⟨2, ![8192, w]⟩ : Shape).Idx → EReal}
    (hc : AllReal kc) (hx : AllReal kx) (t : ℕ) (c : Fin w) : IsReal (key kc kx t c) := by
  unfold key
  split
  · exact hc _
  · split
    · exact hx _
    · exact ⟨0, rfl⟩

theorem score_isReal {kc : (⟨2, ![256, w]⟩ : Shape).Idx → EReal} {kx : (⟨2, ![8192, w]⟩ : Shape).Idx → EReal}
    {qt : (⟨2, ![u, p]⟩ : Shape).Idx → EReal} (hc : AllReal kc) (hx : AllReal kx) (hq : AllReal qt) (ck : Fin d → Fin w)
    (cq : Fin d → Fin u) (row : Fin p) (t : ℕ) : IsReal (score kc kx qt ck cq row t) := by
  unfold score
  exact IsReal.sum _ _ fun c _ => (key_isReal hc hx t _).mul (hq _)

end Cert.Spec

end
-- ==== Proof.Chunks.lean ====
/-
  The pieces of its operands that one grid point of the attention works through, and the attention of one block of 512
  queries from them, at one query and one feature.
-/
module

public import proofs.«01_k».proof.Proof.Spec
public import Idealize.ShloMosaic.Lib.Pipeline.ValueKit.Tiles

@[expose] public section

noncomputable section

namespace Cert.Chunks

open Idealize.ShloMosaic Cert.Softmax Cert.Online Cert.Spec

variable {F : FTy → Type} [FloatOps F] {d e p : ℕ}

/-- Key chunk `g`: 512 tokens. -/
def keys (x : Vec F ⟨2, ![8192, d]⟩ .bf16) (g : Fin 16) : Vec F ⟨2, ![512, d]⟩ .bf16 :=
  View.ld x (Rect.unit (s := ⟨2, ![8192, d]⟩) ![512 * g.val, 0] ![512, d] (fun a => by
    fin_cases a
    · exact (by omega : 512 * g.val + 512 ≤ 8192)
    · exact (by omega : 0 + d ≤ d)))

/-- Value chunk `g`: one slot. -/
def vals (x : Vec F ⟨3, ![16, e, 512]⟩ .bf16) (g : Fin 16) : Vec F ⟨3, ![1, e, 512]⟩ .bf16 :=
  View.ld x (Rect.unit (s := ⟨3, ![16, e, 512]⟩) ![g.val, 0, 0] ![1, e, 512] (fun a => by
    fin_cases a
    · exact (by omega : g.val + 1 ≤ 16)
    · exact (by omega : 0 + e ≤ e)
    · exact (by omega : 0 + 512 ≤ 512)))

/-- Query block `b`: 512 of the 2048 queries. -/
def queries (x : Vec F ⟨2, ![d, 2048]⟩ .bf16) (b : Fin 4) : Vec F ⟨2, ![d, 512]⟩ .bf16 :=
  View.ld x (Rect.unit (s := ⟨2, ![d, 2048]⟩) ![0, 512 * b.val] ![d, 512] (fun a => by
    fin_cases a
    · exact (by omega : 0 + d ≤ d)
    · exact (by omega : 512 * b.val + 512 ≤ 2048)))

/-- The attention of query block `b`. -/
def block (q : Vec F ⟨2, ![d, 2048]⟩ .bf16) (kc : Vec F ⟨2, ![256, d]⟩ .bf16) (vc : Vec F ⟨3, ![1, e, 256]⟩ .bf16)
    (kx : Vec F ⟨2, ![8192, d]⟩ .bf16) (vx : Vec F ⟨3, ![16, e, 512]⟩ .bf16) (b : Fin 4) : Vec F ⟨2, ![512, e]⟩ .bf16 :=
  result kc vc (keys kx) (vals vx) (queries q b)

theorem keys_apply (x : Vec Ideal ⟨2, ![8192, d]⟩ .bf16) (g : Fin 16) (i : Fin 512) (c : Fin d) :
    keys x g (ix2 i c) = x (ix2 ⟨512 * g + i, by omega⟩ c) :=
  View.ld_unit_apply_of x _ _ _ (ix2 i c) _ fun a => by
    match a with
    | ⟨0, _⟩ => rfl
    | ⟨1, _⟩ => exact (Nat.zero_add _).symm

theorem vals_apply (x : Vec Ideal ⟨3, ![16, e, 512]⟩ .bf16) (g : Fin 16) (f : Fin e) (i : Fin 512) :
    vals x g (ix3 0 f i) = x (ix3 g f i) :=
  View.ld_unit_apply_of x _ _ _ (ix3 0 f i) _ fun a => by
    match a with
    | ⟨0, _⟩ => rfl
    | ⟨1, _⟩ => exact (Nat.zero_add _).symm
    | ⟨2, _⟩ => exact (Nat.zero_add _).symm

theorem queries_apply (x : Vec Ideal ⟨2, ![d, 2048]⟩ .bf16) (b : Fin 4) (c : Fin d) (j : Fin 512) :
    queries x b (ix2 c j) = x (ix2 c ⟨512 * b + j, by omega⟩) :=
  View.ld_unit_apply_of x _ _ _ (ix2 c j) _ fun a => by
    match a with
    | ⟨0, _⟩ => exact (Nat.zero_add _).symm
    | ⟨1, _⟩ => rfl

variable {q : Vec Ideal ⟨2, ![d, 2048]⟩ .bf16} {kc : Vec Ideal ⟨2, ![256, d]⟩ .bf16}
  {vc : Vec Ideal ⟨3, ![1, e, 256]⟩ .bf16} {kx : Vec Ideal ⟨2, ![8192, d]⟩ .bf16}
  {vx : Vec Ideal ⟨3, ![16, e, 512]⟩ .bf16}

theorem scoresAre (b : Fin 4) (j : Fin 512) :
    ScoresAre kc (keys kx) (queries q b) j (score kc kx q id id ⟨512 * b + j, by omega⟩) := by
  refine ⟨fun i => ?_, fun g i => ?_⟩
  · rw [scores_apply]
    unfold score key
    refine Finset.sum_congr rfl fun c _ => ?_
    rw [queries_apply, dif_pos i.isLt]
    rfl
  · rw [scores_apply]
    unfold score key
    refine Finset.sum_congr rfl fun c _ => ?_
    rw [queries_apply, keys_apply, dif_neg (by omega), dif_pos (by omega)]
    congr 3
    exact Fin.ext (by show 512 * g.val + i.val = 256 + 512 * g.val + i.val - 256; omega)

theorem valuesAre (f : Fin e) : ValuesAre vc (vals vx) f (fun t => value vc vx t f) := by
  refine ⟨fun i => ?_, fun g i => ?_⟩
  · simp only [value]
    rw [dif_pos i.isLt]
  · simp only [value]
    rw [vals_apply, dif_neg (by omega), dif_pos (by omega)]
    congr 2
    · exact Fin.ext (by show g.val = (256 + 512 * g.val + i.val - 256) / 512; omega)
    · exact Fin.ext (by show i.val = (256 + 512 * g.val + i.val - 256) % 512; omega)

/-- The attention of query block `b`, at query `j` and feature `f`. -/
theorem block_apply (hq : AllReal q) (hc : AllReal kc) (hx : AllReal kx) (b : Fin 4) (j : Fin 512) (f : Fin e) :
    block q kc vc kx vx b (ix2 j f)
      = attention (score kc kx q id id ⟨512 * b + j, by omega⟩) (fun t => value vc vx t f) 8448 :=
  result_apply (scoresAre b j) (valuesAre f) (score_isReal hc hx hq _ _ _) (by decide)

end Cert.Chunks

end
-- ==== Proof.Gqa.Block.lean ====
/-
  What one grid point of the grouped-query attention leaves in its output block: four stores, one per block of 512
  queries, each the chunk-by-chunk attention of the operands' blocks.
-/
module

public import proofs.«01_k».proof.Proof.Gen.KernelIdeal.Value
public import proofs.«01_k».proof.Proof.Chunks
public import Idealize.ShloMosaic.Lib.Pipeline.ReadBack
public import Idealize.ShloMosaic.Lib.Pipeline.ValueKit.Basic
import all proofs.«01_k».proof.Proof.Gen.KernelIdeal.Frame.RunA

@[expose] public section

set_option maxRecDepth 16384
set_option maxHeartbeats 4000000

noncomputable section

namespace Cert.Gqa

open Cert.KernelIdeal Cert.KernelIdeal.Gen Cert.Chunks
open Idealize.ShloMosaic Idealize.ShloMosaic.TcCoe Idealize.SL.Sem

variable {F : FTy → Type} [FloatOps F]

/-- The four stores of a grid point, last first. -/
def stores (x0 : Vec F S128x2048 .bf16) (x1 : Vec F S256x128 .bf16) (x2 : Vec F S1x128x256 .bf16)
    (x3 : Vec F S8192x128 .bf16) (x4 : Vec F S16x128x512 .bf16) : List (View.Piece (Elt F) S2048x128 .bf16) :=
  [⟨Rect.unit (s := S2048x128) ![1536, 0] S512x128.size inb_S2048x128_S512x128_1536_0, block x0 x1 x2 x3 x4 3⟩,
   ⟨Rect.unit (s := S2048x128) ![1024, 0] S512x128.size inb_S2048x128_S512x128_1024_0, block x0 x1 x2 x3 x4 2⟩,
   ⟨Rect.unit (s := S2048x128) ![512, 0] S512x128.size inb_S2048x128_S512x128_512_0, block x0 x1 x2 x3 x4 1⟩,
   ⟨Rect.unit (s := S2048x128) ![0, 0] S512x128.size inb_S2048x128_S512x128_0_0, block x0 x1 x2 x3 x4 0⟩]

/-- The output block after a grid point: the four stores. -/
theorem out_eq (c : Dev nD) (i : grid0.Coords) (arg2 : Memref sig .tc .vmem S128x2048 .bf16) (harg2 : arg2.IsWhole)
    (arg3 : Memref sig .tc .vmem S256x128 .bf16) (harg3 : arg3.IsWhole)
    (arg4 : Memref sig .tc .vmem S1x128x256 .bf16) (harg4 : arg4.IsWhole)
    (arg5 : Memref sig .tc .vmem S8192x128 .bf16) (harg5 : arg5.IsWhole)
    (arg6 : Memref sig .tc .vmem S16x128x512 .bf16) (harg6 : arg6.IsWhole)
    (arg7 : Memref sig .tc .vmem S2048x128 .bf16) (harg7 : arg7.IsWhole)
    (arg8 : Memref sig .tc .vmem S4x512x512 .f32) (harg8 : arg8.IsWhole)
    (x0 : Vec F S128x2048 .bf16) (x1 : Vec F S256x128 .bf16) (x2 : Vec F S1x128x256 .bf16)
    (x3 : Vec F S8192x128 .bf16) (x4 : Vec F S16x128x512 .bf16) :
    out0_A_5 c i arg2 harg2 arg3 harg3 arg4 harg4 arg5 harg5 arg6 harg6 arg7 harg7 arg8 harg8 x0 x1 x2 x3 x4
      = View.canon (stores x0 x1 x2 x3 x4) := by
  unfold out0_A_5
  rw [View.read_writes_junk_eq_canon]
  unfold kernelRun0_A
  dsimp only
  sl_unfold_words
  have e1 : View.ld x1 (Rect.unit ![0, 0] ![256, 128] inb_S256x128_S256x128_0_0) = x1 :=
    View.ld_unit_lit _ _ (by decide)
  have e2 : View.ld x2 (Rect.unit ![0, 0, 0] ![1, 128, 256] inb_S1x128x256_S1x128x256_0_0_0) = x2 :=
    View.ld_unit_lit _ _ (by decide)
  simp (disch := decide) only [View.readAt_eq_ld, harg2.read_unread, harg3.read_unread, harg4.read_unread,
    harg5.read_unread, harg6.read_unread, ↓View.readCov_skip, ↓View.readCov_cons_toLoadRect]
  rw [e1, e2]
  congr 1

end Cert.Gqa

end
-- ==== Proof.Gqa.Array.lean ====
/-
  What the grouped-query attention's result array holds after the run, at a row and a column: column `128 h + f` is
  feature `f` of head `h`, whose keys and values are those of head `h / 4`.
-/
module

public import proofs.«01_k».proof.Proof.Gqa.Block
public import Idealize.ShloMosaic.Lib.Pipeline.ValueKit

@[expose] public section

set_option maxRecDepth 16384

noncomputable section

namespace Cert.Gqa

open Cert.KernelIdeal Cert.KernelIdeal.Gen Cert.KernelIdeal.Value Cert.Chunks Cert.Spec Cert.Softmax
open Idealize.ShloMosaic
open Idealize.ShloMosaic.TcCoe Idealize.SL.Sem

/-- The query feature `c` of the head of column `col`. -/
def queryCol (col : Fin 1024) (c : Fin 128) : Fin 1024 := ⟨128 * (col / 128) + c, by omega⟩

/-- The key feature `c` of the head of column `col`: four heads share one. -/
def keyCol (col : Fin 1024) (c : Fin 128) : Fin 256 := ⟨128 * (col / 512) + c, by omega⟩

/-- The value feature that column `col` holds. -/
def valueCol (col : Fin 1024) : Fin 256 := ⟨128 * (col / 512) + col % 128, by omega⟩

/-- The attention at a row and a column, from the five operands. -/
def output (qt : Vec Ideal S1024x8192 .bf16) (kc : Vec Ideal S256x256 .bf16) (vc : Vec Ideal S1x256x256 .bf16)
    (kx : Vec Ideal S8192x256 .bf16) (vx : Vec Ideal S16x256x512 .bf16) (row : Fin 8192) (col : Fin 1024) : EReal :=
  attention (score kc kx qt (keyCol col) (queryCol col) row) (fun t => value vc vx t (valueCol col)) 8448

/-! ## A grid point's blocks in the arrays -/

theorem index0 : ∀ t : Fin cfg0.N, win0_0.index t = ![t.val / 4, t.val % 4] :=
  (by decide +kernel : ∀ t : Fin grid0.N, win0_0.index t = ![t.val / 4, t.val % 4])
theorem index1 : ∀ t : Fin cfg0.N, win0_1.index t = ![0, t.val / 16] :=
  (by decide +kernel : ∀ t : Fin grid0.N, win0_1.index t = ![0, t.val / 16])
theorem index2 : ∀ t : Fin cfg0.N, win0_2.index t = ![0, t.val / 16, 0] :=
  (by decide +kernel : ∀ t : Fin grid0.N, win0_2.index t = ![0, t.val / 16, 0])
theorem index3 : ∀ t : Fin cfg0.N, win0_3.index t = ![0, t.val / 16] :=
  (by decide +kernel : ∀ t : Fin grid0.N, win0_3.index t = ![0, t.val / 16])
theorem index4 : ∀ t : Fin cfg0.N, win0_4.index t = ![0, t.val / 16, 0] :=
  (by decide +kernel : ∀ t : Fin grid0.N, win0_4.index t = ![0, t.val / 16, 0])
theorem index5 : ∀ t : Fin cfg0.N, win0_5.index t = ![t.val % 4, t.val / 4] :=
  (by decide +kernel : ∀ t : Fin grid0.N, win0_5.index t = ![t.val % 4, t.val / 4])

variable (m : (ℓ : Loc nD τ sig) → Buf (Elt Ideal) ℓ) (c : Dev nD)

/-- The grid has 32 points. -/
theorem point_lt (t : Fin cfg0.N) : t.val < 32 := t.isLt

theorem queries_at (t : Fin cfg0.N) (a : Fin 128) (b : Fin 2048) :
    iblk m c 0 t (ix2 a b) = m ((c : Thread nD τ).loc main_arg0)
      (ix2 ⟨128 * (t.val / 4) + a, by have := point_lt t; omega⟩ ⟨2048 * (t.val % 4) + b, by omega⟩) := by
  blk_ext! [iblk, V, index0 t]

theorem keysCtx_at (t : Fin cfg0.N) (a : Fin 256) (b : Fin 128) :
    iblk m c 1 t (ix2 a b) = m ((c : Thread nD τ).loc main_arg1)
      (ix2 a ⟨128 * (t.val / 16) + b, by have := point_lt t; omega⟩) := by
  blk_ext! [iblk, V, index1 t]

theorem valuesCtx_at (t : Fin cfg0.N) (a : Fin 128) (b : Fin 256) :
    iblk m c 2 t (ix3 0 a b) = m ((c : Thread nD τ).loc main_arg2)
      (ix3 0 ⟨128 * (t.val / 16) + a, by have := point_lt t; omega⟩ b) := by
  blk_ext! [iblk, V, index2 t]

theorem keys_at (t : Fin cfg0.N) (a : Fin 8192) (b : Fin 128) :
    iblk m c 3 t (ix2 a b) = m ((c : Thread nD τ).loc main_arg3)
      (ix2 a ⟨128 * (t.val / 16) + b, by have := point_lt t; omega⟩) := by
  blk_ext! [iblk, V, index3 t]

theorem values_at (t : Fin cfg0.N) (g : Fin 16) (a : Fin 128) (b : Fin 512) :
    iblk m c 4 t (ix3 g a b) = m ((c : Thread nD τ).loc main_arg4)
      (ix3 g ⟨128 * (t.val / 16) + a, by have := point_lt t; omega⟩ b) := by
  blk_ext! [iblk, V, index4 t]

/-- A key feature in a grid point's blocks is one in the arrays. -/
theorem key_at (t : Fin cfg0.N) (n : ℕ) (b : Fin 128) :
    key (iblk m c 1 t) (iblk m c 3 t) n b
      = key (m ((c : Thread nD τ).loc main_arg1)) (m ((c : Thread nD τ).loc main_arg3)) n
        ⟨128 * (t.val / 16) + b, by have := point_lt t; omega⟩ := by
  unfold key
  split
  · exact keysCtx_at m c t _ _
  · split
    · exact keys_at m c t _ _
    · rfl

/-- A value feature in a grid point's blocks is one in the arrays. -/
theorem value_at (t : Fin cfg0.N) (n : ℕ) (b : Fin 128) :
    value (iblk m c 2 t) (iblk m c 4 t) n b
      = value (m ((c : Thread nD τ).loc main_arg2)) (m ((c : Thread nD τ).loc main_arg4)) n
        ⟨128 * (t.val / 16) + b, by have := point_lt t; omega⟩ := by
  unfold value
  split
  · exact valuesCtx_at m c t _ _
  · split
    · exact values_at m c t _ _ _
    · rfl

/-! ## The array -/

variable {m c}

theorem allReal_queries (h : AllReal (m ((c : Thread nD τ).loc main_arg0))) (t : Fin cfg0.N) :
    AllReal (iblk m c 0 t) := fun i => h _

theorem allReal_keysCtx (h : AllReal (m ((c : Thread nD τ).loc main_arg1))) (t : Fin cfg0.N) :
    AllReal (iblk m c 1 t) := fun i => h _

theorem allReal_keys (h : AllReal (m ((c : Thread nD τ).loc main_arg3))) (t : Fin cfg0.N) :
    AllReal (iblk m c 3 t) := fun i => h _

/-- The attention of a grid point's query block `b`, in the arrays. -/
theorem block_at (h0 : AllReal (m ((c : Thread nD τ).loc main_arg0)))
    (h1 : AllReal (m ((c : Thread nD τ).loc main_arg1))) (h3 : AllReal (m ((c : Thread nD τ).loc main_arg3)))
    (t : Fin cfg0.N) (b : Fin 4) (j : Fin 512) (f : Fin 128) (row : Fin 8192) (col : Fin 1024)
    (hr : row.val = 2048 * (t.val % 4) + 512 * b + j) (hc : col.val = 128 * (t.val / 4) + f) :
    block (iblk m c 0 t) (iblk m c 1 t) (iblk m c 2 t) (iblk m c 3 t) (iblk m c 4 t) b (ix2 j f)
      = output (m ((c : Thread nD τ).loc main_arg0)) (m ((c : Thread nD τ).loc main_arg1))
        (m ((c : Thread nD τ).loc main_arg2)) (m ((c : Thread nD τ).loc main_arg3))
        (m ((c : Thread nD τ).loc main_arg4)) row col := by
  have ht := point_lt t
  refine (block_apply (allReal_queries h0 t) (allReal_keysCtx h1 t) (allReal_keys h3 t) b j f).trans ?_
  unfold output
  congr 1
  · funext n
    unfold score
    refine Finset.sum_congr rfl fun k _ => ?_
    rw [key_at, queries_at]
    congr 2
    · exact Fin.ext (by simp only [keyCol, id]; omega)
    · congr 1
      · exact Fin.ext (by simp only [queryCol, id]; omega)
      · exact Fin.ext (by simp only; omega)
  · funext n
    rw [value_at]
    congr 1
    exact Fin.ext (by simp only [valueCol]; omega)

/-- The result array after the run, at a row and a column. -/
theorem array_apply (h0 : AllReal (m ((c : Thread nD τ).loc main_arg0)))
    (h1 : AllReal (m ((c : Thread nD τ).loc main_arg1))) (h3 : AllReal (m ((c : Thread nD τ).loc main_arg3)))
    (row : Fin 8192) (col : Fin 1024) :
    (dats m 0 c).arrAt 5 cfg0.N (ix2 row col)
      = output (m ((c : Thread nD τ).loc main_arg0)) (m ((c : Thread nD τ).loc main_arg1))
        (m ((c : Thread nD τ).loc main_arg2)) (m ((c : Thread nD τ).loc main_arg3))
        (m ((c : Thread nD τ).loc main_arg4)) row col := by
  obtain ⟨t, ht⟩ : ∃ t : Fin cfg0.N, t.val = col.val / 128 * 4 + row.val / 2048 :=
    ⟨⟨col.val / 128 * 4 + row.val / 2048, by show _ < 32; omega⟩, rfl⟩
  have hb := congrFun (blocks5 m c t (flush0_5 t)) (ix2 ⟨row.val % 2048, by omega⟩ ⟨col.val % 128, by omega⟩)
  rw [flushed5_A, Pipeline.Window.cut_apply, out_eq] at hb
  have he : ((cfg0.win 5).blk t).view.read (Elt Ideal) ((dats m 0 c).arrAt 5 cfg0.N)
      (ix2 ⟨row.val % 2048, by omega⟩ ⟨col.val % 128, by omega⟩) = (dats m 0 c).arrAt 5 cfg0.N (ix2 row col) := by
    generalize (dats m 0 c).arrAt 5 cfg0.N = A
    blk_ext! [index5 t]
  rw [← he, hb]
  refine View.canon_eq_of_allAt _ _ _ (View.cover_of_tiled_head _ _ _ rfl _) ?_
  have tile : ∀ b : Fin 4, View.TileAt (ix2 ⟨row.val % 2048, by omega⟩ ⟨col.val % 128, by omega⟩ : S2048x128.Idx)
      ![512 * b.val, 0] ![512, 128]
      (block (iblk m c 0 t) (iblk m c 1 t) (iblk m c 2 t) (iblk m c 3 t) (iblk m c 4 t) b)
      (output (m ((c : Thread nD τ).loc main_arg0)) (m ((c : Thread nD τ).loc main_arg1))
        (m ((c : Thread nD τ).loc main_arg2)) (m ((c : Thread nD τ).loc main_arg3))
        (m ((c : Thread nD τ).loc main_arg4)) row col) := fun b x hx => by
    have e0 : row.val % 2048 = 512 * b.val + (x 0).val := hx 0
    have e1 : col.val % 128 = 0 + (x 1).val := hx 1
    rw [show x = ix2 (x 0) (x 1) from funext fun a => by match a with | ⟨0, _⟩ => rfl | ⟨1, _⟩ => rfl]
    exact block_at h0 h1 h3 t b (x 0) (x 1) row col (by omega) (by omega)
  exact View.allAt_cons_unit _ _ _ _ _ (tile 3) (View.allAt_cons_unit _ _ _ _ _ (tile 2)
    (View.allAt_cons_unit _ _ _ _ _ (tile 1) (View.allAt_cons_unit _ _ _ _ _ (tile 0) (View.allAt_nil _ _))))

end Cert.Gqa

end
-- ==== Proof.Host.lean ====
/-
  Three readings the references share: the maximum over the last of four axes, two to a real power, and the entries of
  an array that a precondition bounds below infinity.
-/
module

public import proofs.«01_k».proof.Proof.Spec
public import Idealize.ShloMosaic.Lib.KernelVsHost
public import Idealize.ShloMosaic.Lib.ReduceAll

@[expose] public section

noncomputable section

namespace Cert.Host

open Idealize.ShloMosaic Cert.Softmax Cert.Spec

variable {n₀ n₁ n₂ n₃ : ℕ}

/-- The maximum over the last axis, from minus infinity. -/
theorem reduceMax_apply (x : FVec Ideal ⟨4, ![n₀, n₁, n₂, n₃]⟩ .f32) {u : Shape}
    (h : (⟨4, ![n₀, n₁, n₂, n₃]⟩ : Shape).ReducesTo [3] ⟨3, ![n₀, n₁, n₂]⟩) (hu : 0 < u.numel)
    (a : Fin n₀) (b : Fin n₁) (c : Fin n₂) (s : ℕ → EReal) (hs : ∀ k : Fin n₃, x (ix4 a b c k) = s k) :
    Idealize.ShloMosaic.Host.reduce FloatOps.maximumf x (constant u .f32 0xFF800000#32) h hu (ix3 a b c)
      = (Finset.range n₃).sup s := by
  have h' : (⟨4, ![n₀, n₁, n₂, n₃]⟩ : Shape).Reduces [3] ⟨3, ![n₀, n₁, n₂]⟩ :=
    ⟨rfl, Nat.succ_pos _, fun i => by fin_cases i <;> rfl⟩
  rw [hostReduce_maximumf_eq_multiReduction x 0xFF800000#32 h hu h' (.inl rfl) rfl]
  refine (Ideal.multiReduction_maximumf_single x _ h' _ _ (ix3 a b c)).trans ?_
  rw [show (FloatOps.ofBits .f32 0xFF800000#32 : Ideal .f32) = ⊥ from Cert.Online.ofBits_negInf,
    ← sup_univ_eq (fun k : Fin n₃ => x (ix4 a b c k)) s hs]
  show Finset.fold max ⊥ _ _ = Finset.fold max ⊥ _ _
  congr 1
  funext k
  refine congrArg x (funext fun i => Fin.ext ?_)
  match i with
  | ⟨0, _⟩ => rfl
  | ⟨1, _⟩ => rfl
  | ⟨2, _⟩ => rfl
  | ⟨3, _⟩ => rfl

theorem ofBits_two : (FloatOps.ofBits .f32 0x40000000#32 : Ideal .f32) = ((2 : ℝ) : EReal) := by
  show Ideal.ofBits .f32 0x40000000#32 = _
  simp [Ideal.ofBits, Ideal.ieee]
  rw [← EReal.coe_mul]
  norm_num

/-- Two to a real power, by the host's power operation. -/
theorem pow_two {x : EReal} (hx : IsReal x) :
    (FloatOps.hostPowf (φ := .f32) (FloatOps.ofBits .f32 0x40000000#32 : Ideal .f32) x : EReal) = Ideal.exp2 x := by
  obtain ⟨r, rfl⟩ := hx
  rw [ofBits_two]
  rfl

/-- An entry whose magnitude compares less than infinity is real. -/
theorem isReal_of_abs_lt {x : EReal}
    (h : FloatOps.cmpf (φ := .f32) .olt (FloatOps.hostAbsf (F := Ideal) (φ := .f32) x) (FloatOps.ofBits .f32 0x7F800000#32) = 1#1) :
    IsReal x := by
  have ht : (FloatOps.ofBits .f32 0x7F800000#32 : Ideal .f32) = (⊤ : EReal) := by
    show Ideal.ofBits .f32 0x7F800000#32 = _
    simp [Ideal.ofBits, Ideal.ieee]
  rw [ht] at h
  induction x with
  | coe r => exact ⟨r, rfl⟩
  | bot => simp [Ideal.cmpf_def, Ideal.absf_def, Ideal.cmp] at h
  | top => simp [Ideal.cmpf_def, Ideal.absf_def, Ideal.cmp] at h

end Cert.Host

end
-- ==== Proof.Gqa.Reference.lean ====
/-
  What the reference of the grouped-query attention computes, at a row and a column.
-/
module

public import proofs.«01_k».proof.Proof.Gqa.Array
public import proofs.«01_k».proof.Proof.Host
public import proofs.«01_k».proof.Proof.Gen.ReferenceIdeal.Read

@[expose] public section

noncomputable section

namespace Cert.Gqa.Reference

open Cert.ReferenceIdeal Cert.ReferenceIdeal.Gen Cert.ReferenceIdeal.Read Cert.Spec Cert.Softmax Cert.Gqa
open Idealize.ShloMosaic Idealize.ShloMosaic.TcCoe

variable (qt : Vec Ideal S1024x8192 .bf16) (kc : Vec Ideal S256x256 .bf16) (vc : Vec Ideal S1x256x256 .bf16)
  (kx : Vec Ideal S8192x256 .bf16) (vx : Vec Ideal S16x256x512 .bf16)

/-- The joined keys. -/
theorem keys_apply (t : Fin 8448) (c : Fin 256) : val_main_v7 (F := Ideal) kc kx (ix2 t c) = key kc kx t c := by
  unfold val_main_v7 key
  split
  · rename_i h
    refine (concatenate_pair_apply_left (s₁ := S256x256) (s₂ := S8192x256) 0 _ _ _ (ix2 t c) rfl (ix2 ⟨t, h⟩ c) fun b => ?_).trans rfl
    match b with
    | ⟨0, _⟩ => rfl
    | ⟨1, _⟩ => rfl
  · rename_i h
    rw [dif_pos (by omega)]
    refine (concatenate_pair_apply_right (s₁ := S256x256) (s₂ := S8192x256) 0 _ _ _ (ix2 t c) rfl rfl (ix2 ⟨t - 256, by omega⟩ c) (fun b hb => ?_) ?_).trans rfl
    · match b with
      | ⟨0, _⟩ => exact absurd rfl hb
      | ⟨1, _⟩ => rfl
    · show t.val - 256 + 256 = t.val
      omega

/-- The joined values. -/
theorem values_apply (t : Fin 8448) (c : Fin 256) : val_main_v13 (F := Ideal) vc vx (ix2 t c) = value vc vx t c := by
  unfold val_main_v13 value
  split
  · rename_i h
    refine (concatenate_pair_apply_left (s₁ := S256x256) (s₂ := S8192x256) 0 _ _ _ (ix2 t c) rfl (ix2 ⟨t, h⟩ c) fun b => ?_).trans ?_
    · match b with
      | ⟨0, _⟩ => rfl
      | ⟨1, _⟩ => rfl
    · rw [val_main_v12_apply, val_main_v11_apply]
      refine congrArg vc (funext fun a => Fin.ext ?_)
      match a with
      | ⟨0, _⟩ => rfl
      | ⟨1, _⟩ => show (c.val * 256 + t.val) / 256 % 256 = c.val; omega
      | ⟨2, _⟩ => show (c.val * 256 + t.val) % 256 = t.val; omega
  · rename_i h
    rw [dif_pos (by omega)]
    refine (concatenate_pair_apply_right (s₁ := S256x256) (s₂ := S8192x256) 0 _ _ _ (ix2 t c) rfl rfl (ix2 ⟨t - 256, by omega⟩ c) (fun b hb => ?_) ?_).trans ?_
    · match b with
      | ⟨0, _⟩ => exact absurd rfl hb
      | ⟨1, _⟩ => rfl
    · show t.val - 256 + 256 = t.val
      omega
    · rw [val_main_v10_apply, val_main_v9_apply]
      refine congrArg vx (funext fun a => Fin.ext ?_)
      match a with
      | ⟨0, _⟩ => show ((t.val - 256) * 256 + c.val) / 131072 = (t.val - 256) / 512; omega
      | ⟨1, _⟩ => show ((t.val - 256) * 256 + c.val) % 256 = c.val; omega
      | ⟨2, _⟩ => show ((t.val - 256) * 256 + c.val) / 256 % 512 = (t.val - 256) % 512; omega

/-- The column of head `4 h + g`, feature `f`. -/
def column (h : Fin 2) (g : Fin 4) (f : Fin 128) : Fin 1024 := ⟨(h * 4 + g) * 128 + f, by omega⟩

/-- The scores of head `4 h + g`. -/
theorem scores_apply (h : Fin 2) (g : Fin 4) (f : Fin 128) (row : Fin 8192) (t : Fin 8448) :
    val_main_v18 (F := Ideal) qt kc kx (ix4 h g row t)
      = score kc kx qt (keyCol (column h g f)) (queryCol (column h g f)) row t := by
  rw [val_main_v18_apply, val_main_v17_apply, val_main_v16_apply]
  refine (val_main_v15_apply qt kc kx _).trans ?_
  unfold score
  refine Finset.sum_congr rfl fun c _ => ?_
  have hk : val_main_v8 (F := Ideal) kc kx (lidx_main_v15 (idx_main_v16 (ix4 h g row t)) c)
      = key kc kx t (keyCol (column h g f) c) := by
    rw [val_main_v8_apply, ← keys_apply kc kx t]
    refine congrArg _ (funext fun a => Fin.ext ?_)
    match a with
    | ⟨0, _⟩ => show ((t.val * 2 + h.val) * 128 + c.val) / 256 = t.val; omega
    | ⟨1, _⟩ =>
      show ((t.val * 2 + h.val) * 128 + c.val) % 256 = 128 * (((h.val * 4 + g.val) * 128 + f.val) / 512) + c.val
      omega
  have hq : val_main_v6 (F := Ideal) qt (ridx_main_v15 (idx_main_v16 (ix4 h g row t)) c)
      = qt (ix2 (queryCol (column h g f) c) row) := by
    rw [val_main_v6_apply, val_main_v5_apply]
    refine congrArg qt (funext fun a => Fin.ext ?_)
    match a with
    | ⟨0, _⟩ =>
      show (((row.val * 2 + h.val) * 4 + g.val) * 128 + c.val) % 1024 = 128 * (((h.val * 4 + g.val) * 128 + f.val) / 128) + c.val
      omega
    | ⟨1, _⟩ => show (((row.val * 2 + h.val) * 4 + g.val) * 128 + c.val) / 1024 = row.val; omega
  rw [hk, hq]

variable {qt kc vc kx vx} (h0 : AllReal qt) (h1 : AllReal kc) (h3 : AllReal kx)

include h0 h1 h3

/-- The weights before their division by the sum. -/
theorem powers_apply (h : Fin 2) (g : Fin 4) (f : Fin 128) (row : Fin 8192) (t : Fin 8448) :
    val_main_v24 (F := Ideal) qt kc kx (ix4 h g row t)
      = Ideal.exp2 (score kc kx qt (keyCol (column h g f)) (queryCol (column h g f)) row t
        - (Finset.range 8448).sup (score kc kx qt (keyCol (column h g f)) (queryCol (column h g f)) row)) := by
  have hr := score_isReal h1 h3 h0 (keyCol (column h g f)) (queryCol (column h g f)) row
  have hmax : val_main_v21 (F := Ideal) qt kc kx (ix4 h g row t)
      = (Finset.range 8448).sup (score kc kx qt (keyCol (column h g f)) (queryCol (column h g f)) row) := by
    rw [val_main_v21_apply, val_main_v20_apply]
    rw [show idx_main_v20 (idx_main_v21 (ix4 h g row t)) = ix3 h g row from funext fun a => by
      match a with
      | ⟨0, _⟩ => rfl
      | ⟨1, _⟩ => rfl
      | ⟨2, _⟩ => rfl]
    exact Cert.Host.reduceMax_apply (val_main_v18 (F := Ideal) qt kc kx) _ _ h g row
      (score kc kx qt (keyCol (column h g f)) (queryCol (column h g f)) row) (scores_apply qt kc kx h g f row)
  rw [val_main_v24_apply, val_main_v22_apply, hmax, scores_apply qt kc kx h g f row t, val_main_v23_apply]
  exact Cert.Host.pow_two ((hr _).sub (isReal_sup _ hr _ (by decide)))

/-- The sum of the weights. -/
theorem sums_apply (h : Fin 2) (g : Fin 4) (f : Fin 128) (row : Fin 8192) (t : Fin 8448) :
    val_main_v27 (F := Ideal) qt kc kx (ix4 h g row t)
      = weightSum (score kc kx qt (keyCol (column h g f)) (queryCol (column h g f)) row)
        ((Finset.range 8448).sup (score kc kx qt (keyCol (column h g f)) (queryCol (column h g f)) row)) 8448 := by
  rw [val_main_v27_apply, val_main_v26_apply]
  refine (val_main_v25_apply qt kc kx _).trans ?_
  rw [show val_main_cst_1 (F := Ideal) (Shape.Idx.first h_S_) = (0 : EReal) from Ideal.ofBits_zero_f32, zero_add]
  refine sum_univ_eq _ (fun k => Ideal.exp2 (score kc kx qt (keyCol (column h g f)) (queryCol (column h g f)) row k
    - (Finset.range 8448).sup (score kc kx qt (keyCol (column h g f)) (queryCol (column h g f)) row))) fun k => ?_
  rw [show idx_main_v25 (idx_main_v26 (idx_main_v27 (ix4 h g row t))) k = ix4 h g row k from funext fun a => by
    match a with
    | ⟨0, _⟩ => rfl
    | ⟨1, _⟩ => rfl
    | ⟨2, _⟩ => rfl
    | ⟨3, _⟩ => rfl]
  exact powers_apply h0 h1 h3 h g f row k

/-- The reference's result. -/
theorem result_apply (row : Fin 8192) (col : Fin 1024) :
    val_main_v34 (F := Ideal) qt kc vc kx vx (ix2 row col) = output qt kc vc kx vx row col := by
  obtain ⟨h, g, f, rfl⟩ : ∃ (h : Fin 2) (g : Fin 4) (f : Fin 128), col = column h g f :=
    ⟨⟨col / 512, by omega⟩, ⟨col / 128 % 4, by omega⟩, ⟨col % 128, by omega⟩,
      Fin.ext (by show col.val = (col.val / 512 * 4 + col.val / 128 % 4) * 128 + col.val % 128; omega)⟩
  rw [val_main_v34_apply, val_main_v33_apply, val_main_v32_apply]
  refine (val_main_v31_apply qt kc vc kx vx _).trans ?_
  unfold output attention
  refine sum_univ_eq _ (fun k => value vc vx k (valueCol (column h g f)) * Ideal.div
    (Ideal.exp2 (score kc kx qt (keyCol (column h g f)) (queryCol (column h g f)) row k
      - (Finset.range 8448).sup (score kc kx qt (keyCol (column h g f)) (queryCol (column h g f)) row)))
    (weightSum (score kc kx qt (keyCol (column h g f)) (queryCol (column h g f)) row)
      ((Finset.range 8448).sup (score kc kx qt (keyCol (column h g f)) (queryCol (column h g f)) row)) 8448)) fun t => ?_
  have hv : val_main_v14 (F := Ideal) vc vx (lidx_main_v31 (idx_main_v32 (idx_main_v33 (ix2 row (column h g f)))) t)
      = value vc vx t (valueCol (column h g f)) := by
    rw [val_main_v14_apply, ← values_apply vc vx t]
    refine congrArg _ (funext fun a => Fin.ext ?_)
    match a with
    | ⟨0, _⟩ =>
      show ((t.val * 2 + (row.val * 1024 + ((h.val * 4 + g.val) * 128 + f.val)) / 512 % 2) * 128
        + (row.val * 1024 + ((h.val * 4 + g.val) * 128 + f.val)) % 128) / 256 = t.val
      omega
    | ⟨1, _⟩ =>
      show ((t.val * 2 + (row.val * 1024 + ((h.val * 4 + g.val) * 128 + f.val)) / 512 % 2) * 128
        + (row.val * 1024 + ((h.val * 4 + g.val) * 128 + f.val)) % 128) % 256
        = 128 * (((h.val * 4 + g.val) * 128 + f.val) / 512) + ((h.val * 4 + g.val) * 128 + f.val) % 128
      omega
  have hi : ridx_main_v31 (idx_main_v32 (idx_main_v33 (ix2 row (column h g f)))) t = ix4 h g row t := by
    funext a
    apply Fin.ext
    match a with
    | ⟨0, _⟩ => show (row.val * 1024 + ((h.val * 4 + g.val) * 128 + f.val)) / 512 % 2 = h.val; omega
    | ⟨1, _⟩ => show (row.val * 1024 + ((h.val * 4 + g.val) * 128 + f.val)) / 128 % 4 = g.val; omega
    | ⟨2, _⟩ => show (row.val * 1024 + ((h.val * 4 + g.val) * 128 + f.val)) / 1024 = row.val; omega
    | ⟨3, _⟩ => rfl
  rw [hv, hi, val_main_v30_apply, val_main_v29_apply, val_main_v28_apply, powers_apply h0 h1 h3 h g f row t,
    sums_apply h0 h1 h3 h g f row t]
  rfl

end Cert.Gqa.Reference

end
-- ==== Proof.Gqa.Claim.lean ====
/-
  The value claim of the grouped-query attention: the kernel's array and the reference's are the same function of the
  arguments.
-/
module

public import proofs.«01_k».proof.Proof.Gqa.Reference
public import proofs.«01_k».proof.Defs

@[expose] public section

noncomputable section

namespace Cert.Gqa

open Cert.Spec Cert.Softmax
open Idealize.ShloMosaic Idealize.ShloMosaic.TcCoe Idealize.SL.Sem

section Precondition

variable [Cert.Pre_finite.Facts]

/-- The precondition: the queries and the keys are real. -/
theorem real_of_finite {x0 : Vec Ideal Cert.Pre_finite.S1024x8192 .bf16} {x1 : Vec Ideal Cert.Pre_finite.S256x256 .bf16}
    {x2 : Vec Ideal Cert.Pre_finite.S1x256x256 .bf16} {x3 : Vec Ideal Cert.Pre_finite.S8192x256 .bf16}
    {x4 : Vec Ideal Cert.Pre_finite.S16x256x512 .bf16}
    (h : Cert.Pre_finite.fn (F := Ideal) x0 x1 x2 x3 x4 = fun _ => 1#1) : AllReal x0 ∧ AllReal x1 ∧ AllReal x3 := by
  haveI : Subsingleton Cert.Pre_finite.S_.Idx := ⟨fun a b => funext fun i => i.elim0⟩
  obtain ⟨h01, h3⟩ := IntOp.andi_eq_one.1 (congrFun h (fun i => i.elim0))
  obtain ⟨h0, h1⟩ := IntOp.andi_eq_one.1 h01
  exact ⟨fun i => Cert.Host.isReal_of_abs_lt (Host.reduce_andi_all _ _ _ _ _ h0 i),
    fun i => Cert.Host.isReal_of_abs_lt (Host.reduce_andi_all _ _ _ _ _ h1 i),
    fun i => Cert.Host.isReal_of_abs_lt (Host.reduce_andi_all _ _ _ _ _ h3 i)⟩

end Precondition

/-- The attention array of the arguments. -/
def outputArray (qt : Vec Ideal Cert.KernelIdeal.S1024x8192 .bf16) (kc : Vec Ideal Cert.KernelIdeal.S256x256 .bf16)
    (vc : Vec Ideal Cert.KernelIdeal.S1x256x256 .bf16) (kx : Vec Ideal Cert.KernelIdeal.S8192x256 .bf16)
    (vx : Vec Ideal Cert.KernelIdeal.S16x256x512 .bf16) : Vec Ideal Cert.KernelIdeal.S8192x1024 .bf16 :=
  fun i => output qt kc vc kx vx (i 0) (i 1)

theorem ix2_eta (i : Cert.KernelIdeal.S8192x1024.Idx) : ix2 (i 0) (i 1) = i :=
  funext fun a => by
    match a with
    | ⟨0, _⟩ => rfl
    | ⟨1, _⟩ => rfl

theorem algebraic [Cert.Pre_finite.Facts] : Cert.algebraic_KernelIdeal_ReferenceIdeal_pre_finite := by
  intro m g m' g' hpre hargs
  refine ⟨fun c => outputArray (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)) (m ((c.tc : Thread _ _).loc Cert.KernelIdeal.main_arg4)),
    (θ_run _ _ _).mono (fun r h c => ⟨(h c).1.trans ?_, (h c).2⟩) (Cert.KernelIdeal.Value.run_blocks m g),
    (θ_run _ _ _).mono (fun r h c => ⟨(h c).1.trans ?_, (h c).2⟩) (Cert.ReferenceIdeal.Value.run m' g')⟩
  · obtain ⟨h0, h1, h3⟩ := real_of_finite (hpre c)
    funext i
    rw [← ix2_eta i]
    exact array_apply h0 h1 h3 (i 0) (i 1)
  · obtain ⟨h0, h1, h3⟩ := real_of_finite (hpre c)
    obtain ⟨e0, e1, e2, e3, e4⟩ := hargs c
    rw [Cert.ReferenceIdeal.Read.val_main_v34_eq, e0, e1, e2, e3, e4]
    funext i
    rw [← ix2_eta i]
    exact Reference.result_apply h0 h1 h3 (i 0) (i 1)

end Cert.Gqa

end
-- ==== Proof.Mla.Block.lean ====
/-
  What one grid point of the multi-head latent attention leaves in its output block: four stores, one per block of 512
  queries, each the chunk-by-chunk attention of the operands' blocks.
-/
module

public import proofs.«01_k».proof.Proof.Gen.Kernel2Ideal.Value
public import proofs.«01_k».proof.Proof.Chunks
public import Idealize.ShloMosaic.Lib.Pipeline.ReadBack
public import Idealize.ShloMosaic.Lib.Pipeline.ValueKit.Basic
import all proofs.«01_k».proof.Proof.Gen.Kernel2Ideal.Frame.RunA

@[expose] public section

set_option maxRecDepth 16384
set_option maxHeartbeats 4000000

noncomputable section

namespace Cert.Mla

open Cert.Kernel2Ideal Cert.Kernel2Ideal.Gen Cert.Chunks
open Idealize.ShloMosaic Idealize.ShloMosaic.TcCoe Idealize.SL.Sem

variable {F : FTy → Type} [FloatOps F]

/-- The four stores of a grid point, last first. -/
def stores (x0 : Vec F S256x2048 .bf16) (x1 : Vec F S256x256 .bf16) (x2 : Vec F S1x128x256 .bf16)
    (x3 : Vec F S8192x256 .bf16) (x4 : Vec F S16x128x512 .bf16) : List (View.Piece (Elt F) S2048x128 .bf16) :=
  [⟨Rect.unit (s := S2048x128) ![1536, 0] S512x128.size inb_S2048x128_S512x128_1536_0, block x0 x1 x2 x3 x4 3⟩,
   ⟨Rect.unit (s := S2048x128) ![1024, 0] S512x128.size inb_S2048x128_S512x128_1024_0, block x0 x1 x2 x3 x4 2⟩,
   ⟨Rect.unit (s := S2048x128) ![512, 0] S512x128.size inb_S2048x128_S512x128_512_0, block x0 x1 x2 x3 x4 1⟩,
   ⟨Rect.unit (s := S2048x128) ![0, 0] S512x128.size inb_S2048x128_S512x128_0_0, block x0 x1 x2 x3 x4 0⟩]

/-- The output block after a grid point: the four stores. -/
theorem out_eq (c : Dev nD) (i : grid0.Coords) (arg2 : Memref sig .tc .vmem S256x2048 .bf16) (harg2 : arg2.IsWhole)
    (arg3 : Memref sig .tc .vmem S256x256 .bf16) (harg3 : arg3.IsWhole)
    (arg4 : Memref sig .tc .vmem S1x128x256 .bf16) (harg4 : arg4.IsWhole)
    (arg5 : Memref sig .tc .vmem S8192x256 .bf16) (harg5 : arg5.IsWhole)
    (arg6 : Memref sig .tc .vmem S16x128x512 .bf16) (harg6 : arg6.IsWhole)
    (arg7 : Memref sig .tc .vmem S2048x128 .bf16) (harg7 : arg7.IsWhole)
    (arg8 : Memref sig .tc .vmem S4x512x512 .f32) (harg8 : arg8.IsWhole)
    (x0 : Vec F S256x2048 .bf16) (x1 : Vec F S256x256 .bf16) (x2 : Vec F S1x128x256 .bf16)
    (x3 : Vec F S8192x256 .bf16) (x4 : Vec F S16x128x512 .bf16) :
    out0_A_5 c i arg2 harg2 arg3 harg3 arg4 harg4 arg5 harg5 arg6 harg6 arg7 harg7 arg8 harg8 x0 x1 x2 x3 x4
      = View.canon (stores x0 x1 x2 x3 x4) := by
  unfold out0_A_5
  rw [View.read_writes_junk_eq_canon]
  unfold kernelRun0_A
  dsimp only
  sl_unfold_words
  have e1 : View.ld x1 (Rect.unit ![0, 0] ![256, 256] inb_S256x256_S256x256_0_0) = x1 :=
    View.ld_unit_lit _ _ (by decide)
  have e2 : View.ld x2 (Rect.unit ![0, 0, 0] ![1, 128, 256] inb_S1x128x256_S1x128x256_0_0_0) = x2 :=
    View.ld_unit_lit _ _ (by decide)
  simp (disch := decide) only [View.readAt_eq_ld, harg2.read_unread, harg3.read_unread, harg4.read_unread,
    harg5.read_unread, harg6.read_unread, ↓View.readCov_skip, ↓View.readCov_cons_toLoadRect]
  rw [e1, e2]
  congr 1

end Cert.Mla

end
-- ==== Proof.Mla.Array.lean ====
/-
  What the multi-head latent attention's result array holds after the run, at a row and a column: column `128 h + f` is
  feature `f` of head `h`; a head's queries and keys have 256 features, its values 128.
-/
module

public import proofs.«01_k».proof.Proof.Mla.Block
public import Idealize.ShloMosaic.Lib.Pipeline.ValueKit

@[expose] public section

set_option maxRecDepth 16384

noncomputable section

namespace Cert.Mla

open Cert.Kernel2Ideal Cert.Kernel2Ideal.Gen Cert.Kernel2Ideal.Value Cert.Chunks Cert.Spec Cert.Softmax
open Idealize.ShloMosaic
open Idealize.ShloMosaic.TcCoe Idealize.SL.Sem

/-- The column of the query and key feature `c` of the head of column `col`. -/
def featureCol (col : Fin 1024) (c : Fin 256) : Fin 2048 := ⟨256 * (col / 128) + c, by omega⟩

/-- The attention at a row and a column, from the five operands. -/
def output (qt : Vec Ideal S2048x8192 .bf16) (kc : Vec Ideal S256x2048 .bf16) (vc : Vec Ideal S1x1024x256 .bf16)
    (kx : Vec Ideal S8192x2048 .bf16) (vx : Vec Ideal S16x1024x512 .bf16) (row : Fin 8192) (col : Fin 1024) : EReal :=
  attention (score kc kx qt (featureCol col) (featureCol col) row) (fun t => value vc vx t col) 8448

/-! ## A grid point's blocks in the arrays -/

theorem index0 : ∀ t : Fin cfg0.N, win0_0.index t = ![t.val / 4, t.val % 4] :=
  (by decide +kernel : ∀ t : Fin grid0.N, win0_0.index t = ![t.val / 4, t.val % 4])
theorem index1 : ∀ t : Fin cfg0.N, win0_1.index t = ![0, t.val / 4] :=
  (by decide +kernel : ∀ t : Fin grid0.N, win0_1.index t = ![0, t.val / 4])
theorem index2 : ∀ t : Fin cfg0.N, win0_2.index t = ![0, t.val / 4, 0] :=
  (by decide +kernel : ∀ t : Fin grid0.N, win0_2.index t = ![0, t.val / 4, 0])
theorem index3 : ∀ t : Fin cfg0.N, win0_3.index t = ![0, t.val / 4] :=
  (by decide +kernel : ∀ t : Fin grid0.N, win0_3.index t = ![0, t.val / 4])
theorem index4 : ∀ t : Fin cfg0.N, win0_4.index t = ![0, t.val / 4, 0] :=
  (by decide +kernel : ∀ t : Fin grid0.N, win0_4.index t = ![0, t.val / 4, 0])
theorem index5 : ∀ t : Fin cfg0.N, win0_5.index t = ![t.val % 4, t.val / 4] :=
  (by decide +kernel : ∀ t : Fin grid0.N, win0_5.index t = ![t.val % 4, t.val / 4])

variable (m : (ℓ : Loc nD τ sig) → Buf (Elt Ideal) ℓ) (c : Dev nD)

/-- The grid has 32 points. -/
theorem point_lt (t : Fin cfg0.N) : t.val < 32 := t.isLt

theorem queries_at (t : Fin cfg0.N) (a : Fin 256) (b : Fin 2048) :
    iblk m c 0 t (ix2 a b) = m ((c : Thread nD τ).loc main_arg0)
      (ix2 ⟨256 * (t.val / 4) + a, by have := point_lt t; omega⟩ ⟨2048 * (t.val % 4) + b, by omega⟩) := by
  blk_ext! [iblk, V, index0 t]

theorem keysCtx_at (t : Fin cfg0.N) (a : Fin 256) (b : Fin 256) :
    iblk m c 1 t (ix2 a b) = m ((c : Thread nD τ).loc main_arg1)
      (ix2 a ⟨256 * (t.val / 4) + b, by have := point_lt t; omega⟩) := by
  blk_ext! [iblk, V, index1 t]

theorem valuesCtx_at (t : Fin cfg0.N) (a : Fin 128) (b : Fin 256) :
    iblk m c 2 t (ix3 0 a b) = m ((c : Thread nD τ).loc main_arg2)
      (ix3 0 ⟨128 * (t.val / 4) + a, by have := point_lt t; omega⟩ b) := by
  blk_ext! [iblk, V, index2 t]

theorem keys_at (t : Fin cfg0.N) (a : Fin 8192) (b : Fin 256) :
    iblk m c 3 t (ix2 a b) = m ((c : Thread nD τ).loc main_arg3)
      (ix2 a ⟨256 * (t.val / 4) + b, by have := point_lt t; omega⟩) := by
  blk_ext! [iblk, V, index3 t]

theorem values_at (t : Fin cfg0.N) (g : Fin 16) (a : Fin 128) (b : Fin 512) :
    iblk m c 4 t (ix3 g a b) = m ((c : Thread nD τ).loc main_arg4)
      (ix3 g ⟨128 * (t.val / 4) + a, by have := point_lt t; omega⟩ b) := by
  blk_ext! [iblk, V, index4 t]

/-- A key feature in a grid point's blocks is one in the arrays. -/
theorem key_at (t : Fin cfg0.N) (n : ℕ) (b : Fin 256) :
    key (iblk m c 1 t) (iblk m c 3 t) n b
      = key (m ((c : Thread nD τ).loc main_arg1)) (m ((c : Thread nD τ).loc main_arg3)) n
        ⟨256 * (t.val / 4) + b, by have := point_lt t; omega⟩ := by
  unfold key
  split
  · exact keysCtx_at m c t _ _
  · split
    · exact keys_at m c t _ _
    · rfl

/-- A value feature in a grid point's blocks is one in the arrays. -/
theorem value_at (t : Fin cfg0.N) (n : ℕ) (b : Fin 128) :
    value (iblk m c 2 t) (iblk m c 4 t) n b
      = value (m ((c : Thread nD τ).loc main_arg2)) (m ((c : Thread nD τ).loc main_arg4)) n
        ⟨128 * (t.val / 4) + b, by have := point_lt t; omega⟩ := by
  unfold value
  split
  · exact valuesCtx_at m c t _ _
  · split
    · exact values_at m c t _ _ _
    · rfl

/-! ## The array -/

variable {m c}

theorem allReal_queries (h : AllReal (m ((c : Thread nD τ).loc main_arg0))) (t : Fin cfg0.N) :
    AllReal (iblk m c 0 t) := fun i => h _

theorem allReal_keysCtx (h : AllReal (m ((c : Thread nD τ).loc main_arg1))) (t : Fin cfg0.N) :
    AllReal (iblk m c 1 t) := fun i => h _

theorem allReal_keys (h : AllReal (m ((c : Thread nD τ).loc main_arg3))) (t : Fin cfg0.N) :
    AllReal (iblk m c 3 t) := fun i => h _

/-- The attention of a grid point's query block `b`, in the arrays. -/
theorem block_at (h0 : AllReal (m ((c : Thread nD τ).loc main_arg0)))
    (h1 : AllReal (m ((c : Thread nD τ).loc main_arg1))) (h3 : AllReal (m ((c : Thread nD τ).loc main_arg3)))
    (t : Fin cfg0.N) (b : Fin 4) (j : Fin 512) (f : Fin 128) (row : Fin 8192) (col : Fin 1024)
    (hr : row.val = 2048 * (t.val % 4) + 512 * b + j) (hc : col.val = 128 * (t.val / 4) + f) :
    block (iblk m c 0 t) (iblk m c 1 t) (iblk m c 2 t) (iblk m c 3 t) (iblk m c 4 t) b (ix2 j f)
      = output (m ((c : Thread nD τ).loc main_arg0)) (m ((c : Thread nD τ).loc main_arg1))
        (m ((c : Thread nD τ).loc main_arg2)) (m ((c : Thread nD τ).loc main_arg3))
        (m ((c : Thread nD τ).loc main_arg4)) row col := by
  have ht := point_lt t
  refine (block_apply (allReal_queries h0 t) (allReal_keysCtx h1 t) (allReal_keys h3 t) b j f).trans ?_
  unfold output
  congr 1
  · funext n
    unfold score
    refine Finset.sum_congr rfl fun k _ => ?_
    rw [key_at, queries_at]
    congr 2
    · exact Fin.ext (by simp only [featureCol, id]; omega)
    · congr 1
      · exact Fin.ext (by simp only [featureCol, id]; omega)
      · exact Fin.ext (by simp only; omega)
  · funext n
    rw [value_at]
    congr 1
    exact Fin.ext (by simp only [id]; omega)

/-- The result array after the run, at a row and a column. -/
theorem array_apply (h0 : AllReal (m ((c : Thread nD τ).loc main_arg0)))
    (h1 : AllReal (m ((c : Thread nD τ).loc main_arg1))) (h3 : AllReal (m ((c : Thread nD τ).loc main_arg3)))
    (row : Fin 8192) (col : Fin 1024) :
    (dats m 0 c).arrAt 5 cfg0.N (ix2 row col)
      = output (m ((c : Thread nD τ).loc main_arg0)) (m ((c : Thread nD τ).loc main_arg1))
        (m ((c : Thread nD τ).loc main_arg2)) (m ((c : Thread nD τ).loc main_arg3))
        (m ((c : Thread nD τ).loc main_arg4)) row col := by
  obtain ⟨t, ht⟩ : ∃ t : Fin cfg0.N, t.val = col.val / 128 * 4 + row.val / 2048 :=
    ⟨⟨col.val / 128 * 4 + row.val / 2048, by show _ < 32; omega⟩, rfl⟩
  have hb := congrFun (blocks5 m c t (flush0_5 t)) (ix2 ⟨row.val % 2048, by omega⟩ ⟨col.val % 128, by omega⟩)
  rw [flushed5_A, Pipeline.Window.cut_apply, out_eq] at hb
  have he : ((cfg0.win 5).blk t).view.read (Elt Ideal) ((dats m 0 c).arrAt 5 cfg0.N)
      (ix2 ⟨row.val % 2048, by omega⟩ ⟨col.val % 128, by omega⟩) = (dats m 0 c).arrAt 5 cfg0.N (ix2 row col) := by
    generalize (dats m 0 c).arrAt 5 cfg0.N = A
    blk_ext! [index5 t]
  rw [← he, hb]
  refine View.canon_eq_of_allAt _ _ _ (View.cover_of_tiled_head _ _ _ rfl _) ?_
  have tile : ∀ b : Fin 4, View.TileAt (ix2 ⟨row.val % 2048, by omega⟩ ⟨col.val % 128, by omega⟩ : S2048x128.Idx)
      ![512 * b.val, 0] ![512, 128]
      (block (iblk m c 0 t) (iblk m c 1 t) (iblk m c 2 t) (iblk m c 3 t) (iblk m c 4 t) b)
      (output (m ((c : Thread nD τ).loc main_arg0)) (m ((c : Thread nD τ).loc main_arg1))
        (m ((c : Thread nD τ).loc main_arg2)) (m ((c : Thread nD τ).loc main_arg3))
        (m ((c : Thread nD τ).loc main_arg4)) row col) := fun b x hx => by
    have e0 : row.val % 2048 = 512 * b.val + (x 0).val := hx 0
    have e1 : col.val % 128 = 0 + (x 1).val := hx 1
    rw [show x = ix2 (x 0) (x 1) from funext fun a => by match a with | ⟨0, _⟩ => rfl | ⟨1, _⟩ => rfl]
    exact block_at h0 h1 h3 t b (x 0) (x 1) row col (by omega) (by omega)
  exact View.allAt_cons_unit _ _ _ _ _ (tile 3) (View.allAt_cons_unit _ _ _ _ _ (tile 2)
    (View.allAt_cons_unit _ _ _ _ _ (tile 1) (View.allAt_cons_unit _ _ _ _ _ (tile 0) (View.allAt_nil _ _))))

end Cert.Mla

end
-- ==== Proof.Mla.Reference.lean ====
/-
  What the reference of the multi-head latent attention computes, at a row and a column.
-/
module

public import proofs.«01_k».proof.Proof.Mla.Array
public import proofs.«01_k».proof.Proof.Host
public import proofs.«01_k».proof.Proof.Gen.Reference2Ideal.Read

@[expose] public section

noncomputable section

namespace Cert.Mla.Reference

open Cert.Reference2Ideal Cert.Reference2Ideal.Gen Cert.Reference2Ideal.Read Cert.Spec Cert.Softmax Cert.Mla
open Idealize.ShloMosaic Idealize.ShloMosaic.TcCoe

variable (qt : Vec Ideal S2048x8192 .bf16) (kc : Vec Ideal S256x2048 .bf16) (vc : Vec Ideal S1x1024x256 .bf16)
  (kx : Vec Ideal S8192x2048 .bf16) (vx : Vec Ideal S16x1024x512 .bf16)

/-- The joined keys. -/
theorem keys_apply (t : Fin 8448) (c : Fin 2048) : val_main_v7 (F := Ideal) kc kx (ix2 t c) = key kc kx t c := by
  unfold val_main_v7 key
  split
  · rename_i h
    refine (concatenate_pair_apply_left (s₁ := S256x2048) (s₂ := S8192x2048) 0 _ _ _ (ix2 t c) rfl (ix2 ⟨t, h⟩ c) fun b => ?_).trans rfl
    match b with
    | ⟨0, _⟩ => rfl
    | ⟨1, _⟩ => rfl
  · rename_i h
    rw [dif_pos (by omega)]
    refine (concatenate_pair_apply_right (s₁ := S256x2048) (s₂ := S8192x2048) 0 _ _ _ (ix2 t c) rfl rfl (ix2 ⟨t - 256, by omega⟩ c) (fun b hb => ?_) ?_).trans rfl
    · match b with
      | ⟨0, _⟩ => exact absurd rfl hb
      | ⟨1, _⟩ => rfl
    · show t.val - 256 + 256 = t.val
      omega

/-- The joined values. -/
theorem values_apply (t : Fin 8448) (c : Fin 1024) : val_main_v13 (F := Ideal) vc vx (ix2 t c) = value vc vx t c := by
  unfold val_main_v13 value
  split
  · rename_i h
    refine (concatenate_pair_apply_left (s₁ := S256x1024) (s₂ := S8192x1024) 0 _ _ _ (ix2 t c) rfl (ix2 ⟨t, h⟩ c) fun b => ?_).trans ?_
    · match b with
      | ⟨0, _⟩ => rfl
      | ⟨1, _⟩ => rfl
    · rw [val_main_v12_apply, val_main_v11_apply]
      refine congrArg vc (funext fun a => Fin.ext ?_)
      match a with
      | ⟨0, _⟩ => rfl
      | ⟨1, _⟩ => show (c.val * 256 + t.val) / 256 % 1024 = c.val; omega
      | ⟨2, _⟩ => show (c.val * 256 + t.val) % 256 = t.val; omega
  · rename_i h
    rw [dif_pos (by omega)]
    refine (concatenate_pair_apply_right (s₁ := S256x1024) (s₂ := S8192x1024) 0 _ _ _ (ix2 t c) rfl rfl (ix2 ⟨t - 256, by omega⟩ c) (fun b hb => ?_) ?_).trans ?_
    · match b with
      | ⟨0, _⟩ => exact absurd rfl hb
      | ⟨1, _⟩ => rfl
    · show t.val - 256 + 256 = t.val
      omega
    · rw [val_main_v10_apply, val_main_v9_apply]
      refine congrArg vx (funext fun a => Fin.ext ?_)
      match a with
      | ⟨0, _⟩ => show ((t.val - 256) * 1024 + c.val) / 524288 = (t.val - 256) / 512; omega
      | ⟨1, _⟩ => show ((t.val - 256) * 1024 + c.val) % 1024 = c.val; omega
      | ⟨2, _⟩ => show ((t.val - 256) * 1024 + c.val) / 1024 % 512 = (t.val - 256) % 512; omega

/-- The column of head `h`, feature `f`. -/
def column (h : Fin 8) (f : Fin 128) : Fin 1024 := ⟨h * 128 + f, by omega⟩

/-- The scores of head `h`. -/
theorem scores_apply (h : Fin 8) (f : Fin 128) (row : Fin 8192) (t : Fin 8448) :
    val_main_v18 (F := Ideal) qt kc kx (ix4 h 0 row t)
      = score kc kx qt (featureCol (column h f)) (featureCol (column h f)) row t := by
  rw [val_main_v18_apply, val_main_v17_apply, val_main_v16_apply]
  refine (val_main_v15_apply qt kc kx _).trans ?_
  unfold score
  refine Finset.sum_congr rfl fun c _ => ?_
  have hk : val_main_v8 (F := Ideal) kc kx (lidx_main_v15 (idx_main_v16 (ix4 h 0 row t)) c)
      = key kc kx t (featureCol (column h f) c) := by
    rw [val_main_v8_apply, ← keys_apply kc kx t]
    refine congrArg _ (funext fun a => Fin.ext ?_)
    match a with
    | ⟨0, _⟩ => show ((t.val * 8 + h.val) * 256 + c.val) / 2048 = t.val; omega
    | ⟨1, _⟩ =>
      show ((t.val * 8 + h.val) * 256 + c.val) % 2048 = 256 * ((h.val * 128 + f.val) / 128) + c.val
      omega
  have hq : val_main_v6 (F := Ideal) qt (ridx_main_v15 (idx_main_v16 (ix4 h 0 row t)) c)
      = qt (ix2 (featureCol (column h f) c) row) := by
    rw [val_main_v6_apply, val_main_v5_apply]
    refine congrArg qt (funext fun a => Fin.ext ?_)
    match a with
    | ⟨0, _⟩ =>
      show (((row.val * 8 + h.val) * 1 + 0) * 256 + c.val) % 2048 = 256 * ((h.val * 128 + f.val) / 128) + c.val
      omega
    | ⟨1, _⟩ => show (((row.val * 8 + h.val) * 1 + 0) * 256 + c.val) / 2048 = row.val; omega
  rw [hk, hq]

variable {qt kc vc kx vx} (h0 : AllReal qt) (h1 : AllReal kc) (h3 : AllReal kx)

include h0 h1 h3

/-- The weights before their division by the sum. -/
theorem powers_apply (h : Fin 8) (f : Fin 128) (row : Fin 8192) (t : Fin 8448) :
    val_main_v24 (F := Ideal) qt kc kx (ix4 h 0 row t)
      = Ideal.exp2 (score kc kx qt (featureCol (column h f)) (featureCol (column h f)) row t
        - (Finset.range 8448).sup (score kc kx qt (featureCol (column h f)) (featureCol (column h f)) row)) := by
  have hr := score_isReal h1 h3 h0 (featureCol (column h f)) (featureCol (column h f)) row
  have hmax : val_main_v21 (F := Ideal) qt kc kx (ix4 h 0 row t)
      = (Finset.range 8448).sup (score kc kx qt (featureCol (column h f)) (featureCol (column h f)) row) := by
    rw [val_main_v21_apply, val_main_v20_apply]
    rw [show idx_main_v20 (idx_main_v21 (ix4 h 0 row t)) = ix3 h 0 row from funext fun a => by
      match a with
      | ⟨0, _⟩ => rfl
      | ⟨1, _⟩ => rfl
      | ⟨2, _⟩ => rfl]
    exact Cert.Host.reduceMax_apply (val_main_v18 (F := Ideal) qt kc kx) _ _ h 0 row
      (score kc kx qt (featureCol (column h f)) (featureCol (column h f)) row) (scores_apply qt kc kx h f row)
  rw [val_main_v24_apply, val_main_v22_apply, hmax, scores_apply qt kc kx h f row t, val_main_v23_apply]
  exact Cert.Host.pow_two ((hr _).sub (isReal_sup _ hr _ (by decide)))

/-- The sum of the weights. -/
theorem sums_apply (h : Fin 8) (f : Fin 128) (row : Fin 8192) (t : Fin 8448) :
    val_main_v27 (F := Ideal) qt kc kx (ix4 h 0 row t)
      = weightSum (score kc kx qt (featureCol (column h f)) (featureCol (column h f)) row)
        ((Finset.range 8448).sup (score kc kx qt (featureCol (column h f)) (featureCol (column h f)) row)) 8448 := by
  rw [val_main_v27_apply, val_main_v26_apply]
  refine (val_main_v25_apply qt kc kx _).trans ?_
  rw [show val_main_cst_1 (F := Ideal) (Shape.Idx.first h_S_) = (0 : EReal) from Ideal.ofBits_zero_f32, zero_add]
  refine sum_univ_eq _ (fun k => Ideal.exp2 (score kc kx qt (featureCol (column h f)) (featureCol (column h f)) row k
    - (Finset.range 8448).sup (score kc kx qt (featureCol (column h f)) (featureCol (column h f)) row))) fun k => ?_
  rw [show idx_main_v25 (idx_main_v26 (idx_main_v27 (ix4 h 0 row t))) k = ix4 h 0 row k from funext fun a => by
    match a with
    | ⟨0, _⟩ => rfl
    | ⟨1, _⟩ => rfl
    | ⟨2, _⟩ => rfl
    | ⟨3, _⟩ => rfl]
  exact powers_apply h0 h1 h3 h f row k

/-- The reference's result. -/
theorem result_apply (row : Fin 8192) (col : Fin 1024) :
    val_main_v34 (F := Ideal) qt kc vc kx vx (ix2 row col) = output qt kc vc kx vx row col := by
  obtain ⟨h, f, rfl⟩ : ∃ (h : Fin 8) (f : Fin 128), col = column h f :=
    ⟨⟨col / 128, by omega⟩, ⟨col % 128, by omega⟩, Fin.ext (by show col.val = col.val / 128 * 128 + col.val % 128; omega)⟩
  rw [val_main_v34_apply, val_main_v33_apply, val_main_v32_apply]
  refine (val_main_v31_apply qt kc vc kx vx _).trans ?_
  unfold output attention
  refine sum_univ_eq _ (fun k => value vc vx k (column h f) * Ideal.div
    (Ideal.exp2 (score kc kx qt (featureCol (column h f)) (featureCol (column h f)) row k
      - (Finset.range 8448).sup (score kc kx qt (featureCol (column h f)) (featureCol (column h f)) row)))
    (weightSum (score kc kx qt (featureCol (column h f)) (featureCol (column h f)) row)
      ((Finset.range 8448).sup (score kc kx qt (featureCol (column h f)) (featureCol (column h f)) row)) 8448)) fun t => ?_
  have hv : val_main_v14 (F := Ideal) vc vx (lidx_main_v31 (idx_main_v32 (idx_main_v33 (ix2 row (column h f)))) t)
      = value vc vx t (column h f) := by
    rw [val_main_v14_apply, ← values_apply vc vx t]
    refine congrArg _ (funext fun a => Fin.ext ?_)
    match a with
    | ⟨0, _⟩ =>
      show ((t.val * 8 + (row.val * 1024 + (h.val * 128 + f.val)) / 128 % 8) * 128
        + (row.val * 1024 + (h.val * 128 + f.val)) % 128) / 1024 = t.val
      omega
    | ⟨1, _⟩ =>
      show ((t.val * 8 + (row.val * 1024 + (h.val * 128 + f.val)) / 128 % 8) * 128
        + (row.val * 1024 + (h.val * 128 + f.val)) % 128) % 1024 = h.val * 128 + f.val
      omega
  have hi : ridx_main_v31 (idx_main_v32 (idx_main_v33 (ix2 row (column h f)))) t = ix4 h 0 row t := by
    funext a
    apply Fin.ext
    match a with
    | ⟨0, _⟩ => show (row.val * 1024 + (h.val * 128 + f.val)) / 128 % 8 = h.val; omega
    | ⟨1, _⟩ => rfl
    | ⟨2, _⟩ => show (row.val * 1024 + (h.val * 128 + f.val)) / 1024 = row.val; omega
    | ⟨3, _⟩ => rfl
  rw [hv, hi, val_main_v30_apply, val_main_v29_apply, val_main_v28_apply, powers_apply h0 h1 h3 h f row t,
    sums_apply h0 h1 h3 h f row t]
  rfl

end Cert.Mla.Reference

end
-- ==== Proof.Mla.Claim.lean ====
/-
  The value claim of the multi-head latent attention: the kernel's array and the reference's are the same function of the
  arguments.
-/
module

public import proofs.«01_k».proof.Proof.Mla.Reference
public import proofs.«01_k».proof.Defs

@[expose] public section

noncomputable section

namespace Cert.Mla

open Cert.Spec Cert.Softmax
open Idealize.ShloMosaic Idealize.ShloMosaic.TcCoe Idealize.SL.Sem

section Precondition

variable [Cert.Pre_finite2.Facts]

/-- The precondition: the queries and the keys are real. -/
theorem real_of_finite {x0 : Vec Ideal Cert.Pre_finite2.S2048x8192 .bf16} {x1 : Vec Ideal Cert.Pre_finite2.S256x2048 .bf16}
    {x2 : Vec Ideal Cert.Pre_finite2.S1x1024x256 .bf16} {x3 : Vec Ideal Cert.Pre_finite2.S8192x2048 .bf16}
    {x4 : Vec Ideal Cert.Pre_finite2.S16x1024x512 .bf16}
    (h : Cert.Pre_finite2.fn (F := Ideal) x0 x1 x2 x3 x4 = fun _ => 1#1) : AllReal x0 ∧ AllReal x1 ∧ AllReal x3 := by
  haveI : Subsingleton Cert.Pre_finite2.S_.Idx := ⟨fun a b => funext fun i => i.elim0⟩
  obtain ⟨h01, h3⟩ := IntOp.andi_eq_one.1 (congrFun h (fun i => i.elim0))
  obtain ⟨h0, h1⟩ := IntOp.andi_eq_one.1 h01
  exact ⟨fun i => Cert.Host.isReal_of_abs_lt (Host.reduce_andi_all _ _ _ _ _ h0 i),
    fun i => Cert.Host.isReal_of_abs_lt (Host.reduce_andi_all _ _ _ _ _ h1 i),
    fun i => Cert.Host.isReal_of_abs_lt (Host.reduce_andi_all _ _ _ _ _ h3 i)⟩

end Precondition

/-- The attention array of the arguments. -/
def outputArray (qt : Vec Ideal Cert.Kernel2Ideal.S2048x8192 .bf16) (kc : Vec Ideal Cert.Kernel2Ideal.S256x2048 .bf16)
    (vc : Vec Ideal Cert.Kernel2Ideal.S1x1024x256 .bf16) (kx : Vec Ideal Cert.Kernel2Ideal.S8192x2048 .bf16)
    (vx : Vec Ideal Cert.Kernel2Ideal.S16x1024x512 .bf16) : Vec Ideal Cert.Kernel2Ideal.S8192x1024 .bf16 :=
  fun i => output qt kc vc kx vx (i 0) (i 1)

theorem ix2_eta (i : Cert.Kernel2Ideal.S8192x1024.Idx) : ix2 (i 0) (i 1) = i :=
  funext fun a => by
    match a with
    | ⟨0, _⟩ => rfl
    | ⟨1, _⟩ => rfl

theorem algebraic [Cert.Pre_finite2.Facts] : Cert.algebraic_Kernel2Ideal_Reference2Ideal_pre_finite2 := by
  intro m g m' g' hpre hargs
  refine ⟨fun c => outputArray (m ((c.tc : Thread _ _).loc Cert.Kernel2Ideal.main_arg0))
    (m ((c.tc : Thread _ _).loc Cert.Kernel2Ideal.main_arg1)) (m ((c.tc : Thread _ _).loc Cert.Kernel2Ideal.main_arg2))
    (m ((c.tc : Thread _ _).loc Cert.Kernel2Ideal.main_arg3)) (m ((c.tc : Thread _ _).loc Cert.Kernel2Ideal.main_arg4)),
    (θ_run _ _ _).mono (fun r h c => ⟨(h c).1.trans ?_, (h c).2⟩) (Cert.Kernel2Ideal.Value.run_blocks m g),
    (θ_run _ _ _).mono (fun r h c => ⟨(h c).1.trans ?_, (h c).2⟩) (Cert.Reference2Ideal.Value.run m' g')⟩
  · obtain ⟨h0, h1, h3⟩ := real_of_finite (hpre c)
    funext i
    rw [← ix2_eta i]
    exact array_apply h0 h1 h3 (i 0) (i 1)
  · obtain ⟨h0, h1, h3⟩ := real_of_finite (hpre c)
    obtain ⟨e0, e1, e2, e3, e4⟩ := hargs c
    rw [Cert.Reference2Ideal.Read.val_main_v34_eq, e0, e1, e2, e3, e4]
    funext i
    rw [← ix2_eta i]
    exact Reference.result_apply h0 h1 h3 (i 0) (i 1)

end Cert.Mla

end
-- ==== Proof.Dense.lean ====
/-
  Products of matrices over the extended reals, as the projections of the layer use them.
-/
module

public import proofs.«01_k».proof.Proof.OnlineIdeal
public import Idealize.ShloMosaic.Lib.Pipeline.ValueKit

@[expose] public section

noncomputable section

namespace Cert.Dense

open Idealize.ShloMosaic

/-- The product of a row of `x` and a column `col` of matrix 0 of `w`, a stack of matrices. -/
def product {n d r l : ℕ} [NeZero l] (x : (⟨2, ![n, d]⟩ : Shape).Idx → EReal) (w : (⟨3, ![l, d, r]⟩ : Shape).Idx → EReal)
    (row : Fin n) (col : Fin r) : EReal :=
  ∑ k : Fin d, x (ix2 row k) * w (ix3 0 k col)

/-- Products agree when their rows and their columns do. -/
theorem product_congr {n n' d r r' l l' : ℕ} [NeZero l] [NeZero l'] {x : (⟨2, ![n, d]⟩ : Shape).Idx → EReal}
    {x' : (⟨2, ![n', d]⟩ : Shape).Idx → EReal} {w : (⟨3, ![l, d, r]⟩ : Shape).Idx → EReal}
    {w' : (⟨3, ![l', d, r']⟩ : Shape).Idx → EReal} {i : Fin n} {i' : Fin n'} {j : Fin r} {j' : Fin r'}
    (hx : ∀ k, x (ix2 i k) = x' (ix2 i' k)) (hw : ∀ k, w (ix3 0 k j) = w' (ix3 0 k j')) :
    product x w i j = product x' w' i' j' :=
  Finset.sum_congr rfl fun k _ => by rw [hx, hw]

variable {n d r : ℕ}

/-- A matrix product whose right operand is the one matrix of a stack. -/
theorem matmul_slot_apply {φ₁ φ₂ : FTy} (x : FVec Ideal ⟨2, ![n, d]⟩ φ₁) (w : FVec Ideal ⟨3, ![1, d, r]⟩ φ₂) (i : Fin n)
    (j : Fin r) :
    FloatOps.matmul (DotDims.plain n d r) none x
        (shapeCast ⟨2, ![d, r]⟩ w (Cert.Online.casts_unslot d r) : FVec Ideal ⟨2, ![d, r]⟩ φ₂)
        (constant ⟨2, ![n, r]⟩ .f32 0x00000000#32 : FVec Ideal ⟨2, ![n, r]⟩ .f32) (ix2 i j)
      = product x w i j :=
  (Cert.Online.matmul_apply x _ i j).trans (Finset.sum_congr rfl fun k _ => by rw [Cert.Online.unslot_apply])

/-- A row of numbers loaded from the first row of a block of more rows. -/
theorem ld_row_apply {e : EltTy} {l : ℕ} [NeZero l] (x : Vec Ideal ⟨2, ![l, r]⟩ e)
    (h : ∀ a, (![0, 0] : Fin 2 → ℕ) a + (![1, r] : Fin 2 → ℕ) a ≤ (![l, r] : Fin 2 → ℕ) a) (j : Fin r) :
    View.ld x (Rect.unit (s := ⟨2, ![l, r]⟩) ![0, 0] ![1, r] h) (ix2 0 j) = x (ix2 0 j) :=
  View.ld_unit_apply_of _ _ _ _ _ _ fun a => by
    match a with
    | ⟨0, _⟩ => rfl
    | ⟨1, _⟩ => exact (Nat.zero_add _).symm

/-- A product scaled by a row of gates and added to a residual. -/
theorem residual_apply (x : FVec Ideal ⟨2, ![n, d]⟩ .bf16) (w : FVec Ideal ⟨3, ![1, d, r]⟩ .bf16)
    (s : FVec Ideal ⟨2, ![n, r]⟩ .f32) (g : FVec Ideal ⟨2, ![1, r]⟩ .f32) (h : Shape.Broadcasts ⟨2, ![1, r]⟩ ⟨2, ![n, r]⟩)
    (i : Fin n) (j : Fin r) :
    addf s (mulf (broadcastTo ⟨2, ![n, r]⟩ g h : FVec Ideal ⟨2, ![n, r]⟩ .f32)
      (FloatOps.matmul (DotDims.plain n d r) none x
        (shapeCast ⟨2, ![d, r]⟩ w (Cert.Online.casts_unslot d r) : FVec Ideal ⟨2, ![d, r]⟩ .bf16)
        (constant ⟨2, ![n, r]⟩ .f32 0x00000000#32 : FVec Ideal ⟨2, ![n, r]⟩ .f32))) (ix2 i j)
      = s (ix2 i j) + g (ix2 0 j) * product x w i j := by
  show s (ix2 i j) + broadcastTo ⟨2, ![n, r]⟩ g h (ix2 i j) * _ = _
  rw [matmul_slot_apply, Cert.Online.bcast_row_apply]

end Cert.Dense

end
-- ==== Proof.InProj.Array.lean ====
/-
  What the input projection's result array holds after the run, at a row and a column: the product of the row of the
  stream and the column of the first layer's weights, after the columns of the keys and the values.
-/
module

public import proofs.«01_k».proof.Proof.Gen.Kernel3Ideal.Value
public import proofs.«01_k».proof.Proof.Dense

@[expose] public section

set_option maxRecDepth 16384

noncomputable section

namespace Cert.InProj

open Cert.Kernel3Ideal Cert.Kernel3Ideal.Gen Cert.Kernel3Ideal.Value Cert.Dense
open Idealize.ShloMosaic Idealize.ShloMosaic.TcCoe Idealize.SL.Sem

/-- The projection at a row and a column. -/
def output (h : Vec Ideal S8192x2048 .bf16) (w : Vec Ideal S2x2048x15936 .f32) (row : Fin 8192) (col : Fin 14848) :
    EReal :=
  product h w row ⟨1088 + col, by omega⟩

/-- A grid point's output block. -/
theorem out_apply (x : Vec Ideal S2048x2048 .bf16) (w : Vec Ideal S1x2048x512 .bf16) (i : Fin 2048) (j : Fin 512) :
    out0_2 x w (ix2 i j) = product x w i j := by
  unfold out0_2
  rw [View.canon_cons_unit_lit _ _ _ (by decide), View.ld_unit_lit _ _ (by decide), View.ld_unit_lit _ _ (by decide)]
  exact matmul_slot_apply (φ₁ := .bf16) (φ₂ := .bf16) x w i j

theorem index0 : ∀ t : Fin cfg0.N, win0_0.index t = ![t.val / 29, 0] :=
  (by decide +kernel : ∀ t : Fin grid0.N, win0_0.index t = ![t.val / 29, 0])
theorem index1 : ∀ t : Fin cfg0.N, win0_1.index t = ![0, 0, t.val % 29] :=
  (by decide +kernel : ∀ t : Fin grid0.N, win0_1.index t = ![0, 0, t.val % 29])
theorem index2 : ∀ t : Fin cfg0.N, win0_2.index t = ![t.val / 29, t.val % 29] :=
  (by decide +kernel : ∀ t : Fin grid0.N, win0_2.index t = ![t.val / 29, t.val % 29])

variable (m : (ℓ : Loc nD τ sig) → Buf (Elt Ideal) ℓ) (c : Dev nD)

/-- The grid has 116 points. -/
theorem point_lt (t : Fin cfg0.N) : t.val < 116 := t.isLt

/-- The weights that the region finds: the columns from 1088 on. -/
theorem weights_eq : V m c main_v1
    = (truncf .bf16 (extractStridedSlice S2x2048x14848 ![0, 0, 1088]
        (m ((c : Thread nD τ).loc main_arg1) : Vec Ideal S2x2048x15936 .f32)
        slices_S2x2048x15936_S2x2048x14848_0_0_1088 : FVec Ideal S2x2048x14848 .f32) bitsLt_bf16_f32 :
      FVec Ideal S2x2048x14848 .bf16) := by
  show StableHlo.after hostOps0 _ (Proc.devRef .tc main_v1) = _
  after_results

theorem weights_apply (l : Fin 2) (k : Fin 2048) (j : Fin 14848) : V m c main_v1 (ix3 l k j)
    = m ((c : Thread nD τ).loc main_arg1) (ix3 l k ⟨1088 + j, by omega⟩) := by
  rw [weights_eq]
  refine (extractStridedSlice_apply _ _ slices_S2x2048x15936_S2x2048x14848_0_0_1088 (ix3 l k j) (ix3 l k ⟨1088 + j, by omega⟩) fun a => ?_)
  match a with
  | ⟨0, _⟩ => exact (Nat.zero_add _).symm
  | ⟨1, _⟩ => exact (Nat.zero_add _).symm
  | ⟨2, _⟩ => rfl

theorem rows_at (t : Fin cfg0.N) (i : Fin 2048) (k : Fin 2048) :
    iblk m c 0 t (ix2 i k) = m ((c : Thread nD τ).loc main_arg0)
      (ix2 ⟨2048 * (t.val / 29) + i, by have := point_lt t; omega⟩ k) := by
  rw [← V_main_arg0 m c]
  blk_ext! [iblk, index0 t]

theorem weights_at (t : Fin cfg0.N) (k : Fin 2048) (j : Fin 512) :
    iblk m c 1 t (ix3 0 k j) = V m c main_v1 (ix3 0 k ⟨512 * (t.val % 29) + j, by omega⟩) := by
  blk_ext! [iblk, index1 t]

/-- The result array after the run, at a row and a column. -/
theorem array_apply (row : Fin 8192) (col : Fin 14848) : (dats m 0 c).arrAt 2 cfg0.N (ix2 row col)
    = output (m ((c : Thread nD τ).loc main_arg0)) (m ((c : Thread nD τ).loc main_arg1)) row col := by
  obtain ⟨t, ht⟩ : ∃ t : Fin cfg0.N, t.val = row.val / 2048 * 29 + col.val / 512 :=
    ⟨⟨row.val / 2048 * 29 + col.val / 512, by show _ < 116; omega⟩, rfl⟩
  have hb := congrFun (blocks2 m c t (flush0_2 t)) (ix2 ⟨row.val % 2048, by omega⟩ ⟨col.val % 512, by omega⟩)
  rw [flushed2, Pipeline.Window.cut_apply] at hb
  replace hb := hb.trans (out_apply _ _ ⟨row.val % 2048, by omega⟩ ⟨col.val % 512, by omega⟩)
  have he : ((cfg0.win 2).blk t).view.read (Elt Ideal) ((dats m 0 c).arrAt 2 cfg0.N)
      (ix2 ⟨row.val % 2048, by omega⟩ ⟨col.val % 512, by omega⟩) = (dats m 0 c).arrAt 2 cfg0.N (ix2 row col) := by
    generalize (dats m 0 c).arrAt 2 cfg0.N = A
    blk_ext! [index2 t]
  rw [← he, hb]
  refine product_congr (fun k => (rows_at m c t _ k).trans ?_)
    (fun k => (weights_at m c t k _).trans ((weights_apply m c _ _ _).trans ?_))
  · congr 2
    exact Fin.ext (by show 2048 * (t.val / 29) + row.val % 2048 = row.val; omega)
  · congr 2
    exact Fin.ext (by show 1088 + (512 * (t.val % 29) + col.val % 512) = 1088 + col.val; omega)

end Cert.InProj

end
-- ==== Proof.InProj.Claim.lean ====
/-
  The value claim of the input projection: the kernel's array and the reference's are the same function of the arguments.
-/
module

public import proofs.«01_k».proof.Proof.InProj.Array
public import proofs.«01_k».proof.Proof.Gen.Reference3Ideal.Read
public import proofs.«01_k».proof.Defs

@[expose] public section

noncomputable section

namespace Cert.InProj

open Idealize.ShloMosaic Idealize.ShloMosaic.TcCoe Idealize.SL.Sem Cert.Dense

open Cert.Reference3Ideal.Read in
/-- The reference's result. -/
theorem reference_apply (h : Vec Ideal Cert.Kernel3Ideal.S8192x2048 .bf16)
    (w : Vec Ideal Cert.Kernel3Ideal.S2x2048x15936 .f32) (row : Fin 8192) (col : Fin 14848) :
    val_main_v5 (F := Ideal) h w (ix2 row col) = output h w row col := by
  rw [val_main_v5_apply]
  refine (val_main_v4_apply h w _).trans ?_
  unfold output product
  refine Finset.sum_congr rfl fun k _ => ?_
  rw [val_main_v3_apply, val_main_v2_apply, val_main_v1_apply]
  refine congrArg₂ (· * ·) (congrArg h ?_) (congrArg w ?_) <;> refine funext fun a => Fin.ext ?_
  · match a with
    | ⟨0, _⟩ => rfl
    | ⟨1, _⟩ => rfl
  · match a with
    | ⟨0, _⟩ => rfl
    | ⟨1, _⟩ => show (k.val * 15936 + (1088 + col.val)) / 15936 % 2048 = k.val; omega
    | ⟨2, _⟩ => show (k.val * 15936 + (1088 + col.val)) % 15936 = 1088 + col.val; omega

theorem algebraic : Cert.algebraic_Kernel3Ideal_Reference3Ideal := by
  intro m g m' g' _ hargs
  refine ⟨fun c i => output (m ((c.tc : Thread _ _).loc Cert.Kernel3Ideal.main_arg0))
    (m ((c.tc : Thread _ _).loc Cert.Kernel3Ideal.main_arg1)) (i 0) (i 1),
    (θ_run _ _ _).mono (fun r h c => ⟨(h c).1.trans ?_, (h c).2⟩) (Cert.Kernel3Ideal.Value.run_blocks m g),
    (θ_run _ _ _).mono (fun r h c => ⟨(h c).1.trans ?_, (h c).2⟩) (Cert.Reference3Ideal.Value.run m' g')⟩
  · funext i
    exact (congrArg _ (ix2_eta i).symm).trans (array_apply m c (i 0) (i 1))
  · obtain ⟨e0, e1⟩ := hargs c
    funext i
    refine (congrFun (Cert.Reference3Ideal.Read.val_main_v5_eq _ _) i).trans ?_
    rw [e0, e1]
    exact (congrArg _ (ix2_eta i).symm).trans (reference_apply _ _ (i 0) (i 1))

end Cert.InProj

end
-- ==== Proof.FfnUp.Block.lean ====
/-
  A grid point of the MLP's first half. The first point of a sweep over the rows casts its block of weights into a
  scratch; it and the points after it multiply their block of rows by the scratch and square what is positive.
-/
module

public import proofs.«01_k».proof.Proof.Gen.Kernel4Ideal.Value
public import proofs.«01_k».proof.Proof.Dense
public import Idealize.ShloMosaic.Lib.Pipeline.ReadBack
import all proofs.«01_k».proof.Proof.Gen.Kernel4Ideal.Frame.RunA
import all proofs.«01_k».proof.Proof.Gen.Kernel4Ideal.Frame.RunB

@[expose] public section

set_option maxRecDepth 16384

noncomputable section

namespace Cert.FfnUp

open Cert.Kernel4Ideal Cert.Kernel4Ideal.Gen Cert.Dense
open Idealize.ShloMosaic Idealize.ShloMosaic.TcCoe Idealize.SL.Sem

/-- The square of the positive part. -/
def relu2 (z : EReal) : EReal :=
  FloatOps.mulf (F := Ideal) (φ := .f32) (FloatOps.maximumf z (FloatOps.ofBits .f32 0x00000000#32))
    (FloatOps.maximumf z (FloatOps.ofBits .f32 0x00000000#32))

section Runs

variable (c : Dev nD) (i : grid0.Coords) (arg2 : Memref sig .tc .vmem S1024x2048 .bf16) (harg2 : arg2.IsWhole)
  (arg3 : Memref sig .tc .vmem S1x2048x1024 .f32) (harg3 : arg3.IsWhole)
  (arg4 : Memref sig .tc .vmem S1024x1024 .bf16) (harg4 : arg4.IsWhole)
  (arg5 : Memref sig .tc .vmem S2048x1024 .bf16) (harg5 : arg5.IsWhole)
  (x : Vec Ideal S1024x2048 .bf16) (w : Vec Ideal S1x2048x1024 .f32) (v : Vec Ideal S2048x1024 .bf16)

/-- The scratch after the first point of a sweep: the cast weights. -/
theorem scratch_first (hc0 : cond0_0 i) :
    sout0_A_0 c i arg2 harg2 arg3 harg3 arg4 harg4 arg5 harg5 hc0 x w = k0_pay1 w := by
  unfold sout0_A_0
  rw [View.read_writes_junk_eq_canon]
  unfold kernelRun0_A
  dsimp only
  sl_unfold_words
  simp (disch := decide) only [View.readAt_eq_ld, harg3.read_unread, View.ld_unit_lit, View.canon_cons_unit_lit]

/-- The output block of the first point of a sweep. -/
theorem out_first (hc0 : cond0_0 i) :
    out0_A_2 c i arg2 harg2 arg3 harg3 arg4 harg4 arg5 harg5 hc0 x w = k0_pay2 (k0_pay1 w) x := by
  unfold out0_A_2
  rw [View.read_writes_junk_eq_canon]
  unfold kernelRun0_A
  dsimp only
  sl_unfold_words
  simp (disch := decide) only [View.readAt_eq_ld, harg2.read_unread, harg3.read_unread, View.ld_unit_lit,
    View.canon_cons_unit_lit, ↓View.readCov_skip, ↓View.readCov_cons_toLoadRect]

/-- The output block of a later point of a sweep. -/
theorem out_later (hc0 : ¬cond0_0 i) :
    out0_B_2 c i arg2 harg2 arg3 harg3 arg4 harg4 arg5 harg5 hc0 x w v = k0_pay2 v x := by
  unfold out0_B_2
  rw [View.read_writes_junk_eq_canon]
  unfold kernelRun0_B
  dsimp only
  sl_unfold_words
  simp (disch := decide) only [View.readAt_eq_ld, harg2.read_unread, harg5.read_unread, View.ld_unit_lit,
    View.canon_cons_unit_lit]

end Runs

/-- The cast weights at a row and a column. -/
theorem cast_apply (w : Vec Ideal S1x2048x1024 .f32) (k : Fin 2048) (j : Fin 1024) :
    k0_pay1 w (ix2 k j) = w (ix3 0 k j) := by
  unfold k0_pay1
  rw [shapeCast_self]
  exact Cert.Online.unslot_apply w k j

/-- The output block at a row and a column. -/
theorem block_apply (v : Vec Ideal S2048x1024 .bf16) (x : Vec Ideal S1024x2048 .bf16) (i j : Fin 1024) :
    k0_pay2 v x (ix2 i j) = relu2 (∑ k : Fin 2048, x (ix2 i k) * v (ix2 k j)) :=
  congrArg relu2 (Cert.Online.matmul_apply (φ₁ := .bf16) (φ₂ := .bf16) x v i j)

end Cert.FfnUp

end
-- ==== Proof.FfnUp.Array.lean ====
/-
  What the array of the MLP's first half holds after the run, at a row and a column: the squared positive part of the
  product of the row of the hidden stream and the column of the first layer's weights.
-/
module

public import proofs.«01_k».proof.Proof.FfnUp.Block

@[expose] public section

set_option maxRecDepth 16384

noncomputable section

namespace Cert.FfnUp

open Cert.Kernel4Ideal Cert.Kernel4Ideal.Gen Cert.Kernel4Ideal.Value Cert.Dense
open Idealize.ShloMosaic Idealize.ShloMosaic.TcCoe Idealize.SL.Sem

/-- The result at a row and a column. -/
def output (h : Vec Ideal S8192x2048 .bf16) (w : Vec Ideal S2x2048x8192 .f32) (row col : Fin 8192) : EReal :=
  relu2 (product h w row col)

theorem index0 : ∀ t : Fin cfg0.N, win0_0.index t = ![t.val % 8, 0] :=
  (by decide +kernel : ∀ t : Fin grid0.N, win0_0.index t = ![t.val % 8, 0])
theorem index1 : ∀ t : Fin cfg0.N, win0_1.index t = ![0, 0, t.val / 8] :=
  (by decide +kernel : ∀ t : Fin grid0.N, win0_1.index t = ![0, 0, t.val / 8])
theorem index2 : ∀ t : Fin cfg0.N, win0_2.index t = ![t.val % 8, t.val / 8] :=
  (by decide +kernel : ∀ t : Fin grid0.N, win0_2.index t = ![t.val % 8, t.val / 8])

variable (m : (ℓ : Loc nD τ sig) → Buf (Elt Ideal) ℓ) (c : Dev nD)

/-- The grid has 64 points. -/
theorem point_lt (t : Fin cfg0.N) : t.val < 64 := t.isLt

theorem rows_at (t : Fin cfg0.N) (i : Fin 1024) (k : Fin 2048) :
    iblk m c 0 t (ix2 i k) = m ((c : Thread nD τ).loc main_arg0) (ix2 ⟨1024 * (t.val % 8) + i, by omega⟩ k) := by
  blk_ext! [iblk, V, index0 t]

theorem weights_at (t : Fin cfg0.N) (k : Fin 2048) (j : Fin 1024) :
    iblk m c 1 t (ix3 0 k j) = m ((c : Thread nD τ).loc main_arg1)
      (ix3 0 k ⟨1024 * (t.val / 8) + j, by have := point_lt t; omega⟩) := by
  blk_ext! [iblk, V, index1 t]

/-- What the first point of a sweep leaves. -/
theorem outs_first (t : Fin cfg0.N) (h0 : t.val % 8 = 0) : outsAt0 m c t.val t.isLt
    = (k0_pay2 (k0_pay1 (iblk m c 1 t)) (iblk m c 0 t), k0_pay1 (iblk m c 1 t)) := by
  rw [outsAt0_A m c t h0, scratch_first, out_first]

/-- What a later point of a sweep leaves. -/
theorem outs_later (t : Fin cfg0.N) (h0 : ¬t.val % 8 = 0) : outsAt0 m c t.val t.isLt
    = (k0_pay2 (outsAt0 m c (t.val - 1) (Nat.lt_of_le_of_lt (Nat.sub_le _ _) t.isLt)).2 (iblk m c 0 t),
      (outsAt0 m c (t.val - 1) (Nat.lt_of_le_of_lt (Nat.sub_le _ _) t.isLt)).2) := by
  rw [outsAt0_B m c t h0, out_later]
  rfl

theorem scratch_sweep (t : Fin cfg0.N) (h0 : t.val % 8 = 0) (k : Fin 2048) (j : Fin 1024) :
    (outsAt0 m c t.val t.isLt).2 (ix2 k j) = m ((c : Thread nD τ).loc main_arg1)
      (ix3 0 k ⟨1024 * (t.val / 8) + j, by have := point_lt t; omega⟩) := by
  rw [outs_first m c t h0]
  show k0_pay1 (iblk m c 1 t) (ix2 k j) = _
  rw [cast_apply]
  exact weights_at m c t k j

/-- After every point of a sweep the scratch holds the sweep's columns of the weights. -/
theorem scratch_at (n : ℕ) (hn : n < cfg0.N) (k : Fin 2048) (j : Fin 1024) :
    (outsAt0 m c n hn).2 (ix2 k j) = m ((c : Thread nD τ).loc main_arg1)
      (ix3 0 k ⟨1024 * (n / 8) + j, by have := point_lt ⟨n, hn⟩; simp only at this; omega⟩) := by
  induction n with
  | zero => exact scratch_sweep m c ⟨0, hn⟩ (Nat.zero_mod _) k j
  | succ n ih =>
    by_cases h0 : (n + 1) % 8 = 0
    · exact scratch_sweep m c ⟨n + 1, hn⟩ h0 k j
    · rw [outs_later m c ⟨n + 1, hn⟩ h0]
      refine (ih (Nat.lt_of_succ_lt hn)).trans (congrArg _ ?_)
      congr 1
      exact Fin.ext (by show 1024 * (n / 8) + j.val = 1024 * ((n + 1) / 8) + j.val; omega)

/-- The output block after a point, at a row and a column. -/
theorem block_at (t : Fin cfg0.N) (i j : Fin 1024) (row col : Fin 8192) (hr : 1024 * (t.val % 8) + i.val = row.val)
    (hc : 1024 * (t.val / 8) + j.val = col.val) :
    (outsAt0 m c t.val t.isLt).1 (ix2 i j)
      = output (m ((c : Thread nD τ).loc main_arg0)) (m ((c : Thread nD τ).loc main_arg1)) row col := by
  have := point_lt t
  rw [show row = ⟨1024 * (t.val % 8) + i, by omega⟩ from Fin.ext hr.symm,
    show col = ⟨1024 * (t.val / 8) + j, by omega⟩ from Fin.ext hc.symm]
  by_cases h0 : t.val % 8 = 0
  · rw [outs_first m c t h0]
    refine (block_apply _ _ i j).trans (congrArg relu2 ?_)
    exact Finset.sum_congr rfl fun k _ => congrArg₂ (· * ·) (rows_at m c t i k)
      ((cast_apply _ k j).trans (weights_at m c t k j))
  · rw [outs_later m c t h0]
    refine (block_apply _ _ i j).trans (congrArg relu2 ?_)
    refine Finset.sum_congr rfl fun k _ => congrArg₂ (· * ·) (rows_at m c t i k)
      ((scratch_at m c (t.val - 1) _ k j).trans (congrArg _ ?_))
    congr 1
    exact Fin.ext (by show 1024 * ((t.val - 1) / 8) + j.val = 1024 * (t.val / 8) + j.val; omega)

/-- The result array after the run, at a row and a column. -/
theorem array_apply (row col : Fin 8192) : (dats m 0 c).arrAt 2 cfg0.N (ix2 row col)
    = output (m ((c : Thread nD τ).loc main_arg0)) (m ((c : Thread nD τ).loc main_arg1)) row col := by
  obtain ⟨t, ht⟩ : ∃ t : Fin cfg0.N, t.val = col.val / 1024 * 8 + row.val / 1024 :=
    ⟨⟨col.val / 1024 * 8 + row.val / 1024, by show _ < 64; omega⟩, rfl⟩
  have hb := congrFun (blocks2 m c t (flush0_2 t)) (ix2 ⟨row.val % 1024, by omega⟩ ⟨col.val % 1024, by omega⟩)
  rw [flushed2, Pipeline.Window.cut_apply] at hb
  replace hb := hb.trans (block_at m c t ⟨row.val % 1024, by omega⟩ ⟨col.val % 1024, by omega⟩ row col
    (by show 1024 * (t.val % 8) + row.val % 1024 = row.val; omega)
    (by show 1024 * (t.val / 8) + col.val % 1024 = col.val; omega))
  have he : ((cfg0.win 2).blk t).view.read (Elt Ideal) ((dats m 0 c).arrAt 2 cfg0.N)
      (ix2 ⟨row.val % 1024, by omega⟩ ⟨col.val % 1024, by omega⟩) = (dats m 0 c).arrAt 2 cfg0.N (ix2 row col) := by
    generalize (dats m 0 c).arrAt 2 cfg0.N = A
    blk_ext! [index2 t]
  rw [← he, hb]

end Cert.FfnUp

end
-- ==== Proof.FfnUp.Claim.lean ====
/-
  The value claim of the MLP's first half: the kernel's array and the reference's are the same function of the
  arguments.
-/
module

public import proofs.«01_k».proof.Proof.FfnUp.Array
public import proofs.«01_k».proof.Proof.Gen.Reference4Ideal.Read
public import proofs.«01_k».proof.Defs

@[expose] public section

noncomputable section

namespace Cert.FfnUp

open Idealize.ShloMosaic Idealize.ShloMosaic.TcCoe Idealize.SL.Sem Cert.Dense

open Cert.Reference4Ideal.Read in
/-- The reference's result. -/
theorem reference_apply (h : Vec Ideal Cert.Kernel4Ideal.S8192x2048 .bf16)
    (w : Vec Ideal Cert.Kernel4Ideal.S2x2048x8192 .f32) (row col : Fin 8192) :
    val_main_v7 (F := Ideal) h w (ix2 row col) = output h w row col := by
  have hp : val_main_v3 (F := Ideal) h w (ix2 row col) = product h w row col := by
    refine (val_main_v3_apply h w _).trans (Finset.sum_congr rfl fun k _ => ?_)
    rw [val_main_v0_apply, val_main_v2_apply, val_main_v1_apply]
    refine congrArg₂ (· * ·) (congrArg h ?_) (congrArg w ?_) <;> refine funext fun a => Fin.ext ?_
    · match a with
      | ⟨0, _⟩ => rfl
      | ⟨1, _⟩ => rfl
    · match a with
      | ⟨0, _⟩ => rfl
      | ⟨1, _⟩ => show (k.val * 8192 + col.val) / 8192 % 2048 = k.val; omega
      | ⟨2, _⟩ => show (k.val * 8192 + col.val) % 8192 = col.val; omega
  rw [val_main_v7_apply, val_main_v6_apply, val_main_v5_apply, hp, val_main_v4_apply]
  rfl

theorem algebraic : Cert.algebraic_Kernel4Ideal_Reference4Ideal := by
  intro m g m' g' _ hargs
  refine ⟨fun c i => output (m ((c.tc : Thread _ _).loc Cert.Kernel4Ideal.main_arg0))
    (m ((c.tc : Thread _ _).loc Cert.Kernel4Ideal.main_arg1)) (i 0) (i 1),
    (θ_run _ _ _).mono (fun r h c => ⟨(h c).1.trans ?_, (h c).2⟩) (Cert.Kernel4Ideal.Value.run_blocks m g),
    (θ_run _ _ _).mono (fun r h c => ⟨(h c).1.trans ?_, (h c).2⟩) (Cert.Reference4Ideal.Value.run m' g')⟩
  · funext i
    exact (congrArg _ (ix2_eta i).symm).trans (array_apply m c (i 0) (i 1))
  · obtain ⟨e0, e1⟩ := hargs c
    funext i
    refine (congrFun (Cert.Reference4Ideal.Read.val_main_v7_eq _ _) i).trans ?_
    rw [e0, e1]
    exact (congrArg _ (ix2_eta i).symm).trans (reference_apply _ _ (i 0) (i 1))

end Cert.FfnUp

end
-- ==== Proof.FfnDown.Array.lean ====
/-
  What the array of the MLP's second half holds after the run, at a row and a column: the stream plus the gate times the
  product of the row of activations and the column of the first layer's weights.
-/
module

public import proofs.«01_k».proof.Proof.Gen.Kernel5Ideal.Value
public import proofs.«01_k».proof.Proof.Dense

@[expose] public section

set_option maxRecDepth 16384

noncomputable section

namespace Cert.FfnDown

open Cert.Kernel5Ideal Cert.Kernel5Ideal.Gen Cert.Kernel5Ideal.Value Cert.Dense
open Idealize.ShloMosaic Idealize.ShloMosaic.TcCoe Idealize.SL.Sem

/-- The result at a row and a column: the gate is the sixth of the modulation's six rows. -/
def output (u : Vec Ideal S8192x8192 .bf16) (w : Vec Ideal S2x8192x2048 .f32) (s : Vec Ideal S8192x2048 .f32)
    (mod : Vec Ideal S2x12288 .f32) (row : Fin 8192) (col : Fin 2048) : EReal :=
  s (ix2 row col) + mod (ix2 0 ⟨10240 + col, by omega⟩) * product u w row col

/-- A grid point's output block. -/
theorem out_apply (u : Vec Ideal S1024x8192 .bf16) (w : Vec Ideal S1x8192x256 .bf16) (s : Vec Ideal S1024x256 .f32)
    (g : Vec Ideal S2x256 .f32) (i : Fin 1024) (j : Fin 256) :
    out0_4 u w s g (ix2 i j) = s (ix2 i j) + g (ix2 0 j) * product u w i j := by
  unfold out0_4
  rw [View.canon_cons_unit_lit _ _ _ (by decide), View.ld_unit_lit _ _ (by decide), View.ld_unit_lit _ _ (by decide),
    View.ld_unit_lit _ _ (by decide)]
  exact (residual_apply u w s (View.ld g r0_3) _ i j).trans (by rw [ld_row_apply])

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, 0, t.val % 8] :=
  (by decide +kernel : ∀ t : Fin grid0.N, win0_1.index t = ![0, 0, t.val % 8])
theorem index2 : ∀ t : Fin cfg0.N, win0_2.index t = ![t.val / 8, t.val % 8] :=
  (by decide +kernel : ∀ t : Fin grid0.N, win0_2.index t = ![t.val / 8, t.val % 8])
theorem index3 : ∀ t : Fin cfg0.N, win0_3.index t = ![0, 40 + t.val % 8] :=
  (by decide +kernel : ∀ t : Fin grid0.N, win0_3.index t = ![0, 40 + t.val % 8])
theorem index4 : ∀ t : Fin cfg0.N, win0_4.index t = ![t.val / 8, t.val % 8] :=
  (by decide +kernel : ∀ t : Fin grid0.N, win0_4.index t = ![t.val / 8, t.val % 8])

variable (m : (ℓ : Loc nD τ sig) → Buf (Elt Ideal) ℓ) (c : Dev nD)

/-- The grid has 64 points. -/
theorem point_lt (t : Fin cfg0.N) : t.val < 64 := t.isLt

/-- The weights that the region finds. -/
theorem weights_eq : V m c main_v0
    = (truncf .bf16 (m ((c : Thread nD τ).loc main_arg1) : FVec Ideal S2x8192x2048 .f32) bitsLt_bf16_f32 :
      FVec Ideal S2x8192x2048 .bf16) := by
  show StableHlo.after hostOps0 _ (Proc.devRef .tc main_v0) = _
  after_results

theorem rows_at (t : Fin cfg0.N) (i : Fin 1024) (k : Fin 8192) :
    iblk m c 0 t (ix2 i k) = m ((c : Thread nD τ).loc main_arg0)
      (ix2 ⟨1024 * (t.val / 8) + i, by have := point_lt t; omega⟩ k) := by
  rw [← V_main_arg0 m c]
  blk_ext! [iblk, index0 t]

theorem weights_at (t : Fin cfg0.N) (k : Fin 8192) (j : Fin 256) :
    iblk m c 1 t (ix3 0 k j) = m ((c : Thread nD τ).loc main_arg1) (ix3 0 k ⟨256 * (t.val % 8) + j, by omega⟩) := by
  refine Eq.trans ?_ (congrFun (weights_eq m c) (ix3 0 k ⟨256 * (t.val % 8) + j, by omega⟩))
  blk_ext! [iblk, index1 t]

theorem stream_at (t : Fin cfg0.N) (i : Fin 1024) (j : Fin 256) :
    iblk m c 2 t (ix2 i j) = m ((c : Thread nD τ).loc main_arg2)
      (ix2 ⟨1024 * (t.val / 8) + i, by have := point_lt t; omega⟩ ⟨256 * (t.val % 8) + j, by omega⟩) := by
  rw [← V_main_arg2 m c]
  blk_ext! [iblk, index2 t]

theorem gate_at (t : Fin cfg0.N) (j : Fin 256) :
    iblk m c 3 t (ix2 0 j) = m ((c : Thread nD τ).loc main_arg3) (ix2 0 ⟨256 * (40 + t.val % 8) + j, by omega⟩) := by
  rw [← V_main_arg3 m c]
  blk_ext! [iblk, index3 t]

/-- The result array after the run, at a row and a column. -/
theorem array_apply (row : Fin 8192) (col : Fin 2048) : (dats m 0 c).arrAt 4 cfg0.N (ix2 row col)
    = output (m ((c : Thread nD τ).loc main_arg0)) (m ((c : Thread nD τ).loc main_arg1))
      (m ((c : Thread nD τ).loc main_arg2)) (m ((c : Thread nD τ).loc main_arg3)) row col := by
  obtain ⟨t, ht⟩ : ∃ t : Fin cfg0.N, t.val = row.val / 1024 * 8 + col.val / 256 :=
    ⟨⟨row.val / 1024 * 8 + col.val / 256, by show _ < 64; omega⟩, rfl⟩
  have hb := congrFun (blocks4 m c t (flush0_4 t)) (ix2 ⟨row.val % 1024, by omega⟩ ⟨col.val % 256, by omega⟩)
  rw [flushed4, Pipeline.Window.cut_apply] at hb
  replace hb := hb.trans (out_apply _ _ _ _ ⟨row.val % 1024, by omega⟩ ⟨col.val % 256, by omega⟩)
  have he : ((cfg0.win 4).blk t).view.read (Elt Ideal) ((dats m 0 c).arrAt 4 cfg0.N)
      (ix2 ⟨row.val % 1024, by omega⟩ ⟨col.val % 256, by omega⟩) = (dats m 0 c).arrAt 4 cfg0.N (ix2 row col) := by
    generalize (dats m 0 c).arrAt 4 cfg0.N = A
    blk_ext! [index4 t]
  rw [← he, hb]
  have hi : 1024 * (t.val / 8) + row.val % 1024 = row.val := by omega
  have hj : 256 * (t.val % 8) + col.val % 256 = col.val := by omega
  refine congrArg₂ (· + ·) ((stream_at m c t _ _).trans ?_) (congrArg₂ (· * ·) ((gate_at m c t _).trans ?_)
    (product_congr (fun k => (rows_at m c t _ k).trans ?_) (fun k => (weights_at m c t k _).trans ?_)))
  · congr 2 <;> exact Fin.ext ‹_›
  · congr 2
    exact Fin.ext (by show 256 * (40 + t.val % 8) + col.val % 256 = 10240 + col.val; omega)
  · congr 2
    exact Fin.ext hi
  · congr 2
    exact Fin.ext hj

end Cert.FfnDown

end
-- ==== Proof.FfnDown.Claim.lean ====
/-
  The value claim of the MLP's second half: the kernel's array and the reference's are the same function of the
  arguments.
-/
module

public import proofs.«01_k».proof.Proof.FfnDown.Array
public import proofs.«01_k».proof.Proof.Gen.Reference5Ideal.Read
public import proofs.«01_k».proof.Defs

@[expose] public section

noncomputable section

namespace Cert.FfnDown

open Idealize.ShloMosaic Idealize.ShloMosaic.TcCoe Idealize.SL.Sem Cert.Dense

variable (u : Vec Ideal Cert.Kernel5Ideal.S8192x8192 .bf16) (w : Vec Ideal Cert.Kernel5Ideal.S2x8192x2048 .f32)
  (s : Vec Ideal Cert.Kernel5Ideal.S8192x2048 .f32) (mod : Vec Ideal Cert.Kernel5Ideal.S2x12288 .f32)
  (row : Fin 8192) (col : Fin 2048)

open Cert.Reference5Ideal.Read

/-- The reference's product. -/
theorem reference_product : val_main_v10 (F := Ideal) u w (ix2 row col) = product u w row col := by
  refine (val_main_v10_apply u w _).trans (Finset.sum_congr rfl fun k _ => ?_)
  rw [val_main_v7_apply, val_main_v9_apply, val_main_v8_apply]
  refine congrArg₂ (· * ·) (congrArg u ?_) (congrArg w ?_) <;> refine funext fun a => Fin.ext ?_
  · match a with
    | ⟨0, _⟩ => rfl
    | ⟨1, _⟩ => rfl
  · match a with
    | ⟨0, _⟩ => rfl
    | ⟨1, _⟩ => show (k.val * 2048 + col.val) / 2048 % 8192 = k.val; omega
    | ⟨2, _⟩ => show (k.val * 2048 + col.val) % 2048 = col.val; omega

/-- The reference's gate. -/
theorem reference_gate : val_main_v11 (F := Ideal) mod (ix2 row col) = mod (ix2 0 ⟨10240 + col, by omega⟩) := by
  rw [val_main_v11_apply, val_main_v6_apply, val_main_v0_apply]
  refine congrArg mod (funext fun a => Fin.ext ?_)
  match a with
  | ⟨0, _⟩ => rfl
  | ⟨1, _⟩ => rfl

/-- The reference's result. -/
theorem reference_apply : val_main_v13 (F := Ideal) u w s mod (ix2 row col) = output u w s mod row col := by
  rw [val_main_v13_apply, val_main_v12_apply, reference_product, reference_gate]
  rfl

theorem algebraic : Cert.algebraic_Kernel5Ideal_Reference5Ideal := by
  intro m g m' g' _ hargs
  refine ⟨fun c i => output (m ((c.tc : Thread _ _).loc Cert.Kernel5Ideal.main_arg0))
    (m ((c.tc : Thread _ _).loc Cert.Kernel5Ideal.main_arg1)) (m ((c.tc : Thread _ _).loc Cert.Kernel5Ideal.main_arg2))
    (m ((c.tc : Thread _ _).loc Cert.Kernel5Ideal.main_arg3)) (i 0) (i 1),
    (θ_run _ _ _).mono (fun r h c => ⟨(h c).1.trans ?_, (h c).2⟩) (Cert.Kernel5Ideal.Value.run_blocks m g),
    (θ_run _ _ _).mono (fun r h c => ⟨(h c).1.trans ?_, (h c).2⟩) (Cert.Reference5Ideal.Value.run m' g')⟩
  · funext i
    exact (congrArg _ (ix2_eta i).symm).trans (array_apply m c (i 0) (i 1))
  · obtain ⟨e0, e1, e2, e3⟩ := hargs c
    funext i
    refine (congrFun (val_main_v13_eq _ _ _ _) i).trans ?_
    rw [e0, e1, e2, e3]
    exact (congrArg _ (ix2_eta i).symm).trans (reference_apply _ _ _ _ (i 0) (i 1))

end Cert.FfnDown

end
-- ==== Proof.Norm.lean ====
/-
  The root-mean-square scale of a row over the extended reals, as the norms of the layer use it.
-/
module

public import proofs.«01_k».proof.Proof.Dense

@[expose] public section

noncomputable section

namespace Cert.Norm

open Idealize.ShloMosaic

/-- One over the root of the mean of the squares of 2048 numbers, with the norm's small constant added to the mean. -/
def scale (y : Fin 2048 → EReal) : EReal :=
  FloatOps.rsqrt (F := Ideal) (φ := .f32) (FloatOps.addf (FloatOps.divf (∑ k, y k * y k : EReal)
    (FloatOps.ofBits .f32 0x45000000#32)) (FloatOps.ofBits .f32 0x358637BD#32))

variable {n r : ℕ}

/-- The sum of the squares of a row. -/
theorem squares_apply (y : FVec Ideal ⟨2, ![n, r]⟩ .f32) (h : Shape.Reduces ⟨2, ![n, r]⟩ [1] ⟨1, ![n]⟩)
    (hφ : FKind.Formats .f32) (hacc : (0x00000000#32 : BitVec 32) = FKind.add.neutral .f32 hφ) (i : Fin n) :
    multiReduction .add [1] ⟨1, ![n]⟩ (mulf y y) 0x00000000#32 h hφ hacc (ix1 i)
      = ∑ k : Fin r, y (ix2 i k) * y (ix2 i k) :=
  (Ideal.multiReduction_add_single (mulf y y) _ h _ _ (ix1 i)).trans (Finset.sum_congr rfl fun k _ =>
    show mulf y y (h.lift (ix1 i) k) = mulf y y (ix2 i k) from congrArg _ (funext fun a => Fin.ext (by
      match a with
      | ⟨0, _⟩ => rfl
      | ⟨1, _⟩ => rfl)))

end Cert.Norm

end
-- ==== Proof.OutProj.Array.lean ====
/-
  What the two arrays of the output projection hold after the run, at a row and a column: the stream with the gated
  product added, and the norm of that row, modulated for the MLP.
-/
module

public import proofs.«01_k».proof.Proof.Gen.Kernel6Ideal.Value
public import proofs.«01_k».proof.Proof.Norm

@[expose] public section

set_option maxRecDepth 16384

noncomputable section

namespace Cert.OutProj

open Cert.Kernel6Ideal Cert.Kernel6Ideal.Gen Cert.Kernel6Ideal.Value Cert.Dense Cert.Norm
open Idealize.ShloMosaic Idealize.ShloMosaic.TcCoe Idealize.SL.Sem

/-- The stream after the projection, at a row and a column: the gate is the third of the modulation's six rows. -/
def stream (u : Vec Ideal S8192x2048 .bf16) (w : Vec Ideal S2x2048x2048 .f32) (s : Vec Ideal S8192x2048 .f32)
    (mod : Vec Ideal S2x12288 .f32) (row : Fin 8192) (col : Fin 2048) : EReal :=
  s (ix2 row col) + mod (ix2 0 ⟨4096 + col, by omega⟩) * product u w row col

/-- The number `y` of a row, normed by its scale and modulated. -/
def modulate (y : Fin 2048 → EReal) (col : Fin 2048) (g sc sh : EReal) : EReal :=
  y col * scale y * (g * (FloatOps.ofBits (F := Ideal) .f32 0x3F800000#32 + sc)) + sh

/-- The MLP's input at a row and a column: the shift and the scale are the modulation's fourth and fifth rows. -/
def hidden (u : Vec Ideal S8192x2048 .bf16) (w : Vec Ideal S2x2048x2048 .f32) (s : Vec Ideal S8192x2048 .f32)
    (mod : Vec Ideal S2x12288 .f32) (g : Vec Ideal S2x2048 .f32) (row : Fin 8192) (col : Fin 2048) : EReal :=
  modulate (stream u w s mod row) col (g (ix2 0 col)) (mod (ix2 0 ⟨8192 + col, by omega⟩))
    (mod (ix2 0 ⟨6144 + col, by omega⟩))

/-! ## A grid point's output blocks -/

variable (u : Vec Ideal S512x2048 .bf16) (w : Vec Ideal S1x2048x2048 .bf16) (s : Vec Ideal S512x2048 .f32)
  (g : Vec Ideal S2x2048 .f32) (n : Vec Ideal S1x2048 .f32) (sh sc : Vec Ideal S2x2048 .f32) (i : Fin 512) (j : Fin 2048)

/-- A row of the block of the stream. -/
def blockRow (j : Fin 2048) : EReal := s (ix2 i j) + g (ix2 0 j) * product u w i j

theorem payload_apply (j : Fin 2048) : k0_pay1 w u s (View.ld g r0_2) (ix2 i j) = blockRow u w s g i j :=
  (residual_apply u w s (View.ld g r0_2) _ i j).trans (by rw [ld_row_apply]; rfl)

theorem out_stream_apply : out0_7 u w s g n sh sc (ix2 i j) = blockRow u w s g i j := by
  unfold out0_7
  rw [View.canon_cons_unit_lit _ _ _ (by decide), View.ld_unit_lit _ _ (by decide), View.ld_unit_lit _ _ (by decide),
    View.ld_unit_lit _ _ (by decide)]
  exact payload_apply u w s g i j

theorem out_hidden_apply : out0_8 u w s g n sh sc (ix2 i j)
    = modulate (blockRow u w s g i) j (n (ix2 0 j)) (sc (ix2 0 j)) (sh (ix2 0 j)) := by
  unfold out0_8
  rw [canon8_eq, View.ld_unit_lit _ _ (by decide), View.ld_unit_lit _ _ (by decide), View.ld_unit_lit _ _ (by decide),
    View.ld_unit_lit _ _ (by decide)]
  have hp := payload_apply u w s g i
  have e0 : ix8_0 (ix2 i j) = ix2 i j := funext fun a => by match a with | ⟨0, _⟩ => rfl | ⟨1, _⟩ => rfl
  have e1 : ix8_1 (ix2 i j) = ix1 i := funext fun a => by match a with | ⟨0, _⟩ => rfl
  have e2 : ix8_2 (ix2 i j) = ix2 0 j := funext fun a => by match a with | ⟨0, _⟩ => rfl | ⟨1, _⟩ => rfl
  have e3 : ix8_3 (ix2 i j) = ix2 0 j := funext fun a => by match a with | ⟨0, _⟩ => rfl | ⟨1, _⟩ => rfl
  have e4 : ix8_4 (ix2 i j) = ix2 0 j := funext fun a => by match a with | ⟨0, _⟩ => rfl | ⟨1, _⟩ => rfl
  have hs := (squares_apply (k0_pay1 w u s (View.ld g r0_2)) reduces_S512x2048_S512 (.inl rfl) rfl i).trans
    (Finset.sum_congr rfl fun k _ => by rw [hp k])
  unfold E8
  rw [e0, e1, e2, e3, e4]
  exact congrArg₂ (· + ·) (congrArg₂ (· * ·) (congrArg₂ (· * ·) (hp j) (congrArg (fun z : EReal => FloatOps.rsqrt
      (F := Ideal) (φ := .f32) (FloatOps.addf (FloatOps.divf z (FloatOps.ofBits .f32 0x45000000#32))
        (FloatOps.ofBits .f32 0x358637BD#32))) hs))
    (congrArg (fun z : EReal => n (ix2 0 j) * (FloatOps.ofBits (F := Ideal) .f32 0x3F800000#32 + z))
      (ld_row_apply sc _ j))) (ld_row_apply sh _ j)

/-! ## A grid point's blocks in the arrays -/

theorem index0 : ∀ t : Fin cfg0.N, win0_0.index t = ![t.val, 0] :=
  (by decide +kernel : ∀ t : Fin grid0.N, win0_0.index t = ![t.val, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 2] :=
  (by decide +kernel : ∀ t : Fin grid0.N, win0_3.index t = ![0, 2])
theorem index4 : ∀ t : Fin cfg0.N, win0_4.index t = ![0, 0] :=
  (by decide +kernel : ∀ t : Fin grid0.N, win0_4.index t = ![0, 0])
theorem index5 : ∀ t : Fin cfg0.N, win0_5.index t = ![0, 3] :=
  (by decide +kernel : ∀ t : Fin grid0.N, win0_5.index t = ![0, 3])
theorem index6 : ∀ t : Fin cfg0.N, win0_6.index t = ![0, 4] :=
  (by decide +kernel : ∀ t : Fin grid0.N, win0_6.index t = ![0, 4])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

variable (m : (ℓ : Loc nD τ sig) → Buf (Elt Ideal) ℓ) (c : Dev nD)

/-- The grid has 16 points. -/
theorem point_lt (t : Fin cfg0.N) : t.val < 16 := t.isLt

/-- The weights that the region finds. -/
theorem weights_eq : V m c main_v0
    = (truncf .bf16 (m ((c : Thread nD τ).loc main_arg1) : FVec Ideal S2x2048x2048 .f32) bitsLt_bf16_f32 :
      FVec Ideal S2x2048x2048 .bf16) := by
  show StableHlo.after hostOps0 _ (Proc.devRef .tc main_v0) = _
  after_results

/-- The norm's gains that the region finds. -/
theorem gains_eq : V m c main_v3
    = (extractStridedSlice S1x2048 ![0, 0] (m ((c : Thread nD τ).loc main_arg4) : FVec Ideal S2x2048 .f32)
      slices_S2x2048_S1x2048_0_0 : FVec Ideal S1x2048 .f32) := by
  have h : V m c main_v3 = (shapeCast S1x2048 (shapeCast S2048 (extractStridedSlice S1x2048 ![0, 0]
      (m ((c : Thread nD τ).loc main_arg4) : FVec Ideal S2x2048 .f32) slices_S2x2048_S1x2048_0_0 : FVec Ideal S1x2048 .f32)
      shapeCasts_S1x2048_S2048 : FVec Ideal S2048 .f32) shapeCasts_S2048_S1x2048 : FVec Ideal S1x2048 .f32) := by
    show StableHlo.after hostOps0 _ (Proc.devRef .tc main_v3) = _
    after_results
    rfl
  rw [h, shapeCast_shapeCast]

theorem rows_at (t : Fin cfg0.N) (i : Fin 512) (k : Fin 2048) :
    iblk m c 0 t (ix2 i k) = m ((c : Thread nD τ).loc main_arg0)
      (ix2 ⟨512 * t.val + i, by have := point_lt t; omega⟩ k) := by
  rw [← V_main_arg0 m c]
  blk_ext! [iblk, index0 t]

theorem weights_at (t : Fin cfg0.N) (k : Fin 2048) (j : Fin 2048) :
    iblk m c 1 t (ix3 0 k j) = m ((c : Thread nD τ).loc main_arg1) (ix3 0 k j) := by
  refine Eq.trans ?_ (congrFun (weights_eq m c) (ix3 0 k j))
  blk_ext! [iblk, index1 t]

theorem stream_at (t : Fin cfg0.N) (i : Fin 512) (j : Fin 2048) :
    iblk m c 2 t (ix2 i j) = m ((c : Thread nD τ).loc main_arg2)
      (ix2 ⟨512 * t.val + i, by have := point_lt t; omega⟩ j) := by
  rw [← V_main_arg2 m c]
  blk_ext! [iblk, index2 t]

theorem gate_at (t : Fin cfg0.N) (j : Fin 2048) :
    iblk m c 3 t (ix2 0 j) = m ((c : Thread nD τ).loc main_arg3) (ix2 0 ⟨4096 + j, by omega⟩) := by
  rw [← V_main_arg3 m c]
  blk_ext! [iblk, index3 t]

theorem gain_at (t : Fin cfg0.N) (j : Fin 2048) :
    iblk m c 4 t (ix2 0 j) = m ((c : Thread nD τ).loc main_arg4) (ix2 0 j) := by
  have hv : V m c main_v3 (ix2 0 j) = m ((c : Thread nD τ).loc main_arg4) (ix2 0 j) := by
    rw [gains_eq]
    exact extractStridedSlice_apply _ _ slices_S2x2048_S1x2048_0_0 (ix2 0 j) (ix2 0 j) fun a => by
      match a with
      | ⟨0, _⟩ => rfl
      | ⟨1, _⟩ => exact (Nat.zero_add _).symm
  refine Eq.trans ?_ hv
  blk_ext! [iblk, index4 t]

theorem shift_at (t : Fin cfg0.N) (j : Fin 2048) :
    iblk m c 5 t (ix2 0 j) = m ((c : Thread nD τ).loc main_arg3) (ix2 0 ⟨6144 + j, by omega⟩) := by
  rw [← V_main_arg3 m c]
  blk_ext! [iblk, index5 t]

theorem scale_at (t : Fin cfg0.N) (j : Fin 2048) :
    iblk m c 6 t (ix2 0 j) = m ((c : Thread nD τ).loc main_arg3) (ix2 0 ⟨8192 + j, by omega⟩) := by
  rw [← V_main_arg3 m c]
  blk_ext! [iblk, index6 t]

/-- A row of a grid point's block of the stream is a row of the array. -/
theorem blockRow_at (t : Fin cfg0.N) (i : Fin 512) (row : Fin 8192) (h : 512 * t.val + i.val = row.val) :
    blockRow (iblk m c 0 t) (iblk m c 1 t) (iblk m c 2 t) (iblk m c 3 t) i
      = stream (m ((c : Thread nD τ).loc main_arg0)) (m ((c : Thread nD τ).loc main_arg1))
        (m ((c : Thread nD τ).loc main_arg2)) (m ((c : Thread nD τ).loc main_arg3)) row := by
  rw [show row = ⟨512 * t.val + i, by have := point_lt t; omega⟩ from Fin.ext h.symm]
  funext j
  exact congrArg₂ (· + ·) (stream_at m c t i j) (congrArg₂ (· * ·) (gate_at m c t j)
    (product_congr (fun k => rows_at m c t i k) (fun k => weights_at m c t k j)))

/-! ## The arrays -/

/-- The array of the stream after the run, at a row and a column. -/
theorem stream_apply (row : Fin 8192) (col : Fin 2048) : (dats m 0 c).arrAt 7 cfg0.N (ix2 row col)
    = stream (m ((c : Thread nD τ).loc main_arg0)) (m ((c : Thread nD τ).loc main_arg1))
      (m ((c : Thread nD τ).loc main_arg2)) (m ((c : Thread nD τ).loc main_arg3)) row col := by
  obtain ⟨t, ht⟩ : ∃ t : Fin cfg0.N, t.val = row.val / 512 := ⟨⟨row.val / 512, by show _ < 16; omega⟩, rfl⟩
  have hb := congrFun (blocks7 m c t (flush0_7 t)) (ix2 ⟨row.val % 512, by omega⟩ col)
  rw [flushed7, Pipeline.Window.cut_apply] at hb
  replace hb := hb.trans (out_stream_apply _ _ _ _ _ _ _ ⟨row.val % 512, by omega⟩ col)
  have he : ((cfg0.win 7).blk t).view.read (Elt Ideal) ((dats m 0 c).arrAt 7 cfg0.N)
      (ix2 ⟨row.val % 512, by omega⟩ col) = (dats m 0 c).arrAt 7 cfg0.N (ix2 row col) := by
    generalize (dats m 0 c).arrAt 7 cfg0.N = A
    blk_ext! [index7 t]
  rw [← he, hb, blockRow_at m c t _ row (by show 512 * t.val + row.val % 512 = row.val; omega)]

/-- The array of the MLP's input after the run, at a row and a column. -/
theorem hidden_apply (row : Fin 8192) (col : Fin 2048) : (dats m 0 c).arrAt 8 cfg0.N (ix2 row col)
    = hidden (m ((c : Thread nD τ).loc main_arg0)) (m ((c : Thread nD τ).loc main_arg1))
      (m ((c : Thread nD τ).loc main_arg2)) (m ((c : Thread nD τ).loc main_arg3))
      (m ((c : Thread nD τ).loc main_arg4)) row col := by
  obtain ⟨t, ht⟩ : ∃ t : Fin cfg0.N, t.val = row.val / 512 := ⟨⟨row.val / 512, by show _ < 16; omega⟩, rfl⟩
  have hb := congrFun (blocks8 m c t (flush0_8 t)) (ix2 ⟨row.val % 512, by omega⟩ col)
  rw [flushed8, Pipeline.Window.cut_apply] at hb
  replace hb := hb.trans (out_hidden_apply _ _ _ _ _ _ _ ⟨row.val % 512, by omega⟩ col)
  have he : ((cfg0.win 8).blk t).view.read (Elt Ideal) ((dats m 0 c).arrAt 8 cfg0.N)
      (ix2 ⟨row.val % 512, by omega⟩ col) = (dats m 0 c).arrAt 8 cfg0.N (ix2 row col) := by
    generalize (dats m 0 c).arrAt 8 cfg0.N = A
    blk_ext! [index8 t]
  rw [← he, hb, blockRow_at m c t _ row (by show 512 * t.val + row.val % 512 = row.val; omega), gain_at, shift_at,
    scale_at]
  rfl

end Cert.OutProj

end
-- ==== Proof.OutProj.Claim.lean ====
/-
  The value claim of the output projection: both arrays of the kernel and both of the reference are the same functions
  of the arguments.
-/
module

public import proofs.«01_k».proof.Proof.OutProj.Array
public import proofs.«01_k».proof.Proof.Gen.Reference6Ideal.Read
public import proofs.«01_k».proof.Defs

@[expose] public section

noncomputable section

namespace Cert.OutProj

open Idealize.ShloMosaic Idealize.ShloMosaic.TcCoe Idealize.SL.Sem Cert.Dense Cert.Norm

variable (u : Vec Ideal Cert.Kernel6Ideal.S8192x2048 .bf16) (w : Vec Ideal Cert.Kernel6Ideal.S2x2048x2048 .f32)
  (s : Vec Ideal Cert.Kernel6Ideal.S8192x2048 .f32) (mod : Vec Ideal Cert.Kernel6Ideal.S2x12288 .f32)
  (g : Vec Ideal Cert.Kernel6Ideal.S2x2048 .f32) (row : Fin 8192) (col : Fin 2048)

open Cert.Reference6Ideal.Read

/-- The reference's product. -/
theorem reference_product : val_main_v10 (F := Ideal) u w (ix2 row col) = product u w row col := by
  refine (val_main_v10_apply u w _).trans (Finset.sum_congr rfl fun k _ => ?_)
  rw [val_main_v7_apply, val_main_v9_apply, val_main_v8_apply]
  refine congrArg₂ (· * ·) (congrArg u ?_) (congrArg w ?_) <;> refine funext fun a => Fin.ext ?_
  · match a with
    | ⟨0, _⟩ => rfl
    | ⟨1, _⟩ => rfl
  · match a with
    | ⟨0, _⟩ => rfl
    | ⟨1, _⟩ => show (k.val * 2048 + col.val) / 2048 % 2048 = k.val; omega
    | ⟨2, _⟩ => show (k.val * 2048 + col.val) % 2048 = col.val; omega

/-- The reference's gate. -/
theorem reference_gate : val_main_v11 (F := Ideal) mod (ix2 row col) = mod (ix2 0 ⟨4096 + col, by omega⟩) := by
  rw [val_main_v11_apply, val_main_v3_apply, val_main_v0_apply]
  exact congrArg mod (funext fun a => by match a with | ⟨0, _⟩ => rfl | ⟨1, _⟩ => rfl)

/-- The reference's shift. -/
theorem reference_shift : val_main_v33 (F := Ideal) mod (ix2 row col) = mod (ix2 0 ⟨6144 + col, by omega⟩) := by
  rw [val_main_v33_apply, val_main_v4_apply, val_main_v0_apply]
  exact congrArg mod (funext fun a => by match a with | ⟨0, _⟩ => rfl | ⟨1, _⟩ => rfl)

/-- One plus the reference's scale. -/
theorem reference_scale : val_main_v31 (F := Ideal) mod (ix2 row col)
    = FloatOps.ofBits (F := Ideal) .f32 0x3F800000#32 + mod (ix2 0 ⟨8192 + col, by omega⟩) := by
  rw [val_main_v31_apply, val_main_v30_apply, val_main_v5_apply, val_main_v0_apply, val_main_v29_apply]
  exact congrArg (fun z : EReal => FloatOps.ofBits (F := Ideal) .f32 0x3F800000#32 + z)
    (congrArg mod (funext fun a => by match a with | ⟨0, _⟩ => rfl | ⟨1, _⟩ => rfl))

/-- The reference's gain. -/
theorem reference_gain : val_main_v27 (F := Ideal) g (ix2 row col) = g (ix2 0 col) := by
  rw [val_main_v27_apply, val_main_v26_apply, val_main_v15_apply, val_main_v14_apply]
  refine congrArg g (funext fun a => Fin.ext ?_)
  match a with
  | ⟨0, _⟩ => rfl
  | ⟨1, _⟩ => show col.val % 2048 = col.val; omega

/-- The reference's first result. -/
theorem reference_stream : val_main_v13 (F := Ideal) u w s mod (ix2 row col) = stream u w s mod row col := by
  rw [val_main_v13_apply, val_main_v12_apply, reference_product, reference_gate]
  rfl

/-- The scale of a row of the reference's first result. -/
theorem reference_rms : val_main_v24 (F := Ideal) u w s mod (ix2 row col) = scale (stream u w s mod row) := by
  rw [val_main_v24_apply, val_main_v23_apply, val_main_v22_apply, val_main_v20_apply, val_main_v18_apply,
    val_main_v19_apply, val_main_v21_apply]
  have hs : val_main_v17 (F := Ideal) u w s mod (idx_main_v18 (idx_main_v24 (ix2 row col)))
      = ∑ k, stream u w s mod row k * stream u w s mod row k := by
    refine (val_main_v17_apply u w s mod _).trans ?_
    rw [val_main_cst_apply, show FloatOps.ofBits (F := Ideal) .f32 0x00000000#32 = (0 : EReal)
      from Ideal.ofBits_zero_f32, zero_add]
    refine Finset.sum_congr rfl fun k _ => ?_
    rw [show idx_main_v17 (idx_main_v18 (idx_main_v24 (ix2 row col))) k = ix2 row k from funext fun a => by
      match a with
      | ⟨0, _⟩ => rfl
      | ⟨1, _⟩ => rfl, val_main_v16_apply, reference_stream]
    rfl
  rw [hs]
  rfl

/-- The reference's second result. -/
theorem reference_hidden : val_main_v35 (F := Ideal) u w s mod g (ix2 row col) = hidden u w s mod g row col := by
  rw [val_main_v35_apply, val_main_v34_apply, val_main_v32_apply, val_main_v28_apply, val_main_v25_apply,
    reference_stream, reference_rms, reference_gain, reference_scale, reference_shift]
  exact congrArg (fun z : EReal => z + mod (ix2 0 ⟨6144 + col, by omega⟩)) (mul_assoc (_ : EReal) _ _)

theorem algebraic : Cert.algebraic_Kernel6Ideal_Reference6Ideal := by
  intro r g r' g' _ hargs
  refine ⟨fun c i => stream (r ((c.tc : Thread _ _).loc Cert.Kernel6Ideal.main_arg0))
    (r ((c.tc : Thread _ _).loc Cert.Kernel6Ideal.main_arg1)) (r ((c.tc : Thread _ _).loc Cert.Kernel6Ideal.main_arg2))
    (r ((c.tc : Thread _ _).loc Cert.Kernel6Ideal.main_arg3)) (i 0) (i 1),
    fun c i => hidden (r ((c.tc : Thread _ _).loc Cert.Kernel6Ideal.main_arg0))
    (r ((c.tc : Thread _ _).loc Cert.Kernel6Ideal.main_arg1)) (r ((c.tc : Thread _ _).loc Cert.Kernel6Ideal.main_arg2))
    (r ((c.tc : Thread _ _).loc Cert.Kernel6Ideal.main_arg3)) (r ((c.tc : Thread _ _).loc Cert.Kernel6Ideal.main_arg4))
    (i 0) (i 1),
    (θ_run _ _ _).mono (fun _ h c => ⟨(h c).1.trans ?_, (h c).2.1.trans ?_, (h c).2.2⟩)
      (Cert.Kernel6Ideal.Value.run_blocks r g),
    (θ_run _ _ _).mono (fun _ h c => ⟨(h c).1.trans ?_, (h c).2.1.trans ?_, (h c).2.2⟩)
      (Cert.Reference6Ideal.Value.run r' g')⟩
  · funext i
    exact (congrArg _ (ix2_eta i).symm).trans (stream_apply r c (i 0) (i 1))
  · funext i
    exact (congrArg _ (ix2_eta i).symm).trans (hidden_apply r c (i 0) (i 1))
  · obtain ⟨e0, e1, e2, e3, e4⟩ := hargs c
    funext i
    refine (congrFun (val_main_v13_eq _ _ _ _) i).trans ?_
    rw [e0, e1, e2, e3]
    exact (congrArg _ (ix2_eta i).symm).trans (reference_stream _ _ _ _ (i 0) (i 1))
  · obtain ⟨e0, e1, e2, e3, e4⟩ := hargs c
    funext i
    refine (congrFun (val_main_v35_eq _ _ _ _ _) i).trans ?_
    rw [e0, e1, e2, e3, e4]
    exact (congrArg _ (ix2_eta i).symm).trans (reference_hidden _ _ _ _ _ (i 0) (i 1))

end Cert.OutProj

end
-- ==== Proof.Merge.Block.lean ====
/-
  The merge of the four branches at a grid point: what one output block holds, at a row and a column, in terms of the
  point's input blocks.
-/
module

public import proofs.«01_k».proof.Proof.Gen.Kernel7Ideal.Value
public import proofs.«01_k».proof.Proof.Dense

@[expose] public section

set_option maxRecDepth 16384

noncomputable section

namespace Cert.Merge

open Idealize.ShloMosaic

/-- The logistic gate of a number, as both programs compute it: one over one plus the exponential of its negative. -/
def gate (z : EReal) : EReal :=
  FloatOps.divf (F := Ideal) (φ := .f32) (FloatOps.ofBits .f32 0x3F800000#32)
    (FloatOps.addf (FloatOps.ofBits .f32 0x3F800000#32) (FloatOps.exp (-z : EReal)))

/-- One branch at a row and a column: the gate of `p` with the bias `b`, times the product of a row of `y` and a column
    of `w`. -/
def term {n d r : ℕ} (p : (⟨2, ![n, r]⟩ : Shape).Idx → EReal) (b : (⟨2, ![1, r]⟩ : Shape).Idx → EReal)
    (y : (⟨2, ![n, d]⟩ : Shape).Idx → EReal) (w : (⟨4, ![1, 1, d, r]⟩ : Shape).Idx → EReal) (i : Fin n) (j : Fin r) :
    EReal :=
  gate (p (ix2 i j) + b (ix2 0 j)) * ∑ k : Fin d, y (ix2 i k) * w (ix4 0 0 k j)

section Vectors

variable {n d r : ℕ}

theorem casts_matrix (d r : ℕ) : (⟨4, ![1, 1, d, r]⟩ : Shape).ShapeCasts ⟨2, ![d, r]⟩ := by
  simp [Shape.ShapeCasts, Shape.numel, Fin.prod_univ_succ]

theorem matrix_apply {α : Type} (w : (⟨4, ![1, 1, d, r]⟩ : Shape).Idx → α) (k : Fin d) (j : Fin r) :
    shapeCast ⟨2, ![d, r]⟩ w (casts_matrix d r) (ix2 k j) = w (ix4 0 0 k j) :=
  shapeCast_apply w _ _ _ (by
    rw [Shape.rowMajor_val_four, Shape.rowMajor_val_two]
    show ((0 * 1 + 0) * d + k.val) * r + j.val = k.val * r + j.val
    simp)

theorem same_apply {s : Shape} {α : Type} (x : s.Idx → α) (h : s.ShapeCasts s) (i : s.Idx) : shapeCast s x h i = x i :=
  shapeCast_apply x _ _ _ rfl

/-- One branch of a block. -/
theorem gated_apply (p : FVec Ideal ⟨2, ![n, r]⟩ .bf16) (b : FVec Ideal ⟨2, ![1, r]⟩ .f32)
    (y : FVec Ideal ⟨2, ![n, d]⟩ .bf16) (w : FVec Ideal ⟨4, ![1, 1, d, r]⟩ .bf16)
    (hb : (⟨2, ![1, r]⟩ : Shape).ShapeCasts ⟨2, ![1, r]⟩) (i : Fin n) (j : Fin r) :
    mulf (divf (broadcast ⟨2, ![n, r]⟩ (Scalar.ofBits .f32 0x3F800000#32))
        (addf (broadcast ⟨2, ![n, r]⟩ (Scalar.ofBits .f32 0x3F800000#32))
          (exp (subf (broadcast ⟨2, ![n, r]⟩ (Scalar.ofBits .f32 0x00000000#32))
            (addf (extf .f32 p (by decide) : FVec Ideal ⟨2, ![n, r]⟩ .f32)
              (broadcastTo ⟨2, ![n, r]⟩ (shapeCast ⟨2, ![1, r]⟩ b hb) (Cert.Online.broadcasts_row n r)
                : FVec Ideal ⟨2, ![n, r]⟩ .f32))))))
      (FloatOps.matmul (DotDims.plain n d r) none y
        (shapeCast ⟨2, ![d, r]⟩ w (casts_matrix d r) : FVec Ideal ⟨2, ![d, r]⟩ .bf16)
        (constant ⟨2, ![n, r]⟩ .f32 0x00000000#32 : FVec Ideal ⟨2, ![n, r]⟩ .f32)) (ix2 i j)
      = term p b y w i j := by
  have hm := (Cert.Online.matmul_apply y
    (shapeCast ⟨2, ![d, r]⟩ w (casts_matrix d r) : FVec Ideal ⟨2, ![d, r]⟩ .bf16) i j).trans
    (Finset.sum_congr rfl fun k _ => by rw [matrix_apply])
  have hs : broadcastTo ⟨2, ![n, r]⟩ (shapeCast ⟨2, ![1, r]⟩ b hb) (Cert.Online.broadcasts_row n r) (ix2 i j)
      = b (ix2 0 j) := (Cert.Online.bcast_row_apply _ i j).trans (same_apply b hb _)
  have hz : FloatOps.subf (F := Ideal) (φ := .f32) (FloatOps.ofBits .f32 0x00000000#32)
      (p (ix2 i j) + b (ix2 0 j) : EReal) = -(p (ix2 i j) + b (ix2 0 j)) := by
    show Ideal.ofBits .f32 0x00000000#32 - _ = _
    rw [Ideal.ofBits_zero_f32, zero_sub]
  refine congrArg₂ (· * ·) ?_ hm
  unfold gate
  rw [← hz, ← hs]
  rfl

end Vectors

open Cert.Kernel7Ideal Cert.Kernel7Ideal.Gen

/-! ## The two halves of a block -/

section Halves

variable (p0 p1 p2 p3 : Vec Ideal S1024x256 .bf16) (b0 b1 b2 b3 : Vec Ideal S1x256 .f32)
  (y0 y1 y2 y3 : Vec Ideal S1024x1024 .bf16) (w0 w1 w2 w3 : Vec Ideal S1x1x1024x256 .bf16) (i : Fin 1024) (j : Fin 256)

/-- The first 256 columns. -/
theorem first_half_apply :
    k0_pay6 (k0_pay4 (k0_pay2 p0 b0 y0 w0) (k0_pay3 p1 b1) y1 w1 p2 b2 y2 w2) (k0_pay5 p3 b3) y3 w3 (ix2 i j)
      = term p0 b0 y0 w0 i j + term p1 b1 y1 w1 i j + term p2 b2 y2 w2 i j + term p3 b3 y3 w3 i j :=
  congrArg₂ (· + ·) (congrArg₂ (· + ·) (congrArg₂ (· + ·) (gated_apply p0 b0 y0 w0 _ i j)
    (gated_apply p1 b1 y1 w1 _ i j)) (gated_apply p2 b2 y2 w2 _ i j)) (gated_apply p3 b3 y3 w3 _ i j)

/-- The other 256 columns: the same sum. -/
theorem second_half_apply :
    k0_pay1 (k0_pay9 (k0_pay7 p0 b0 y0 w0) (k0_pay8 p1 b1) y1 w1 p2 b2 y2 w2) (k0_pay10 p3) b3 y3 w3 (ix2 i j)
      = term p0 b0 y0 w0 i j + term p1 b1 y1 w1 i j + term p2 b2 y2 w2 i j + term p3 b3 y3 w3 i j :=
  congrArg₂ (· + ·) (congrArg₂ (· + ·) (congrArg₂ (· + ·) (gated_apply p0 b0 y0 w0 _ i j)
    (gated_apply p1 b1 y1 w1 _ i j)) (gated_apply p2 b2 y2 w2 _ i j)) (gated_apply p3 b3 y3 w3 _ i j)

end Halves

/-- A branch of the 256 columns from `o` on, read from the blocks of 512 columns. -/
theorem term_ld (p : Vec Ideal S1024x512 .bf16) (b : Vec Ideal S1x512 .f32) (y : Vec Ideal S1024x1024 .bf16)
    (w : Vec Ideal S1x1x1024x512 .bf16) (o : ℕ) (hp : ∀ a, (![0, o] : Fin 2 → ℕ) a + S1024x256.size a ≤ S1024x512.size a)
    (hb : ∀ a, (![0, o] : Fin 2 → ℕ) a + S1x256.size a ≤ S1x512.size a)
    (hw : ∀ a, (![0, 0, 0, o] : Fin 4 → ℕ) a + S1x1x1024x256.size a ≤ S1x1x1024x512.size a) (i : Fin 1024) (j : Fin 256)
    (j' : Fin 512) (hj : j'.val = o + j.val) :
    term (View.ld p (Rect.unit (s := S1024x512) ![0, o] S1024x256.size hp))
        (View.ld b (Rect.unit (s := S1x512) ![0, o] S1x256.size hb)) (View.ld y r0_2)
        (View.ld w (Rect.unit (s := S1x1x1024x512) ![0, 0, 0, o] S1x1x1024x256.size hw)) i j
      = term p b y w i j' := by
  have ep : View.ld p (Rect.unit (s := S1024x512) ![0, o] S1024x256.size hp) (ix2 i j) = p (ix2 i j') :=
    View.ld_unit_apply_of _ _ _ _ _ _ fun a => by
      match a with
      | ⟨0, _⟩ => exact (Nat.zero_add _).symm
      | ⟨1, _⟩ => exact hj
  have eb : View.ld b (Rect.unit (s := S1x512) ![0, o] S1x256.size hb) (ix2 0 j) = b (ix2 0 j') :=
    View.ld_unit_apply_of _ _ _ _ _ _ fun a => by
      match a with
      | ⟨0, _⟩ => exact (Nat.zero_add _).symm
      | ⟨1, _⟩ => exact hj
  have ew : ∀ k : Fin 1024, View.ld w (Rect.unit (s := S1x1x1024x512) ![0, 0, 0, o] S1x1x1024x256.size hw) (ix4 0 0 k j)
      = w (ix4 0 0 k j') := fun k => View.ld_unit_apply_of _ _ _ _ _ _ fun a => by
    match a with
    | ⟨0, _⟩ => rfl
    | ⟨1, _⟩ => rfl
    | ⟨2, _⟩ => exact (Nat.zero_add _).symm
    | ⟨3, _⟩ => exact hj
  have ey : View.ld y r0_2 = y := View.ld_unit_lit _ _ (by decide)
  exact congrArg₂ (· * ·) (congrArg gate (congrArg₂ (· + ·) ep eb))
    (Finset.sum_congr rfl fun k _ => congrArg₂ (· * ·) (congrFun ey _) (ew k))

/-- A grid point's output block. -/
theorem out_apply (y0 y1 y2 y3 : Vec Ideal S1024x1024 .bf16) (p0 p1 p2 p3 : Vec Ideal S1024x512 .bf16)
    (b0 b1 b2 b3 : Vec Ideal S1x512 .f32) (w0 w1 w2 w3 : Vec Ideal S1x1x1024x512 .bf16) (i : Fin 1024) (j : Fin 512) :
    out0_16 y0 y1 y2 y3 p0 p1 p2 p3 b0 b1 b2 b3 w0 w1 w2 w3 (ix2 i j)
      = term p0 b0 y0 w0 i j + term p1 b1 y1 w1 i j + term p2 b2 y2 w2 i j + term p3 b3 y3 w3 i j := by
  unfold out0_16
  refine View.canon_eq_of_allAt _ _ _ (cover0_16 _ _ _) (View.allAt_cons_unit _ _ _ _ _ (fun x hx => ?_)
    (View.allAt_cons_unit _ _ _ _ _ (fun x hx => ?_) (View.allAt_nil _ _))) <;>
    (have e0 : i = x 0 := Fin.ext ((hx 0).trans (Nat.zero_add _))
     rw [show x = ix2 (x 0) (x 1) from (ix2_eta x).symm, e0])
  · exact (second_half_apply _ _ _ _ _ _ _ _ _ _ _ _ _ _ _ _ (x 0) (x 1)).trans
      (congrArg₂ (· + ·) (congrArg₂ (· + ·) (congrArg₂ (· + ·) (term_ld p0 b0 y0 w0 256 _ _ _ _ _ j (hx 1))
        (term_ld p1 b1 y1 w1 256 _ _ _ _ _ j (hx 1))) (term_ld p2 b2 y2 w2 256 _ _ _ _ _ j (hx 1)))
        (term_ld p3 b3 y3 w3 256 _ _ _ _ _ j (hx 1)))
  · exact (first_half_apply _ _ _ _ _ _ _ _ _ _ _ _ _ _ _ _ (x 0) (x 1)).trans
      (congrArg₂ (· + ·) (congrArg₂ (· + ·) (congrArg₂ (· + ·) (term_ld p0 b0 y0 w0 0 _ _ _ _ _ j (hx 1))
        (term_ld p1 b1 y1 w1 0 _ _ _ _ _ j (hx 1))) (term_ld p2 b2 y2 w2 0 _ _ _ _ _ j (hx 1)))
        (term_ld p3 b3 y3 w3 0 _ _ _ _ _ j (hx 1)))

end Cert.Merge

end
-- ==== Proof.Merge.Array.lean ====
/-
  What the array of the merge holds after the run, at a row and a column: the four branches' gated products, added up.
-/
module

public import proofs.«01_k».proof.Proof.Merge.Block

@[expose] public section

set_option maxRecDepth 16384

noncomputable section

namespace Cert.Merge

open Cert.Kernel7Ideal Cert.Kernel7Ideal.Gen Cert.Kernel7Ideal.Value
open Idealize.ShloMosaic Idealize.ShloMosaic.TcCoe Idealize.SL.Sem

/-- Branch `a` of the first layer at a row and a column. The gates' columns of the input projection begin at 6656, 2048 to
    a branch. -/
def branch (y : Vec Ideal S8192x1024 .bf16) (p : Vec Ideal S8192x14848 .bf16) (b : Vec Ideal S2x8192 .f32)
    (w : Vec Ideal S2x4x1024x2048 .f32) (a : Fin 4) (row : Fin 8192) (col : Fin 2048) : EReal :=
  gate (p (ix2 row ⟨6656 + 2048 * a + col, by omega⟩) + b (ix2 0 ⟨2048 * a + col, by omega⟩))
    * ∑ k : Fin 1024, y (ix2 row k) * w (ix4 0 a k col)

/-- The result at a row and a column. -/
def output (y0 y1 y2 y3 : Vec Ideal S8192x1024 .bf16) (p : Vec Ideal S8192x14848 .bf16) (b : Vec Ideal S2x8192 .f32)
    (w : Vec Ideal S2x4x1024x2048 .f32) (row : Fin 8192) (col : Fin 2048) : EReal :=
  branch y0 p b w 0 row col + branch y1 p b w 1 row col + branch y2 p b w 2 row col + branch y3 p b w 3 row col

/-! ## Where the windows' blocks lie -/

theorem index_rows : ∀ t : Fin cfg0.N, win0_0.index t = ![t.val / 4, 0] ∧ win0_1.index t = ![t.val / 4, 0]
    ∧ win0_2.index t = ![t.val / 4, 0] ∧ win0_3.index t = ![t.val / 4, 0] :=
  (by decide +kernel : ∀ t : Fin grid0.N, win0_0.index t = ![t.val / 4, 0] ∧ win0_1.index t = ![t.val / 4, 0]
    ∧ win0_2.index t = ![t.val / 4, 0] ∧ win0_3.index t = ![t.val / 4, 0])

theorem index_gates : ∀ t : Fin cfg0.N, win0_4.index t = ![t.val / 4, 13 + t.val % 4]
    ∧ win0_5.index t = ![t.val / 4, 17 + t.val % 4] ∧ win0_6.index t = ![t.val / 4, 21 + t.val % 4]
    ∧ win0_7.index t = ![t.val / 4, 25 + t.val % 4] :=
  (by decide +kernel : ∀ t : Fin grid0.N, win0_4.index t = ![t.val / 4, 13 + t.val % 4]
    ∧ win0_5.index t = ![t.val / 4, 17 + t.val % 4] ∧ win0_6.index t = ![t.val / 4, 21 + t.val % 4]
    ∧ win0_7.index t = ![t.val / 4, 25 + t.val % 4])

theorem index_bias : ∀ t : Fin cfg0.N, win0_8.index t = ![0, t.val % 4] ∧ win0_9.index t = ![0, 4 + t.val % 4]
    ∧ win0_10.index t = ![0, 8 + t.val % 4] ∧ win0_11.index t = ![0, 12 + t.val % 4] :=
  (by decide +kernel : ∀ t : Fin grid0.N, win0_8.index t = ![0, t.val % 4] ∧ win0_9.index t = ![0, 4 + t.val % 4]
    ∧ win0_10.index t = ![0, 8 + t.val % 4] ∧ win0_11.index t = ![0, 12 + t.val % 4])

theorem index_weights : ∀ t : Fin cfg0.N, win0_12.index t = ![0, 0, 0, t.val % 4]
    ∧ win0_13.index t = ![0, 1, 0, t.val % 4] ∧ win0_14.index t = ![0, 2, 0, t.val % 4]
    ∧ win0_15.index t = ![0, 3, 0, t.val % 4] :=
  (by decide +kernel : ∀ t : Fin grid0.N, win0_12.index t = ![0, 0, 0, t.val % 4]
    ∧ win0_13.index t = ![0, 1, 0, t.val % 4] ∧ win0_14.index t = ![0, 2, 0, t.val % 4]
    ∧ win0_15.index t = ![0, 3, 0, t.val % 4])

theorem index16 : ∀ t : Fin cfg0.N, win0_16.index t = ![t.val / 4, t.val % 4] :=
  (by decide +kernel : ∀ t : Fin grid0.N, win0_16.index t = ![t.val / 4, t.val % 4])

variable (m : (ℓ : Loc nD τ sig) → Buf (Elt Ideal) ℓ) (c : Dev nD)

/-- The grid has 32 points. -/
theorem point_lt (t : Fin cfg0.N) : t.val < 32 := t.isLt

/-- The weights that the region finds. -/
theorem weights_eq : V m c main_v2
    = (truncf .bf16 (m ((c : Thread nD τ).loc main_arg6) : FVec Ideal S2x4x1024x2048 .f32) bitsLt_bf16_f32 :
      FVec Ideal S2x4x1024x2048 .bf16) := by
  show StableHlo.after hostOps0 _ (Proc.devRef .tc main_v2) = _
  after_results

/-- The bias that the region finds: the first of the layers' rows. -/
theorem bias_eq : V m c main_v3
    = (extractStridedSlice S1x8192 ![0, 0] (m ((c : Thread nD τ).loc main_arg5) : FVec Ideal S2x8192 .f32)
        slices_S2x8192_S1x8192_0_0 : FVec Ideal S1x8192 .f32) := by
  have h : V m c main_v3 = (shapeCast S1x8192 (shapeCast S8192 (extractStridedSlice S1x8192 ![0, 0]
      (m ((c : Thread nD τ).loc main_arg5) : FVec Ideal S2x8192 .f32) slices_S2x8192_S1x8192_0_0 : FVec Ideal S1x8192 .f32)
      shapeCasts_S1x8192_S8192 : FVec Ideal S8192 .f32) shapeCasts_S8192_S1x8192 : FVec Ideal S1x8192 .f32) := by
    show StableHlo.after hostOps0 _ (Proc.devRef .tc main_v3) = _
    after_results
    rfl
  rw [h, shapeCast_shapeCast]

theorem bias_apply (k : Fin 8192) : V m c main_v3 (ix2 0 k) = m ((c : Thread nD τ).loc main_arg5) (ix2 0 k) :=
  (congrFun (bias_eq m c) (ix2 0 k)).trans
    (extractStridedSlice_apply _ _ slices_S2x8192_S1x8192_0_0 (ix2 0 k) (ix2 0 k) fun a => by
      match a with
      | ⟨0, _⟩ => rfl
      | ⟨1, _⟩ => exact (Nat.zero_add _).symm)

/-! ## What they hold -/

theorem rows_at (t : Fin cfg0.N) (i : Fin 1024) (k : Fin 1024) (row : Fin 8192)
    (hr : 1024 * (t.val / 4) + i.val = row.val) :
    iblk m c 0 t (ix2 i k) = m ((c : Thread nD τ).loc main_arg0) (ix2 row k)
    ∧ iblk m c 1 t (ix2 i k) = m ((c : Thread nD τ).loc main_arg1) (ix2 row k)
    ∧ iblk m c 2 t (ix2 i k) = m ((c : Thread nD τ).loc main_arg2) (ix2 row k)
    ∧ iblk m c 3 t (ix2 i k) = m ((c : Thread nD τ).loc main_arg3) (ix2 row k) := by
  obtain ⟨h0, h1, h2, h3⟩ := index_rows t
  rw [← V_main_arg0 m c, ← V_main_arg1 m c, ← V_main_arg2 m c, ← V_main_arg3 m c]
  refine ⟨?_, ?_, ?_, ?_⟩
  · blk_ext! [iblk, h0]
  · blk_ext! [iblk, h1]
  · blk_ext! [iblk, h2]
  · blk_ext! [iblk, h3]

theorem gates_at (t : Fin cfg0.N) (i : Fin 1024) (j : Fin 512) (row : Fin 8192) (col : Fin 2048)
    (hr : 1024 * (t.val / 4) + i.val = row.val) (hc : 512 * (t.val % 4) + j.val = col.val) :
    iblk m c 4 t (ix2 i j) = m ((c : Thread nD τ).loc main_arg4) (ix2 row ⟨6656 + 2048 * 0 + col, by omega⟩)
    ∧ iblk m c 5 t (ix2 i j) = m ((c : Thread nD τ).loc main_arg4) (ix2 row ⟨6656 + 2048 * 1 + col, by omega⟩)
    ∧ iblk m c 6 t (ix2 i j) = m ((c : Thread nD τ).loc main_arg4) (ix2 row ⟨6656 + 2048 * 2 + col, by omega⟩)
    ∧ iblk m c 7 t (ix2 i j) = m ((c : Thread nD τ).loc main_arg4) (ix2 row ⟨6656 + 2048 * 3 + col, by omega⟩) := by
  obtain ⟨h0, h1, h2, h3⟩ := index_gates t
  rw [← V_main_arg4 m c]
  refine ⟨?_, ?_, ?_, ?_⟩
  · blk_ext! [iblk, h0]
  · blk_ext! [iblk, h1]
  · blk_ext! [iblk, h2]
  · blk_ext! [iblk, h3]

theorem bias_at (t : Fin cfg0.N) (j : Fin 512) (col : Fin 2048) (hc : 512 * (t.val % 4) + j.val = col.val) :
    iblk m c 8 t (ix2 0 j) = m ((c : Thread nD τ).loc main_arg5) (ix2 0 ⟨2048 * 0 + col, by omega⟩)
    ∧ iblk m c 9 t (ix2 0 j) = m ((c : Thread nD τ).loc main_arg5) (ix2 0 ⟨2048 * 1 + col, by omega⟩)
    ∧ iblk m c 10 t (ix2 0 j) = m ((c : Thread nD τ).loc main_arg5) (ix2 0 ⟨2048 * 2 + col, by omega⟩)
    ∧ iblk m c 11 t (ix2 0 j) = m ((c : Thread nD τ).loc main_arg5) (ix2 0 ⟨2048 * 3 + col, by omega⟩) := by
  obtain ⟨h0, h1, h2, h3⟩ := index_bias t
  rw [← bias_apply m c, ← bias_apply m c, ← bias_apply m c, ← bias_apply m c]
  refine ⟨?_, ?_, ?_, ?_⟩
  · blk_ext! [iblk, h0]
  · blk_ext! [iblk, h1]
  · blk_ext! [iblk, h2]
  · blk_ext! [iblk, h3]

theorem weights_at (t : Fin cfg0.N) (k : Fin 1024) (j : Fin 512) (col : Fin 2048)
    (hc : 512 * (t.val % 4) + j.val = col.val) :
    iblk m c 12 t (ix4 0 0 k j) = m ((c : Thread nD τ).loc main_arg6) (ix4 0 0 k col)
    ∧ iblk m c 13 t (ix4 0 0 k j) = m ((c : Thread nD τ).loc main_arg6) (ix4 0 1 k col)
    ∧ iblk m c 14 t (ix4 0 0 k j) = m ((c : Thread nD τ).loc main_arg6) (ix4 0 2 k col)
    ∧ iblk m c 15 t (ix4 0 0 k j) = m ((c : Thread nD τ).loc main_arg6) (ix4 0 3 k col) := by
  obtain ⟨h0, h1, h2, h3⟩ := index_weights t
  have hw : ∀ a : Fin 4, V m c main_v2 (ix4 0 a k col) = m ((c : Thread nD τ).loc main_arg6) (ix4 0 a k col) :=
    fun a => congrFun (weights_eq m c) _
  rw [← hw, ← hw, ← hw, ← hw]
  refine ⟨?_, ?_, ?_, ?_⟩
  · blk_ext! [iblk, h0]
  · blk_ext! [iblk, h1]
  · blk_ext! [iblk, h2]
  · blk_ext! [iblk, h3]

/-- A branch of a block, in the arrays. -/
theorem term_eq {p : Vec Ideal S1024x512 .bf16} {b : Vec Ideal S1x512 .f32} {y : Vec Ideal S1024x1024 .bf16}
    {w : Vec Ideal S1x1x1024x512 .bf16} {Y : Vec Ideal S8192x1024 .bf16} {P : Vec Ideal S8192x14848 .bf16}
    {B : Vec Ideal S2x8192 .f32} {W : Vec Ideal S2x4x1024x2048 .f32} {a : Fin 4} {i : Fin 1024} {j : Fin 512}
    {row : Fin 8192} {col : Fin 2048} (hp : p (ix2 i j) = P (ix2 row ⟨6656 + 2048 * a + col, by omega⟩))
    (hb : b (ix2 0 j) = B (ix2 0 ⟨2048 * a + col, by omega⟩)) (hy : ∀ k, y (ix2 i k) = Y (ix2 row k))
    (hw : ∀ k, w (ix4 0 0 k j) = W (ix4 0 a k col)) : term p b y w i j = branch Y P B W a row col :=
  congrArg₂ (· * ·) (congrArg gate (congrArg₂ (· + ·) hp hb))
    (Finset.sum_congr rfl fun k _ => congrArg₂ (· * ·) (hy k) (hw k))

/-- The result array after the run, at a row and a column. -/
theorem array_apply (row : Fin 8192) (col : Fin 2048) : (dats m 0 c).arrAt 16 cfg0.N (ix2 row col)
    = output (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) row col := by
  obtain ⟨t, ht⟩ : ∃ t : Fin cfg0.N, t.val = row.val / 1024 * 4 + col.val / 512 :=
    ⟨⟨row.val / 1024 * 4 + col.val / 512, by show _ < 32; omega⟩, rfl⟩
  obtain ⟨i, hi⟩ : ∃ i : Fin 1024, i.val = row.val % 1024 := ⟨⟨row.val % 1024, by omega⟩, rfl⟩
  obtain ⟨j, hj⟩ : ∃ j : Fin 512, j.val = col.val % 512 := ⟨⟨col.val % 512, by omega⟩, rfl⟩
  have hr : 1024 * (t.val / 4) + i.val = row.val := by omega
  have hc : 512 * (t.val % 4) + j.val = col.val := by omega
  have hb := congrFun (blocks16 m c t (flush0_16 t)) (ix2 i j)
  rw [flushed16, Pipeline.Window.cut_apply] at hb
  replace hb := hb.trans (out_apply _ _ _ _ _ _ _ _ _ _ _ _ _ _ _ _ i j)
  have he : ((cfg0.win 16).blk t).view.read (Elt Ideal) ((dats m 0 c).arrAt 16 cfg0.N) (ix2 i j)
      = (dats m 0 c).arrAt 16 cfg0.N (ix2 row col) := by
    generalize (dats m 0 c).arrAt 16 cfg0.N = A
    blk_ext! [index16 t]
  rw [← he, hb]
  obtain ⟨p0, p1, p2, p3⟩ := gates_at m c t i j row col hr hc
  obtain ⟨b0, b1, b2, b3⟩ := bias_at m c t j col hc
  have hy := fun k => rows_at m c t i k row hr
  have hw := fun k => weights_at m c t k j col hc
  exact congrArg₂ (· + ·) (congrArg₂ (· + ·) (congrArg₂ (· + ·)
    (term_eq (a := 0) p0 b0 (fun k => (hy k).1) (fun k => (hw k).1))
    (term_eq (a := 1) p1 b1 (fun k => (hy k).2.1) (fun k => (hw k).2.1)))
    (term_eq (a := 2) p2 b2 (fun k => (hy k).2.2.1) (fun k => (hw k).2.2.1)))
    (term_eq (a := 3) p3 b3 (fun k => (hy k).2.2.2) (fun k => (hw k).2.2.2))

end Cert.Merge

end
-- ==== Proof.Merge.Claim.lean ====
/-
  The value claim of the merge: the kernel's array and the reference's are the same function of the arguments.
-/
module

public import proofs.«01_k».proof.Proof.Merge.Array
public import proofs.«01_k».proof.Proof.Gen.Reference7Ideal.Read
public import proofs.«01_k».proof.Defs

@[expose] public section

set_option maxRecDepth 16384

noncomputable section

namespace Cert.Merge

open Idealize.ShloMosaic Idealize.ShloMosaic.TcCoe Idealize.SL.Sem

section Reference

open Cert.Reference7Ideal Cert.Reference7Ideal.Gen Cert.Reference7Ideal.Read

variable (y0 y1 y2 y3 : Vec Ideal S8192x1024 .bf16) (p : Vec Ideal S8192x14848 .bf16) (b : Vec Ideal S2x8192 .f32)
  (w : Vec Ideal S2x4x1024x2048 .f32)

/-- The reference's gate of a branch. -/
theorem reference_gate (row : Fin 8192) (a : Fin 4) (col : Fin 2048) :
    val_main_v13 (F := Ideal) p b (ix3 row a col)
      = gate (p (ix2 row ⟨6656 + 2048 * a + col, by omega⟩) + b (ix2 0 ⟨2048 * a + col, by omega⟩)) := by
  have hi : idx_main_v13 (ix3 row a col) = ix2 row ⟨2048 * a + col, by omega⟩ := funext fun x => Fin.ext (by
    match x with
    | ⟨0, _⟩ => show ((row.val * 4 + a.val) * 2048 + col.val) / 8192 = row.val; omega
    | ⟨1, _⟩ => show ((row.val * 4 + a.val) * 2048 + col.val) % 8192 = 2048 * a.val + col.val; omega)
  have hz : val_main_v6 (F := Ideal) p b (ix2 row ⟨2048 * a + col, by omega⟩)
      = p (ix2 row ⟨6656 + 2048 * a + col, by omega⟩) + b (ix2 0 ⟨2048 * a + col, by omega⟩) := by
    rw [val_main_v6_apply, val_main_v1_apply, val_main_v0_apply, val_main_v5_apply, val_main_v4_apply,
      val_main_v3_apply, val_main_v2_apply]
    refine congrArg₂ (· + ·) (congrArg p ?_) (congrArg b ?_) <;> refine funext fun x => Fin.ext ?_
    · match x with
      | ⟨0, _⟩ => rfl
      | ⟨1, _⟩ => show 6656 + (2048 * a.val + col.val) = 6656 + 2048 * a.val + col.val; omega
    · match x with
      | ⟨0, _⟩ => rfl
      | ⟨1, _⟩ => show (2048 * a.val + col.val) % 8192 = 2048 * a.val + col.val; omega
  rw [val_main_v13_apply, hi, val_main_v12_apply, val_main_v10_apply, val_main_v8_apply, val_main_v7_apply, hz,
    val_main_v9_apply, val_main_v11_apply]
  rfl

/-- The four branches, put side by side. -/
theorem reference_rows (row : Fin 8192) (a : Fin 4) (k : Fin 1024) :
    val_main_v22 (F := Ideal) y0 y1 y2 y3 (ix3 row a k) = (![y0, y1, y2, y3] a) (ix2 row k) := by
  have hl : ∀ b : Fin S8192x1x1024.rank, b.cast rfl ≠ (1 : Fin S8192x4x1024.rank) →
      (ix3 row 0 k b : ℕ) = (ix3 row a k (b.cast rfl) : ℕ) := fun b hb => by
    match b with
    | ⟨0, _⟩ => rfl
    | ⟨1, _⟩ => exact absurd rfl hb
    | ⟨2, _⟩ => rfl
  have he : idx_main_v18 (ix3 row 0 k) = ix2 row k := funext fun x => by
    match x with
    | ⟨0, _⟩ => rfl
    | ⟨1, _⟩ => rfl
  refine (concatenate_ofFn_unit_apply (t := S8192x4x1024) (s₁ := S8192x1x1024) 1
    ![val_main_v18 (F := Ideal) y0, val_main_v19 (F := Ideal) y1, val_main_v20 (F := Ideal) y2, val_main_v21 (F := Ideal) y3]
    concatenates_S8192x1x1024_S8192x1x1024_S8192x1x1024_S8192x1x1024_S8192x4x1024_d1 rfl rfl (ix3 row a k) a rfl
    (ix3 row 0 k) hl).trans ?_
  match a with
  | ⟨0, _⟩ => exact (val_main_v18_apply y0 _).trans (congrArg y0 he)
  | ⟨1, _⟩ => exact (val_main_v19_apply y1 _).trans (congrArg y1 he)
  | ⟨2, _⟩ => exact (val_main_v20_apply y2 _).trans (congrArg y2 he)
  | ⟨3, _⟩ => exact (val_main_v21_apply y3 _).trans (congrArg y3 he)

/-- The reference's product of a branch. -/
theorem reference_product (row : Fin 8192) (a : Fin 4) (col : Fin 2048) :
    val_main_v26 (F := Ideal) y0 y1 y2 y3 w (ix3 row a col)
      = ∑ k : Fin 1024, (![y0, y1, y2, y3] a) (ix2 row k) * w (ix4 0 a k col) := by
  rw [val_main_v26_apply, val_main_v25_apply]
  refine Finset.sum_congr rfl fun k _ => ?_
  rw [val_main_v24_apply, val_main_v23_apply, mul_comm]
  refine congrArg₂ (· * ·) ?_ (congrArg w ?_)
  · rw [← reference_rows]
    refine congrArg _ (funext fun x => Fin.ext ?_)
    match x with
    | ⟨0, _⟩ => rfl
    | ⟨1, _⟩ => rfl
    | ⟨2, _⟩ => rfl
  · refine funext fun x => Fin.ext ?_
    match x with
    | ⟨0, _⟩ => rfl
    | ⟨1, _⟩ => show ((a.val * 1024 + k.val) * 2048 + col.val) / 2097152 % 4 = a.val; omega
    | ⟨2, _⟩ => show ((a.val * 1024 + k.val) * 2048 + col.val) / 2048 % 1024 = k.val; omega
    | ⟨3, _⟩ => show ((a.val * 1024 + k.val) * 2048 + col.val) % 2048 = col.val; omega

/-- The reference's result. -/
theorem reference_apply (row : Fin 8192) (col : Fin 2048) :
    val_main_v29 (F := Ideal) y0 y1 y2 y3 p b w (ix2 row col) = output y0 y1 y2 y3 p b w row col := by
  have hk : ∀ a : Fin 4, val_main_v27 (F := Ideal) y0 y1 y2 y3 p b w (idx_main_v28 (ix2 row col) a)
      = branch (![y0, y1, y2, y3] a) p b w a row col := fun a => by
    rw [show idx_main_v28 (ix2 row col) a = ix3 row a col from funext fun x => by
      match x with | ⟨0, _⟩ => rfl | ⟨1, _⟩ => rfl | ⟨2, _⟩ => rfl]
    exact congrArg₂ (· * ·) (reference_gate p b row a col) (reference_product y0 y1 y2 y3 w row a col)
  refine (val_main_v28_apply y0 y1 y2 y3 p b w _).trans ?_
  rw [val_main_cst_1_apply, show FloatOps.ofBits (F := Ideal) .f32 0x00000000#32 = (0 : EReal) from Ideal.ofBits_zero_f32,
    zero_add, Fin.sum_univ_four, hk, hk, hk, hk]
  rfl

end Reference

theorem algebraic : Cert.algebraic_Kernel7Ideal_Reference7Ideal := by
  intro m g m' g' _ hargs
  refine ⟨fun c i => output (m ((c.tc : Thread _ _).loc Cert.Kernel7Ideal.main_arg0))
    (m ((c.tc : Thread _ _).loc Cert.Kernel7Ideal.main_arg1)) (m ((c.tc : Thread _ _).loc Cert.Kernel7Ideal.main_arg2))
    (m ((c.tc : Thread _ _).loc Cert.Kernel7Ideal.main_arg3)) (m ((c.tc : Thread _ _).loc Cert.Kernel7Ideal.main_arg4))
    (m ((c.tc : Thread _ _).loc Cert.Kernel7Ideal.main_arg5)) (m ((c.tc : Thread _ _).loc Cert.Kernel7Ideal.main_arg6))
    (i 0) (i 1),
    (θ_run _ _ _).mono (fun r h c => ⟨(h c).1.trans ?_, (h c).2⟩) (Cert.Kernel7Ideal.Value.run_blocks m g),
    (θ_run _ _ _).mono (fun r h c => ⟨(h c).1.trans ?_, (h c).2⟩) (Cert.Reference7Ideal.Value.run m' g')⟩
  · funext i
    exact (congrArg _ (ix2_eta i).symm).trans (array_apply m c (i 0) (i 1))
  · obtain ⟨e0, e1, e2, e3, e4, e5, e6⟩ := hargs c
    funext i
    refine (congrFun (Cert.Reference7Ideal.Read.val_main_v29_eq _ _ _ _ _ _ _) i).trans ?_
    rw [e0, e1, e2, e3, e4, e5, e6]
    exact (congrArg _ (ix2_eta i).symm).trans (reference_apply _ _ _ _ _ _ _ (i 0) (i 1))

end Cert.Merge

end
-- ==== Proof.FinalNorm.Block.lean ====
/-
  The final norm at a grid point: the loop over the strips of 16 rows leaves every row of the block divided by the root
  of the mean of its squares, times the gain.
-/
module

public import proofs.«01_k».proof.Proof.Gen.Kernel8Ideal.Value
public import proofs.«01_k».proof.Proof.Merge.Block
public import proofs.«01_k».proof.Proof.Norm
public import Idealize.ShloMosaic.Lib.Pipeline.ReadBack
import all proofs.«01_k».proof.Proof.Gen.Kernel8Ideal.Frame.RunA
import all proofs.«01_k».proof.Proof.Gen.Kernel8Ideal.Loops

@[expose] public section

set_option maxRecDepth 16384

noncomputable section

namespace Cert.FinalNorm

open Cert.Kernel8Ideal Cert.Kernel8Ideal.Gen Cert.Norm
open Idealize.ShloMosaic Idealize.ShloMosaic.TcCoe Idealize.SL.Sem

/-- A number of each row, spread over the row's columns. -/
theorem column_apply {α : Type} (x : S16.Idx → α) (i : Fin 16) (j : Fin 2048) :
    broadcastTo S16x2048 (shapeCast S16x1 x shapeCasts_S16_S16x1) broadcasts_S16x1_S16x2048 (ix2 i j) = x (ix1 i) := by
  refine shapeCast_apply x _ _ _ ?_
  rw [Shape.rowMajor_val_one, Shape.rowMajor_val_two]
  show i.val = i.val * 1 + 0
  omega

/-- A strip of the result. -/
theorem strip_apply (g : Vec Ideal S1x2048 .f32) (y : Vec Ideal S16x2048 .f32) (i : Fin 16) (j : Fin 2048) :
    k0_pay1 g y (ix2 i j) = y (ix2 i j) * scale (fun k => y (ix2 i k)) * g (ix2 0 j) := by
  have hs := (column_apply (multiReduction (F := Ideal) (φ := .f32) .add [1] S16 (mulf (s := S16x2048) y y) 0x00000000#32
    reduces_S16x2048_S16 (.inl rfl) rfl) i j).trans (squares_apply (n := 16) (r := 2048) y reduces_S16x2048_S16 (.inl rfl) rfl i)
  have hg := (Cert.Online.bcast_row_apply (n := 16) (shapeCast S1x2048 g shapeCasts_S1x2048_S1x2048) i j).trans
    (Cert.Merge.same_apply g _ _)
  exact congrArg₂ (· * ·) (congrArg (fun z : EReal => y (ix2 i j) * FloatOps.rsqrt (F := Ideal) (φ := .f32)
    (FloatOps.addf (FloatOps.divf z (FloatOps.ofBits .f32 0x45000000#32)) (FloatOps.ofBits .f32 0x358637BD#32))) hs) hg

/-! ## The strips -/

theorem trips_eq : k0_t1_loop.trips = 64 := by decide +kernel

theorem offset_eq : ∀ k : Fin k0_t1_loop.trips, k0_off1 k = ![16 * k.val, 0] := by decide +kernel

section Runs

variable (c : Dev nD) (i : grid0.Coords) (arg1 : Memref sig .tc .vmem S1024x2048 .f32) (harg1 : arg1.IsWhole)
  (arg2 : Memref sig .tc .vmem S1x2048 .f32) (harg2 : arg2.IsWhole) (arg3 : Memref sig .tc .vmem S1024x2048 .f32)
  (harg3 : arg3.IsWhole) (x : Vec Ideal S1024x2048 .f32) (g : Vec Ideal S1x2048 .f32)

/-- One trip stores one strip. -/
theorem trip_eq (k : Fin k0_t1_loop.trips) :
    tripL_k0_t1 Variants.none c none i arg1 harg1 arg2 harg2 arg3 harg3 g (harg1.unread x) k
      = [⟨Rect.unit (s := S1024x2048) (k0_off1 k) S16x2048.size (k0_off1_inb k),
          k0_pay1 g (View.ld x (Rect.unit (s := S1024x2048) (k0_off1 k) S16x2048.size (k0_off1_inb k)))⟩] := by
  unfold tripL_k0_t1 trip_k0_t1
  dsimp only
  sl_unfold_words
  simp (disch := decide) only [View.readAt_eq_ld, harg1.read_unread]

/-- The output block: what all the trips store. -/
theorem out_eq : out0_A_2 c i arg1 harg1 arg2 harg2 arg3 harg3 x g
    = View.canon (pb_k0_t1 Variants.none c none i arg1 harg1 arg2 harg2 arg3 harg3 g (harg1.unread x)
        k0_t1_loop.trips) := by
  unfold out0_A_2
  rw [View.read_writes_junk_eq_canon]
  unfold kernelRun0_A
  dsimp only
  sl_unfold_words
  simp (disch := decide) only [View.readAt_eq_ld, harg2.read_unread, View.ld_unit_lit]

/-- The result at a row and a column of the block. -/
def normed (a : Fin 1024) (b : Fin 2048) : EReal := x (ix2 a b) * scale (fun k => x (ix2 a k)) * g (ix2 0 b)

/-- A strip has the result wherever it lies. -/
theorem strip_at (k : Fin k0_t1_loop.trips) (a : Fin 1024) (b : Fin 2048) :
    View.TileAt (Val := Elt Ideal) (e := .f32) (S := S1024x2048) (ix2 a b) (k0_off1 k) S16x2048.size
      (k0_pay1 g (View.ld x (Rect.unit (s := S1024x2048) (k0_off1 k) S16x2048.size (k0_off1_inb k))))
      (normed x g a b) := by
  intro y hy
  have h0 : a.val = 16 * k.val + (y 0).val := (hy 0).trans (by rw [offset_eq k]; rfl)
  have h1 : b = y 1 := Fin.ext ((hy 1).trans (by rw [offset_eq k]; exact Nat.zero_add _))
  have hx : ∀ l : Fin 2048, View.ld x (Rect.unit (s := S1024x2048) (k0_off1 k) S16x2048.size (k0_off1_inb k))
      (ix2 (y 0) l) = x (ix2 a l) := fun l => View.ld_unit_apply_of _ _ _ _ _ _ fun d => by
    have ho := congrFun (offset_eq k) d
    match d with
    | ⟨0, _⟩ => exact h0.trans (congrArg (· + (y 0).val) ho.symm)
    | ⟨1, _⟩ => exact (Nat.zero_add _).symm.trans (congrArg (· + l.val) ho.symm)
  rw [show y = ix2 (y 0) (y 1) from (ix2_eta y).symm]
  refine (strip_apply _ _ (y 0) (y 1)).trans ?_
  rw [← h1, hx b, show (fun l => View.ld x (Rect.unit (s := S1024x2048) (k0_off1 k) S16x2048.size (k0_off1_inb k))
      (ix2 (y 0) l)) = fun l => x (ix2 a l) from funext hx]
  rfl

/-- The first trips' strips have the result at a row and a column, and one of them holds it if the row is among their
    rows. -/
theorem strips_at (a : Fin 1024) (b : Fin 2048) : ∀ n : ℕ, n ≤ k0_t1_loop.trips →
    View.AllAt (pb_k0_t1 Variants.none c none i arg1 harg1 arg2 harg2 arg3 harg3 g (harg1.unread x) n) (ix2 a b)
        (normed x g a b)
      ∧ (a.val < 16 * n → ∃ p ∈ pb_k0_t1 Variants.none c none i arg1 harg1 arg2 harg2 arg3 harg3 g (harg1.unread x) n,
        ix2 a b ∈ p.1.set)
  | 0, _ => ⟨View.allAt_nil _ _, fun h => absurd h (Nat.not_lt_zero _)⟩
  | n + 1, hn => by
    obtain ⟨hall, hcov⟩ := strips_at a b n (by omega)
    rw [pb_k0_t1_succ Variants.none c none i arg1 harg1 arg2 harg2 arg3 harg3 g (harg1.unread x) ⟨n, hn⟩, trip_eq]
    refine ⟨View.allAt_cons_unit _ _ _ _ _ (strip_at x g ⟨n, hn⟩ a b) hall, fun h => ?_⟩
    by_cases hlt : a.val < 16 * n
    · obtain ⟨p, hp, hm⟩ := hcov hlt
      exact ⟨p, List.mem_cons_of_mem _ hp, hm⟩
    · refine ⟨_, List.mem_cons_self, (LoadRect.mem_set _).mpr fun d => ?_⟩
      show ∃ j < S16x2048.size d, _ = k0_off1 ⟨n, hn⟩ d + 1 * j
      rw [offset_eq]
      match d with
      | ⟨0, _⟩ => exact ⟨a.val - 16 * n, by show _ < 16; omega, by show a.val = 16 * n + 1 * (a.val - 16 * n); omega⟩
      | ⟨1, _⟩ => exact ⟨b.val, b.isLt, by show b.val = 0 + 1 * b.val; omega⟩

/-- A grid point's output block. -/
theorem out_apply (a : Fin 1024) (b : Fin 2048) :
    out0_A_2 c i arg1 harg1 arg2 harg2 arg3 harg3 x g (ix2 a b) = normed x g a b := by
  rw [out_eq]
  obtain ⟨hall, hcov⟩ := strips_at c i arg1 harg1 arg2 harg2 arg3 harg3 x g a b _ le_rfl
  exact View.canon_eq_of_allAt _ _ _ (hcov (by rw [trips_eq]; omega)) hall

end Runs

end Cert.FinalNorm

end
-- ==== Proof.FinalNorm.Array.lean ====
/-
  What the array of the final norm holds after the run, at a row and a column.
-/
module

public import proofs.«01_k».proof.Proof.FinalNorm.Block

@[expose] public section

set_option maxRecDepth 16384

noncomputable section

namespace Cert.FinalNorm

open Cert.Kernel8Ideal Cert.Kernel8Ideal.Gen Cert.Kernel8Ideal.Value Cert.Norm
open Idealize.ShloMosaic Idealize.ShloMosaic.TcCoe Idealize.SL.Sem

/-- The result at a row and a column. -/
def output (x : Vec Ideal S8192x2048 .f32) (g : Vec Ideal S2048 .f32) (row : Fin 8192) (col : Fin 2048) : EReal :=
  x (ix2 row col) * scale (fun k => x (ix2 row k)) * g (ix1 col)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

variable (m : (ℓ : Loc nD τ sig) → Buf (Elt Ideal) ℓ) (c : Dev nD)

/-- The grid has 8 points. -/
theorem point_lt (t : Fin cfg0.N) : t.val < 8 := t.isLt

/-- The gain that the region finds: one row. -/
theorem gain_eq : V m c main_v0 = shapeCast S1x2048 (m ((c : Thread nD τ).loc main_arg1) : Vec Ideal S2048 .f32)
    shapeCasts_S2048_S1x2048 := by
  show StableHlo.after hostOps0 _ (Proc.devRef .tc main_v0) = _
  after_results
  rfl

theorem rows_at (t : Fin cfg0.N) (i : Fin 1024) (k : Fin 2048) :
    iblk m c 0 t (ix2 i k) = m ((c : Thread nD τ).loc main_arg0)
      (ix2 ⟨1024 * t.val + i, by have := point_lt t; omega⟩ k) := by
  rw [← V_main_arg0 m c]
  blk_ext! [iblk, index0 t]

theorem gain_at (t : Fin cfg0.N) (j : Fin 2048) :
    iblk m c 1 t (ix2 0 j) = m ((c : Thread nD τ).loc main_arg1) (ix1 j) := by
  refine Eq.trans ?_ ((congrFun (gain_eq m c) (ix2 0 j)).trans (Cert.Online.cast_row_apply _ j))
  blk_ext! [iblk, index1 t]

/-- The result array after the run, at a row and a column. -/
theorem array_apply (row : Fin 8192) (col : Fin 2048) : (dats m 0 c).arrAt 2 cfg0.N (ix2 row col)
    = output (m ((c : Thread nD τ).loc main_arg0)) (m ((c : Thread nD τ).loc main_arg1)) row col := by
  obtain ⟨t, ht⟩ : ∃ t : Fin cfg0.N, t.val = row.val / 1024 := ⟨⟨row.val / 1024, by show _ < 8; omega⟩, rfl⟩
  have hb := congrFun (blocks2 m c t (flush0_2 t)) (ix2 ⟨row.val % 1024, by omega⟩ col)
  rw [flushed2_A, Pipeline.Window.cut_apply] at hb
  replace hb := hb.trans (out_apply c _ _ _ _ _ _ _ _ _ ⟨row.val % 1024, by omega⟩ col)
  have he : ((cfg0.win 2).blk t).view.read (Elt Ideal) ((dats m 0 c).arrAt 2 cfg0.N)
      (ix2 ⟨row.val % 1024, by omega⟩ col) = (dats m 0 c).arrAt 2 cfg0.N (ix2 row col) := by
    generalize (dats m 0 c).arrAt 2 cfg0.N = A
    blk_ext! [index2 t]
  have hx : ∀ k : Fin 2048, iblk m c 0 t (ix2 ⟨row.val % 1024, by omega⟩ k)
      = m ((c : Thread nD τ).loc main_arg0) (ix2 row k) := fun k => (rows_at m c t _ k).trans (by
    congr 2
    exact Fin.ext (by show 1024 * t.val + row.val % 1024 = row.val; omega))
  rw [← he, hb]
  exact congrArg₂ (· * ·) (congrArg₂ (· * ·) (hx col) (congrArg scale (funext hx))) (gain_at m c t col)

end Cert.FinalNorm

end
-- ==== Proof.FinalNorm.Claim.lean ====
/-
  The value claim of the final norm: the kernel's array and the reference's are the same function of the arguments.
-/
module

public import proofs.«01_k».proof.Proof.FinalNorm.Array
public import proofs.«01_k».proof.Proof.Gen.Reference8Ideal.Read
public import proofs.«01_k».proof.Defs

@[expose] public section

noncomputable section

namespace Cert.FinalNorm

open Idealize.ShloMosaic Idealize.ShloMosaic.TcCoe Idealize.SL.Sem Cert.Norm

variable (x : Vec Ideal Cert.Kernel8Ideal.S8192x2048 .f32) (g : Vec Ideal Cert.Kernel8Ideal.S2048 .f32)
  (row : Fin 8192) (col : Fin 2048)

open Cert.Reference8Ideal.Read

/-- The scale of a row of the reference. -/
theorem reference_scale : val_main_v8 (F := Ideal) x (ix2 row col) = scale (fun k => x (ix2 row k)) := by
  rw [val_main_v8_apply, val_main_v7_apply, val_main_v6_apply, val_main_v4_apply, val_main_v2_apply,
    val_main_v3_apply, val_main_v5_apply]
  have hs : val_main_v1 (F := Ideal) x (idx_main_v2 (idx_main_v8 (ix2 row col)))
      = ∑ k : Fin 2048, x (ix2 row k) * x (ix2 row k) := by
    refine (val_main_v1_apply x _).trans ?_
    rw [val_main_cst_apply, show FloatOps.ofBits (F := Ideal) .f32 0x00000000#32 = (0 : EReal)
      from Ideal.ofBits_zero_f32, zero_add]
    refine Finset.sum_congr rfl fun k _ => ?_
    rw [show idx_main_v1 (idx_main_v2 (idx_main_v8 (ix2 row col))) k = ix2 row k from funext fun a => by
      match a with
      | ⟨0, _⟩ => rfl
      | ⟨1, _⟩ => rfl, val_main_v0_apply]
    rfl
  rw [hs]
  rfl

/-- The reference's gain. -/
theorem reference_gain : val_main_v11 (F := Ideal) g (ix2 row col) = g (ix1 col) := by
  rw [val_main_v11_apply, val_main_v10_apply]
  exact congrArg g (funext fun a => by match a with | ⟨0, _⟩ => rfl)

/-- The reference's result. -/
theorem reference_apply : val_main_v12 (F := Ideal) x g (ix2 row col) = output x g row col := by
  rw [val_main_v12_apply, val_main_v9_apply, reference_scale, reference_gain]
  rfl

theorem algebraic : Cert.algebraic_Kernel8Ideal_Reference8Ideal := by
  intro m g m' g' _ hargs
  refine ⟨fun c i => output (m ((c.tc : Thread _ _).loc Cert.Kernel8Ideal.main_arg0))
    (m ((c.tc : Thread _ _).loc Cert.Kernel8Ideal.main_arg1)) (i 0) (i 1),
    (θ_run _ _ _).mono (fun r h c => ⟨(h c).1.trans ?_, (h c).2⟩) (Cert.Kernel8Ideal.Value.run_blocks m g),
    (θ_run _ _ _).mono (fun r h c => ⟨(h c).1.trans ?_, (h c).2⟩) (Cert.Reference8Ideal.Value.run m' g')⟩
  · funext i
    exact (congrArg _ (ix2_eta i).symm).trans (array_apply m c (i 0) (i 1))
  · obtain ⟨e0, e1⟩ := hargs c
    funext i
    refine (congrFun (val_main_v12_eq _ _) i).trans ?_
    rw [e0, e1]
    exact (congrArg _ (ix2_eta i).symm).trans (reference_apply _ _ (i 0) (i 1))

end Cert.FinalNorm

end
-- ==== Proof.InProjKv.Block.lean ====
/-
  A grid point of the projection onto the keys' latent. The first point of the grid casts the weights into a scratch;
  it and the points after it multiply their block of rows by the scratch.
-/
module

public import proofs.«01_k».proof.Proof.Gen.Kernel9Ideal.Value
public import proofs.«01_k».proof.Proof.Dense
public import Idealize.ShloMosaic.Lib.Pipeline.ReadBack
import all proofs.«01_k».proof.Proof.Gen.Kernel9Ideal.Frame.RunA
import all proofs.«01_k».proof.Proof.Gen.Kernel9Ideal.Frame.RunB

@[expose] public section

set_option maxRecDepth 16384

noncomputable section

namespace Cert.InProjKv

open Cert.Kernel9Ideal Cert.Kernel9Ideal.Gen Cert.Dense
open Idealize.ShloMosaic Idealize.ShloMosaic.TcCoe Idealize.SL.Sem

section Runs

variable (c : Dev nD) (i : grid0.Coords) (arg2 : Memref sig .tc .vmem S1024x2048 .bf16) (harg2 : arg2.IsWhole)
  (arg3 : Memref sig .tc .vmem S1x2048x1152 .f32) (harg3 : arg3.IsWhole)
  (arg4 : Memref sig .tc .vmem S1024x1152 .bf16) (harg4 : arg4.IsWhole)
  (arg5 : Memref sig .tc .vmem S2048x1152 .bf16) (harg5 : arg5.IsWhole)
  (x : Vec Ideal S1024x2048 .bf16) (w : Vec Ideal S1x2048x1152 .f32) (v : Vec Ideal S2048x1152 .bf16)

/-- The scratch after the first point: the cast weights. -/
theorem scratch_first (hc0 : cond0_0 i) :
    sout0_A_0 c i arg2 harg2 arg3 harg3 arg4 harg4 arg5 harg5 hc0 x w = k0_pay1 w := by
  unfold sout0_A_0
  rw [View.read_writes_junk_eq_canon]
  unfold kernelRun0_A
  dsimp only
  sl_unfold_words
  simp (disch := decide) only [View.readAt_eq_ld, harg3.read_unread, View.ld_unit_lit, View.canon_cons_unit_lit]

/-- The output block of the first point. -/
theorem out_first (hc0 : cond0_0 i) :
    out0_A_2 c i arg2 harg2 arg3 harg3 arg4 harg4 arg5 harg5 hc0 x w = k0_pay2 (k0_pay1 w) x := by
  unfold out0_A_2
  rw [View.read_writes_junk_eq_canon]
  unfold kernelRun0_A
  dsimp only
  sl_unfold_words
  simp (disch := decide) only [View.readAt_eq_ld, harg2.read_unread, harg3.read_unread, View.ld_unit_lit,
    View.canon_cons_unit_lit, ↓View.readCov_skip, ↓View.readCov_cons_toLoadRect]

/-- The output block of a later point. -/
theorem out_later (hc0 : ¬cond0_0 i) :
    out0_B_2 c i arg2 harg2 arg3 harg3 arg4 harg4 arg5 harg5 hc0 x w v = k0_pay2 v x := by
  unfold out0_B_2
  rw [View.read_writes_junk_eq_canon]
  unfold kernelRun0_B
  dsimp only
  sl_unfold_words
  simp (disch := decide) only [View.readAt_eq_ld, harg2.read_unread, harg5.read_unread, View.ld_unit_lit,
    View.canon_cons_unit_lit]

end Runs

/-- The cast weights at a row and a column. -/
theorem cast_apply (w : Vec Ideal S1x2048x1152 .f32) (k : Fin 2048) (j : Fin 1152) :
    k0_pay1 w (ix2 k j) = w (ix3 0 k j) := by
  unfold k0_pay1
  rw [shapeCast_self]
  exact Cert.Online.unslot_apply w k j

/-- The output block at a row and a column. -/
theorem block_apply (v : Vec Ideal S2048x1152 .bf16) (x : Vec Ideal S1024x2048 .bf16) (i : Fin 1024) (j : Fin 1152) :
    k0_pay2 v x (ix2 i j) = ∑ k : Fin 2048, x (ix2 i k) * v (ix2 k j) :=
  Cert.Online.matmul_apply (φ₁ := .bf16) (φ₂ := .bf16) x v i j

end Cert.InProjKv

end
-- ==== Proof.InProjKv.Array.lean ====
/-
  What the array of the projection onto the keys' latent holds after the run, at a row and a column: in the columns the
  projection has, the product of the row of the hidden stream and the column of the weights; in the padding, zero.
-/
module

public import proofs.«01_k».proof.Proof.InProjKv.Block
public import Idealize.ShloMosaic.Lib.KernelVsHost

@[expose] public section

set_option maxRecDepth 16384

noncomputable section

namespace Cert.InProjKv

open Cert.Kernel9Ideal Cert.Kernel9Ideal.Gen Cert.Kernel9Ideal.Value Cert.Dense
open Idealize.ShloMosaic Idealize.ShloMosaic.TcCoe Idealize.SL.Sem

/-- The weights with their columns past the projection's own set to zero. -/
def padded (w : Vec Ideal S2x2048x15936 .f32) (k : Fin 2048) (col : Fin 1152) : EReal :=
  if h : col.val < 1088 then w (ix3 0 k ⟨col, by omega⟩) else 0

/-- The result at a row and a column. -/
def output (h : Vec Ideal S8192x2048 .bf16) (w : Vec Ideal S2x2048x15936 .f32) (row : Fin 8192) (col : Fin 1152) :
    EReal :=
  ∑ k : Fin 2048, h (ix2 row k) * padded w k col

/-- Past the projection's own columns the result is zero. -/
theorem output_of_le (h : Vec Ideal S8192x2048 .bf16) (w : Vec Ideal S2x2048x15936 .f32) (row : Fin 8192)
    (col : Fin 1152) (hc : 1088 ≤ col.val) : output h w row col = 0 :=
  Finset.sum_eq_zero fun k _ => by rw [padded, dif_neg (by omega), mul_zero]

theorem index0 : ∀ t : Fin cfg0.N, win0_0.index t = ![t.val, 0] :=
  (by decide +kernel : ∀ t : Fin grid0.N, win0_0.index t = ![t.val, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![t.val, 0] :=
  (by decide +kernel : ∀ t : Fin grid0.N, win0_2.index t = ![t.val, 0])

/-- The zero the host converts and pads with. -/
theorem zero_apply (i : S_.Idx) : (sitofp (F := Ideal) .f32 (constantI S_ 32 0#32)) i = 0 := by
  show (((0#32 : BitVec 32).toInt : ℝ) : EReal) = 0
  norm_num

/-- The host's padding of the weights at a row and a column. -/
theorem pad_apply (w : Vec Ideal S2x2048x15936 .f32) (k : Fin 2048) (col : Fin 1152) :
    (pad S2x2048x1152 ![0, 0, 0] ![0, 0, 64] ![0, 0, 0]
      (extractStridedSlice S2x2048x1088 ![0, 0, 0] w slices_S2x2048x15936_S2x2048x1088_0_0_0)
      (sitofp (F := Ideal) .f32 (constantI S_ 32 0#32)) pads_S2x2048x1088_S2x2048x1152_000_000_0640 h_S_ :
        Vec Ideal S2x2048x1152 .f32) (ix3 0 k col) = padded w k col := by
  unfold padded
  by_cases hc : col.val < 1088
  · rw [dif_pos hc]
    refine (pad_apply_of_inside _ _ _ _ _ _ _ _ (ix3 0 k ⟨col, hc⟩) fun a => ?_).trans
      (extractStridedSlice_apply _ _ _ _ (ix3 0 k ⟨col, by omega⟩) fun a => ?_)
    · match a with
      | ⟨0, _⟩ => rfl
      | ⟨1, _⟩ => show k.val = 0 + k.val * (0 + 1); omega
      | ⟨2, _⟩ => show col.val = 0 + col.val * (0 + 1); omega
    · match a with
      | ⟨0, _⟩ => rfl
      | ⟨1, _⟩ => exact (Nat.zero_add _).symm
      | ⟨2, _⟩ => exact (Nat.zero_add _).symm
  · rw [dif_neg hc]
    refine (pad_apply_of_not_inside _ _ _ _ _ _ _ _ 2 fun h => hc ?_).trans (zero_apply _)
    have h2 : (col.val - 0) / (0 + 1) < 1088 := h.2.2
    omega

variable (m : (ℓ : Loc nD τ sig) → Buf (Elt Ideal) ℓ) (c : Dev nD)

/-- The weights the host prepares. -/
theorem weights_eq : V m c main_v1 = pad S2x2048x1152 ![0, 0, 0] ![0, 0, 64] ![0, 0, 0]
    (extractStridedSlice S2x2048x1088 ![0, 0, 0] (m ((c : Thread nD τ).loc main_arg1))
      slices_S2x2048x15936_S2x2048x1088_0_0_0)
    (sitofp (F := Ideal) .f32 (constantI S_ 32 0#32)) pads_S2x2048x1088_S2x2048x1152_000_000_0640 h_S_ := by
  show StableHlo.after (List.flatten [hostOps0, hostOps0_1]) _ (Proc.devRef .tc main_v1) = _
  simp only [hostOps0, hostOps0_1, List.flatten_cons, List.flatten_nil, List.append_nil, List.cons_append,
    List.nil_append]
  after_results
  rfl

/-- The grid has eight points. -/
theorem point_lt (t : Fin cfg0.N) : t.val < 8 := t.isLt

theorem rows_at (t : Fin cfg0.N) (i : Fin 1024) (k : Fin 2048) :
    iblk m c 0 t (ix2 i k)
      = m ((c : Thread nD τ).loc main_arg0) (ix2 ⟨1024 * t.val + i, by have := point_lt t; omega⟩ k) := by
  rw [← V_main_arg0 m c]
  blk_ext! [iblk, index0 t]

theorem weights_at (t : Fin cfg0.N) (k : Fin 2048) (j : Fin 1152) :
    iblk m c 1 t (ix3 0 k j) = padded (m ((c : Thread nD τ).loc main_arg1)) k j := by
  refine Eq.trans ?_ ((congrFun (weights_eq m c) (ix3 0 k j)).trans (pad_apply _ k j))
  blk_ext! [iblk, index1 t]

/-- What the first point leaves. -/
theorem outs_first (t : Fin cfg0.N) (h0 : t.val % 8 = 0) : outsAt0 m c t.val t.isLt
    = (k0_pay2 (k0_pay1 (iblk m c 1 t)) (iblk m c 0 t), k0_pay1 (iblk m c 1 t)) := by
  rw [outsAt0_A m c t h0, scratch_first, out_first]

/-- What a later point leaves. -/
theorem outs_later (t : Fin cfg0.N) (h0 : ¬t.val % 8 = 0) : outsAt0 m c t.val t.isLt
    = (k0_pay2 (outsAt0 m c (t.val - 1) (Nat.lt_of_le_of_lt (Nat.sub_le _ _) t.isLt)).2 (iblk m c 0 t),
      (outsAt0 m c (t.val - 1) (Nat.lt_of_le_of_lt (Nat.sub_le _ _) t.isLt)).2) := by
  rw [outsAt0_B m c t h0, out_later]
  rfl

theorem scratch_first_at (t : Fin cfg0.N) (h0 : t.val % 8 = 0) (k : Fin 2048) (j : Fin 1152) :
    (outsAt0 m c t.val t.isLt).2 (ix2 k j) = padded (m ((c : Thread nD τ).loc main_arg1)) k j := by
  rw [outs_first m c t h0]
  show k0_pay1 (iblk m c 1 t) (ix2 k j) = _
  rw [cast_apply]
  exact weights_at m c t k j

/-- After every point the scratch holds the weights. -/
theorem scratch_at (n : ℕ) (hn : n < cfg0.N) (k : Fin 2048) (j : Fin 1152) :
    (outsAt0 m c n hn).2 (ix2 k j) = padded (m ((c : Thread nD τ).loc main_arg1)) k j := by
  induction n with
  | zero => exact scratch_first_at m c ⟨0, hn⟩ (Nat.zero_mod _) k j
  | succ n ih =>
    rw [outs_later m c ⟨n + 1, hn⟩ (by have := point_lt ⟨n + 1, hn⟩; simp only at this ⊢; omega)]
    exact ih (Nat.lt_of_succ_lt hn)

/-- The output block after a point, at a row and a column. -/
theorem block_at (t : Fin cfg0.N) (i : Fin 1024) (j : Fin 1152) (row : Fin 8192)
    (hr : 1024 * t.val + i.val = row.val) : (outsAt0 m c t.val t.isLt).1 (ix2 i j)
      = output (m ((c : Thread nD τ).loc main_arg0)) (m ((c : Thread nD τ).loc main_arg1)) row j := by
  have := point_lt t
  rw [show row = ⟨1024 * t.val + i, by omega⟩ from Fin.ext hr.symm]
  by_cases h0 : t.val % 8 = 0
  · rw [outs_first m c t h0]
    exact (block_apply _ _ i j).trans (Finset.sum_congr rfl fun k _ => congrArg₂ (· * ·) (rows_at m c t i k)
      ((cast_apply _ k j).trans (weights_at m c t k j)))
  · rw [outs_later m c t h0]
    exact (block_apply _ _ i j).trans (Finset.sum_congr rfl fun k _ => congrArg₂ (· * ·) (rows_at m c t i k)
      (scratch_at m c (t.val - 1) _ k j))

/-- The result array after the run, at a row and a column. -/
theorem array_apply (row : Fin 8192) (col : Fin 1152) : (dats m 0 c).arrAt 2 cfg0.N (ix2 row col)
    = output (m ((c : Thread nD τ).loc main_arg0)) (m ((c : Thread nD τ).loc main_arg1)) row col := by
  obtain ⟨t, ht⟩ : ∃ t : Fin cfg0.N, t.val = row.val / 1024 := ⟨⟨row.val / 1024, by show _ < 8; omega⟩, rfl⟩
  have hb := congrFun (blocks2 m c t (flush0_2 t)) (ix2 ⟨row.val % 1024, by omega⟩ col)
  rw [flushed2, Pipeline.Window.cut_apply] at hb
  replace hb := hb.trans (block_at m c t ⟨row.val % 1024, by omega⟩ col row
    (by show 1024 * t.val + row.val % 1024 = row.val; omega))
  have he : ((cfg0.win 2).blk t).view.read (Elt Ideal) ((dats m 0 c).arrAt 2 cfg0.N)
      (ix2 ⟨row.val % 1024, by omega⟩ col) = (dats m 0 c).arrAt 2 cfg0.N (ix2 row col) := by
    generalize (dats m 0 c).arrAt 2 cfg0.N = A
    blk_ext! [index2 t]
  rw [← he, hb]

end Cert.InProjKv

end
-- ==== Proof.InProjKv.Claim.lean ====
/-
  The value claim of the projection onto the keys' latent: the kernel's array and the reference's are the same function
  of the arguments. The kernel multiplies by the padded weights; the reference pads the product.
-/
module

public import proofs.«01_k».proof.Proof.InProjKv.Array
public import proofs.«01_k».proof.Proof.Gen.Reference9Ideal.Read
public import proofs.«01_k».proof.Defs

@[expose] public section

set_option maxRecDepth 16384

noncomputable section

namespace Cert.InProjKv

open Idealize.ShloMosaic Idealize.ShloMosaic.TcCoe Idealize.SL.Sem Cert.Dense

open Cert.Reference9Ideal.Read in
/-- The reference's result. -/
theorem reference_apply (h : Vec Ideal Cert.Kernel9Ideal.S8192x2048 .bf16)
    (w : Vec Ideal Cert.Kernel9Ideal.S2x2048x15936 .f32) (row : Fin 8192) (col : Fin 1152) :
    val_main_v6 (F := Ideal) h w (ix2 row col) = output h w row col := by
  rw [val_main_v6_apply]
  show val_main_v5 (F := Ideal) h w (ix2 row col) = _
  unfold val_main_v5
  by_cases hc : col.val < 1088
  · refine (pad_apply_of_inside _ _ _ _ _ _ _ _ (ix2 row ⟨col, hc⟩) fun a => ?_).trans
      ((val_main_v4_apply h w _).trans (Finset.sum_congr rfl fun k _ => ?_))
    · match a with
      | ⟨0, _⟩ => show row.val = 0 + row.val * (0 + 1); omega
      | ⟨1, _⟩ => show col.val = 0 + col.val * (0 + 1); omega
    rw [val_main_v0_apply, val_main_v3_apply, val_main_v2_apply, val_main_v1_apply, padded, dif_pos hc]
    refine congrArg₂ (· * ·) (congrArg h ?_) (congrArg w ?_) <;> refine funext fun a => Fin.ext ?_
    · match a with
      | ⟨0, _⟩ => rfl
      | ⟨1, _⟩ => rfl
    · match a with
      | ⟨0, _⟩ => rfl
      | ⟨1, _⟩ =>
        show (k.val * 15936 + col.val) / 15936 % 2048 = k.val
        omega
      | ⟨2, _⟩ =>
        show (k.val * 15936 + col.val) % 15936 = col.val
        omega
  · rw [output_of_le h w row col (by omega)]
    refine (pad_apply_of_not_inside _ _ _ _ _ _ _ _ 1 fun h => hc ?_).trans (zero_apply _)
    have h2 : (col.val - 0) / (0 + 1) < 1088 := h.2.2
    omega

theorem algebraic : Cert.algebraic_Kernel9Ideal_Reference9Ideal := by
  intro m g m' g' _ hargs
  refine ⟨fun c i => output (m ((c.tc : Thread _ _).loc Cert.Kernel9Ideal.main_arg0))
    (m ((c.tc : Thread _ _).loc Cert.Kernel9Ideal.main_arg1)) (i 0) (i 1),
    (θ_run _ _ _).mono (fun r h c => ⟨(h c).1.trans ?_, (h c).2⟩) (Cert.Kernel9Ideal.Value.run_blocks m g),
    (θ_run _ _ _).mono (fun r h c => ⟨(h c).1.trans ?_, (h c).2⟩) (Cert.Reference9Ideal.Value.run m' g')⟩
  · funext i
    exact (congrArg _ (ix2_eta i).symm).trans (array_apply m c (i 0) (i 1))
  · obtain ⟨e0, e1⟩ := hargs c
    funext i
    refine (congrFun (Cert.Reference9Ideal.Read.val_main_v6_eq _ _) i).trans ?_
    rw [e0, e1]
    exact (congrArg _ (ix2_eta i).symm).trans (reference_apply _ _ (i 0) (i 1))

end Cert.InProjKv

end
-- ==== Proof.MixNorm.Block.lean ====
/-
  The norm before the mixers at a grid point: the loop over the strips of 16 rows leaves every row of the block divided
  by the root of the mean of its squares, times the gain, and modulated.
-/
module

public import proofs.«01_k».proof.Proof.Gen.Kernel10Ideal.Value
public import proofs.«01_k».proof.Proof.FinalNorm.Block
public import proofs.«01_k».proof.Proof.OutProj.Array
public import Idealize.ShloMosaic.Lib.Pipeline.ReadBack
import all proofs.«01_k».proof.Proof.Gen.Kernel10Ideal.Frame.RunA
import all proofs.«01_k».proof.Proof.Gen.Kernel10Ideal.Loops

@[expose] public section

set_option maxRecDepth 16384

noncomputable section

namespace Cert.MixNorm

open Cert.Kernel10Ideal Cert.Kernel10Ideal.Gen Cert.Norm Cert.OutProj
open Idealize.ShloMosaic Idealize.ShloMosaic.TcCoe Idealize.SL.Sem

/-- A strip of the result. -/
theorem strip_apply (g sc sh : Vec Ideal S1x2048 .f32) (y : Vec Ideal S16x2048 .f32) (i : Fin 16) (j : Fin 2048) :
    k0_pay1 g sc sh y (ix2 i j) = modulate (fun k => y (ix2 i k)) j (g (ix2 0 j)) (sc (ix2 0 j)) (sh (ix2 0 j)) := by
  have hs := (Cert.FinalNorm.column_apply (multiReduction (F := Ideal) (φ := .f32) .add [1] S16 (mulf (s := S16x2048) y y)
    0x00000000#32 reduces_S16x2048_S16 (.inl rfl) rfl) i j).trans
      (squares_apply (n := 16) (r := 2048) y reduces_S16x2048_S16 (.inl rfl) rfl i)
  have hg := (Cert.Online.bcast_row_apply (n := 16) (mulf (F := Ideal) (φ := .f32)
    (shapeCast S1x2048 g shapeCasts_S1x2048_S1x2048)
    (addf (broadcast S1x2048 (Scalar.ofBits (F := Ideal) .f32 0x3F800000#32)) sc)) i j).trans
      (congrArg (fun z : EReal => z * (FloatOps.ofBits (F := Ideal) .f32 0x3F800000#32 + sc (ix2 0 j)))
        (Cert.Merge.same_apply g shapeCasts_S1x2048_S1x2048 (ix2 0 j)))
  exact congrArg₂ (· + ·) (congrArg₂ (· * ·) (congrArg (fun z : EReal => y (ix2 i j) * FloatOps.rsqrt (F := Ideal)
    (φ := .f32) (FloatOps.addf (FloatOps.divf z (FloatOps.ofBits .f32 0x45000000#32))
      (FloatOps.ofBits .f32 0x358637BD#32))) hs) hg) (Cert.Online.bcast_row_apply (n := 16) sh i j)

/-! ## The strips -/

theorem trips_eq : k0_t1_loop.trips = 64 := by decide +kernel

theorem offset_eq : ∀ k : Fin k0_t1_loop.trips, k0_off1 k = ![16 * k.val, 0] := by decide +kernel

section Runs

variable (c : Dev nD) (i : grid0.Coords) (arg1 : Memref sig .tc .vmem S1024x2048 .f32) (harg1 : arg1.IsWhole)
  (arg2 : Memref sig .tc .vmem S1x2048 .f32) (harg2 : arg2.IsWhole) (arg3 : Memref sig .tc .vmem S2x2048 .f32)
  (harg3 : arg3.IsWhole) (arg4 : Memref sig .tc .vmem S2x2048 .f32) (harg4 : arg4.IsWhole)
  (arg5 : Memref sig .tc .vmem S1024x2048 .bf16) (harg5 : arg5.IsWhole)
  (x : Vec Ideal S1024x2048 .f32) (g sc sh : Vec Ideal S1x2048 .f32)

/-- One trip stores one strip. -/
theorem trip_eq (k : Fin k0_t1_loop.trips) :
    tripL_k0_t1 Variants.none c none i arg1 harg1 arg2 harg2 arg3 harg3 arg4 harg4 arg5 harg5 g sc sh (harg1.unread x) k
      = [⟨Rect.unit (s := S1024x2048) (k0_off1 k) S16x2048.size (k0_off1_inb k),
          k0_pay1 g sc sh (View.ld x (Rect.unit (s := S1024x2048) (k0_off1 k) S16x2048.size (k0_off1_inb k)))⟩] := by
  unfold tripL_k0_t1 trip_k0_t1
  dsimp only
  sl_unfold_words
  simp (disch := decide) only [View.readAt_eq_ld, harg1.read_unread]

/-- The output block: what all the trips store; the shift and the scale are loaded from the first row of two blocks. -/
theorem out_eq (shs scs : Vec Ideal S2x2048 .f32) :
    out0_A_4 c i arg1 harg1 arg2 harg2 arg3 harg3 arg4 harg4 arg5 harg5 x g shs scs
    = View.canon (pb_k0_t1 Variants.none c none i arg1 harg1 arg2 harg2 arg3 harg3 arg4 harg4 arg5 harg5 g
        (View.ld scs (Rect.unit (s := S2x2048) ![0, 0] S1x2048.size inb_S2x2048_S1x2048_0_0))
        (View.ld shs (Rect.unit (s := S2x2048) ![0, 0] S1x2048.size inb_S2x2048_S1x2048_0_0)) (harg1.unread x)
        k0_t1_loop.trips) := by
  unfold out0_A_4
  rw [View.read_writes_junk_eq_canon]
  unfold kernelRun0_A
  dsimp only
  sl_unfold_words
  simp (disch := decide) only [View.readAt_eq_ld, harg2.read_unread, harg3.read_unread, harg4.read_unread,
    View.ld_unit_lit]

/-- The result at a row and a column of the block. -/
def normed (a : Fin 1024) (b : Fin 2048) : EReal :=
  modulate (fun k => x (ix2 a k)) b (g (ix2 0 b)) (sc (ix2 0 b)) (sh (ix2 0 b))

/-- A strip has the result wherever it lies. -/
theorem strip_at (k : Fin k0_t1_loop.trips) (a : Fin 1024) (b : Fin 2048) :
    View.TileAt (Val := Elt Ideal) (e := .bf16) (S := S1024x2048) (ix2 a b) (k0_off1 k) S16x2048.size
      (k0_pay1 g sc sh (View.ld x (Rect.unit (s := S1024x2048) (k0_off1 k) S16x2048.size (k0_off1_inb k))))
      (normed x g sc sh a b) := by
  intro y hy
  have h0 : a.val = 16 * k.val + (y 0).val := (hy 0).trans (by rw [offset_eq k]; rfl)
  have h1 : b = y 1 := Fin.ext ((hy 1).trans (by rw [offset_eq k]; exact Nat.zero_add _))
  have hx : ∀ l : Fin 2048, View.ld x (Rect.unit (s := S1024x2048) (k0_off1 k) S16x2048.size (k0_off1_inb k))
      (ix2 (y 0) l) = x (ix2 a l) := fun l => View.ld_unit_apply_of _ _ _ _ _ _ fun d => by
    have ho := congrFun (offset_eq k) d
    match d with
    | ⟨0, _⟩ => exact h0.trans (congrArg (· + (y 0).val) ho.symm)
    | ⟨1, _⟩ => exact (Nat.zero_add _).symm.trans (congrArg (· + l.val) ho.symm)
  rw [show y = ix2 (y 0) (y 1) from (ix2_eta y).symm]
  refine (strip_apply _ _ _ _ (y 0) (y 1)).trans ?_
  rw [← h1, show (fun l => View.ld x (Rect.unit (s := S1024x2048) (k0_off1 k) S16x2048.size (k0_off1_inb k))
      (ix2 (y 0) l)) = fun l => x (ix2 a l) from funext hx]
  rfl

/-- The first trips' strips have the result at a row and a column, and one of them holds it if the row is among their
    rows. -/
theorem strips_at (a : Fin 1024) (b : Fin 2048) : ∀ n : ℕ, n ≤ k0_t1_loop.trips →
    View.AllAt (pb_k0_t1 Variants.none c none i arg1 harg1 arg2 harg2 arg3 harg3 arg4 harg4 arg5 harg5 g sc sh (harg1.unread x) n) (ix2 a b)
        (normed x g sc sh a b)
      ∧ (a.val < 16 * n → ∃ p ∈ pb_k0_t1 Variants.none c none i arg1 harg1 arg2 harg2 arg3 harg3 arg4 harg4 arg5 harg5 g sc sh (harg1.unread x) n,
        ix2 a b ∈ p.1.set)
  | 0, _ => ⟨View.allAt_nil _ _, fun h => absurd h (Nat.not_lt_zero _)⟩
  | n + 1, hn => by
    obtain ⟨hall, hcov⟩ := strips_at a b n (by omega)
    rw [pb_k0_t1_succ Variants.none c none i arg1 harg1 arg2 harg2 arg3 harg3 arg4 harg4 arg5 harg5 g sc sh (harg1.unread x) ⟨n, hn⟩, trip_eq]
    refine ⟨View.allAt_cons_unit _ _ _ _ _ (strip_at x g sc sh ⟨n, hn⟩ a b) hall, fun h => ?_⟩
    by_cases hlt : a.val < 16 * n
    · obtain ⟨p, hp, hm⟩ := hcov hlt
      exact ⟨p, List.mem_cons_of_mem _ hp, hm⟩
    · refine ⟨_, List.mem_cons_self, (LoadRect.mem_set _).mpr fun d => ?_⟩
      show ∃ j < S16x2048.size d, _ = k0_off1 ⟨n, hn⟩ d + 1 * j
      rw [offset_eq]
      match d with
      | ⟨0, _⟩ => exact ⟨a.val - 16 * n, by show _ < 16; omega, by show a.val = 16 * n + 1 * (a.val - 16 * n); omega⟩
      | ⟨1, _⟩ => exact ⟨b.val, b.isLt, by show b.val = 0 + 1 * b.val; omega⟩

/-- A grid point's output block. -/
theorem out_apply (shs scs : Vec Ideal S2x2048 .f32) (a : Fin 1024) (b : Fin 2048) :
    out0_A_4 c i arg1 harg1 arg2 harg2 arg3 harg3 arg4 harg4 arg5 harg5 x g shs scs (ix2 a b)
      = modulate (fun k => x (ix2 a k)) b (g (ix2 0 b)) (scs (ix2 0 b)) (shs (ix2 0 b)) := by
  rw [out_eq]
  obtain ⟨hall, hcov⟩ := strips_at c i arg1 harg1 arg2 harg2 arg3 harg3 arg4 harg4 arg5 harg5 x g _ _ a b _ le_rfl
  refine (View.canon_eq_of_allAt _ _ _ (hcov (by rw [trips_eq]; omega)) hall).trans ?_
  rw [normed, Cert.Dense.ld_row_apply, Cert.Dense.ld_row_apply]

end Runs

end Cert.MixNorm

end
-- ==== Proof.MixNorm.Array.lean ====
/-
  What the array of the norm before the mixers holds after the run, at a row and a column.
-/
module

public import proofs.«01_k».proof.Proof.MixNorm.Block

@[expose] public section

set_option maxRecDepth 16384

noncomputable section

namespace Cert.MixNorm

open Cert.Kernel10Ideal Cert.Kernel10Ideal.Gen Cert.Kernel10Ideal.Value Cert.Norm Cert.OutProj
open Idealize.ShloMosaic Idealize.ShloMosaic.TcCoe Idealize.SL.Sem

/-- The result at a row and a column: the shift and the scale are the modulation's first and second rows. -/
def output (x : Vec Ideal S8192x2048 .f32) (g : Vec Ideal S2x2048 .f32) (mod : Vec Ideal S2x12288 .f32)
    (row : Fin 8192) (col : Fin 2048) : EReal :=
  modulate (fun k => x (ix2 row k)) col (g (ix2 0 col)) (mod (ix2 0 ⟨2048 + col, by omega⟩))
    (mod (ix2 0 ⟨col, by omega⟩))

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 1] :=
  (by decide +kernel : ∀ t : Fin grid0.N, win0_3.index t = ![0, 1])
theorem index4 : ∀ t : Fin cfg0.N, win0_4.index t = ![t.val, 0] :=
  (by decide +kernel : ∀ t : Fin grid0.N, win0_4.index t = ![t.val, 0])

variable (m : (ℓ : Loc nD τ sig) → Buf (Elt Ideal) ℓ) (c : Dev nD)

/-- The grid has 8 points. -/
theorem point_lt (t : Fin cfg0.N) : t.val < 8 := t.isLt

/-- The gain that the region finds: the first row of the gains. -/
theorem gain_eq : V m c main_v2 = extractStridedSlice S1x2048 ![0, 0] (m ((c : Thread nD τ).loc main_arg1))
    slices_S2x2048_S1x2048_0_0 := by
  have h : V m c main_v2 = shapeCast S1x2048 (shapeCast S2048 (extractStridedSlice S1x2048 ![0, 0]
      (m ((c : Thread nD τ).loc main_arg1) : Vec Ideal S2x2048 .f32) slices_S2x2048_S1x2048_0_0)
      shapeCasts_S1x2048_S2048) shapeCasts_S2048_S1x2048 := by
    show StableHlo.after hostOps0 _ (Proc.devRef .tc main_v2) = _
    after_results
    rfl
  rw [h, shapeCast_shapeCast]

theorem rows_at (t : Fin cfg0.N) (i : Fin 1024) (k : Fin 2048) :
    iblk m c 0 t (ix2 i k) = m ((c : Thread nD τ).loc main_arg0)
      (ix2 ⟨1024 * t.val + i, by have := point_lt t; omega⟩ k) := by
  rw [← V_main_arg0 m c]
  blk_ext! [iblk, index0 t]

theorem gain_at (t : Fin cfg0.N) (j : Fin 2048) :
    iblk m c 1 t (ix2 0 j) = m ((c : Thread nD τ).loc main_arg1) (ix2 0 j) := by
  refine Eq.trans ?_ ((congrFun (gain_eq m c) (ix2 0 j)).trans
    (extractStridedSlice_apply _ _ _ _ (ix2 0 j) fun a => by
      match a with
      | ⟨0, _⟩ => rfl
      | ⟨1, _⟩ => exact (Nat.zero_add _).symm))
  blk_ext! [iblk, index1 t]

theorem shift_at (t : Fin cfg0.N) (j : Fin 2048) :
    iblk m c 2 t (ix2 0 j) = m ((c : Thread nD τ).loc main_arg2) (ix2 0 ⟨j, by omega⟩) := by
  rw [← V_main_arg2 m c]
  blk_ext! [iblk, index2 t]

theorem scale_at (t : Fin cfg0.N) (j : Fin 2048) :
    iblk m c 3 t (ix2 0 j) = m ((c : Thread nD τ).loc main_arg2) (ix2 0 ⟨2048 + j, by omega⟩) := by
  rw [← V_main_arg2 m c]
  blk_ext! [iblk, index3 t]

/-- The result array after the run, at a row and a column. -/
theorem array_apply (row : Fin 8192) (col : Fin 2048) : (dats m 0 c).arrAt 4 cfg0.N (ix2 row col)
    = output (m ((c : Thread nD τ).loc main_arg0)) (m ((c : Thread nD τ).loc main_arg1))
      (m ((c : Thread nD τ).loc main_arg2)) row col := by
  obtain ⟨t, ht⟩ : ∃ t : Fin cfg0.N, t.val = row.val / 1024 := ⟨⟨row.val / 1024, by show _ < 8; omega⟩, rfl⟩
  have hb := congrFun (blocks4 m c t (flush0_4 t)) (ix2 ⟨row.val % 1024, by omega⟩ col)
  rw [flushed4_A, Pipeline.Window.cut_apply] at hb
  replace hb := hb.trans (out_apply c _ _ _ _ _ _ _ _ _ _ _ _ _ _ _ ⟨row.val % 1024, by omega⟩ col)
  have he : ((cfg0.win 4).blk t).view.read (Elt Ideal) ((dats m 0 c).arrAt 4 cfg0.N)
      (ix2 ⟨row.val % 1024, by omega⟩ col) = (dats m 0 c).arrAt 4 cfg0.N (ix2 row col) := by
    generalize (dats m 0 c).arrAt 4 cfg0.N = A
    blk_ext! [index4 t]
  have hx : ∀ k : Fin 2048, iblk m c 0 t (ix2 ⟨row.val % 1024, by omega⟩ k)
      = m ((c : Thread nD τ).loc main_arg0) (ix2 row k) := fun k => (rows_at m c t _ k).trans (by
    congr 2
    exact Fin.ext (by show 1024 * t.val + row.val % 1024 = row.val; omega))
  rw [← he, hb]
  rw [output, ← gain_at m c t col, ← shift_at m c t col, ← scale_at m c t col, ← funext hx]

end Cert.MixNorm

end
-- ==== Proof.MixNorm.Claim.lean ====
/-
  The value claim of the norm before the mixers: the kernel's array and the reference's are the same function of the arguments.
-/
module

public import proofs.«01_k».proof.Proof.MixNorm.Array
public import proofs.«01_k».proof.Proof.Gen.Reference10Ideal.Read
public import proofs.«01_k».proof.Defs

@[expose] public section

noncomputable section

namespace Cert.MixNorm

open Idealize.ShloMosaic Idealize.ShloMosaic.TcCoe Idealize.SL.Sem Cert.Norm Cert.OutProj

variable (x : Vec Ideal Cert.Kernel10Ideal.S8192x2048 .f32) (g : Vec Ideal Cert.Kernel10Ideal.S2x2048 .f32)
  (mod : Vec Ideal Cert.Kernel10Ideal.S2x12288 .f32) (row : Fin 8192) (col : Fin 2048)

open Cert.Reference10Ideal.Read

/-- The scale of a row of the reference. -/
theorem reference_rms : val_main_v17 (F := Ideal) x (ix2 row col) = scale (fun k => x (ix2 row k)) := by
  rw [val_main_v17_apply, val_main_v16_apply, val_main_v15_apply, val_main_v13_apply, val_main_v11_apply,
    val_main_v12_apply, val_main_v14_apply]
  have hs : val_main_v10 (F := Ideal) x (idx_main_v11 (idx_main_v17 (ix2 row col)))
      = ∑ k : Fin 2048, x (ix2 row k) * x (ix2 row k) := by
    refine (val_main_v10_apply x _).trans ?_
    rw [val_main_cst_apply, show FloatOps.ofBits (F := Ideal) .f32 0x00000000#32 = (0 : EReal)
      from Ideal.ofBits_zero_f32, zero_add]
    refine Finset.sum_congr rfl fun k _ => ?_
    rw [show idx_main_v10 (idx_main_v11 (idx_main_v17 (ix2 row col))) k = ix2 row k from funext fun a => by
      match a with
      | ⟨0, _⟩ => rfl
      | ⟨1, _⟩ => rfl, val_main_v9_apply]
    rfl
  rw [hs]
  rfl

/-- The reference's gain. -/
theorem reference_gain : val_main_v20 (F := Ideal) g (ix2 row col) = g (ix2 0 col) := by
  rw [val_main_v20_apply, val_main_v19_apply, val_main_v8_apply, val_main_v7_apply]
  refine congrArg g (funext fun a => Fin.ext ?_)
  match a with
  | ⟨0, _⟩ => rfl
  | ⟨1, _⟩ => show col.val % 2048 = col.val; omega

/-- One plus the reference's scale. -/
theorem reference_scale : val_main_v24 (F := Ideal) mod (ix2 row col)
    = FloatOps.ofBits (F := Ideal) .f32 0x3F800000#32 + mod (ix2 0 ⟨2048 + col, by omega⟩) := by
  rw [val_main_v24_apply, val_main_v23_apply, val_main_v2_apply, val_main_v0_apply, val_main_v22_apply]
  exact congrArg (fun z : EReal => FloatOps.ofBits (F := Ideal) .f32 0x3F800000#32 + z)
    (congrArg mod (funext fun a => by match a with | ⟨0, _⟩ => rfl | ⟨1, _⟩ => rfl))

/-- The reference's shift. -/
theorem reference_shift : val_main_v26 (F := Ideal) mod (ix2 row col) = mod (ix2 0 ⟨col, by omega⟩) := by
  rw [val_main_v26_apply, val_main_v1_apply, val_main_v0_apply]
  exact congrArg mod (funext fun a => by match a with | ⟨0, _⟩ => rfl | ⟨1, _⟩ => rfl)

/-- The reference's result. -/
theorem reference_apply : val_main_v28 (F := Ideal) x g mod (ix2 row col) = output x g mod row col := by
  rw [val_main_v28_apply, val_main_v27_apply, val_main_v25_apply, val_main_v21_apply, val_main_v18_apply,
    reference_rms, reference_gain, reference_scale, reference_shift]
  exact congrArg (fun z : EReal => z + mod (ix2 0 ⟨col, by omega⟩)) (mul_assoc (_ : EReal) _ _)

theorem algebraic : Cert.algebraic_Kernel10Ideal_Reference10Ideal := by
  intro m g m' g' _ hargs
  refine ⟨fun c i => output (m ((c.tc : Thread _ _).loc Cert.Kernel10Ideal.main_arg0))
    (m ((c.tc : Thread _ _).loc Cert.Kernel10Ideal.main_arg1)) (m ((c.tc : Thread _ _).loc Cert.Kernel10Ideal.main_arg2))
    (i 0) (i 1),
    (θ_run _ _ _).mono (fun r h c => ⟨(h c).1.trans ?_, (h c).2⟩) (Cert.Kernel10Ideal.Value.run_blocks m g),
    (θ_run _ _ _).mono (fun r h c => ⟨(h c).1.trans ?_, (h c).2⟩) (Cert.Reference10Ideal.Value.run m' g')⟩
  · funext i
    exact (congrArg _ (ix2_eta i).symm).trans (array_apply m c (i 0) (i 1))
  · obtain ⟨e0, e1, e2⟩ := hargs c
    funext i
    refine (congrFun (val_main_v28_eq _ _ _) i).trans ?_
    rw [e0, e1, e2]
    exact (congrArg _ (ix2_eta i).symm).trans (reference_apply _ _ _ (i 0) (i 1))

end Cert.MixNorm

end
-- ==== Proof.Rope.Tables.lean ====
/-
  The tables of a rotary embedding of two axes as a host program builds them: an axis' angles are a product of positions
  and frequencies, spread over the tokens and set side by side lane block after lane block.
-/
module

public import proofs.«01_k».proof.Proof.Dense
public import Idealize.ShloMosaic.Lib.KernelVsHost

@[expose] public section

noncomputable section

namespace Cert.Rope

open Idealize.ShloMosaic

/-! ## Angles -/

/-- The `k`-th frequency of an axis whose lanes number `d` (given by its bits): 10000 to the power of `-2 k / d`. -/
def frequency (d : BitVec 32) (k : ℕ) : EReal :=
  FloatOps.hostPowf (F := Ideal) (φ := .f32) (FloatOps.ofBits .f32 0x461C4000#32)
    (FloatOps.hostDivf (FloatOps.hostNegf (FloatOps.addf (FloatOps.ofBits .f32 0x00000000#32)
      (FloatOps.mulf (FloatOps.ofBits .f32 0x40000000#32) (FloatOps.sitofp .f32 (BitVec.ofNat 32 k)))))
      (FloatOps.ofBits .f32 d))

/-- The angle of position `a` at the `k`-th frequency. -/
def angle (d : BitVec 32) (a k : ℕ) : EReal :=
  FloatOps.mulf (F := Ideal) (φ := .f32) (FloatOps.sitofp .f32 (BitVec.ofNat 32 a)) (frequency d k)

/-- The angle of a token's lane: blocks of `seg` lanes, the first two turned by the token's row of the image, the others by
    its column. -/
def laneAngle (seg : ℕ) (d : BitVec 32) (row lane : ℕ) : EReal :=
  angle d (if lane / seg < 2 then row / 64 else row % 64) (lane % seg)

/-! ## Spreading over the tokens -/

variable {α : Type} {n L : ℕ}

/-- A table of image rows, spread over the tokens. -/
theorem spread_rows_apply (f : (⟨2, ![128, n]⟩ : Shape).Idx → α)
    (h₁ : Shape.BroadcastsInDim ⟨2, ![128, n]⟩ ⟨3, ![128, 1, n]⟩ ![0, 2])
    (h₂ : Shape.BroadcastsInDim ⟨3, ![128, 1, n]⟩ ⟨3, ![128, 64, n]⟩ ![0, 1, 2])
    (h₃ : Shape.ShapeCasts ⟨3, ![128, 64, n]⟩ ⟨2, ![8192, n]⟩) (row : Fin 8192) (k : Fin n) :
    shapeCast ⟨2, ![8192, n]⟩ (broadcastInDim ⟨3, ![128, 64, n]⟩ ![0, 1, 2] h₂
        (broadcastInDim ⟨3, ![128, 1, n]⟩ ![0, 2] h₁ f)) h₃ (ix2 row k) = f (ix2 ⟨row / 64, by omega⟩ k) := by
  have hn : (if n = 1 then 0 else k.val) = k.val := by split <;> omega
  refine (shapeCast_apply _ h₃ (ix2 row k) (ix3 ⟨row / 64, by omega⟩ ⟨row % 64, by omega⟩ k) ?_).trans ?_
  · rw [Shape.rowMajor_val_three, Shape.rowMajor_val_two]
    show (row.val / 64 * 64 + row.val % 64) * n + k.val = row.val * n + k.val
    rw [Nat.div_add_mod']
  · refine (broadcastInDim_apply _ h₂ _ _ (ix3 ⟨row / 64, by omega⟩ 0 k) fun a => ?_).trans
      (broadcastInDim_apply _ h₁ _ _ (ix2 ⟨row / 64, by omega⟩ k) fun a => ?_)
    · match a with
      | ⟨0, _⟩ => rfl
      | ⟨1, _⟩ => rfl
      | ⟨2, _⟩ => exact hn.symm
    · match a with
      | ⟨0, _⟩ => rfl
      | ⟨1, _⟩ => exact hn.symm

/-- A table of image columns, spread over the tokens. -/
theorem spread_columns_apply (f : (⟨2, ![64, n]⟩ : Shape).Idx → α)
    (h₁ : Shape.BroadcastsInDim ⟨2, ![64, n]⟩ ⟨3, ![1, 64, n]⟩ ![1, 2])
    (h₂ : Shape.BroadcastsInDim ⟨3, ![1, 64, n]⟩ ⟨3, ![128, 64, n]⟩ ![0, 1, 2])
    (h₃ : Shape.ShapeCasts ⟨3, ![128, 64, n]⟩ ⟨2, ![8192, n]⟩) (row : Fin 8192) (k : Fin n) :
    shapeCast ⟨2, ![8192, n]⟩ (broadcastInDim ⟨3, ![128, 64, n]⟩ ![0, 1, 2] h₂
        (broadcastInDim ⟨3, ![1, 64, n]⟩ ![1, 2] h₁ f)) h₃ (ix2 row k) = f (ix2 ⟨row % 64, by omega⟩ k) := by
  have hn : (if n = 1 then 0 else k.val) = k.val := by split <;> omega
  refine (shapeCast_apply _ h₃ (ix2 row k) (ix3 ⟨row / 64, by omega⟩ ⟨row % 64, by omega⟩ k) ?_).trans ?_
  · rw [Shape.rowMajor_val_three, Shape.rowMajor_val_two]
    show (row.val / 64 * 64 + row.val % 64) * n + k.val = row.val * n + k.val
    rw [Nat.div_add_mod']
  · refine (broadcastInDim_apply _ h₂ _ _ (ix3 0 ⟨row % 64, by omega⟩ k) fun a => ?_).trans
      (broadcastInDim_apply _ h₁ _ _ (ix2 ⟨row % 64, by omega⟩ k) fun a => ?_)
    · match a with
      | ⟨0, _⟩ => rfl
      | ⟨1, _⟩ => rfl
      | ⟨2, _⟩ => exact hn.symm
    · match a with
      | ⟨0, _⟩ => rfl
      | ⟨1, _⟩ => exact hn.symm

/-! ## Side by side -/

/-- Four tables side by side are a table that agrees with each of them on its block of lanes. -/
theorem four_eq (T : (⟨2, ![8192, L]⟩ : Shape).Idx → α) (p : Fin 4 → (⟨2, ![8192, n]⟩ : Shape).Idx → α)
    (h : Shape.Concatenates [⟨2, ![8192, n]⟩, ⟨2, ![8192, n]⟩, ⟨2, ![8192, n]⟩, ⟨2, ![8192, n]⟩] ⟨2, ![8192, L]⟩ 1)
    (hL : L = n * 4)
    (hp : ∀ (b : Fin 4) (row : Fin 8192) (k : Fin n) (lane : Fin L), lane.val = n * b + k →
      p b (ix2 row k) = T (ix2 row lane)) :
    concatenate ⟨2, ![8192, L]⟩ 1 [⟨⟨2, ![8192, n]⟩, p 0⟩, ⟨⟨2, ![8192, n]⟩, p 1⟩, ⟨⟨2, ![8192, n]⟩, p 2⟩,
      ⟨⟨2, ![8192, n]⟩, p 3⟩] h = T := by
  funext i
  rw [show i = ix2 (i 0) (i 1) from (ix2_eta i).symm]
  have hi : (i 1).val < n * 4 := (i 1).isLt.trans_eq hL
  have hn : 0 < n := by by_contra hc; have h0 : n = 0 := by omega
                        rw [h0] at hi; omega
  have hb : (i 1).val / n < 4 := Nat.div_lt_of_lt_mul hi
  refine (concatenate_ofFn_apply (t := ⟨2, ![8192, L]⟩) (s₁ := ⟨2, ![8192, n]⟩) 1 p h rfl n rfl (ix2 (i 0) (i 1))
    ⟨(i 1).val / n, hb⟩ rfl (ix2 (i 0) ⟨(i 1).val % n, Nat.mod_lt _ hn⟩) rfl fun a ha => ?_).trans
    (hp _ _ _ _ (Nat.div_add_mod _ _).symm)
  match a with
  | ⟨0, _⟩ => rfl
  | ⟨1, _⟩ => exact absurd rfl ha

/-! ## The tables -/

/-- The cosines of the tokens' lanes. -/
def cosines (seg : ℕ) (d : BitVec 32) : FVec Ideal ⟨2, ![8192, L]⟩ .f32 := fun i =>
  FloatOps.hostUnary (F := Ideal) .cos (laneAngle seg d (i 0).val (i 1).val)

/-- The sines of the tokens' lanes, negative on every other block of lanes. -/
def sines (seg : ℕ) (d : BitVec 32) : FVec Ideal ⟨2, ![8192, L]⟩ .f32 := fun i =>
  if (i 1).val / seg % 2 = 0 then FloatOps.hostNegf (F := Ideal) (φ := .f32)
    (FloatOps.hostUnary .sin (laneAngle seg d (i 0).val (i 1).val))
  else FloatOps.hostUnary .sin (laneAngle seg d (i 0).val (i 1).val)

/-- The block and the lane within it. -/
theorem lane_split (b k lane : ℕ) (hk : k < n) (h : lane = n * b + k) : lane / n = b ∧ lane % n = k := by
  subst h
  exact ⟨by rw [Nat.mul_add_div (by omega), Nat.div_eq_of_lt hk, Nat.add_zero], by rw [Nat.mul_add_mod, Nat.mod_eq_of_lt hk]⟩

/-- The cosines out of the four blocks. -/
theorem cosines_eq (d : BitVec 32) (p₀ p₁ p₂ p₃ : FVec Ideal ⟨2, ![8192, n]⟩ .f32)
    (h : Shape.Concatenates [⟨2, ![8192, n]⟩, ⟨2, ![8192, n]⟩, ⟨2, ![8192, n]⟩, ⟨2, ![8192, n]⟩] ⟨2, ![8192, L]⟩ 1)
    (hL : L = n * 4)
    (hp : ∀ (row : Fin 8192) (k : Fin n),
      p₀ (ix2 row k) = FloatOps.hostUnary (F := Ideal) .cos (angle d (row / 64) k)
      ∧ p₁ (ix2 row k) = FloatOps.hostUnary (F := Ideal) .cos (angle d (row / 64) k)
      ∧ p₂ (ix2 row k) = FloatOps.hostUnary (F := Ideal) .cos (angle d (row % 64) k)
      ∧ p₃ (ix2 row k) = FloatOps.hostUnary (F := Ideal) .cos (angle d (row % 64) k)) :
    concatenate ⟨2, ![8192, L]⟩ 1 [⟨⟨2, ![8192, n]⟩, p₀⟩, ⟨⟨2, ![8192, n]⟩, p₁⟩, ⟨⟨2, ![8192, n]⟩, p₂⟩,
      ⟨⟨2, ![8192, n]⟩, p₃⟩] h = cosines n d := by
  refine four_eq _ ![p₀, p₁, p₂, p₃] h hL fun b row k lane hl => ?_
  obtain ⟨hb, hk⟩ := lane_split b.val k.val lane.val k.isLt hl
  obtain ⟨h0, h1, h2, h3⟩ := hp row k
  show _ = FloatOps.hostUnary (F := Ideal) .cos (angle d (if lane.val / n < 2 then row / 64 else row % 64) (lane.val % n))
  rw [hb, hk]
  match b with
  | 0 => exact h0
  | 1 => exact h1
  | 2 => exact h2
  | 3 => exact h3

/-- The sines out of the four blocks. -/
theorem sines_eq (d : BitVec 32) (p₀ p₁ p₂ p₃ : FVec Ideal ⟨2, ![8192, n]⟩ .f32)
    (h : Shape.Concatenates [⟨2, ![8192, n]⟩, ⟨2, ![8192, n]⟩, ⟨2, ![8192, n]⟩, ⟨2, ![8192, n]⟩] ⟨2, ![8192, L]⟩ 1)
    (hL : L = n * 4)
    (hp : ∀ (row : Fin 8192) (k : Fin n),
      p₀ (ix2 row k) = FloatOps.hostNegf (F := Ideal) (φ := .f32) (FloatOps.hostUnary .sin (angle d (row / 64) k))
      ∧ p₁ (ix2 row k) = FloatOps.hostUnary (F := Ideal) .sin (angle d (row / 64) k)
      ∧ p₂ (ix2 row k) = FloatOps.hostNegf (F := Ideal) (φ := .f32) (FloatOps.hostUnary .sin (angle d (row % 64) k))
      ∧ p₃ (ix2 row k) = FloatOps.hostUnary (F := Ideal) .sin (angle d (row % 64) k)) :
    concatenate ⟨2, ![8192, L]⟩ 1 [⟨⟨2, ![8192, n]⟩, p₀⟩, ⟨⟨2, ![8192, n]⟩, p₁⟩, ⟨⟨2, ![8192, n]⟩, p₂⟩,
      ⟨⟨2, ![8192, n]⟩, p₃⟩] h = sines n d := by
  refine four_eq _ ![p₀, p₁, p₂, p₃] h hL fun b row k lane hl => ?_
  obtain ⟨hb, hk⟩ := lane_split b.val k.val lane.val k.isLt hl
  obtain ⟨h0, h1, h2, h3⟩ := hp row k
  show _ = if lane.val / n % 2 = 0 then FloatOps.hostNegf (F := Ideal) (φ := .f32) (FloatOps.hostUnary .sin
      (angle d (if lane.val / n < 2 then row / 64 else row % 64) (lane.val % n)))
    else FloatOps.hostUnary .sin (angle d (if lane.val / n < 2 then row / 64 else row % 64) (lane.val % n))
  rw [hb, hk]
  match b with
  | 0 => exact h0
  | 1 => exact h1
  | 2 => exact h2
  | 3 => exact h3

/-- A table padded with zeros to 128 lanes. -/
theorem padded_apply (x : (⟨2, ![8192, 64]⟩ : Shape).Idx → α) {u : Shape} (v : u.Idx → α)
    (h : Shape.Pads ⟨2, ![8192, 64]⟩ ![0, 0] ![0, 64] ![0, 0] ⟨2, ![8192, 128]⟩) (hu : 0 < u.numel) (z : α)
    (hv : ∀ i, v i = z) (row : Fin 8192) (lane : Fin 128) :
    pad ⟨2, ![8192, 128]⟩ ![0, 0] ![0, 64] ![0, 0] x v h hu (ix2 row lane)
      = if hl : lane.val < 64 then x (ix2 row ⟨lane, hl⟩) else z := by
  split
  · next hl =>
    exact pad_apply_of_inside _ _ _ _ _ _ _ _ (ix2 row ⟨lane, hl⟩) fun a => by
      match a with
      | ⟨0, _⟩ => show row.val = 0 + row.val * (0 + 1); omega
      | ⟨1, _⟩ => show lane.val = 0 + lane.val * (0 + 1); omega
  · next hl =>
    refine (pad_apply_of_not_inside _ _ _ _ _ _ _ _ 1 fun hh => ?_).trans (hv _)
    have h2 : (lane.val - 0) / (0 + 1) < 64 := hh.2.2
    omega

end Cert.Rope

end
-- ==== Proof.Rope.Lanes.lean ====
/-
  A rotary embedding over 128 lanes as a kernel's vector operations spell it: every lane is multiplied by a cosine, and its
  partner, `seg` lanes further or before, by a signed sine. Then the products by the identity matrix that turn a block of
  rows into a block of columns, and the root-mean-square norm of a row of any length.
-/
module

public import proofs.«01_k».proof.Proof.Rope.Tables
public import proofs.«01_k».proof.Proof.Norm

@[expose] public section

noncomputable section

namespace Cert.Rope

open Idealize.ShloMosaic

variable {n : ℕ}

/-! ## The turn -/

/-- The lane that a lane is turned with: `seg` lanes further in an even block of `seg` lanes, before in an odd one. -/
def partner (seg : ℕ) (lane : Fin 128) : Fin 128 :=
  if lane.val / seg % 2 = 0 then ⟨(lane.val + seg) % 128, Nat.mod_lt _ (by decide)⟩
  else ⟨(lane.val + (128 - seg)) % 128, Nat.mod_lt _ (by decide)⟩

/-- A row's lane after the turn. -/
def turned (seg : ℕ) (d : BitVec 32) (row : ℕ) (y : Fin 128 → EReal) (lane : Fin 128) : EReal :=
  if lane.val / seg % 2 = 0 then
    y lane * FloatOps.hostUnary (F := Ideal) (φ := .f32) .cos (laneAngle seg d row lane)
      - y (partner seg lane) * FloatOps.hostUnary (F := Ideal) (φ := .f32) .sin (laneAngle seg d row lane)
  else
    y (partner seg lane) * FloatOps.hostUnary (F := Ideal) (φ := .f32) .sin (laneAngle seg d row lane)
      + y lane * FloatOps.hostUnary (F := Ideal) (φ := .f32) .cos (laneAngle seg d row lane)

/-- The turn out of the tables' entries. -/
theorem turned_eq {L : ℕ} (seg : ℕ) (d : BitVec 32) (row : Fin 8192) (y : Fin 128 → EReal) (lane : Fin 128) (l : Fin L)
    (hl : l.val = lane.val) :
    y lane * cosines seg d (ix2 row l) + y (partner seg lane) * sines seg d (ix2 row l) = turned seg d row y lane := by
  have hc : cosines seg d (ix2 row l) = FloatOps.hostUnary (F := Ideal) (φ := .f32) .cos (laneAngle seg d row lane) := by
    show FloatOps.hostUnary (F := Ideal) .cos (laneAngle seg d row.val l.val) = _
    rw [hl]
  have hs : sines seg d (ix2 row l) = if lane.val / seg % 2 = 0
      then -(FloatOps.hostUnary (F := Ideal) (φ := .f32) .sin (laneAngle seg d row lane) : EReal)
      else FloatOps.hostUnary (F := Ideal) (φ := .f32) .sin (laneAngle seg d row lane) := by
    show (if l.val / seg % 2 = 0 then -(FloatOps.hostUnary (F := Ideal) (φ := .f32) .sin (laneAngle seg d row.val l.val) : EReal)
      else FloatOps.hostUnary .sin (laneAngle seg d row.val l.val)) = _
    rw [hl]
  rw [hc, hs]
  unfold turned
  split
  · exact (congrArg (_ + ·) (mul_neg _ _)).trans (sub_eq_add_neg _ _).symm
  · exact add_comm _ _

/-- A rotation of the lanes. -/
theorem rotate_apply {α : Type} (a : BitVec 32) (y : (⟨2, ![n, 128]⟩ : Shape).Idx → α)
    (h : Shape.Rotates ⟨2, ![n, 128]⟩ 1 none) (row : Fin n) (lane : Fin 128) (ha : a.toNat < 128) :
    dynamicRotate 1 a none y h (ix2 row lane)
      = y (ix2 row ⟨(lane.val + (128 - a.toNat)) % 128, Nat.mod_lt _ (by decide)⟩) :=
  dynamicRotate_apply 1 a y h _ _ fun b => by
    match b with
    | ⟨0, _⟩ => rfl
    | ⟨1, _⟩ =>
      show (lane.val + (128 - a.toNat)) % 128 = (lane.val + 128 - a.toNat % 128) % 128
      rw [Nat.mod_eq_of_lt ha]
      congr 1
      omega

/-- The turn as the kernel spells it. The mask picks the even blocks of lanes; it is the same in every row. -/
theorem turn_apply (seg : ℕ) (mask : IVec ⟨2, ![n, 128]⟩ 1) (r₀ : Fin n)
    (hmask : ∀ lane : Fin 128, mask (ix2 r₀ lane) = if lane.val / seg % 2 = 0 then 1#1 else 0#1)
    (hrow : ∀ (row : Fin n) (lane : Fin 128), mask (ix2 row lane) = mask (ix2 r₀ lane))
    (a b : BitVec 32) (ha : a.toNat = 128 - seg) (hb : b.toNat = seg) (hs : 0 < seg) (hs' : seg < 128)
    (h : Shape.Rotates ⟨2, ![n, 128]⟩ 1 none) (y c s : FVec Ideal ⟨2, ![n, 128]⟩ .f32) (row : Fin n) (lane : Fin 128) :
    addf (mulf y c) (mulf (select mask (dynamicRotate 1 a none y h) (dynamicRotate 1 b none y h)) s) (ix2 row lane)
      = y (ix2 row lane) * c (ix2 row lane) + y (ix2 row (partner seg lane)) * s (ix2 row lane) := by
  refine congrArg (fun z : EReal => y (ix2 row lane) * c (ix2 row lane) + z * s (ix2 row lane)) ?_
  show Scalar.select (mask (ix2 row lane)) (dynamicRotate 1 a none y h (ix2 row lane))
    (dynamicRotate 1 b none y h (ix2 row lane)) = _
  rw [hrow, hmask, rotate_apply a y h row lane (by omega), rotate_apply b y h row lane (by omega)]
  unfold partner
  split
  · refine congrArg (fun l => y (ix2 row l)) (Fin.ext ?_)
    show (lane.val + (128 - a.toNat)) % 128 = (lane.val + seg) % 128
    rw [ha]; congr 2; omega
  · refine congrArg (fun l => y (ix2 row l)) (Fin.ext ?_)
    show (lane.val + (128 - b.toNat)) % 128 = (lane.val + (128 - seg)) % 128
    rw [hb]

/-! ## Rows into columns -/

/-- The identity matrix that the kernel builds out of two counts. -/
theorem identity_apply (h₀ : Shape.Iotas ⟨2, ![128, 128]⟩ .tc 32 [0]) (h₁ : Shape.Iotas ⟨2, ![128, 128]⟩ .tc 32 [1])
    (f k : Fin 128) :
    select (cmpi .eq (iota .tc ⟨2, ![128, 128]⟩ 32 [0] h₀) (iota .tc ⟨2, ![128, 128]⟩ 32 [1] h₁))
      (broadcast ⟨2, ![128, 128]⟩ (Scalar.ofBits (F := Ideal) .f32 0x3F800000#32))
      (broadcast ⟨2, ![128, 128]⟩ (Scalar.ofBits (F := Ideal) .f32 0x00000000#32)) (ix2 f k)
      = if f = k then (1 : EReal) else 0 := by
  show Scalar.select (IntOp.cmpi .eq (BitVec.ofNat 32 (0 * 128 + f.val)) (BitVec.ofNat 32 (0 * 128 + k.val)))
    (Ideal.ofBits .f32 0x3F800000#32) (Ideal.ofBits .f32 0x00000000#32) = _
  rw [Ideal.ofBits_zero_f32, show Ideal.ofBits .f32 0x3F800000#32 = 1 from Ideal.ofBits_one_f32]
  by_cases h : f = k
  · subst h; rw [if_pos rfl]; simp [IntOp.cmpi, Scalar.select]
  · have hne : BitVec.ofNat 32 (0 * 128 + f.val) ≠ BitVec.ofNat 32 (0 * 128 + k.val) := fun e => h (Fin.ext (by
      have := congrArg BitVec.toNat e
      simp only [BitVec.toNat_ofNat] at this
      omega))
    rw [if_neg h]; simp only [IntOp.cmpi, beq_eq_false_iff_ne.mpr hne]; rfl

/-- A product by the identity, rows by rows, is the transposed block. -/
theorem flip_apply (eye : FVec Ideal ⟨2, ![128, 128]⟩ .bf16) (heye : ∀ f k, eye (ix2 f k) = if f = k then (1 : EReal) else 0)
    (x : FVec Ideal ⟨2, ![n, 128]⟩ .bf16) (f : Fin 128) (t : Fin n) :
    FloatOps.matmul (DotDims.transposedRhs 128 128 n) none eye x (constant ⟨2, ![128, n]⟩ .f32 0x00000000#32) (ix2 f t)
      = x (ix2 t f) := by
  refine (Ideal.matmul_transposedRhs_apply none eye x _ f t).trans ?_
  rw [show (constant ⟨2, ![128, n]⟩ .f32 0x00000000#32 : FVec Ideal ⟨2, ![128, n]⟩ .f32) (ValueIdx.ix2 f t) = 0
      from Ideal.ofBits_zero_f32, zero_add]
  refine (Finset.sum_eq_single f (fun k _ hk => ?_) fun h => absurd (Finset.mem_univ f) h).trans ?_
  · show eye (ix2 f k) * x (ix2 t k) = 0
    rw [heye, if_neg (Ne.symm hk), zero_mul]
  · show eye (ix2 f f) * x (ix2 t f) = _
    rw [heye, if_pos rfl, one_mul]

/-- The identity matrix of the transposing products. -/
def eye : FVec Ideal ⟨2, ![128, 128]⟩ .bf16 :=
  truncf .bf16 (select (cmpi .eq (iota .tc ⟨2, ![128, 128]⟩ 32 [0] (by decide)) (iota .tc ⟨2, ![128, 128]⟩ 32 [1] (by decide)))
    (broadcast ⟨2, ![128, 128]⟩ (Scalar.ofBits (F := Ideal) .f32 0x3F800000#32))
    (broadcast ⟨2, ![128, 128]⟩ (Scalar.ofBits (F := Ideal) .f32 0x00000000#32))) (by decide)

/-- One transposed tile of 128 columns. -/
def tile {r : ℕ} (x : FVec Ideal ⟨2, ![n, r]⟩ .bf16) (o : ℕ)
    (h : (⟨2, ![n, r]⟩ : Shape).Slices ![0, o] ⟨2, ![n, 128]⟩) : FVec Ideal ⟨2, ![128, n]⟩ .f32 :=
  FloatOps.matmul (φ₁ := .bf16) (φ₂ := .bf16) (DotDims.transposedRhs 128 128 n) none eye (extractStridedSlice ⟨2, ![n, 128]⟩ ![0, o] x h)
    (constant ⟨2, ![128, n]⟩ .f32 0x00000000#32)

theorem tile_apply {r : ℕ} (x : FVec Ideal ⟨2, ![n, r]⟩ .bf16) (o : ℕ)
    (h : (⟨2, ![n, r]⟩ : Shape).Slices ![0, o] ⟨2, ![n, 128]⟩) (f : Fin 128) (t : Fin n) (f' : Fin r)
    (hf : f'.val = o + f.val) : tile x o h (ix2 f t) = x (ix2 t f') :=
  (flip_apply eye (identity_apply _ _) _ f t).trans (extractStridedSlice_apply _ _ _ _ (ix2 t f') fun a => by
    match a with
    | ⟨0, _⟩ => exact (Nat.zero_add _).symm
    | ⟨1, _⟩ => exact hf)

/-- All the tiles of a block, one under the other, are the transposed block. -/
theorem stack_apply {N r : ℕ} (x : FVec Ideal ⟨2, ![n, r]⟩ .bf16)
    (h : ∀ k : Fin N, (⟨2, ![n, r]⟩ : Shape).Slices ![0, 128 * k.val] ⟨2, ![n, 128]⟩)
    (hc : Shape.Concatenates ((List.ofFn fun k : Fin N => (⟨⟨2, ![128, n]⟩, tile x (128 * k.val) (h k)⟩ :
      (s : Shape) × (s.Idx → EReal))).map (·.1)) ⟨2, ![r, n]⟩ 0) (hN : r = 128 * N) (f : Fin r) (t : Fin n) :
    concatenate ⟨2, ![r, n]⟩ 0 (List.ofFn fun k : Fin N => (⟨⟨2, ![128, n]⟩, tile x (128 * k.val) (h k)⟩ :
      (s : Shape) × (s.Idx → EReal))) hc (ix2 f t) = x (ix2 t f) := by
  have hf : f.val / 128 < N := by have := f.isLt; omega
  refine (concatenate_ofFn_apply (t := ⟨2, ![r, n]⟩) (s₁ := ⟨2, ![128, n]⟩) 0
    (fun k : Fin N => tile x (128 * k.val) (h k)) hc rfl 128 rfl (ix2 f t) ⟨f.val / 128, hf⟩ rfl
    (ix2 ⟨f.val % 128, Nat.mod_lt _ (by decide)⟩ t) rfl fun a ha => ?_).trans
    (tile_apply x _ _ _ t f (Nat.div_add_mod f.val 128).symm)
  match a with
  | ⟨0, _⟩ => exact absurd rfl ha
  | ⟨1, _⟩ => rfl

/-- A block in a slot of its own. -/
theorem slot_apply {α : Type} {e : ℕ} (x : (⟨2, ![e, n]⟩ : Shape).Idx → α)
    (h : (⟨2, ![e, n]⟩ : Shape).ShapeCasts ⟨3, ![1, e, n]⟩) (f : Fin e) (t : Fin n) :
    shapeCast ⟨3, ![1, e, n]⟩ x h (ix3 0 f t) = x (ix2 f t) :=
  shapeCast_apply x _ _ _ (by
    rw [Shape.rowMajor_val_three, Shape.rowMajor_val_two]; show f.val * n + t.val = (0 * e + f.val) * n + t.val; simp)

/-! ## The norm -/

/-- One over the root of the mean of a row's squares, with the norm's small constant added to the mean; `w` is the bits of
    the row's length. -/
def rowScale {r : ℕ} (w : BitVec 32) (y : Fin r → EReal) : EReal :=
  FloatOps.rsqrt (F := Ideal) (φ := .f32) (FloatOps.addf (FloatOps.divf (∑ k, y k * y k : EReal)
    (FloatOps.ofBits .f32 w)) (FloatOps.ofBits .f32 0x358637BD#32))

/-- A row's number after the norm, at a column with the gain `g`. -/
def headed {r : ℕ} (w : BitVec 32) (y : Fin r → EReal) (g : EReal) (j : Fin r) : EReal := y j * rowScale w y * g

variable {r : ℕ}

theorem casts_column (n : ℕ) : (⟨1, ![n]⟩ : Shape).ShapeCasts ⟨2, ![n, 1]⟩ := by
  simp [Shape.ShapeCasts, Shape.numel, Fin.prod_univ_succ]

/-- A number for each row, as a column. -/
theorem column_apply {α : Type} (x : (⟨1, ![n]⟩ : Shape).Idx → α) (i : Fin n) :
    shapeCast ⟨2, ![n, 1]⟩ x (casts_column n) (ix2 i 0) = x (ix1 i) :=
  shapeCast_apply x _ _ _ (by
    rw [Shape.rowMajor_val_one, Shape.rowMajor_val_two]
    show i.val = i.val * 1 + 0
    omega)

/-- A column spread over the lanes. -/
theorem spread_apply {α : Type} (x : (⟨2, ![n, 1]⟩ : Shape).Idx → α) (h : (⟨2, ![n, 1]⟩ : Shape).Broadcasts ⟨2, ![n, r]⟩)
    (i : Fin n) (j : Fin r) : broadcastTo ⟨2, ![n, r]⟩ x h (ix2 i j) = x (ix2 i 0) :=
  broadcastTo_apply x _ _ _ fun a => by
    match a with
    | ⟨0, _⟩ =>
      show i.val = if n = 1 then 0 else i.val
      split <;> omega
    | ⟨1, _⟩ => rfl

/-- The norm as the kernel spells it. -/
theorem headed_apply (w : BitVec 32) (x : FVec Ideal ⟨2, ![n, r]⟩ .f32) (g : FVec Ideal ⟨2, ![1, r]⟩ .f32)
    (h : Shape.Reduces ⟨2, ![n, r]⟩ [1] ⟨1, ![n]⟩) (hφ : FKind.Formats .f32)
    (hacc : (0x00000000#32 : BitVec 32) = FKind.add.neutral .f32 hφ)
    (hb : (⟨2, ![n, 1]⟩ : Shape).Broadcasts ⟨2, ![n, r]⟩) (i : Fin n) (j : Fin r) :
    mulf (mulf x (broadcastTo ⟨2, ![n, r]⟩ (rsqrt (addf (divf
        (shapeCast ⟨2, ![n, 1]⟩ (multiReduction .add [1] ⟨1, ![n]⟩ (mulf x x) 0x00000000#32 h hφ hacc) (casts_column n))
        (broadcast ⟨2, ![n, 1]⟩ (Scalar.ofBits .f32 w)))
        (broadcast ⟨2, ![n, 1]⟩ (Scalar.ofBits .f32 0x358637BD#32)) : FVec Ideal ⟨2, ![n, 1]⟩ .f32)) hb))
      (broadcastTo ⟨2, ![n, r]⟩ g (Cert.Online.broadcasts_row n r)) (ix2 i j)
      = headed w (fun k => x (ix2 i k)) (g (ix2 0 j)) j := by
  have hs := (column_apply (multiReduction .add [1] ⟨1, ![n]⟩ (mulf x x) 0x00000000#32 h hφ hacc) i).trans
    (Cert.Norm.squares_apply (n := n) (r := r) x h hφ hacc i)
  refine congrArg₂ (· * ·) (congrArg (x (ix2 i j) * ·) ((spread_apply _ hb i j).trans ?_))
    (Cert.Online.bcast_row_apply g i j)
  exact congrArg (fun z : EReal => FloatOps.rsqrt (F := Ideal) (φ := .f32)
    (FloatOps.addf (FloatOps.divf z (FloatOps.ofBits .f32 w)) (FloatOps.ofBits .f32 0x358637BD#32))) hs

end Cert.Rope

end
-- ==== Proof.KvPrep.Block.lean ====
/-
  The preparation of the keys and values at a grid point of 512 rows: what the point stores, at a row and a column, in
  terms of its input blocks.
-/
module

public import proofs.«01_k».proof.Proof.Gen.Kernel13Ideal.Value
public import proofs.«01_k».proof.Proof.Rope.Lanes
public import proofs.«01_k».proof.Proof.Merge.Block

@[expose] public section

set_option maxRecDepth 16384

noncomputable section

namespace Cert.KvPrep

open Cert.Kernel13Ideal Cert.Kernel13Ideal.Gen Cert.Rope
open Idealize.ShloMosaic Idealize.ShloMosaic.TcCoe Idealize.SL.Sem

/-- A kernel's lane from its partner, out of the tables' blocks. -/
def mixed (seg : ℕ) (y : Fin 128 → EReal) (c s : Vec Ideal S512x128 .f32) (i : Fin 512) (j : Fin 128) : EReal :=
  y j * c (ix2 i j) + y (partner seg j) * s (ix2 i j)

theorem product_mid_apply (x : FVec Ideal S512x512 .bf16) (w : FVec Ideal S512x1024 .bf16) (i : Fin 512) (j : Fin 1024) :
    matmul dot_S512x512_S512x1024_S512x1024_1_0_0_1_n_n none x w (constant S512x1024 .f32 0x00000000#32) (ix2 i j)
      = ∑ k : Fin 512, x (ix2 i k) * w (ix2 k j) := Cert.Online.matmul_apply (φ₁ := .bf16) (φ₂ := .bf16) x w i j

section Heads

variable (g : Vec Ideal S1x128 .f32) (x : Vec Ideal S512x128 .bf16) (c s : Vec Ideal S512x128 .f32)
  (i : Fin 512) (j : Fin 128)

/-- A head's normed row. -/
theorem head_norm_apply : k0_pay6 g x (ix2 i j)
    = headed 0x43000000#32 (fun k => x (ix2 i k)) (g (ix2 0 j)) j :=
  (headed_apply 0x43000000#32 (n := 512) (r := 128) (extf .f32 x bitsLt_bf16_f32) _ reduces_S512x128_S512 (.inl rfl) rfl
    broadcasts_S512x1_S512x128 i j).trans (congrArg (fun z => headed _ _ z j) (Cert.Merge.same_apply g _ _))

/-- The first head of keys. -/
theorem first_key_apply :
    k0_pay11 (k0_pay6 g x) (k0_pay7 c) (k0_pay8 s) k0_pay9 k0_pay10 (ix2 i j)
      = mixed 32 (fun l => headed 0x43000000#32 (fun k => x (ix2 i k)) (g (ix2 0 l)) l) c s i j := by
  refine (turn_apply 32 _ 0 (by decide +kernel) (fun _ _ => rfl) 96#32 32#32 rfl rfl (by decide) (by decide)
    rotates_S512x128_d1 (k0_pay6 g x) (k0_pay7 c) (k0_pay8 s) i j).trans ?_
  rw [head_norm_apply, head_norm_apply]
  exact congrArg₂ (fun a b : EReal => _ * a + _ * b) (Cert.Merge.same_apply c _ _) (Cert.Merge.same_apply s _ _)

/-- The second head of keys: the same. -/
theorem second_key_apply :
    k0_pay19 (k0_pay14 (k0_pay12 x) (k0_pay13 (k0_pay5 g))) (k0_pay15 c) (k0_pay16 s)
        (Scalar.select (Scalar.cmpi .eq 2#32 0#32) 1#32 2#32) k0_pay17 k0_pay18 (ix2 i j)
      = mixed 32 (fun l => headed 0x43000000#32 (fun k => x (ix2 i k)) (g (ix2 0 l)) l) c s i j :=
  first_key_apply g x c s i j

/-- The rotary part that all the latent heads share. -/
theorem shared_key_apply :
    k0_pay34 (k0_pay29 x) (k0_pay30 c) (k0_pay31 s)
        (Scalar.select (Scalar.cmpi .eq 2#32 0#32) 1#32 2#32) k0_pay32 k0_pay33 0#32 (ix2 i j)
      = mixed 16 (fun l => x (ix2 i l)) c s i j := by
  refine (turn_apply 16 _ 0 (by decide +kernel) (fun _ _ => rfl) 112#32 16#32 rfl rfl (by decide) (by decide)
    rotates_S512x128_d1 (k0_pay29 x) (k0_pay30 c) (k0_pay31 s) i j).trans ?_
  exact congrArg₂ (fun a b : EReal => _ * a + _ * b) (Cert.Merge.same_apply c _ _) (Cert.Merge.same_apply s _ _)

end Heads

section Latent

variable (x : Vec Ideal S512x512 .bf16) (g : Vec Ideal S1x512 .f32) (w : Vec Ideal S512x1024 .bf16)

/-- The latent keys' or values' product: a normed row by a column of weights. -/
def latent (i : Fin 512) (j : Fin 1024) : EReal :=
  ∑ k : Fin 512, headed 0x44000000#32 (fun l => x (ix2 i l)) (g (ix2 0 k)) k * w (ix2 k j)

theorem latent_norm_apply (i k : Fin 512) : k0_pay25 (k0_pay21 x) (k0_pay22 g) (k0_pay23 x) k0_pay24 (ix2 i k)
    = headed 0x44000000#32 (fun l => x (ix2 i l)) (g (ix2 0 k)) k :=
  (headed_apply 0x44000000#32 (n := 512) (r := 512) (extf .f32 x bitsLt_bf16_f32) _ reduces_S512x512_S512 (.inl rfl) rfl
    broadcasts_S512x1_S512x512 i k).trans (congrArg (fun z => headed _ _ z k) (Cert.Merge.same_apply g _ _))

theorem latent_apply (i : Fin 512) (j : Fin 1024) :
    k0_pay26 (k0_pay21 x) (k0_pay22 g) (k0_pay23 x) k0_pay24 w (ix2 i j) = latent x g w i j :=
  (product_mid_apply _ _ i j).trans (Finset.sum_congr rfl fun k _ =>
    congrArg₂ (· * ·) (latent_norm_apply x g i k) (Cert.Merge.same_apply w _ _))

end Latent

/-! ## Columns of values -/

/-- The values turned into columns. -/
theorem values_apply (x : Vec Ideal S512x256 .bf16) (f : Fin 256) (t : Fin 512) : k0_pay20 x (ix3 0 f t) = x (ix2 t f) :=
  (slot_apply _ _ f t).trans (stack_apply (N := 2) x (fun n => by decide +revert)
    concatenates_S128x512_S128x512_S256x512_d0 rfl f t)

/-- The latent values turned into columns. -/
theorem latent_values_apply (x : Vec Ideal S512x512 .bf16) (g : Vec Ideal S1x512 .f32) (w : Vec Ideal S512x1024 .bf16)
    (f : Fin 1024) (t : Fin 512) :
    k0_pay28 (k0_pay27 (k0_pay21 x) (k0_pay22 g) (k0_pay23 x) k0_pay24 w) (ix3 0 f t) = latent x g w t f :=
  (slot_apply _ _ f t).trans ((stack_apply (N := 8) (k0_pay26 (k0_pay21 x) (k0_pay22 g) (k0_pay23 x) k0_pay24 w)
    (fun n => by decide +revert)
    concatenates_S128x512_S128x512_S128x512_S128x512_S128x512_S128x512_S128x512_S128x512_S1024x512_d0 rfl f t).trans
    (latent_apply x g w t f))

end Cert.KvPrep

end
-- ==== Proof.KvPrep.Points.lean ====
/-
  The four blocks that a grid point of the keys' and values' preparation leaves, put together from its stores.
-/
module

public import proofs.«01_k».proof.Proof.KvPrep.Block
public import Idealize.ShloMosaic.Lib.Pipeline.ValueKit
public import Idealize.ShloMosaic.Lib.Pipeline.ReadBack
import all proofs.«01_k».proof.Proof.Gen.Kernel13Ideal.Frame.RunA

@[expose] public section

set_option maxRecDepth 16384

noncomputable section

namespace Cert.KvPrep

open Cert.Kernel13Ideal Cert.Kernel13Ideal.Gen Cert.Rope
open Idealize.ShloMosaic Idealize.ShloMosaic.TcCoe Idealize.SL.Sem

/-- A head of the keys in a block of two heads. -/
def keyPair (x : Vec Ideal S512x256 .bf16) (g : Vec Ideal S1x128 .f32) (c s : Vec Ideal S512x128 .f32) (i : Fin 512)
    (j : Fin 256) : EReal :=
  mixed 32 (fun l => headed 0x43000000#32 (fun k : Fin 128 => x (ix2 i ⟨128 * (j.val / 128) + k.val, by omega⟩))
    (g (ix2 0 l)) l) c s i ⟨j.val % 128, Nat.mod_lt _ (by decide)⟩

/-- The latent keys: a head has 128 columns of the product and 128 of the shared rotary part. -/
def latentKey (x : Vec Ideal S512x512 .bf16) (g : Vec Ideal S1x512 .f32) (w : Vec Ideal S512x1024 .bf16)
    (kr : Vec Ideal S512x128 .bf16) (c s : Vec Ideal S512x128 .f32) (i : Fin 512) (j : Fin 2048) : EReal :=
  if j.val % 256 < 128 then latent x g w i ⟨128 * (j.val / 256) + j.val % 128, by omega⟩
  else mixed 16 (fun l => kr (ix2 i l)) c s i ⟨j.val % 128, Nat.mod_lt _ (by decide)⟩

/-- A head of the keys, stored at its columns. -/
theorem key_at (x : Vec Ideal S512x256 .bf16) (g : Vec Ideal S1x128 .f32) (c s : Vec Ideal S512x128 .f32) (i : Fin 512)
    (j : Fin 256) (h : Fin 2) (hb : ∀ a, (![0, 128 * h.val] : Fin 2 → ℕ) a + S512x128.size a ≤ S512x256.size a)
    (w : Vec Ideal S512x128 .bf16)
    (hw : ∀ (i : Fin 512) (j : Fin 128), w (ix2 i j) = mixed 32 (fun l => headed 0x43000000#32 (fun k =>
      View.ld (Val := Elt Ideal) x (Rect.unit (s := S512x256) ![0, 128 * h.val] S512x128.size hb) (ix2 i k)) (g (ix2 0 l)) l) c s i j) :
    View.TileAt (Val := Elt Ideal) (e := .bf16) (S := S512x256) (ix2 i j) ![0, 128 * h.val] S512x128.size w
      (keyPair x g c s i j) := by
  intro y hy
  have h0 : i = y 0 := Fin.ext ((hy 0).trans (Nat.zero_add _))
  have h1 : j.val = 128 * h.val + (y 1).val := hy 1
  have hlt : (y 1).val < 128 := (y 1).isLt
  rw [show y = ix2 (y 0) (y 1) from (ix2_eta y).symm]
  refine (hw _ _).trans ?_
  unfold keyPair
  rw [← h0, show (⟨j.val % 128, Nat.mod_lt _ (by decide)⟩ : Fin 128) = y 1 from Fin.ext (by show j.val % 128 = _; omega)]
  congr 1
  funext l
  congr 1
  funext k
  exact View.ld_unit_apply_of _ _ _ _ _ _ fun a => by
    match a with
    | ⟨0, _⟩ => exact (Nat.zero_add _).symm
    | ⟨1, _⟩ => show 128 * (j.val / 128) + k.val = 128 * h.val + k.val; omega

/-- Columns of the latent product, stored at a head's first half. -/
theorem latent_at (x : Vec Ideal S512x512 .bf16) (g : Vec Ideal S1x512 .f32) (w : Vec Ideal S512x1024 .bf16)
    (kr : Vec Ideal S512x128 .bf16) (c s : Vec Ideal S512x128 .f32) (i : Fin 512) (j : Fin 2048) (h : Fin 8)
    (hs : S512x1024.Slices ![0, 128 * h.val] S512x128) :
    View.TileAt (Val := Elt Ideal) (e := .bf16) (S := S512x2048) (ix2 i j) ![0, 256 * h.val] S512x128.size
      (extractStridedSlice S512x128 ![0, 128 * h.val] (k0_pay26 (k0_pay21 x) (k0_pay22 g) (k0_pay23 x) k0_pay24 w) hs)
      (latentKey x g w kr c s i j) := by
  intro y hy
  have h0 : i = y 0 := Fin.ext ((hy 0).trans (Nat.zero_add _))
  have h1 : j.val = 256 * h.val + (y 1).val := hy 1
  have hlt : (y 1).val < 128 := (y 1).isLt
  unfold latentKey
  rw [if_pos (by omega), ← latent_apply]
  exact extractStridedSlice_apply _ _ _ _ _ fun a => by
    match a with
    | ⟨0, _⟩ => exact congrArg Fin.val h0 |>.trans (Nat.zero_add _).symm
    | ⟨1, _⟩ => show 128 * (j.val / 256) + j.val % 128 = 128 * h.val + (y 1).val; omega

/-- The rotary part, stored at a head's second half. -/
theorem shared_at (x : Vec Ideal S512x512 .bf16) (g : Vec Ideal S1x512 .f32) (w : Vec Ideal S512x1024 .bf16)
    (kr : Vec Ideal S512x128 .bf16) (c s : Vec Ideal S512x128 .f32) (i : Fin 512) (j : Fin 2048) (h : Fin 8) :
    View.TileAt (Val := Elt Ideal) (e := .bf16) (S := S512x2048) (ix2 i j) ![0, 256 * h.val + 128] S512x128.size
      (k0_pay34 (k0_pay29 kr) (k0_pay30 c) (k0_pay31 s) (Scalar.select (Scalar.cmpi .eq 2#32 0#32) 1#32 2#32)
        k0_pay32 k0_pay33 0#32)
      (latentKey x g w kr c s i j) := by
  intro y hy
  have h0 : i = y 0 := Fin.ext ((hy 0).trans (Nat.zero_add _))
  have h1 : j.val = 256 * h.val + 128 + (y 1).val := hy 1
  have hlt : (y 1).val < 128 := (y 1).isLt
  unfold latentKey
  rw [if_neg (by omega), show y = ix2 (y 0) (y 1) from (ix2_eta y).symm]
  refine (shared_key_apply kr c s (y 0) (y 1)).trans ?_
  rw [← h0, show (⟨j.val % 128, Nat.mod_lt _ (by decide)⟩ : Fin 128) = y 1 from Fin.ext (by show j.val % 128 = _; omega)]

theorem slices_at : ∀ h : Fin 8, S512x1024.Slices ![0, 128 * h.val] S512x128 := by decide

/-- Both halves of a head, in front of the stores before them. -/
theorem head_at (x : Vec Ideal S512x512 .bf16) (g : Vec Ideal S1x512 .f32) (w : Vec Ideal S512x1024 .bf16)
    (kr : Vec Ideal S512x128 .bf16) (c s : Vec Ideal S512x128 .f32) (i : Fin 512) (j : Fin 2048) (h : Fin 8)
    (h₁ : ∀ a, (![0, 256 * h.val + 128] : Fin 2 → ℕ) a + S512x128.size a ≤ S512x2048.size a)
    (h₂ : ∀ a, (![0, 256 * h.val] : Fin 2 → ℕ) a + S512x128.size a ≤ S512x2048.size a)
    (L : List (View.Piece (Elt Ideal) S512x2048 .bf16)) (hL : View.AllAt L (ix2 i j) (latentKey x g w kr c s i j)) :
    View.AllAt (⟨Rect.unit (s := S512x2048) ![0, 256 * h.val + 128] S512x128.size h₁,
        k0_pay34 (k0_pay29 kr) (k0_pay30 c) (k0_pay31 s) (Scalar.select (Scalar.cmpi .eq 2#32 0#32) 1#32 2#32)
          k0_pay32 k0_pay33 0#32⟩ ::
      ⟨Rect.unit (s := S512x2048) ![0, 256 * h.val] S512x128.size h₂,
        extractStridedSlice S512x128 ![0, 128 * h.val] (k0_pay26 (k0_pay21 x) (k0_pay22 g) (k0_pay23 x) k0_pay24 w) (slices_at h)⟩ :: L)
      (ix2 i j) (latentKey x g w kr c s i j) :=
  View.allAt_cons_unit _ _ _ _ _ (shared_at x g w kr c s i j h)
    (View.allAt_cons_unit _ _ _ _ _ (latent_at x g w kr c s i j h (slices_at h)) hL)

section Runs

variable (c : Dev nD) (i : grid0.Coords)
  (arg1 : Memref sig .tc .vmem S512x256 .bf16) (harg1 : arg1.IsWhole) (arg2 : Memref sig .tc .vmem S512x256 .bf16) (harg2 : arg2.IsWhole)
  (arg3 : Memref sig .tc .vmem S512x512 .bf16) (harg3 : arg3.IsWhole) (arg4 : Memref sig .tc .vmem S512x128 .bf16) (harg4 : arg4.IsWhole)
  (arg5 : Memref sig .tc .vmem S1x128 .f32) (harg5 : arg5.IsWhole) (arg6 : Memref sig .tc .vmem S1x512 .f32) (harg6 : arg6.IsWhole)
  (arg7 : Memref sig .tc .vmem S512x1024 .bf16) (harg7 : arg7.IsWhole) (arg8 : Memref sig .tc .vmem S512x1024 .bf16) (harg8 : arg8.IsWhole)
  (arg9 : Memref sig .tc .vmem S512x128 .f32) (harg9 : arg9.IsWhole) (arg10 : Memref sig .tc .vmem S512x128 .f32) (harg10 : arg10.IsWhole)
  (arg11 : Memref sig .tc .vmem S512x128 .f32) (harg11 : arg11.IsWhole) (arg12 : Memref sig .tc .vmem S512x128 .f32) (harg12 : arg12.IsWhole)
  (arg13 : Memref sig .tc .vmem S512x256 .bf16) (harg13 : arg13.IsWhole) (arg14 : Memref sig .tc .vmem S512x2048 .bf16) (harg14 : arg14.IsWhole)
  (arg15 : Memref sig .tc .vmem S1x256x512 .bf16) (harg15 : arg15.IsWhole) (arg16 : Memref sig .tc .vmem S1x1024x512 .bf16) (harg16 : arg16.IsWhole)
  (x0 x1 : Vec Ideal S512x256 .bf16) (x2 : Vec Ideal S512x512 .bf16) (x3 : Vec Ideal S512x128 .bf16)
  (x4 : Vec Ideal S1x128 .f32) (x5 : Vec Ideal S1x512 .f32) (x6 x7 : Vec Ideal S512x1024 .bf16)
  (x8 x9 x10 x11 : Vec Ideal S512x128 .f32)

theorem keys_apply (a : Fin 512) (b : Fin 256) :
    out0_A_12 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16
      x0 x1 x2 x3 x4 x5 x6 x7 x8 x9 x10 x11 (ix2 a b) = keyPair x0 x4 x8 x9 a b := by
  unfold out0_A_12
  rw [View.read_writes_junk_eq_canon]
  refine View.canon_eq_of_allAt _ _ _ (cover0_A_12 _ _ _ _ _ _ _ _ _ _ _ _ _ _ _ _ _ _ _ _ _ _ _ _ _ _ _ _ _ _ _ _ _ _ _ _ _ _ _ _ _ _ _ _ _ _ _) ?_
  unfold kernelRun0_A
  dsimp only
  sl_unfold_words
  simp (disch := decide) only [View.readAt_eq_ld, harg1.read_unread, harg5.read_unread, harg9.read_unread,
    harg10.read_unread, View.ld_unit_lit]
  refine View.allAt_cons_unit _ _ _ _ _ ?_ (View.allAt_cons_unit _ _ _ _ _ ?_ (View.allAt_nil _ _))
  · exact key_at x0 x4 x8 x9 a b 1 _ _ (second_key_apply x4 _ x8 x9)
  · exact key_at x0 x4 x8 x9 a b 0 _ _ (first_key_apply x4 _ x8 x9)

theorem latent_keys_apply (a : Fin 512) (b : Fin 2048) :
    out0_A_13 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16
      x0 x1 x2 x3 x4 x5 x6 x7 x8 x9 x10 x11 (ix2 a b) = latentKey x2 x5 x6 x3 x10 x11 a b := by
  unfold out0_A_13
  rw [View.read_writes_junk_eq_canon]
  refine View.canon_eq_of_allAt _ _ _ (cover0_A_13 _ _ _ _ _ _ _ _ _ _ _ _ _ _ _ _ _ _ _ _ _ _ _ _ _ _ _ _ _ _ _ _ _ _ _ _ _ _ _ _ _ _ _ _ _ _ _) ?_
  unfold kernelRun0_A
  dsimp only
  sl_unfold_words
  simp (disch := decide) only [View.readAt_eq_ld, harg3.read_unread, harg4.read_unread, harg6.read_unread, harg7.read_unread,
    harg11.read_unread, harg12.read_unread, View.ld_unit_lit]
  exact head_at _ _ _ _ _ _ _ _ 7 _ _ _ <| head_at _ _ _ _ _ _ _ _ 6 _ _ _ <| head_at _ _ _ _ _ _ _ _ 5 _ _ _ <|
    head_at _ _ _ _ _ _ _ _ 4 _ _ _ <| head_at _ _ _ _ _ _ _ _ 3 _ _ _ <| head_at _ _ _ _ _ _ _ _ 2 _ _ _ <|
    head_at _ _ _ _ _ _ _ _ 1 _ _ _ <| head_at _ _ _ _ _ _ _ _ 0 _ _ _ <| View.allAt_nil _ _

theorem values_block_apply (f : Fin 256) (t : Fin 512) :
    out0_A_14 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16
      x0 x1 x2 x3 x4 x5 x6 x7 x8 x9 x10 x11 (ix3 0 f t) = x1 (ix2 t f) := by
  unfold out0_A_14
  rw [View.read_writes_junk_eq_canon]
  unfold kernelRun0_A
  dsimp only
  sl_unfold_words
  simp (disch := decide) only [View.readAt_eq_ld, harg2.read_unread, View.ld_unit_lit]
  rw [View.canon_cons_unit_lit _ _ _ (by decide)]
  exact values_apply x1 f t

theorem latent_values_block_apply (f : Fin 1024) (t : Fin 512) :
    out0_A_15 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16
      x0 x1 x2 x3 x4 x5 x6 x7 x8 x9 x10 x11 (ix3 0 f t) = latent x2 x5 x7 t f := by
  unfold out0_A_15
  rw [View.read_writes_junk_eq_canon]
  unfold kernelRun0_A
  dsimp only
  sl_unfold_words
  simp (disch := decide) only [View.readAt_eq_ld, harg3.read_unread, harg6.read_unread, harg8.read_unread, View.ld_unit_lit]
  rw [View.canon_cons_unit_lit _ _ _ (by decide)]
  exact latent_values_apply x2 x5 x7 f t

end Runs

end Cert.KvPrep

end
-- ==== Proof.KvPrep.Tables.lean ====
/-
  What the host prepares for the keys' and values' preparation: the tables of cosines and sines, the latent weights
  split in the keys' and the values' halves, and the gains as rows.
-/
module

public import proofs.«01_k».proof.Proof.Gen.Kernel13Ideal.Value
public import proofs.«01_k».proof.Proof.Rope.Tables

@[expose] public section

set_option maxRecDepth 16384

noncomputable section

namespace Cert.KvPrep

open Cert.Kernel13Ideal Cert.Kernel13Ideal.Gen Cert.Kernel13Ideal.Value Cert.Rope
open Idealize.ShloMosaic Idealize.ShloMosaic.TcCoe Idealize.SL.Sem

variable (m : (ℓ : Loc nD τ sig) → Buf (Elt Ideal) ℓ) (c : Dev nD)

/-! ## The tables -/

/-- The cosines of the keys' lanes. -/
theorem cos_wide_eq : V m c main_v53 = (cosines 32 0x42800000#32 : FVec Ideal S8192x128 .f32) := by
  show StableHlo.after (List.flatten [hostOps0, hostOps0_1, hostOps0_2, hostOps0_3, hostOps0_4]) _
    (Proc.devRef .tc main_v53) = _
  simp only [hostOps0, hostOps0_1, hostOps0_2, hostOps0_3, hostOps0_4, List.flatten_cons, List.flatten_nil,
    List.append_nil, List.cons_append, List.nil_append]
  after_results
  refine cosines_eq (n := 32) (L := 128) _ _ _ _ _
    concatenates_S8192x32_S8192x32_S8192x32_S8192x32_S8192x128_d1 rfl fun row k => ⟨?_, ?_, ?_, ?_⟩
  · show (_ : Valuation τ sig (Elt Ideal)) (Proc.devRef .tc main_v41) (ix2 row k) = _
    after_results_simp
    exact (spread_rows_apply _ _ _ _ row k).trans rfl
  · show (_ : Valuation τ sig (Elt Ideal)) (Proc.devRef .tc main_v41) (ix2 row k) = _
    after_results_simp
    exact (spread_rows_apply _ _ _ _ row k).trans rfl
  · show (_ : Valuation τ sig (Elt Ideal)) (Proc.devRef .tc main_v44) (ix2 row k) = _
    after_results_simp
    exact (spread_columns_apply _ _ _ _ row k).trans rfl
  · show (_ : Valuation τ sig (Elt Ideal)) (Proc.devRef .tc main_v44) (ix2 row k) = _
    after_results_simp
    exact (spread_columns_apply _ _ _ _ row k).trans rfl

/-- The sines of the keys' lanes. -/
theorem sin_wide_eq : V m c main_v56 = (sines 32 0x42800000#32 : FVec Ideal S8192x128 .f32) := by
  show StableHlo.after (List.flatten [hostOps0, hostOps0_1, hostOps0_2, hostOps0_3, hostOps0_4]) _
    (Proc.devRef .tc main_v56) = _
  simp only [hostOps0, hostOps0_1, hostOps0_2, hostOps0_3, hostOps0_4, List.flatten_cons, List.flatten_nil,
    List.append_nil, List.cons_append, List.nil_append]
  after_results
  refine sines_eq (n := 32) (L := 128) _ _ _ _ _
    concatenates_S8192x32_S8192x32_S8192x32_S8192x32_S8192x128_d1 rfl fun row k => ⟨?_, ?_, ?_, ?_⟩
  · show (_ : Valuation τ sig (Elt Ideal)) (Proc.devRef .tc main_v54) (ix2 row k) = _
    after_results_simp
    exact congrArg (FloatOps.hostNegf (F := Ideal) (φ := .f32)) ((spread_rows_apply _ _ _ _ row k).trans rfl)
  · show (_ : Valuation τ sig (Elt Ideal)) (Proc.devRef .tc main_v49) (ix2 row k) = _
    after_results_simp
    exact (spread_rows_apply _ _ _ _ row k).trans rfl
  · show (_ : Valuation τ sig (Elt Ideal)) (Proc.devRef .tc main_v55) (ix2 row k) = _
    after_results_simp
    exact congrArg (FloatOps.hostNegf (F := Ideal) (φ := .f32)) ((spread_columns_apply _ _ _ _ row k).trans rfl)
  · show (_ : Valuation τ sig (Elt Ideal)) (Proc.devRef .tc main_v52) (ix2 row k) = _
    after_results_simp
    exact (spread_columns_apply _ _ _ _ row k).trans rfl

/-- The cosines of the shared key's lanes. -/
theorem cos_narrow_eq : V m c main_v91 = (cosines 16 0x42000000#32 : FVec Ideal S8192x64 .f32) := by
  show StableHlo.after (List.flatten [hostOps0, hostOps0_1, hostOps0_2, hostOps0_3, hostOps0_4]) _
    (Proc.devRef .tc main_v91) = _
  simp only [hostOps0, hostOps0_1, hostOps0_2, hostOps0_3, hostOps0_4, List.flatten_cons, List.flatten_nil,
    List.append_nil, List.cons_append, List.nil_append]
  after_results
  refine cosines_eq (n := 16) (L := 64) _ _ _ _ _
    concatenates_S8192x16_S8192x16_S8192x16_S8192x16_S8192x64_d1 rfl fun row k => ⟨?_, ?_, ?_, ?_⟩
  · show (_ : Valuation τ sig (Elt Ideal)) (Proc.devRef .tc main_v79) (ix2 row k) = _
    after_results_simp
    exact (spread_rows_apply _ _ _ _ row k).trans rfl
  · show (_ : Valuation τ sig (Elt Ideal)) (Proc.devRef .tc main_v79) (ix2 row k) = _
    after_results_simp
    exact (spread_rows_apply _ _ _ _ row k).trans rfl
  · show (_ : Valuation τ sig (Elt Ideal)) (Proc.devRef .tc main_v82) (ix2 row k) = _
    after_results_simp
    exact (spread_columns_apply _ _ _ _ row k).trans rfl
  · show (_ : Valuation τ sig (Elt Ideal)) (Proc.devRef .tc main_v82) (ix2 row k) = _
    after_results_simp
    exact (spread_columns_apply _ _ _ _ row k).trans rfl

/-- The sines of the shared key's lanes. -/
theorem sin_narrow_eq : V m c main_v94 = (sines 16 0x42000000#32 : FVec Ideal S8192x64 .f32) := by
  show StableHlo.after (List.flatten [hostOps0, hostOps0_1, hostOps0_2, hostOps0_3, hostOps0_4]) _
    (Proc.devRef .tc main_v94) = _
  simp only [hostOps0, hostOps0_1, hostOps0_2, hostOps0_3, hostOps0_4, List.flatten_cons, List.flatten_nil,
    List.append_nil, List.cons_append, List.nil_append]
  after_results
  refine sines_eq (n := 16) (L := 64) _ _ _ _ _
    concatenates_S8192x16_S8192x16_S8192x16_S8192x16_S8192x64_d1 rfl fun row k => ⟨?_, ?_, ?_, ?_⟩
  · show (_ : Valuation τ sig (Elt Ideal)) (Proc.devRef .tc main_v92) (ix2 row k) = _
    after_results_simp
    exact congrArg (FloatOps.hostNegf (F := Ideal) (φ := .f32)) ((spread_rows_apply _ _ _ _ row k).trans rfl)
  · show (_ : Valuation τ sig (Elt Ideal)) (Proc.devRef .tc main_v87) (ix2 row k) = _
    after_results_simp
    exact (spread_rows_apply _ _ _ _ row k).trans rfl
  · show (_ : Valuation τ sig (Elt Ideal)) (Proc.devRef .tc main_v93) (ix2 row k) = _
    after_results_simp
    exact congrArg (FloatOps.hostNegf (F := Ideal) (φ := .f32)) ((spread_columns_apply _ _ _ _ row k).trans rfl)
  · show (_ : Valuation τ sig (Elt Ideal)) (Proc.devRef .tc main_v90) (ix2 row k) = _
    after_results_simp
    exact (spread_columns_apply _ _ _ _ row k).trans rfl

/-- The zero the tables are padded with. -/
theorem zero_apply (i : S_.Idx) : (sitofp (F := Ideal) .f32 (constantI S_ 32 0#32)) i = 0 := by
  show (((0#32 : BitVec 32).toInt : ℝ) : EReal) = 0
  norm_num

/-- The padded cosines of the shared key. -/
theorem cos_padded_apply (row : Fin 8192) (lane : Fin 128) : V m c main_v95 (ix2 row lane)
    = if hl : lane.val < 64 then (cosines 16 0x42000000#32 : FVec Ideal S8192x64 .f32) (ix2 row ⟨lane, hl⟩) else 0 := by
  have h : V m c main_v95 = pad S8192x128 ![0, 0] ![0, 64] ![0, 0] (V m c main_v91)
      (sitofp (F := Ideal) .f32 (constantI S_ 32 0#32)) pads_S8192x64_S8192x128_000_0640 h_S_ := by
    show StableHlo.after (List.flatten [hostOps0, hostOps0_1, hostOps0_2, hostOps0_3, hostOps0_4]) _
        (Proc.devRef .tc main_v95)
      = pad S8192x128 ![0, 0] ![0, 64] ![0, 0] (StableHlo.after (List.flatten [hostOps0, hostOps0_1, hostOps0_2,
          hostOps0_3, hostOps0_4]) _ (Proc.devRef .tc main_v91)) _ _ _
    simp only [hostOps0, hostOps0_1, hostOps0_2, hostOps0_3, hostOps0_4, List.flatten_cons, List.flatten_nil,
      List.append_nil, List.cons_append, List.nil_append]
    after_results
    rfl
  rw [h, cos_narrow_eq]
  exact padded_apply _ _ _ _ _ zero_apply row lane

/-- The padded sines of the shared key. -/
theorem sin_padded_apply (row : Fin 8192) (lane : Fin 128) : V m c main_v96 (ix2 row lane)
    = if hl : lane.val < 64 then (sines 16 0x42000000#32 : FVec Ideal S8192x64 .f32) (ix2 row ⟨lane, hl⟩) else 0 := by
  have h : V m c main_v96 = pad S8192x128 ![0, 0] ![0, 64] ![0, 0] (V m c main_v94)
      (sitofp (F := Ideal) .f32 (constantI S_ 32 0#32)) pads_S8192x64_S8192x128_000_0640 h_S_ := by
    show StableHlo.after (List.flatten [hostOps0, hostOps0_1, hostOps0_2, hostOps0_3, hostOps0_4]) _
        (Proc.devRef .tc main_v96)
      = pad S8192x128 ![0, 0] ![0, 64] ![0, 0] (StableHlo.after (List.flatten [hostOps0, hostOps0_1, hostOps0_2,
          hostOps0_3, hostOps0_4]) _ (Proc.devRef .tc main_v94)) _ _ _
    simp only [hostOps0, hostOps0_1, hostOps0_2, hostOps0_3, hostOps0_4, List.flatten_cons, List.flatten_nil,
      List.append_nil, List.cons_append, List.nil_append]
    after_results
    rfl
  rw [h, sin_narrow_eq]
  exact padded_apply _ _ _ _ _ zero_apply row lane

/-! ## Weights and gains -/

/-- A head's 128 columns of the latent weights, from column `o` of the head's 256 on. -/
theorem half_apply (w : Vec Ideal S2x512x2048 .f32) (o : ℕ) (h₁ : S2x512x8x256.Slices ![0, 0, 0, o] S2x512x8x128)
    (k : Fin 512) (j : Fin 1024) (col : Fin 2048) (hcol : col.val = 256 * (j.val / 128) + o + j.val % 128) :
    shapeCast S512x1024 (extractStridedSlice S1x512x1024 ![0, 0, 0] (truncf (F := Ideal) .bf16 (shapeCast S2x512x1024
      (extractStridedSlice S2x512x8x128 ![0, 0, 0, o] (shapeCast S2x512x8x256 w shapeCasts_S2x512x2048_S2x512x8x256) h₁)
      shapeCasts_S2x512x8x128_S2x512x1024) bitsLt_bf16_f32) slices_S2x512x1024_S1x512x1024_0_0_0)
      shapeCasts_S1x512x1024_S512x1024 (ix2 k j) = w (ix3 0 k col) := by
  have ho : o + 128 ≤ 256 := h₁.2 3
  have hw : shapeCast S2x512x1024 (extractStridedSlice S2x512x8x128 ![0, 0, 0, o] (shapeCast S2x512x8x256 w
      shapeCasts_S2x512x2048_S2x512x8x256) h₁) shapeCasts_S2x512x8x128_S2x512x1024 (ix3 0 k j) = w (ix3 0 k col) := by
    refine (shapeCast_apply _ shapeCasts_S2x512x8x128_S2x512x1024 (ix3 0 k j)
      (ix4 0 k ⟨j.val / 128, by omega⟩ ⟨j.val % 128, by omega⟩) ?_).trans <|
      (extractStridedSlice_apply _ _ _ _ (ix4 0 k ⟨j.val / 128, by omega⟩ ⟨o + j.val % 128, by omega⟩)
        fun a => ?_).trans (shapeCast_apply _ _ _ (ix3 0 k col) ?_)
    · rw [Shape.rowMajor_val_four, Shape.rowMajor_val_three]
      show ((0 * 512 + k.val) * 8 + j.val / 128) * 128 + j.val % 128 = (0 * 512 + k.val) * 1024 + j.val
      omega
    · match a with
      | ⟨0, _⟩ => rfl
      | ⟨1, _⟩ => exact (Nat.zero_add _).symm
      | ⟨2, _⟩ => exact (Nat.zero_add _).symm
      | ⟨3, _⟩ => rfl
    · rw [Shape.rowMajor_val_four, Shape.rowMajor_val_three]
      show (0 * 512 + k.val) * 2048 + col.val = ((0 * 512 + k.val) * 8 + j.val / 128) * 256 + (o + j.val % 128)
      omega
  rw [← hw]
  generalize shapeCast S2x512x1024 _ _ = v
  refine (shapeCast_apply _ _ (ix2 k j) (ix3 0 k j) ?_).trans
    ((extractStridedSlice_apply _ _ _ _ (ix3 0 k j) fun a => ?_).trans rfl)
  · rw [Shape.rowMajor_val_three, Shape.rowMajor_val_two]
    show (0 * 512 + k.val) * 1024 + j.val = k.val * 1024 + j.val
    omega
  · match a with
    | ⟨0, _⟩ => rfl
    | ⟨1, _⟩ => exact (Nat.zero_add _).symm
    | ⟨2, _⟩ => exact (Nat.zero_add _).symm

/-- The first row of a pair of gains, by way of a plain vector. -/
theorem first_row_apply {n : ℕ} (g : (⟨2, ![2, n]⟩ : Shape).Idx → EReal)
    (h₁ : (⟨2, ![2, n]⟩ : Shape).Slices ![0, 0] ⟨2, ![1, n]⟩) (h₂ : (⟨2, ![1, n]⟩ : Shape).ShapeCasts ⟨1, ![n]⟩)
    (h₃ : (⟨1, ![n]⟩ : Shape).ShapeCasts ⟨2, ![1, n]⟩) (j : Fin n) :
    shapeCast ⟨2, ![1, n]⟩ (shapeCast ⟨1, ![n]⟩ (extractStridedSlice ⟨2, ![1, n]⟩ ![0, 0] g h₁) h₂) h₃ (ix2 0 j)
      = g (ix2 0 j) := by
  rw [shapeCast_shapeCast]
  refine extractStridedSlice_apply _ _ _ _ (ix2 (n0 := 2) 0 j) fun a => ?_
  match a with
  | ⟨0, _⟩ => rfl
  | ⟨1, _⟩ => exact (Nat.zero_add _).symm

/-- The keys' half of the latent weights. -/
theorem key_weights_apply (k : Fin 512) (j : Fin 1024) : V m c main_v12 (ix2 k j)
    = m ((c : Thread nD τ).loc main_arg3) (ix3 0 k ⟨256 * (j.val / 128) + j.val % 128, by omega⟩) := by
  have h : V m c main_v12 = shapeCast S512x1024 (extractStridedSlice S1x512x1024 ![0, 0, 0] (truncf (F := Ideal) .bf16
      (shapeCast S2x512x1024 (extractStridedSlice S2x512x8x128 ![0, 0, 0, 0] (shapeCast S2x512x8x256
        (m ((c : Thread nD τ).loc main_arg3)) shapeCasts_S2x512x2048_S2x512x8x256)
        slices_S2x512x8x256_S2x512x8x128_0_0_0_0) shapeCasts_S2x512x8x128_S2x512x1024) bitsLt_bf16_f32)
      slices_S2x512x1024_S1x512x1024_0_0_0) shapeCasts_S1x512x1024_S512x1024 := by
    show StableHlo.after (List.flatten [hostOps0, hostOps0_1, hostOps0_2, hostOps0_3, hostOps0_4]) _
      (Proc.devRef .tc main_v12) = _
    simp only [hostOps0, hostOps0_1, hostOps0_2, hostOps0_3, hostOps0_4, List.flatten_cons, List.flatten_nil,
      List.append_nil, List.cons_append, List.nil_append]
    after_results
    rfl
  rw [h]
  exact half_apply _ 0 _ k j _ rfl

/-- The values' half of the latent weights. -/
theorem value_weights_apply (k : Fin 512) (j : Fin 1024) : V m c main_v14 (ix2 k j)
    = m ((c : Thread nD τ).loc main_arg3) (ix3 0 k ⟨256 * (j.val / 128) + 128 + j.val % 128, by omega⟩) := by
  have h : V m c main_v14 = shapeCast S512x1024 (extractStridedSlice S1x512x1024 ![0, 0, 0] (truncf (F := Ideal) .bf16
      (shapeCast S2x512x1024 (extractStridedSlice S2x512x8x128 ![0, 0, 0, 128] (shapeCast S2x512x8x256
        (m ((c : Thread nD τ).loc main_arg3)) shapeCasts_S2x512x2048_S2x512x8x256)
        slices_S2x512x8x256_S2x512x8x128_0_0_0_128) shapeCasts_S2x512x8x128_S2x512x1024) bitsLt_bf16_f32)
      slices_S2x512x1024_S1x512x1024_0_0_0) shapeCasts_S1x512x1024_S512x1024 := by
    show StableHlo.after (List.flatten [hostOps0, hostOps0_1, hostOps0_2, hostOps0_3, hostOps0_4]) _
      (Proc.devRef .tc main_v14) = _
    simp only [hostOps0, hostOps0_1, hostOps0_2, hostOps0_3, hostOps0_4, List.flatten_cons, List.flatten_nil,
      List.append_nil, List.cons_append, List.nil_append]
    after_results
    rfl
  rw [h]
  exact half_apply _ 128 _ k j _ rfl

/-- The heads' gain. -/
theorem head_gain_apply (j : Fin 128) :
    V m c main_v97 (ix2 0 j) = m ((c : Thread nD τ).loc main_arg1) (ix2 0 j) := by
  have h : V m c main_v97 = shapeCast S1x128 (shapeCast S128 (extractStridedSlice S1x128 ![0, 0]
      (m ((c : Thread nD τ).loc main_arg1)) slices_S2x128_S1x128_0_0) shapeCasts_S1x128_S128) shapeCasts_S128_S1x128 := by
    show StableHlo.after (List.flatten [hostOps0, hostOps0_1, hostOps0_2, hostOps0_3, hostOps0_4]) _
      (Proc.devRef .tc main_v97) = _
    simp only [hostOps0, hostOps0_1, hostOps0_2, hostOps0_3, hostOps0_4, List.flatten_cons, List.flatten_nil,
      List.append_nil, List.cons_append, List.nil_append]
    after_results
    rfl
  rw [h]
  exact first_row_apply (n := 128) _ _ _ _ j

/-- The latent's gain. -/
theorem latent_gain_apply (j : Fin 512) :
    V m c main_v98 (ix2 0 j) = m ((c : Thread nD τ).loc main_arg2) (ix2 0 j) := by
  have h : V m c main_v98 = shapeCast S1x512 (shapeCast S512 (extractStridedSlice S1x512 ![0, 0]
      (m ((c : Thread nD τ).loc main_arg2)) slices_S2x512_S1x512_0_0) shapeCasts_S1x512_S512) shapeCasts_S512_S1x512 := by
    show StableHlo.after (List.flatten [hostOps0, hostOps0_1, hostOps0_2, hostOps0_3, hostOps0_4]) _
      (Proc.devRef .tc main_v98) = _
    simp only [hostOps0, hostOps0_1, hostOps0_2, hostOps0_3, hostOps0_4, List.flatten_cons, List.flatten_nil,
      List.append_nil, List.cons_append, List.nil_append]
    after_results
    rfl
  rw [h]
  exact first_row_apply (n := 512) _ _ _ _ j

end Cert.KvPrep

end
-- ==== Proof.KvPrep.Array.lean ====
/-
  What the four arrays of the keys' and values' preparation hold after the run: the keys, the latent keys, and the values
  of both attentions by blocks of tokens.
-/
module

public import proofs.«01_k».proof.Proof.KvPrep.Points
public import proofs.«01_k».proof.Proof.KvPrep.Tables
public import Idealize.ShloMosaic.Lib.KernelVsHost

@[expose] public section

set_option maxRecDepth 16384

noncomputable section

namespace Cert.KvPrep

open Cert.Kernel13Ideal Cert.Kernel13Ideal.Gen Cert.Kernel13Ideal.Value Cert.Rope
open Idealize.ShloMosaic Idealize.ShloMosaic.TcCoe Idealize.SL.Sem

/-! ## The results -/

/-- The keys: every head normed and turned. -/
def keys (p : Vec Ideal S8192x1152 .bf16) (g : Vec Ideal S2x128 .f32) (row : Fin 8192) (j : Fin 256) : EReal :=
  turned 32 0x42800000#32 row (fun l => headed 0x43000000#32 (fun k : Fin 128 =>
    p (ix2 row ⟨128 * (j.val / 128) + k.val, by omega⟩)) (g (ix2 0 l)) l) ⟨j.val % 128, Nat.mod_lt _ (by decide)⟩

/-- The normed latent by the weights, at one of their columns. -/
def spreadLatent (p : Vec Ideal S8192x1152 .bf16) (g : Vec Ideal S2x512 .f32) (w : Vec Ideal S2x512x2048 .f32)
    (row : Fin 8192) (j : Fin 2048) : EReal :=
  ∑ k : Fin 512, headed 0x44000000#32 (fun l : Fin 512 => p (ix2 row ⟨512 + l.val, by omega⟩)) (g (ix2 0 k)) k
    * w (ix3 0 k j)

/-- The latent keys: in a head's 256 columns the latent's 128, the 64 of the shared turned key, and zeros. -/
def latentKeys (p : Vec Ideal S8192x1152 .bf16) (g : Vec Ideal S2x512 .f32) (w : Vec Ideal S2x512x2048 .f32)
    (row : Fin 8192) (j : Fin 2048) : EReal :=
  if j.val % 256 < 128 then spreadLatent p g w row ⟨256 * (j.val / 256) + j.val % 128, by omega⟩
  else if j.val % 128 < 64 then
    turned 16 0x42000000#32 row (fun l => p (ix2 row ⟨1024 + l.val, by omega⟩)) ⟨j.val % 128, Nat.mod_lt _ (by decide)⟩
  else 0

/-- The values of a block of tokens. -/
def values (p : Vec Ideal S8192x1152 .bf16) (b : Fin 16) (f : Fin 256) (t : Fin 512) : EReal :=
  p (ix2 ⟨512 * b.val + t.val, by omega⟩ ⟨256 + f.val, by omega⟩)

/-- The latent values of a block of tokens. -/
def latentValues (p : Vec Ideal S8192x1152 .bf16) (g : Vec Ideal S2x512 .f32) (w : Vec Ideal S2x512x2048 .f32)
    (b : Fin 16) (f : Fin 1024) (t : Fin 512) : EReal :=
  spreadLatent p g w ⟨512 * b.val + t.val, by omega⟩ ⟨256 * (f.val / 128) + 128 + f.val % 128, by omega⟩

/-! ## The blocks a grid point reads -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 1] :=
  (by decide +kernel : ∀ t : Fin grid0.N, win0_1.index t = ![t.val, 1])
theorem index2 : ∀ t : Fin cfg0.N, win0_2.index t = ![t.val, 1] :=
  (by decide +kernel : ∀ t : Fin grid0.N, win0_2.index t = ![t.val, 1])
theorem index3 : ∀ t : Fin cfg0.N, win0_3.index t = ![t.val, 8] :=
  (by decide +kernel : ∀ t : Fin grid0.N, win0_3.index t = ![t.val, 8])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])
theorem index10 : ∀ t : Fin cfg0.N, win0_10.index t = ![t.val, 0] :=
  (by decide +kernel : ∀ t : Fin grid0.N, win0_10.index t = ![t.val, 0])
theorem index11 : ∀ t : Fin cfg0.N, win0_11.index t = ![t.val, 0] :=
  (by decide +kernel : ∀ t : Fin grid0.N, win0_11.index t = ![t.val, 0])
theorem index12 : ∀ t : Fin cfg0.N, win0_12.index t = ![t.val, 0] :=
  (by decide +kernel : ∀ t : Fin grid0.N, win0_12.index t = ![t.val, 0])
theorem index13 : ∀ t : Fin cfg0.N, win0_13.index t = ![t.val, 0] :=
  (by decide +kernel : ∀ t : Fin grid0.N, win0_13.index t = ![t.val, 0])
theorem index14 : ∀ t : Fin cfg0.N, win0_14.index t = ![t.val, 0, 0] :=
  (by decide +kernel : ∀ t : Fin grid0.N, win0_14.index t = ![t.val, 0, 0])
theorem index15 : ∀ t : Fin cfg0.N, win0_15.index t = ![t.val, 0, 0] :=
  (by decide +kernel : ∀ t : Fin grid0.N, win0_15.index t = ![t.val, 0, 0])

variable (m : (ℓ : Loc nD τ sig) → Buf (Elt Ideal) ℓ) (c : Dev nD) (t : Fin cfg0.N)

/-- The grid has 16 points. -/
theorem point_lt : t.val < 16 := t.isLt

/-- A row of a point's block, among all rows. -/
def tokenAt (i : Fin 512) : Fin 8192 := ⟨512 * t.val + i.val, by have := point_lt t; omega⟩

theorem keys_at (i : Fin 512) (j : Fin 256) :
    X0_0 m c t (ix2 i j) = m ((c : Thread nD τ).loc main_arg0) (ix2 (tokenAt t i) ⟨j.val, by omega⟩) := by
  unfold X0_0 Pipeline.Window.fill
  rw [dif_pos (moved0_0 t _), ← V_main_arg0 m c]
  blk_ext! [iblk, index0 t, tokenAt]

theorem values_at (i : Fin 512) (j : Fin 256) :
    X0_1 m c t (ix2 i j) = m ((c : Thread nD τ).loc main_arg0) (ix2 (tokenAt t i) ⟨256 + j.val, by omega⟩) := by
  unfold X0_1 Pipeline.Window.fill
  rw [dif_pos (moved0_1 t _), ← V_main_arg0 m c]
  blk_ext! [iblk, index1 t, tokenAt]

theorem latents_at (i : Fin 512) (j : Fin 512) :
    X0_2 m c t (ix2 i j) = m ((c : Thread nD τ).loc main_arg0) (ix2 (tokenAt t i) ⟨512 + j.val, by omega⟩) := by
  unfold X0_2 Pipeline.Window.fill
  rw [dif_pos (moved0_2 t _), ← V_main_arg0 m c]
  blk_ext! [iblk, index2 t, tokenAt]

theorem shared_key_at (i : Fin 512) (j : Fin 128) :
    iblk m c 3 t (ix2 i j) = m ((c : Thread nD τ).loc main_arg0) (ix2 (tokenAt t i) ⟨1024 + j.val, by omega⟩) := by
  rw [← V_main_arg0 m c]
  blk_ext! [iblk, index3 t, tokenAt]

theorem head_gain_at (j : Fin 128) : iblk m c 4 t (ix2 0 j) = m ((c : Thread nD τ).loc main_arg1) (ix2 0 j) := by
  refine Eq.trans ?_ (head_gain_apply m c j)
  blk_ext! [iblk, index4 t]

theorem latent_gain_at (j : Fin 512) : iblk m c 5 t (ix2 0 j) = m ((c : Thread nD τ).loc main_arg2) (ix2 0 j) := by
  refine Eq.trans ?_ (latent_gain_apply m c j)
  blk_ext! [iblk, index5 t]

theorem key_weights_at (k : Fin 512) (j : Fin 1024) : iblk m c 6 t (ix2 k j)
    = m ((c : Thread nD τ).loc main_arg3) (ix3 0 k ⟨256 * (j.val / 128) + j.val % 128, by omega⟩) := by
  refine Eq.trans ?_ (key_weights_apply m c k j)
  blk_ext! [iblk, index6 t]

theorem value_weights_at (k : Fin 512) (j : Fin 1024) : iblk m c 7 t (ix2 k j)
    = m ((c : Thread nD τ).loc main_arg3) (ix3 0 k ⟨256 * (j.val / 128) + 128 + j.val % 128, by omega⟩) := by
  refine Eq.trans ?_ (value_weights_apply m c k j)
  blk_ext! [iblk, index7 t]

theorem cos_wide_at (i : Fin 512) (j : Fin 128) :
    iblk m c 8 t (ix2 i j) = (cosines 32 0x42800000#32 : FVec Ideal S8192x128 .f32) (ix2 (tokenAt t i) j) := by
  refine Eq.trans ?_ (congrFun (cos_wide_eq m c) (ix2 (tokenAt t i) j))
  blk_ext! [iblk, index8 t, tokenAt]

theorem sin_wide_at (i : Fin 512) (j : Fin 128) :
    iblk m c 9 t (ix2 i j) = (sines 32 0x42800000#32 : FVec Ideal S8192x128 .f32) (ix2 (tokenAt t i) j) := by
  refine Eq.trans ?_ (congrFun (sin_wide_eq m c) (ix2 (tokenAt t i) j))
  blk_ext! [iblk, index9 t, tokenAt]

theorem cos_padded_at (i : Fin 512) (j : Fin 128) : iblk m c 10 t (ix2 i j) = if hl : j.val < 64
    then (cosines 16 0x42000000#32 : FVec Ideal S8192x64 .f32) (ix2 (tokenAt t i) ⟨j, hl⟩) else 0 := by
  refine Eq.trans ?_ (cos_padded_apply m c (tokenAt t i) j)
  blk_ext! [iblk, index10 t, tokenAt]

theorem sin_padded_at (i : Fin 512) (j : Fin 128) : iblk m c 11 t (ix2 i j) = if hl : j.val < 64
    then (sines 16 0x42000000#32 : FVec Ideal S8192x64 .f32) (ix2 (tokenAt t i) ⟨j, hl⟩) else 0 := by
  refine Eq.trans ?_ (sin_padded_apply m c (tokenAt t i) j)
  blk_ext! [iblk, index11 t, tokenAt]

/-! ## The blocks in terms of the arguments -/

theorem key_pair_eq (i : Fin 512) (j : Fin 256) :
    keyPair (X0_0 m c t) (iblk m c 4 t) (iblk m c 8 t) (iblk m c 9 t) i j
      = keys (m ((c : Thread nD τ).loc main_arg0)) (m ((c : Thread nD τ).loc main_arg1)) (tokenAt t i) j := by
  unfold keyPair mixed keys
  rw [cos_wide_at, sin_wide_at]
  refine (turned_eq (L := 128) 32 0x42800000#32 (tokenAt t i) (fun l => headed 0x43000000#32
    (fun k : Fin 128 => X0_0 m c t (ix2 i ⟨128 * (j.val / 128) + k.val, by omega⟩)) (iblk m c 4 t (ix2 0 l)) l)
    ⟨j.val % 128, Nat.mod_lt _ (by decide)⟩ ⟨j.val % 128, Nat.mod_lt _ (by decide)⟩ rfl).trans ?_
  congr 1
  funext l
  rw [head_gain_at]
  congr 1
  funext k
  exact keys_at m c t i _

theorem latent_eq (w : Vec Ideal S512x1024 .bf16) (i : Fin 512) (j : Fin 1024) (col : Fin 2048)
    (hw : ∀ k : Fin 512, w (ix2 k j) = m ((c : Thread nD τ).loc main_arg3) (ix3 0 k col)) :
    latent (X0_2 m c t) (iblk m c 5 t) w i j = spreadLatent (m ((c : Thread nD τ).loc main_arg0))
      (m ((c : Thread nD τ).loc main_arg2)) (m ((c : Thread nD τ).loc main_arg3)) (tokenAt t i) col :=
  Finset.sum_congr rfl fun k _ => by
    rw [hw k, latent_gain_at]
    congr 2
    funext l
    exact latents_at m c t i l

theorem shared_eq (i : Fin 512) (j : Fin 128) :
    mixed 16 (fun l => iblk m c 3 t (ix2 i l)) (iblk m c 10 t) (iblk m c 11 t) i j = if j.val < 64
      then turned 16 0x42000000#32 (tokenAt t i) (fun l => m ((c : Thread nD τ).loc main_arg0)
        (ix2 (tokenAt t i) ⟨1024 + l.val, by omega⟩)) j else 0 := by
  unfold mixed
  rw [cos_padded_at, sin_padded_at]
  by_cases hj : j.val < 64
  · rw [dif_pos hj, dif_pos hj, if_pos hj]
    refine (turned_eq 16 0x42000000#32 (tokenAt t i) (fun l => iblk m c 3 t (ix2 i l)) j ⟨j, hj⟩ rfl).trans ?_
    congr 1
    funext l
    exact shared_key_at m c t i l
  · rw [dif_neg hj, dif_neg hj, if_neg hj]
    simp

theorem latent_key_eq (i : Fin 512) (j : Fin 2048) :
    latentKey (X0_2 m c t) (iblk m c 5 t) (iblk m c 6 t) (iblk m c 3 t) (iblk m c 10 t) (iblk m c 11 t) i j
      = latentKeys (m ((c : Thread nD τ).loc main_arg0)) (m ((c : Thread nD τ).loc main_arg2))
        (m ((c : Thread nD τ).loc main_arg3)) (tokenAt t i) j := by
  unfold latentKey latentKeys
  by_cases hj : j.val % 256 < 128
  · rw [if_pos hj, if_pos hj]
    refine latent_eq m c t _ i _ _ fun k => (key_weights_at m c t k _).trans (congrArg _ ?_)
    congr 1
    refine Fin.ext ?_
    show 256 * ((128 * (j.val / 256) + j.val % 128) / 128) + (128 * (j.val / 256) + j.val % 128) % 128
      = 256 * (j.val / 256) + j.val % 128
    omega
  · rw [if_neg hj, if_neg hj]
    exact shared_eq m c t i _

/-! ## The arrays after the run -/

/-- The point of a row, with the row's place in its block. -/
theorem point_of (row : Fin 8192) : ∃ t : Fin cfg0.N, t.val = row.val / 512
    ∧ tokenAt t ⟨row.val % 512, by omega⟩ = row :=
  ⟨⟨row.val / 512, by show _ < 16; omega⟩, rfl, Fin.ext (by show 512 * (row.val / 512) + row.val % 512 = row.val; omega)⟩

theorem keys_array_apply (row : Fin 8192) (j : Fin 256) : (dats m 0 c).arrAt 12 cfg0.N (ix2 row j)
    = keys (m ((c : Thread nD τ).loc main_arg0)) (m ((c : Thread nD τ).loc main_arg1)) row j := by
  obtain ⟨t, ht, hrow⟩ := point_of row
  have hb := congrFun (blocks12 m c t (flush0_12 t)) (ix2 ⟨row.val % 512, by omega⟩ j)
  rw [flushed12_A, Pipeline.Window.cut_apply] at hb
  replace hb := (hb.trans (keys_apply c _ _ _ _ _ _ _ _ _ _ _ _ _ _ _ _ _ _ _ _ _ _ _ _ _ _ _ _ _ _ _ _ _ _ _ _ _ _ _ _ _
    _ _ _ _ ⟨row.val % 512, by omega⟩ j)).trans (key_pair_eq m c t _ j)
  have he : ((cfg0.win 12).blk t).view.read (Elt Ideal) ((dats m 0 c).arrAt 12 cfg0.N)
      (ix2 ⟨row.val % 512, by omega⟩ j) = (dats m 0 c).arrAt 12 cfg0.N (ix2 row j) := by
    generalize (dats m 0 c).arrAt 12 cfg0.N = A
    blk_ext! [index12 t]
  rw [← he, hb, hrow]

theorem latent_keys_array_apply (row : Fin 8192) (j : Fin 2048) : (dats m 0 c).arrAt 13 cfg0.N (ix2 row j)
    = latentKeys (m ((c : Thread nD τ).loc main_arg0)) (m ((c : Thread nD τ).loc main_arg2))
      (m ((c : Thread nD τ).loc main_arg3)) row j := by
  obtain ⟨t, ht, hrow⟩ := point_of row
  have hb := congrFun (blocks13 m c t (flush0_13 t)) (ix2 ⟨row.val % 512, by omega⟩ j)
  rw [flushed13_A, Pipeline.Window.cut_apply] at hb
  replace hb := (hb.trans (latent_keys_apply c _ _ _ _ _ _ _ _ _ _ _ _ _ _ _ _ _ _ _ _ _ _ _ _ _ _ _ _ _ _ _ _ _ _ _ _ _ _ _
    _ _ _ _ _ _ ⟨row.val % 512, by omega⟩ j)).trans (latent_key_eq m c t _ j)
  have he : ((cfg0.win 13).blk t).view.read (Elt Ideal) ((dats m 0 c).arrAt 13 cfg0.N)
      (ix2 ⟨row.val % 512, by omega⟩ j) = (dats m 0 c).arrAt 13 cfg0.N (ix2 row j) := by
    generalize (dats m 0 c).arrAt 13 cfg0.N = A
    blk_ext! [index13 t]
  rw [← he, hb, hrow]

theorem values_array_apply (b : Fin 16) (f : Fin 256) (i : Fin 512) :
    (dats m 0 c).arrAt 14 cfg0.N (ix3 b f i) = values (m ((c : Thread nD τ).loc main_arg0)) b f i := by
  obtain ⟨t, ht⟩ : ∃ t : Fin cfg0.N, t.val = b.val := ⟨⟨b.val, b.isLt⟩, rfl⟩
  have hb := congrFun (blocks14 m c t (flush0_14 t)) (ix3 0 f i)
  rw [flushed14_A, Pipeline.Window.cut_apply] at hb
  replace hb := (hb.trans (values_block_apply c _ _ _ _ _ _ _ _ _ _ _ _ _ _ _ _ _ _ _ _ _ _ _ _ _ _ _ _ _ _ _ _ _ _ _ _ _ _ _
    _ _ _ _ _ _ f i)).trans (values_at m c t i f)
  have he : ((cfg0.win 14).blk t).view.read (Elt Ideal) ((dats m 0 c).arrAt 14 cfg0.N)
      (ix3 0 f i) = (dats m 0 c).arrAt 14 cfg0.N (ix3 b f i) := by
    generalize (dats m 0 c).arrAt 14 cfg0.N = A
    blk_ext! [index14 t]
  rw [← he, hb, values]
  congr 2
  exact Fin.ext (by show 512 * t.val + i.val = 512 * b.val + i.val; omega)

theorem latent_values_array_apply (b : Fin 16) (f : Fin 1024) (i : Fin 512) :
    (dats m 0 c).arrAt 15 cfg0.N (ix3 b f i) = latentValues (m ((c : Thread nD τ).loc main_arg0))
      (m ((c : Thread nD τ).loc main_arg2)) (m ((c : Thread nD τ).loc main_arg3)) b f i := by
  obtain ⟨t, ht⟩ : ∃ t : Fin cfg0.N, t.val = b.val := ⟨⟨b.val, b.isLt⟩, rfl⟩
  have hb := congrFun (blocks15 m c t (flush0_15 t)) (ix3 0 f i)
  rw [flushed15_A, Pipeline.Window.cut_apply] at hb
  replace hb := (hb.trans (latent_values_block_apply c _ _ _ _ _ _ _ _ _ _ _ _ _ _ _ _ _ _ _ _ _ _ _ _ _ _ _ _ _ _ _ _ _ _ _ _ _ _
    _ _ _ _ _ _ _ f i)).trans (latent_eq m c t _ i f _ fun k => value_weights_at m c t k f)
  have he : ((cfg0.win 15).blk t).view.read (Elt Ideal) ((dats m 0 c).arrAt 15 cfg0.N)
      (ix3 0 f i) = (dats m 0 c).arrAt 15 cfg0.N (ix3 b f i) := by
    generalize (dats m 0 c).arrAt 15 cfg0.N = A
    blk_ext! [index15 t]
  rw [← he, hb, latentValues]
  congr 1
  exact Fin.ext (by show 512 * t.val + i.val = 512 * b.val + i.val; omega)

end Cert.KvPrep

end
-- ==== Proof.Rope.Host.lean ====
/-
  A rotary embedding of two axes as the reference writes it: a head's lanes are cut in two axes, an axis' lanes in two
  halves, the halves are turned by the axis' angles, and everything is joined again.
-/
module

public import proofs.«01_k».proof.Proof.Rope.Lanes

@[expose] public section

noncomputable section

namespace Cert.Rope

open Idealize.ShloMosaic

variable {α : Type} {R H L M n : ℕ}

/-! ## Cutting and joining the lanes -/

/-- The lanes from `o` on. -/
theorem lanes_apply (x : (⟨3, ![R, H, L]⟩ : Shape).Idx → α) (o : ℕ)
    (h : (⟨3, ![R, H, L]⟩ : Shape).Slices ![0, 0, o] ⟨3, ![R, H, M]⟩) (a : Fin R) (b : Fin H) (k : Fin M) (k' : Fin L)
    (hk : k'.val = o + k.val) : extractStridedSlice ⟨3, ![R, H, M]⟩ ![0, 0, o] x h (ix3 a b k) = x (ix3 a b k') :=
  extractStridedSlice_apply _ _ _ _ (ix3 a b k') fun d => by
    match d with
    | ⟨0, _⟩ => exact (Nat.zero_add _).symm
    | ⟨1, _⟩ => exact (Nat.zero_add _).symm
    | ⟨2, _⟩ => exact hk

/-- Two blocks of lanes side by side, at a lane of the first. -/
theorem join_left_apply (x y : (⟨3, ![R, H, M]⟩ : Shape).Idx → α)
    (h : Shape.Concatenates [⟨3, ![R, H, M]⟩, ⟨3, ![R, H, M]⟩] ⟨3, ![R, H, L]⟩ 2) (a : Fin R) (b : Fin H) (l : Fin L)
    (hl : l.val < M) : concatenate ⟨3, ![R, H, L]⟩ 2 [⟨⟨3, ![R, H, M]⟩, x⟩, ⟨⟨3, ![R, H, M]⟩, y⟩] h (ix3 a b l)
      = x (ix3 a b ⟨l, hl⟩) :=
  concatenate_pair_apply_left 2 x y h (ix3 a b l) rfl (ix3 a b ⟨l, hl⟩) fun d => by
    match d with
    | ⟨0, _⟩ => rfl
    | ⟨1, _⟩ => rfl
    | ⟨2, _⟩ => rfl

/-- Two blocks of lanes side by side, at a lane of the second. -/
theorem join_right_apply (x y : (⟨3, ![R, H, M]⟩ : Shape).Idx → α)
    (h : Shape.Concatenates [⟨3, ![R, H, M]⟩, ⟨3, ![R, H, M]⟩] ⟨3, ![R, H, L]⟩ 2) (a : Fin R) (b : Fin H) (l : Fin L)
    (hl : M ≤ l.val) (hl' : l.val - M < M) :
    concatenate ⟨3, ![R, H, L]⟩ 2 [⟨⟨3, ![R, H, M]⟩, x⟩, ⟨⟨3, ![R, H, M]⟩, y⟩] h (ix3 a b l)
      = y (ix3 a b ⟨l.val - M, hl'⟩) :=
  concatenate_pair_apply_right 2 x y h (ix3 a b l) rfl rfl (ix3 a b ⟨l.val - M, hl'⟩) (fun d hd => by
    match d with
    | ⟨0, _⟩ => rfl
    | ⟨1, _⟩ => rfl
    | ⟨2, _⟩ => exact absurd rfl hd) (by show l.val - M + M = l.val; omega)

/-! ## Angles over the tokens -/

/-- A table by tokens, spread over the heads. -/
theorem heads_apply (t : (⟨2, ![R, n]⟩ : Shape).Idx → α) (h₁ : Shape.BroadcastsInDim ⟨2, ![R, n]⟩ ⟨3, ![R, 1, n]⟩ ![0, 2])
    (h₂ : Shape.BroadcastsInDim ⟨3, ![R, 1, n]⟩ ⟨3, ![R, H, n]⟩ ![0, 1, 2]) (a : Fin R) (b : Fin H) (k : Fin n) :
    broadcastInDim ⟨3, ![R, H, n]⟩ ![0, 1, 2] h₂ (broadcastInDim ⟨3, ![R, 1, n]⟩ ![0, 2] h₁ t) (ix3 a b k) = t (ix2 a k) := by
  refine (broadcastInDim_apply _ h₂ _ _ (ix3 a 0 k) fun d => ?_).trans
    (broadcastInDim_apply _ h₁ _ _ (ix2 a k) fun d => ?_)
  · match d with
    | ⟨0, _⟩ => show a.val = if R = 1 then 0 else a.val; split <;> omega
    | ⟨1, _⟩ => rfl
    | ⟨2, _⟩ => show k.val = if n = 1 then 0 else k.val; split <;> omega
  · match d with
    | ⟨0, _⟩ => show a.val = if R = 1 then 0 else a.val; split <;> omega
    | ⟨1, _⟩ => show k.val = if n = 1 then 0 else k.val; split <;> omega

/-- A table by tokens, as the table of one head. -/
theorem one_head_apply (t : (⟨2, ![R, n]⟩ : Shape).Idx → α)
    (h₁ : Shape.BroadcastsInDim ⟨2, ![R, n]⟩ ⟨3, ![R, 1, n]⟩ ![0, 2]) (a : Fin R) (k : Fin n) :
    broadcastInDim ⟨3, ![R, 1, n]⟩ ![0, 2] h₁ t (ix3 a 0 k) = t (ix2 a k) :=
  broadcastInDim_apply _ h₁ _ _ (ix2 a k) fun d => by
    match d with
    | ⟨0, _⟩ => show a.val = if R = 1 then 0 else a.val; split <;> omega
    | ⟨1, _⟩ => show k.val = if n = 1 then 0 else k.val; split <;> omega

/-- The outer product of positions and frequencies. -/
theorem outer_apply (p : FVec Ideal ⟨1, ![R]⟩ .f32) (f : FVec Ideal ⟨1, ![n]⟩ .f32)
    (h₁ : Shape.BroadcastsInDim ⟨1, ![R]⟩ ⟨2, ![R, 1]⟩ ![0]) (h₂ : Shape.BroadcastsInDim ⟨1, ![n]⟩ ⟨2, ![1, n]⟩ ![1])
    (h₃ : Shape.BroadcastsInDim ⟨2, ![R, 1]⟩ ⟨2, ![R, n]⟩ ![0, 1])
    (h₄ : Shape.BroadcastsInDim ⟨2, ![1, n]⟩ ⟨2, ![R, n]⟩ ![0, 1]) (a : Fin R) (k : Fin n) :
    mulf (broadcastInDim ⟨2, ![R, n]⟩ ![0, 1] h₃ (broadcastInDim ⟨2, ![R, 1]⟩ ![0] h₁ p))
      (broadcastInDim ⟨2, ![R, n]⟩ ![0, 1] h₄ (broadcastInDim ⟨2, ![1, n]⟩ ![1] h₂ f)) (ix2 a k)
      = FloatOps.mulf (F := Ideal) (φ := .f32) (p (ix1 a)) (f (ix1 k)) := by
  have hR : a.val = if R = 1 then 0 else a.val := by split <;> omega
  have hn : k.val = if n = 1 then 0 else k.val := by split <;> omega
  refine congrArg₂ (FloatOps.mulf (F := Ideal) (φ := .f32)) ((broadcastInDim_apply _ h₃ _ _ (ix2 a 0) fun d => ?_).trans
    (broadcastInDim_apply _ h₁ _ _ (ix1 a) fun d => ?_)) ((broadcastInDim_apply _ h₄ _ _ (ix2 0 k) fun d => ?_).trans
    (broadcastInDim_apply _ h₂ _ _ (ix1 k) fun d => ?_))
  · match d with
    | ⟨0, _⟩ => exact hR
    | ⟨1, _⟩ => rfl
  · match d with
    | ⟨0, _⟩ => exact hR
  · match d with
    | ⟨0, _⟩ => rfl
    | ⟨1, _⟩ => exact hn
  · match d with
    | ⟨0, _⟩ => exact hn

/-- A token's row of the image. -/
theorem image_row_apply (h₁ : Shape.BroadcastsInDim ⟨1, ![128]⟩ ⟨2, ![128, 64]⟩ ![0])
    (h₂ : (⟨2, ![128, 64]⟩ : Shape).ShapeCasts ⟨1, ![8192]⟩) (row : Fin 8192) :
    sitofp (F := Ideal) .f32 (shapeCast ⟨1, ![8192]⟩ (broadcastInDim ⟨2, ![128, 64]⟩ ![0] h₁ (iotaInDim ⟨1, ![128]⟩ 32 0)) h₂)
      (ix1 row) = FloatOps.sitofp (F := Ideal) .f32 (BitVec.ofNat 32 (row.val / 64)) :=
  congrArg (FloatOps.sitofp (F := Ideal) .f32) ((shapeCast_apply _ h₂ (ix1 row)
    (ix2 ⟨row / 64, by omega⟩ ⟨row % 64, by omega⟩) (by
      rw [Shape.rowMajor_val_two, Shape.rowMajor_val_one]
      exact Nat.div_add_mod' row.val 64)).trans
    (broadcastInDim_apply _ h₁ _ _ (ix1 ⟨row / 64, by omega⟩) fun d => by
      match d with
      | ⟨0, _⟩ => rfl))

/-- A token's column of the image. -/
theorem image_column_apply (h₀ : (⟨1, ![64]⟩ : Shape).ShapeCasts ⟨2, ![1, 64]⟩)
    (h₁ : Shape.BroadcastsInDim ⟨2, ![1, 64]⟩ ⟨2, ![128, 64]⟩ ![0, 1])
    (h₂ : (⟨2, ![128, 64]⟩ : Shape).ShapeCasts ⟨1, ![8192]⟩) (row : Fin 8192) :
    sitofp (F := Ideal) .f32 (shapeCast ⟨1, ![8192]⟩ (broadcastInDim ⟨2, ![128, 64]⟩ ![0, 1] h₁
      (shapeCast ⟨2, ![1, 64]⟩ (iotaInDim ⟨1, ![64]⟩ 32 0) h₀)) h₂) (ix1 row)
      = FloatOps.sitofp (F := Ideal) .f32 (BitVec.ofNat 32 (row.val % 64)) :=
  congrArg (FloatOps.sitofp (F := Ideal) .f32) ((shapeCast_apply _ h₂ (ix1 row)
    (ix2 ⟨row / 64, by omega⟩ ⟨row % 64, by omega⟩) (by
      rw [Shape.rowMajor_val_two, Shape.rowMajor_val_one]
      exact Nat.div_add_mod' row.val 64)).trans
    ((broadcastInDim_apply _ h₁ _ _ (ix2 0 ⟨row % 64, by omega⟩) fun d => by
      match d with
      | ⟨0, _⟩ => rfl
      | ⟨1, _⟩ => rfl).trans (Cert.Online.cast_row_apply _ _)))

/-! ## The embedding -/

section Embedding

variable (y : FVec Ideal ⟨3, ![8192, H, L]⟩ .f32) (c s c' s' : FVec Ideal ⟨3, ![8192, H, n]⟩ .f32)

/-- A half axis minus the other half: the first half after the turn. -/
def minus (o p : ℕ) (h : (⟨3, ![8192, H, L]⟩ : Shape).Slices ![0, 0, o] ⟨3, ![8192, H, M]⟩)
    (h₁ : (⟨3, ![8192, H, M]⟩ : Shape).Slices ![0, 0, 0] ⟨3, ![8192, H, n]⟩)
    (h₂ : (⟨3, ![8192, H, M]⟩ : Shape).Slices ![0, 0, p] ⟨3, ![8192, H, n]⟩) : FVec Ideal ⟨3, ![8192, H, n]⟩ .f32 :=
  subf (mulf (extractStridedSlice ⟨3, ![8192, H, n]⟩ ![0, 0, 0] (extractStridedSlice ⟨3, ![8192, H, M]⟩ ![0, 0, o] y h) h₁) c)
    (mulf (extractStridedSlice ⟨3, ![8192, H, n]⟩ ![0, 0, p] (extractStridedSlice ⟨3, ![8192, H, M]⟩ ![0, 0, o] y h) h₂) s)

/-- The second half of an axis after the turn. -/
def plus (o p : ℕ) (h : (⟨3, ![8192, H, L]⟩ : Shape).Slices ![0, 0, o] ⟨3, ![8192, H, M]⟩)
    (h₁ : (⟨3, ![8192, H, M]⟩ : Shape).Slices ![0, 0, 0] ⟨3, ![8192, H, n]⟩)
    (h₂ : (⟨3, ![8192, H, M]⟩ : Shape).Slices ![0, 0, p] ⟨3, ![8192, H, n]⟩) : FVec Ideal ⟨3, ![8192, H, n]⟩ .f32 :=
  addf (mulf (extractStridedSlice ⟨3, ![8192, H, n]⟩ ![0, 0, 0] (extractStridedSlice ⟨3, ![8192, H, M]⟩ ![0, 0, o] y h) h₁) s)
    (mulf (extractStridedSlice ⟨3, ![8192, H, n]⟩ ![0, 0, p] (extractStridedSlice ⟨3, ![8192, H, M]⟩ ![0, 0, o] y h) h₂) c)

/-- One axis after the turn, at a lane of the head: `a` is the token's position on the axis. -/
theorem axis_apply (d : BitVec 32) (a o : ℕ) (h : (⟨3, ![8192, H, L]⟩ : Shape).Slices ![0, 0, o] ⟨3, ![8192, H, M]⟩)
    (h₁ : (⟨3, ![8192, H, M]⟩ : Shape).Slices ![0, 0, 0] ⟨3, ![8192, H, n]⟩)
    (h₂ : (⟨3, ![8192, H, M]⟩ : Shape).Slices ![0, 0, n] ⟨3, ![8192, H, n]⟩)
    (hj : Shape.Concatenates [⟨3, ![8192, H, n]⟩, ⟨3, ![8192, H, n]⟩] ⟨3, ![8192, H, M]⟩ 2) (hM : M = 2 * n) (hn : 0 < n)
    (hL : L ≤ 128) (row : Fin 8192) (b : Fin H) (z : Fin 128 → EReal) (hz : ∀ l : Fin L, y (ix3 row b l) = z ⟨l, by omega⟩)
    (hc : ∀ k, c (ix3 row b k) = FloatOps.hostUnary (F := Ideal) (φ := .f32) .cos (angle d a k))
    (hs : ∀ k, s (ix3 row b k) = FloatOps.hostUnary (F := Ideal) (φ := .f32) .sin (angle d a k))
    (l : Fin M) (lane : Fin L) (hl : lane.val = o + l.val) (ho : o % (2 * n) = 0)
    (ha : laneAngle n d row lane = angle d a (lane % n)) :
    concatenate ⟨3, ![8192, H, M]⟩ 2 [⟨⟨3, ![8192, H, n]⟩, minus y c s o n h h₁ h₂⟩,
      ⟨⟨3, ![8192, H, n]⟩, plus y c s o n h h₁ h₂⟩] hj (ix3 row b l) = turned n d row z ⟨lane, by omega⟩ := by
  obtain ⟨q, hq⟩ : ∃ q, o = 2 * n * q := ⟨o / (2 * n), by have := Nat.div_add_mod o (2 * n); omega⟩
  have hlM := l.isLt
  have hlL := lane.isLt
  unfold turned
  by_cases hlt : l.val < n
  · have hd : lane.val / n = 2 * q := by
      rw [hl, hq, show 2 * n * q + l.val = l.val + n * (2 * q) by ring, Nat.add_mul_div_left _ _ hn,
        Nat.div_eq_of_lt hlt, Nat.zero_add]
    have hm : lane.val % n = l.val := by
      rw [hl, hq, show 2 * n * q + l.val = l.val + n * (2 * q) by ring, Nat.add_mul_mod_self_left, Nat.mod_eq_of_lt hlt]
    have hp : lane.val + n < L := by
      have := h.2 2
      change o + M ≤ L at this
      omega
    have hpar : partner n ⟨lane, by omega⟩ = ⟨lane.val + n, by omega⟩ := by
      unfold partner
      rw [if_pos (by show lane.val / n % 2 = 0; omega)]
      exact Fin.ext (Nat.mod_eq_of_lt (by show lane.val + n < 128; omega))
    rw [if_pos (by show lane.val / n % 2 = 0; omega), hpar]
    refine (join_left_apply _ _ hj row b l hlt).trans ?_
    refine congrArg₂ (fun u v : EReal => u - v) (congrArg₂ (· * ·) ?_ ?_) (congrArg₂ (· * ·) ?_ ?_)
    · exact (lanes_apply _ 0 h₁ row b ⟨l, hlt⟩ l (Nat.zero_add _).symm).trans
        ((lanes_apply _ o h row b l lane hl).trans (hz lane))
    · rw [hc, ha, hm]
    · exact (lanes_apply _ n h₂ row b ⟨l, hlt⟩ ⟨n + l, by omega⟩ rfl).trans
        ((lanes_apply _ o h row b _ ⟨lane.val + n, hp⟩ (by show lane.val + n = o + (n + l.val); omega)).trans (hz _))
    · rw [hs, ha, hm]
  · obtain ⟨k, hk⟩ : ∃ k, l.val = n + k := ⟨l.val - n, by omega⟩
    have hkn : k < n := by omega
    have hd : lane.val / n = 2 * q + 1 := by
      rw [hl, hq, hk, show 2 * n * q + (n + k) = k + n * (2 * q + 1) by ring, Nat.add_mul_div_left _ _ hn,
        Nat.div_eq_of_lt hkn, Nat.zero_add]
    have hm : lane.val % n = k := by
      rw [hl, hq, hk, show 2 * n * q + (n + k) = k + n * (2 * q + 1) by ring, Nat.add_mul_mod_self_left,
        Nat.mod_eq_of_lt hkn]
    have hpar : partner n ⟨lane, by omega⟩ = ⟨lane.val - n, by omega⟩ := by
      unfold partner
      rw [if_neg (by show ¬lane.val / n % 2 = 0; omega)]
      refine Fin.ext ?_
      show (lane.val + (128 - n)) % 128 = lane.val - n
      omega
    rw [if_neg (by show ¬lane.val / n % 2 = 0; omega), hpar]
    refine (join_right_apply _ _ hj row b l (by omega) (by omega)).trans ?_
    refine congrArg₂ (· + ·) (congrArg₂ (· * ·) ?_ ?_) (congrArg₂ (· * ·) ?_ ?_)
    · exact (lanes_apply _ 0 h₁ row b ⟨l.val - n, by omega⟩ ⟨k, by omega⟩ (by show k = 0 + (l.val - n); omega)).trans
        ((lanes_apply _ o h row b _ ⟨lane.val - n, by omega⟩ (by show lane.val - n = o + k; omega)).trans (hz _))
    · rw [hs, ha, hm]
      show FloatOps.hostUnary (F := Ideal) (φ := .f32) .sin (angle d a (l.val - n)) = _
      rw [show l.val - n = k by omega]
    · exact (lanes_apply _ n h₂ row b ⟨l.val - n, by omega⟩ l (by show l.val = n + (l.val - n); omega)).trans
        ((lanes_apply _ o h row b l lane hl).trans (hz lane))
    · rw [hc, ha, hm]
      show FloatOps.hostUnary (F := Ideal) (φ := .f32) .cos (angle d a (l.val - n)) = _
      rw [show l.val - n = k by omega]

/-- Both axes after the turn. -/
theorem rope_apply (d : BitVec 32) (h : (⟨3, ![8192, H, L]⟩ : Shape).Slices ![0, 0, 0] ⟨3, ![8192, H, M]⟩)
    (h' : (⟨3, ![8192, H, L]⟩ : Shape).Slices ![0, 0, M] ⟨3, ![8192, H, M]⟩)
    (h₁ : (⟨3, ![8192, H, M]⟩ : Shape).Slices ![0, 0, 0] ⟨3, ![8192, H, n]⟩)
    (h₂ : (⟨3, ![8192, H, M]⟩ : Shape).Slices ![0, 0, n] ⟨3, ![8192, H, n]⟩)
    (hj : Shape.Concatenates [⟨3, ![8192, H, n]⟩, ⟨3, ![8192, H, n]⟩] ⟨3, ![8192, H, M]⟩ 2)
    (hjj : Shape.Concatenates [⟨3, ![8192, H, M]⟩, ⟨3, ![8192, H, M]⟩] ⟨3, ![8192, H, L]⟩ 2)
    (hM : M = 2 * n) (hLM : L = 2 * M) (hn : 0 < n) (hL : L ≤ 128) (row : Fin 8192) (b : Fin H) (z : Fin 128 → EReal)
    (hz : ∀ l : Fin L, y (ix3 row b l) = z ⟨l, by omega⟩)
    (hc : ∀ k, c (ix3 row b k) = FloatOps.hostUnary (F := Ideal) (φ := .f32) .cos (angle d (row / 64) k))
    (hs : ∀ k, s (ix3 row b k) = FloatOps.hostUnary (F := Ideal) (φ := .f32) .sin (angle d (row / 64) k))
    (hc' : ∀ k, c' (ix3 row b k) = FloatOps.hostUnary (F := Ideal) (φ := .f32) .cos (angle d (row % 64) k))
    (hs' : ∀ k, s' (ix3 row b k) = FloatOps.hostUnary (F := Ideal) (φ := .f32) .sin (angle d (row % 64) k))
    (lane : Fin L) :
    concatenate ⟨3, ![8192, H, L]⟩ 2
      [⟨⟨3, ![8192, H, M]⟩, concatenate ⟨3, ![8192, H, M]⟩ 2 [⟨⟨3, ![8192, H, n]⟩, minus y c s 0 n h h₁ h₂⟩,
        ⟨⟨3, ![8192, H, n]⟩, plus y c s 0 n h h₁ h₂⟩] hj⟩,
      ⟨⟨3, ![8192, H, M]⟩, concatenate ⟨3, ![8192, H, M]⟩ 2 [⟨⟨3, ![8192, H, n]⟩, minus y c' s' M n h' h₁ h₂⟩,
        ⟨⟨3, ![8192, H, n]⟩, plus y c' s' M n h' h₁ h₂⟩] hj⟩] hjj (ix3 row b lane)
      = turned n d row z ⟨lane, by omega⟩ := by
  have hlL := lane.isLt
  by_cases hlt : lane.val < M
  · refine (join_left_apply _ _ hjj row b lane hlt).trans (axis_apply y c s d (row / 64) 0 h h₁ h₂ hj hM hn hL row b z hz
      hc hs ⟨lane, hlt⟩ lane (Nat.zero_add _).symm (Nat.zero_mod _) ?_)
    unfold laneAngle
    rw [if_pos (Nat.div_lt_of_lt_mul (by omega))]
  · refine (join_right_apply _ _ hjj row b lane (by omega) (by omega)).trans (axis_apply y c' s' d (row % 64) M h' h₁ h₂ hj
      hM hn hL row b z hz hc' hs' ⟨lane.val - M, by omega⟩ lane (by show lane.val = M + (lane.val - M); omega)
      (by rw [hM, Nat.mod_self]) ?_)
    unfold laneAngle
    rw [if_neg (by rw [not_lt, Nat.le_div_iff_mul_le hn]; omega)]

end Embedding

end Cert.Rope

end
-- ==== Proof.KvPrep.Reference.lean ====
/-
  The reference's keys and values, read at an index: the norms, the tables of angles, the two embeddings, and the four
  results.
-/
module

public import proofs.«01_k».proof.Proof.KvPrep.Array
public import proofs.«01_k».proof.Proof.Rope.Host
public import proofs.«01_k».proof.Proof.Gen.Reference13Ideal.Read

@[expose] public section

set_option maxRecDepth 16384

noncomputable section

namespace Cert.KvPrep

open Cert.Reference13Ideal Cert.Reference13Ideal.Read Cert.Rope
open Idealize.ShloMosaic Idealize.ShloMosaic.TcCoe Idealize.SL.Sem

variable (p : Vec Ideal Cert.Kernel13Ideal.S8192x1152 .bf16) (gk : Vec Ideal Cert.Kernel13Ideal.S2x128 .f32)
  (gl : Vec Ideal Cert.Kernel13Ideal.S2x512 .f32) (w : Vec Ideal Cert.Kernel13Ideal.S2x512x2048 .f32)

/-! ## The norms -/

/-- A head's columns. -/
theorem head_apply (row : Fin 8192) (b : Fin 2) (j : Fin 128) :
    val_main_v6 (F := Ideal) p (ix3 row b j) = p (ix2 row ⟨128 * b.val + j.val, by omega⟩) := by
  rw [val_main_v6_apply, val_main_v1_apply, val_main_v0_apply]
  refine congrArg p (funext fun a => Fin.ext ?_)
  match a with
  | ⟨0, _⟩ => show ((row.val * 2 + b.val) * 128 + j.val) / 256 = row.val; omega
  | ⟨1, _⟩ => show ((row.val * 2 + b.val) * 128 + j.val) % 256 = 128 * b.val + j.val; omega

/-- The scale of a head. -/
theorem head_scale_apply (row : Fin 8192) (b : Fin 2) (j : Fin 128) : val_main_v17 (F := Ideal) p (ix3 row b j)
    = rowScale 0x43000000#32 fun k : Fin 128 => p (ix2 row ⟨128 * b.val + k.val, by omega⟩) := by
  rw [val_main_v17_apply, val_main_v16_apply, val_main_v15_apply, val_main_v13_apply, val_main_v11_apply,
    val_main_v12_apply, val_main_v14_apply]
  have hs : val_main_v10 (F := Ideal) p (idx_main_v11 (idx_main_v17 (ix3 row b j)))
      = ∑ k : Fin 128, p (ix2 row ⟨128 * b.val + k.val, by omega⟩) * p (ix2 row ⟨128 * b.val + k.val, by omega⟩) := by
    refine (val_main_v10_apply p _).trans ?_
    rw [val_main_cst_apply, show FloatOps.ofBits (F := Ideal) .f32 0x00000000#32 = (0 : EReal)
      from Ideal.ofBits_zero_f32, zero_add]
    refine Finset.sum_congr rfl fun k _ => ?_
    rw [show idx_main_v10 (idx_main_v11 (idx_main_v17 (ix3 row b j))) k = ix3 row b k from funext fun a => by
      match a with
      | ⟨0, _⟩ => rfl
      | ⟨1, _⟩ => rfl
      | ⟨2, _⟩ => rfl, val_main_v9_apply, head_apply]
    rfl
  rw [hs]
  rfl

/-- The heads' gain. -/
theorem reference_head_gain (row : Fin 8192) (b : Fin 2) (j : Fin 128) :
    val_main_v20 (F := Ideal) gk (ix3 row b j) = gk (ix2 0 j) := by
  rw [val_main_v20_apply, val_main_v19_apply, val_main_v8_apply, val_main_v7_apply]
  refine congrArg gk (funext fun a => Fin.ext ?_)
  match a with
  | ⟨0, _⟩ => rfl
  | ⟨1, _⟩ => show j.val % 128 = j.val; omega

/-- A head after its norm. -/
theorem normed_head_apply (row : Fin 8192) (b : Fin 2) (j : Fin 128) : val_main_v21 (F := Ideal) p gk (ix3 row b j)
    = headed 0x43000000#32 (fun k : Fin 128 => p (ix2 row ⟨128 * b.val + k.val, by omega⟩)) (gk (ix2 0 j)) j := by
  rw [val_main_v21_apply, val_main_v18_apply, head_apply, head_scale_apply, reference_head_gain]
  rfl

/-- The latent's columns. -/
theorem latent_columns_apply (row : Fin 8192) (j : Fin 512) :
    val_main_v3 (F := Ideal) p (ix2 row j) = p (ix2 row ⟨512 + j.val, by omega⟩) := by
  rw [val_main_v3_apply, val_main_v0_apply]
  refine congrArg p (funext fun a => ?_)
  match a with
  | ⟨0, _⟩ => rfl
  | ⟨1, _⟩ => rfl

/-- The scale of a latent. -/
theorem latent_scale_apply (row : Fin 8192) (j : Fin 512) : val_main_v32 (F := Ideal) p (ix2 row j)
    = rowScale 0x44000000#32 fun k : Fin 512 => p (ix2 row ⟨512 + k.val, by omega⟩) := by
  rw [val_main_v32_apply, val_main_v31_apply, val_main_v30_apply, val_main_v28_apply, val_main_v26_apply,
    val_main_v27_apply, val_main_v29_apply]
  have hs : val_main_v25 (F := Ideal) p (idx_main_v26 (idx_main_v32 (ix2 row j)))
      = ∑ k : Fin 512, p (ix2 row ⟨512 + k.val, by omega⟩) * p (ix2 row ⟨512 + k.val, by omega⟩) := by
    refine (val_main_v25_apply p _).trans ?_
    rw [val_main_cst_2_apply, show FloatOps.ofBits (F := Ideal) .f32 0x00000000#32 = (0 : EReal)
      from Ideal.ofBits_zero_f32, zero_add]
    refine Finset.sum_congr rfl fun k _ => ?_
    rw [show idx_main_v25 (idx_main_v26 (idx_main_v32 (ix2 row j))) k = ix2 row k from funext fun a => by
      match a with
      | ⟨0, _⟩ => rfl
      | ⟨1, _⟩ => rfl, val_main_v24_apply, latent_columns_apply]
    rfl
  rw [hs]
  rfl

/-- The latent's gain. -/
theorem reference_latent_gain (row : Fin 8192) (j : Fin 512) :
    val_main_v35 (F := Ideal) gl (ix2 row j) = gl (ix2 0 j) := by
  rw [val_main_v35_apply, val_main_v34_apply, val_main_v23_apply, val_main_v22_apply]
  refine congrArg gl (funext fun a => Fin.ext ?_)
  match a with
  | ⟨0, _⟩ => rfl
  | ⟨1, _⟩ => show j.val % 512 = j.val; omega

/-- The normed latent by the weights. -/
theorem product_apply (row : Fin 8192) (j : Fin 2048) :
    val_main_v39 (F := Ideal) p gl w (ix2 row j) = spreadLatent p gl w row j := by
  refine (val_main_v39_apply p gl w _).trans (Finset.sum_congr rfl fun k _ => congrArg₂ (· * ·) ?_ ?_)
  · rw [show lidx_main_v39 (ix2 row j) k = ix2 row k from funext fun a => by
      match a with
      | ⟨0, _⟩ => rfl
      | ⟨1, _⟩ => rfl, val_main_v36_apply, val_main_v33_apply, latent_columns_apply, latent_scale_apply,
      reference_latent_gain]
    rfl
  · rw [val_main_v38_apply, val_main_v37_apply]
    refine congrArg w (funext fun a => Fin.ext ?_)
    match a with
    | ⟨0, _⟩ => rfl
    | ⟨1, _⟩ => show (k.val * 2048 + j.val) / 2048 % 512 = k.val; omega
    | ⟨2, _⟩ => show (k.val * 2048 + j.val) % 2048 = j.val; omega

/-! ## The angles -/

theorem row_angle_apply (row : Fin 8192) (k : Fin 32) :
    val_main_v66 (F := Ideal) (ix2 row k) = angle 0x42800000#32 (row / 64) k :=
  (outer_apply _ _ _ _ _ _ row k).trans
    (congrArg₂ (FloatOps.mulf (F := Ideal) (φ := .f32)) (image_row_apply _ _ row) rfl)

theorem column_angle_apply (row : Fin 8192) (k : Fin 32) :
    val_main_v71 (F := Ideal) (ix2 row k) = angle 0x42800000#32 (row % 64) k :=
  (outer_apply _ _ _ _ _ _ row k).trans
    (congrArg₂ (FloatOps.mulf (F := Ideal) (φ := .f32)) (image_column_apply _ _ _ row) rfl)

theorem narrow_row_angle_apply (row : Fin 8192) (k : Fin 16) :
    val_main_v133 (F := Ideal) (ix2 row k) = angle 0x42000000#32 (row / 64) k :=
  (outer_apply _ _ _ _ _ _ row k).trans
    (congrArg₂ (FloatOps.mulf (F := Ideal) (φ := .f32)) (image_row_apply _ _ row) rfl)

theorem narrow_column_angle_apply (row : Fin 8192) (k : Fin 16) :
    val_main_v138 (F := Ideal) (ix2 row k) = angle 0x42000000#32 (row % 64) k :=
  (outer_apply _ _ _ _ _ _ row k).trans
    (congrArg₂ (FloatOps.mulf (F := Ideal) (φ := .f32)) (image_column_apply _ _ _ row) rfl)

/-! ## The embeddings -/

/-- The keys after the embedding. -/
theorem turned_head_apply (row : Fin 8192) (b : Fin 2) (j : Fin 128) : val_main_v108 (F := Ideal) p gk (ix3 row b j)
    = turned 32 0x42800000#32 row (fun l => headed 0x43000000#32 (fun k : Fin 128 =>
      p (ix2 row ⟨128 * b.val + k.val, by omega⟩)) (gk (ix2 0 l)) l) j :=
  rope_apply (H := 2) (L := 128) (M := 64) (n := 32) (val_main_v21 (F := Ideal) p gk) (val_main_v80 (F := Ideal))
    (val_main_v82 (F := Ideal)) (val_main_v97 (F := Ideal)) (val_main_v99 (F := Ideal)) 0x42800000#32 _ _ _ _ _ _
    rfl rfl (by decide) (by decide) row b _ (fun l => normed_head_apply p gk row b l)
    (fun k => (heads_apply _ _ _ row b k).trans (congrArg (FloatOps.hostUnary (F := Ideal) .cos) (row_angle_apply row k)))
    (fun k => (heads_apply _ _ _ row b k).trans (congrArg (FloatOps.hostUnary (F := Ideal) .sin) (row_angle_apply row k)))
    (fun k => (heads_apply _ _ _ row b k).trans (congrArg (FloatOps.hostUnary (F := Ideal) .cos) (column_angle_apply row k)))
    (fun k => (heads_apply _ _ _ row b k).trans (congrArg (FloatOps.hostUnary (F := Ideal) .sin) (column_angle_apply row k)))
    j

/-- The shared key's columns. -/
theorem shared_columns_apply (row : Fin 8192) (l : Fin 64) :
    val_main_v109 (F := Ideal) p (ix3 row 0 l) = p (ix2 row ⟨1024 + l.val, by omega⟩) := by
  rw [val_main_v109_apply, val_main_v4_apply, val_main_v0_apply]
  refine congrArg p (funext fun a => ?_)
  match a with
  | ⟨0, _⟩ => rfl
  | ⟨1, _⟩ => rfl

/-- The shared key after the embedding. -/
theorem turned_shared_apply (row : Fin 8192) (l : Fin 64) : val_main_v167 (F := Ideal) p (ix3 row 0 l)
    = turned 16 0x42000000#32 row (fun k => p (ix2 row ⟨1024 + k.val, by omega⟩)) ⟨l, by omega⟩ :=
  rope_apply (H := 1) (L := 64) (M := 32) (n := 16) (val_main_v109 (F := Ideal) p) (val_main_v142 (F := Ideal))
    (val_main_v144 (F := Ideal)) (val_main_v155 (F := Ideal)) (val_main_v157 (F := Ideal)) 0x42000000#32 _ _ _ _ _ _
    rfl rfl (by decide) (by decide) row 0 _ (fun l => shared_columns_apply p row l)
    (fun k => (one_head_apply _ _ row k).trans (congrArg (FloatOps.hostUnary (F := Ideal) .cos) (narrow_row_angle_apply row k)))
    (fun k => (one_head_apply _ _ row k).trans (congrArg (FloatOps.hostUnary (F := Ideal) .sin) (narrow_row_angle_apply row k)))
    (fun k => (one_head_apply _ _ row k).trans (congrArg (FloatOps.hostUnary (F := Ideal) .cos) (narrow_column_angle_apply row k)))
    (fun k => (one_head_apply _ _ row k).trans (congrArg (FloatOps.hostUnary (F := Ideal) .sin) (narrow_column_angle_apply row k)))
    l

/-! ## The results -/

theorem reference_keys_apply (row : Fin 8192) (j : Fin 256) :
    val_main_v172 (F := Ideal) p gk (ix2 row j) = keys p gk row j := by
  rw [val_main_v172_apply, val_main_v171_apply, show idx_main_v171 (ix2 row j)
    = ix3 row ⟨j.val / 128, by omega⟩ ⟨j.val % 128, by omega⟩ from funext fun a => Fin.ext (by
      match a with
      | ⟨0, _⟩ => show (row.val * 256 + j.val) / 256 = row.val; omega
      | ⟨1, _⟩ => show (row.val * 256 + j.val) / 128 % 2 = j.val / 128; omega
      | ⟨2, _⟩ => show (row.val * 256 + j.val) % 128 = j.val % 128; omega)]
  exact turned_head_apply p gk row ⟨j.val / 128, by omega⟩ ⟨j.val % 128, by omega⟩

/-- A head's shared part, with its zeros. -/
theorem padded_shared_apply (row : Fin 8192) (b : Fin 8) (l : Fin 128) : val_main_v169 (F := Ideal) p (ix3 row b l)
    = if l.val < 64 then turned 16 0x42000000#32 row (fun k => p (ix2 row ⟨1024 + k.val, by omega⟩)) l else 0 := by
  unfold val_main_v169
  by_cases hl : l.val < 64
  · rw [if_pos hl]
    refine (pad_apply_of_inside _ _ _ _ _ _ _ _ (ix3 row b ⟨l, hl⟩) fun a => ?_).trans ?_
    · match a with
      | ⟨0, _⟩ => show row.val = 0 + row.val * (0 + 1); omega
      | ⟨1, _⟩ => show b.val = 0 + b.val * (0 + 1); omega
      | ⟨2, _⟩ => show l.val = 0 + l.val * (0 + 1); omega
    · rw [val_main_v168_apply]
      exact (congrArg (val_main_v167 (F := Ideal) p) (funext fun a => by
        match a with
        | ⟨0, _⟩ => rfl
        | ⟨1, _⟩ => rfl
        | ⟨2, _⟩ => rfl)).trans (turned_shared_apply p row ⟨l, hl⟩)
  · rw [if_neg hl]
    refine (pad_apply_of_not_inside _ _ _ _ _ _ _ _ 2 fun h => hl ?_).trans (zero_apply _)
    have h2 : (l.val - 0) / (0 + 1) < 64 := h.2.2
    omega

theorem product_head_apply (row : Fin 8192) (b : Fin 8) (j : Fin 256) : val_main_v40 (F := Ideal) p gl w (ix3 row b j)
    = spreadLatent p gl w row ⟨256 * b.val + j.val, by omega⟩ := by
  rw [val_main_v40_apply, show idx_main_v40 (ix3 row b j) = ix2 row ⟨256 * b.val + j.val, by omega⟩ from
    funext fun a => Fin.ext (by
      match a with
      | ⟨0, _⟩ => show ((row.val * 8 + b.val) * 256 + j.val) / 2048 = row.val; omega
      | ⟨1, _⟩ => show ((row.val * 8 + b.val) * 256 + j.val) % 2048 = 256 * b.val + j.val; omega)]
  exact product_apply p gl w row _

theorem reference_latent_keys_apply (row : Fin 8192) (j : Fin 2048) :
    val_main_v174 (F := Ideal) p gl w (ix2 row j) = latentKeys p gl w row j := by
  rw [val_main_v174_apply, val_main_v173_apply, show idx_main_v173 (ix2 row j)
    = ix3 row ⟨j.val / 256, by omega⟩ ⟨j.val % 256, by omega⟩ from funext fun a => Fin.ext (by
      match a with
      | ⟨0, _⟩ => show (row.val * 2048 + j.val) / 2048 = row.val; omega
      | ⟨1, _⟩ => show (row.val * 2048 + j.val) / 256 % 8 = j.val / 256; omega
      | ⟨2, _⟩ => show (row.val * 2048 + j.val) % 256 = j.val % 256; omega)]
  show val_main_v170 (F := Ideal) p gl w _ = _
  unfold latentKeys
  by_cases hj : j.val % 256 < 128
  · rw [if_pos hj]
    refine (join_left_apply _ _ _ row _ _ hj).trans ?_
    rw [val_main_v41_apply]
    refine (congrArg (val_main_v40 (F := Ideal) p gl w) (funext fun a => ?_)).trans
      ((product_head_apply p gl w row ⟨j.val / 256, by omega⟩ ⟨j.val % 256, by omega⟩).trans
        (congrArg (spreadLatent p gl w row) (Fin.ext ?_)))
    · match a with
      | ⟨0, _⟩ => rfl
      | ⟨1, _⟩ => rfl
      | ⟨2, _⟩ => rfl
    · show 256 * (j.val / 256) + j.val % 256 = 256 * (j.val / 256) + j.val % 128
      omega
  · rw [if_neg hj]
    refine (join_right_apply _ _ _ row _ _ (by show 128 ≤ j.val % 256; omega) (by show j.val % 256 - 128 < 128; omega)).trans
      ((padded_shared_apply p row _ _).trans ?_)
    rw [show (⟨j.val % 256 - 128, by omega⟩ : Fin 128) = ⟨j.val % 128, Nat.mod_lt _ (by decide)⟩ from
      Fin.ext (by show j.val % 256 - 128 = j.val % 128; omega)]

theorem reference_values_apply (b : Fin 16) (f : Fin 256) (t : Fin 512) :
    val_main_v177 (F := Ideal) p (ix3 b f t) = values p b f t := by
  rw [val_main_v177_apply, val_main_v176_apply, val_main_v175_apply, val_main_v2_apply, val_main_v0_apply]
  refine congrArg p (funext fun a => Fin.ext ?_)
  match a with
  | ⟨0, _⟩ => show ((b.val * 512 + t.val) * 256 + f.val) / 256 = 512 * b.val + t.val; omega
  | ⟨1, _⟩ => show 256 + ((b.val * 512 + t.val) * 256 + f.val) % 256 = 256 + f.val; omega

theorem reference_latent_values_apply (b : Fin 16) (f : Fin 1024) (t : Fin 512) :
    val_main_v180 (F := Ideal) p gl w (ix3 b f t) = latentValues p gl w b f t := by
  show val_main_v179 (F := Ideal) p gl w (ix3 b f t) = _
  rw [val_main_v179_apply, val_main_v178_apply, val_main_v42_apply, latentValues]
  refine (congrArg (val_main_v40 (F := Ideal) p gl w) (funext fun a => Fin.ext ?_)).trans
    ((product_head_apply p gl w ⟨512 * b.val + t.val, by omega⟩ ⟨f.val / 128, by omega⟩ ⟨128 + f.val % 128, by omega⟩).trans
      (congrArg (spreadLatent p gl w _) (Fin.ext ?_)))
  · match a with
    | ⟨0, _⟩ => show ((b.val * 512 + t.val) * 1024 + f.val) / 1024 = 512 * b.val + t.val; omega
    | ⟨1, _⟩ => show ((b.val * 512 + t.val) * 1024 + f.val) / 128 % 8 = f.val / 128; omega
    | ⟨2, _⟩ => show 128 + ((b.val * 512 + t.val) * 1024 + f.val) % 128 = 128 + f.val % 128; omega
  · show 256 * (f.val / 128) + (128 + f.val % 128) = 256 * (f.val / 128) + 128 + f.val % 128
    omega

end Cert.KvPrep

end
-- ==== Proof.KvPrep.Claim.lean ====
/-
  The value claim of the preparation of the keys and values: each of the kernel's four arrays and the reference's result
  are the same function of the arguments.
-/
module

public import proofs.«01_k».proof.Proof.KvPrep.Reference
public import proofs.«01_k».proof.Defs

@[expose] public section

set_option maxRecDepth 16384

noncomputable section

namespace Cert.KvPrep

open Idealize.ShloMosaic Idealize.ShloMosaic.TcCoe Idealize.SL.Sem

/-! ## The kernel's arrays -/

/-- Arrays with the same entries. -/
theorem eq_of_entries {α : Type} {n₀ n₁ n₂ : ℕ} {x y : (⟨3, ![n₀, n₁, n₂]⟩ : Shape).Idx → α}
    (h : ∀ a b c, x (ix3 a b c) = y (ix3 a b c)) : x = y :=
  funext fun i => (congrArg x (ix3_eta i).symm).trans ((h _ _ _).trans (congrArg y (ix3_eta i)))

section Arrays

open Cert.Kernel13Ideal Cert.Kernel13Ideal.Gen Cert.Kernel13Ideal.Value

variable (m : (ℓ : Loc nD τ sig) → Buf (Elt Ideal) ℓ) (c : Dev nD)

theorem keys_array : (dats m 0 c).arrAt 12 cfg0.N = fun i => keys
    (m ((c : Thread nD τ).loc main_arg0)) (m ((c : Thread nD τ).loc main_arg1)) (i 0) (i 1) := by
  funext i
  rw [show i = ix2 (i 0) (i 1) from (ix2_eta i).symm]
  exact keys_array_apply m c (i 0) (i 1)

theorem latent_keys_array : (dats m 0 c).arrAt 13 cfg0.N = fun i => latentKeys
    (m ((c : Thread nD τ).loc main_arg0)) (m ((c : Thread nD τ).loc main_arg2)) (m ((c : Thread nD τ).loc main_arg3)) (i 0) (i 1) := by
  funext i
  rw [show i = ix2 (i 0) (i 1) from (ix2_eta i).symm]
  exact latent_keys_array_apply m c (i 0) (i 1)

theorem values_array : (dats m 0 c).arrAt 14 cfg0.N = fun i : S16x256x512.Idx => values
    (m ((c : Thread nD τ).loc main_arg0)) (i 0) (i 1) (i 2) := by
  refine eq_of_entries fun b f i => ?_
  exact values_array_apply m c b f i

theorem latent_values_array : (dats m 0 c).arrAt 15 cfg0.N = fun i : S16x1024x512.Idx => latentValues
    (m ((c : Thread nD τ).loc main_arg0)) (m ((c : Thread nD τ).loc main_arg2)) (m ((c : Thread nD τ).loc main_arg3)) (i 0) (i 1) (i 2) := by
  refine eq_of_entries fun b f i => ?_
  exact latent_values_array_apply m c b f i

end Arrays

theorem algebraic : Cert.algebraic_Kernel13Ideal_Reference13Ideal := by
  intro m g m' g' _ hargs
  refine ⟨fun c i => keys (m ((c.tc : Thread _ _).loc Cert.Kernel13Ideal.main_arg0))
      (m ((c.tc : Thread _ _).loc Cert.Kernel13Ideal.main_arg1)) (i 0) (i 1),
    fun c i => latentKeys (m ((c.tc : Thread _ _).loc Cert.Kernel13Ideal.main_arg0))
      (m ((c.tc : Thread _ _).loc Cert.Kernel13Ideal.main_arg2))
      (m ((c.tc : Thread _ _).loc Cert.Kernel13Ideal.main_arg3)) (i 0) (i 1),
    fun c i => values (m ((c.tc : Thread _ _).loc Cert.Kernel13Ideal.main_arg0)) (i 0) (i 1) (i 2),
    fun c i => latentValues (m ((c.tc : Thread _ _).loc Cert.Kernel13Ideal.main_arg0))
      (m ((c.tc : Thread _ _).loc Cert.Kernel13Ideal.main_arg2))
      (m ((c.tc : Thread _ _).loc Cert.Kernel13Ideal.main_arg3)) (i 0) (i 1) (i 2),
    (θ_run _ _ _).mono (fun r h c => ⟨(h c).1.trans ?_, (h c).2.1.trans ?_, (h c).2.2.1.trans ?_,
      (h c).2.2.2.1.trans ?_, (h c).2.2.2.2⟩) (Cert.Kernel13Ideal.Value.run_blocks m g),
    (θ_run _ _ _).mono (fun r h c => ⟨(h c).1.trans ?_, (h c).2.1.trans ?_, (h c).2.2.1.trans ?_,
      (h c).2.2.2.1.trans ?_, (h c).2.2.2.2⟩) (Cert.Reference13Ideal.Value.run m' g')⟩
  · exact keys_array m c
  · exact latent_keys_array m c
  · exact values_array m c
  · exact latent_values_array m c
  · obtain ⟨e0, e1, e2, e3⟩ := hargs c
    funext i
    refine (congrFun (Cert.Reference13Ideal.Read.val_main_v172_eq (StableHlo.launchContents m' c)) i).trans ?_
    rw [show StableHlo.launchContents m' c (Proc.devRef .tc Cert.Reference13Ideal.main_arg0)
      = m ((c.tc : Thread _ _).loc Cert.Kernel13Ideal.main_arg0) from e0, show StableHlo.launchContents m' c (Proc.devRef .tc Cert.Reference13Ideal.main_arg1)
      = m ((c.tc : Thread _ _).loc Cert.Kernel13Ideal.main_arg1) from e1]
    exact (congrArg _ (ix2_eta i).symm).trans (reference_keys_apply _ _ (i 0) (i 1))
  · obtain ⟨e0, e1, e2, e3⟩ := hargs c
    funext i
    refine (congrFun (Cert.Reference13Ideal.Read.val_main_v174_eq (StableHlo.launchContents m' c)) i).trans ?_
    rw [show StableHlo.launchContents m' c (Proc.devRef .tc Cert.Reference13Ideal.main_arg0)
      = m ((c.tc : Thread _ _).loc Cert.Kernel13Ideal.main_arg0) from e0, show StableHlo.launchContents m' c (Proc.devRef .tc Cert.Reference13Ideal.main_arg2)
      = m ((c.tc : Thread _ _).loc Cert.Kernel13Ideal.main_arg2) from e2, show StableHlo.launchContents m' c (Proc.devRef .tc Cert.Reference13Ideal.main_arg3)
      = m ((c.tc : Thread _ _).loc Cert.Kernel13Ideal.main_arg3) from e3]
    exact (congrArg _ (ix2_eta i).symm).trans (reference_latent_keys_apply _ _ _ (i 0) (i 1))
  · obtain ⟨e0, e1, e2, e3⟩ := hargs c
    funext i
    refine (congrFun (Cert.Reference13Ideal.Read.val_main_v177_eq (StableHlo.launchContents m' c)) i).trans ?_
    rw [show StableHlo.launchContents m' c (Proc.devRef .tc Cert.Reference13Ideal.main_arg0)
      = m ((c.tc : Thread _ _).loc Cert.Kernel13Ideal.main_arg0) from e0]
    exact (congrArg _ (ix3_eta i).symm).trans (reference_values_apply _ (i 0) (i 1) (i 2))
  · obtain ⟨e0, e1, e2, e3⟩ := hargs c
    funext i
    refine (congrFun (Cert.Reference13Ideal.Read.val_main_v180_eq (StableHlo.launchContents m' c)) i).trans ?_
    rw [show StableHlo.launchContents m' c (Proc.devRef .tc Cert.Reference13Ideal.main_arg0)
      = m ((c.tc : Thread _ _).loc Cert.Kernel13Ideal.main_arg0) from e0, show StableHlo.launchContents m' c (Proc.devRef .tc Cert.Reference13Ideal.main_arg2)
      = m ((c.tc : Thread _ _).loc Cert.Kernel13Ideal.main_arg2) from e2, show StableHlo.launchContents m' c (Proc.devRef .tc Cert.Reference13Ideal.main_arg3)
      = m ((c.tc : Thread _ _).loc Cert.Kernel13Ideal.main_arg3) from e3]
    exact (congrArg _ (ix3_eta i).symm).trans (reference_latent_values_apply _ _ _ (i 0) (i 1) (i 2))

end Cert.KvPrep

end
-- ==== Proof.QPrep.Block.lean ====
/-
  The preparation of the queries at a grid point of 256 rows: what the point stores, at a column and a row, in terms of
  its input blocks.
-/
module

public import proofs.«01_k».proof.Proof.Gen.Kernel14Ideal.Value
public import proofs.«01_k».proof.Proof.Rope.Lanes
public import proofs.«01_k».proof.Proof.Merge.Block

@[expose] public section

set_option maxRecDepth 16384

noncomputable section

namespace Cert.QPrep

open Cert.Kernel14Ideal Cert.Kernel14Ideal.Gen Cert.Rope
open Idealize.ShloMosaic Idealize.ShloMosaic.TcCoe Idealize.SL.Sem

/-- The scale of the heads' scores, with the factor that makes the softmax one of powers of two. -/
def headScale : EReal := FloatOps.ofBits (F := Ideal) .f32 0x3E0293EE#32

/-- The scale of the latent heads' scores, with that factor. -/
def latentScale : EReal := FloatOps.ofBits (F := Ideal) .f32 0x3DD53B95#32

/-- A kernel's lane from its partner, out of the tables' blocks. -/
def mixed (seg : ℕ) (y : Fin 128 → EReal) (c s : Vec Ideal S256x128 .f32) (i : Fin 256) (j : Fin 128) : EReal :=
  y j * c (ix2 i j) + y (partner seg j) * s (ix2 i j)

/-- A block scaled and turned into columns. -/
def flipped (k : BitVec 32) (x : FVec Ideal S256x128 .f32) : FVec Ideal S128x256 .bf16 :=
  truncf .bf16 (matmul dot_S128x128_S256x128_S128x256_1_1_0_0_n_n none
    (truncf .bf16 (select (cmpi .eq (iota .tc S128x128 32 [0] iota_S128x128_d0_w32)
      (iota .tc S128x128 32 [1] iota_S128x128_d1_w32)) (broadcast S128x128 (Scalar.ofBits .f32 0x3F800000#32))
      (broadcast S128x128 (Scalar.ofBits .f32 0x00000000#32))) bitsLt_bf16_f32)
    (truncf .bf16 (mulf x (broadcast S256x128 (Scalar.ofBits .f32 k))) bitsLt_bf16_f32)
    (constant S128x256 .f32 0x00000000#32)) bitsLt_bf16_f32

theorem flipped_apply (k : BitVec 32) (x : FVec Ideal S256x128 .f32) (f : Fin 128) (t : Fin 256) :
    flipped k x (ix2 f t) = x (ix2 t f) * FloatOps.ofBits (F := Ideal) .f32 k :=
  flip_apply (n := 256) eye (identity_apply _ _) _ f t

theorem product_mid_apply (x : FVec Ideal S256x512 .bf16) (w : FVec Ideal S512x2048 .bf16) (i : Fin 256) (j : Fin 2048) :
    matmul dot_S256x512_S512x2048_S256x2048_1_0_0_1_n_n none x w (constant S256x2048 .f32 0x00000000#32) (ix2 i j)
      = ∑ k : Fin 512, x (ix2 i k) * w (ix2 k j) := Cert.Online.matmul_apply (φ₁ := .bf16) (φ₂ := .bf16) x w i j

/-! ## A head of the queries -/

section Heads

variable (g : Vec Ideal S1x128 .f32) (x : Vec Ideal S256x128 .bf16) (c s : Vec Ideal S256x128 .f32)

/-- A head's normed row. -/
theorem head_norm_apply (i : Fin 256) (j : Fin 128) : k0_pay3 g x (ix2 i j)
    = headed 0x43000000#32 (fun k => x (ix2 i k)) (g (ix2 0 j)) j :=
  (headed_apply 0x43000000#32 (n := 256) (r := 128) (extf .f32 x bitsLt_bf16_f32) _ reduces_S256x128_S256 (.inl rfl) rfl
    broadcasts_S256x1_S256x128 i j).trans (congrArg (fun z => headed _ _ z j) (Cert.Merge.same_apply g _ _))

/-- A head of the queries, as it is stored. -/
def headColumns : FVec Ideal S128x256 .bf16 := k0_pay8 (k0_pay3 g x) (k0_pay4 c) (k0_pay5 s) k0_pay6 k0_pay7

theorem head_columns_apply (f : Fin 128) (t : Fin 256) : headColumns g x c s (ix2 f t)
    = mixed 32 (fun l => headed 0x43000000#32 (fun k => x (ix2 t k)) (g (ix2 0 l)) l) c s t f * headScale := by
  refine (flipped_apply 0x3E0293EE#32 _ f t).trans (congrArg (· * headScale) ?_)
  refine (turn_apply 32 _ 0 (by decide +kernel) (fun _ _ => rfl) 96#32 32#32 rfl rfl (by decide) (by decide)
    rotates_S256x128_d1 (k0_pay3 g x) (k0_pay4 c) (k0_pay5 s) t f).trans ?_
  rw [head_norm_apply, head_norm_apply]
  exact congrArg₂ (fun a b : EReal => _ * a + _ * b) (Cert.Merge.same_apply c _ _) (Cert.Merge.same_apply s _ _)

end Heads

/-! ## A head of the latent queries -/

section Latent

variable (x : Vec Ideal S256x512 .bf16) (g : Vec Ideal S1x512 .f32) (w : Vec Ideal S512x2048 .bf16)

/-- The normed latent by a column of weights. -/
def latent (i : Fin 256) (j : Fin 2048) : EReal :=
  ∑ k : Fin 512, headed 0x44000000#32 (fun l => x (ix2 i l)) (g (ix2 0 k)) k * w (ix2 k j)

theorem latent_apply (i : Fin 256) (j : Fin 2048) : k0_pay60 x g w (ix2 i j) = latent x g w i j :=
  (product_mid_apply _ _ i j).trans (Finset.sum_congr rfl fun k _ =>
    congrArg₂ (· * ·) ((headed_apply 0x44000000#32 (n := 256) (r := 512) (extf .f32 x bitsLt_bf16_f32) _
      reduces_S256x512_S256 (.inl rfl) rfl broadcasts_S256x1_S256x512 i k).trans
      (congrArg (fun z => headed _ _ z k) (Cert.Merge.same_apply g _ _))) (Cert.Merge.same_apply w _ _))

/-- A head's first half, as it is stored. -/
def plainColumns (y : FVec Ideal S256x128 .f32) : FVec Ideal S128x256 .bf16 := flipped 0x3DD53B95#32 y

/-- A head's turned half, as it is stored. -/
def turnedColumns (y : FVec Ideal S256x128 .f32) (c s : Vec Ideal S256x128 .f32) : FVec Ideal S128x256 .bf16 :=
  k0_pay67 y (k0_pay63 c) (k0_pay64 s) k0_pay65 (k0_pay66 y)

theorem turned_columns_apply (y : FVec Ideal S256x128 .f32) (c s : Vec Ideal S256x128 .f32) (f : Fin 128) (t : Fin 256) :
    turnedColumns y c s (ix2 f t) = mixed 16 (fun l => y (ix2 t l)) c s t f * latentScale := by
  refine (flipped_apply 0x3DD53B95#32 _ f t).trans (congrArg (· * latentScale) ?_)
  refine (turn_apply 16 k0_pay65 0 (by decide +kernel) (fun _ _ => rfl) 112#32 16#32 rfl rfl (by decide) (by decide)
    rotates_S256x128_d1 y (k0_pay63 c) (k0_pay64 s) t f).trans ?_
  exact congrArg₂ (fun a b : EReal => _ * a + _ * b) (Cert.Merge.same_apply c _ _) (Cert.Merge.same_apply s _ _)

end Latent

end Cert.QPrep

end
-- ==== Proof.QPrep.Points.lean ====
/-
  The two blocks that a grid point of the queries' preparation leaves, put together from its stores.
-/
module

public import proofs.«01_k».proof.Proof.QPrep.Block
public import Idealize.ShloMosaic.Lib.Pipeline.ValueKit
public import Idealize.ShloMosaic.Lib.Pipeline.ReadBack
import all proofs.«01_k».proof.Proof.Gen.Kernel14Ideal.Frame.RunA

@[expose] public section

set_option maxRecDepth 16384

noncomputable section

namespace Cert.QPrep

open Cert.Kernel14Ideal Cert.Kernel14Ideal.Gen Cert.Rope
open Idealize.ShloMosaic Idealize.ShloMosaic.TcCoe Idealize.SL.Sem

/-- The queries of a block: eight heads of 128 columns. -/
def headQuery (x : Vec Ideal S256x1024 .bf16) (g : Vec Ideal S1x128 .f32) (c s : Vec Ideal S256x128 .f32) (f : Fin 1024)
    (t : Fin 256) : EReal :=
  mixed 32 (fun l => headed 0x43000000#32 (fun k : Fin 128 => x (ix2 t ⟨128 * (f.val / 128) + k.val, by omega⟩))
    (g (ix2 0 l)) l) c s t ⟨f.val % 128, Nat.mod_lt _ (by decide)⟩ * headScale

/-- The latent queries of a block: of a head's 256 columns of the product the first half as it is, the second turned. -/
def latentQuery (x : Vec Ideal S256x512 .bf16) (g : Vec Ideal S1x512 .f32) (w : Vec Ideal S512x2048 .bf16)
    (c s : Vec Ideal S256x128 .f32) (f : Fin 2048) (t : Fin 256) : EReal :=
  (if f.val % 256 < 128 then latent x g w t f
    else mixed 16 (fun l => latent x g w t ⟨256 * (f.val / 256) + 128 + l.val, by omega⟩) c s t
      ⟨f.val % 128, Nat.mod_lt _ (by decide)⟩) * latentScale

/-- A head of the queries, stored at its rows. -/
theorem head_at (x : Vec Ideal S256x1024 .bf16) (g : Vec Ideal S1x128 .f32) (c s : Vec Ideal S256x128 .f32) (f : Fin 1024)
    (t : Fin 256) (h : Fin 8) (hb : ∀ a, (![0, 128 * h.val] : Fin 2 → ℕ) a + S256x128.size a ≤ S256x1024.size a) :
    View.TileAt (Val := Elt Ideal) (e := .bf16) (S := S1024x256) (ix2 f t) ![128 * h.val, 0] S128x256.size
      (headColumns g (View.ld (Val := Elt Ideal) x (Rect.unit (s := S256x1024) ![0, 128 * h.val] S256x128.size hb)) c s)
      (headQuery x g c s f t) := by
  intro y hy
  have h0 : f.val = 128 * h.val + (y 0).val := hy 0
  have h1 : t = y 1 := Fin.ext ((hy 1).trans (Nat.zero_add _))
  have hlt : (y 0).val < 128 := (y 0).isLt
  rw [show y = ix2 (y 0) (y 1) from (ix2_eta y).symm]
  refine (head_columns_apply g _ c s (y 0) (y 1)).trans ?_
  unfold headQuery
  rw [← h1, show (⟨f.val % 128, Nat.mod_lt _ (by decide)⟩ : Fin 128) = y 0 from Fin.ext (by show f.val % 128 = _; omega)]
  congr 2
  funext l
  congr 1
  funext k
  exact View.ld_unit_apply_of _ _ _ _ _ _ fun a => by
    match a with
    | ⟨0, _⟩ => exact (Nat.zero_add _).symm
    | ⟨1, _⟩ => show 128 * (f.val / 128) + k.val = 128 * h.val + k.val; omega

section LatentHeads

variable (x : Vec Ideal S256x512 .bf16) (g : Vec Ideal S1x512 .f32) (w : Vec Ideal S512x2048 .bf16)
  (c s : Vec Ideal S256x128 .f32) (f : Fin 2048) (t : Fin 256) (h : Fin 8)

/-- A head's first half, stored at its rows. -/
theorem plain_at (hs : S256x2048.Slices ![0, 256 * h.val] S256x128) :
    View.TileAt (Val := Elt Ideal) (e := .bf16) (S := S2048x256) (ix2 f t) ![256 * h.val, 0] S128x256.size
      (plainColumns (extractStridedSlice S256x128 ![0, 256 * h.val] (k0_pay60 x g w) hs))
      (latentQuery x g w c s f t) := by
  intro y hy
  have h0 : f.val = 256 * h.val + (y 0).val := hy 0
  have h1 : t = y 1 := Fin.ext ((hy 1).trans (Nat.zero_add _))
  have hlt : (y 0).val < 128 := (y 0).isLt
  unfold latentQuery
  rw [if_pos (by omega), ← latent_apply, show y = ix2 (y 0) (y 1) from (ix2_eta y).symm, h1]
  refine (flipped_apply 0x3DD53B95#32 _ (y 0) (y 1)).trans (congrArg (· * latentScale) ?_)
  exact extractStridedSlice_apply _ _ _ _ _ fun a => by
    match a with
    | ⟨0, _⟩ => exact (Nat.zero_add _).symm
    | ⟨1, _⟩ => exact h0

/-- A head's second half, stored at its rows. -/
theorem turned_at (hs : S256x2048.Slices ![0, 256 * h.val + 128] S256x128) :
    View.TileAt (Val := Elt Ideal) (e := .bf16) (S := S2048x256) (ix2 f t) ![256 * h.val + 128, 0] S128x256.size
      (turnedColumns (extractStridedSlice S256x128 ![0, 256 * h.val + 128] (k0_pay60 x g w) hs) c s)
      (latentQuery x g w c s f t) := by
  intro y hy
  have h0 : f.val = 256 * h.val + 128 + (y 0).val := hy 0
  have h1 : t = y 1 := Fin.ext ((hy 1).trans (Nat.zero_add _))
  have hlt : (y 0).val < 128 := (y 0).isLt
  unfold latentQuery
  rw [if_neg (by omega), show y = ix2 (y 0) (y 1) from (ix2_eta y).symm]
  refine (turned_columns_apply _ c s (y 0) (y 1)).trans (congrArg (· * latentScale) ?_)
  rw [← h1, show (⟨f.val % 128, Nat.mod_lt _ (by decide)⟩ : Fin 128) = y 0 from Fin.ext (by show f.val % 128 = _; omega)]
  congr 1
  funext l
  rw [← latent_apply]
  exact extractStridedSlice_apply _ _ _ _ _ fun a => by
    match a with
    | ⟨0, _⟩ => exact (Nat.zero_add _).symm
    | ⟨1, _⟩ => show 256 * (f.val / 256) + 128 + l.val = 256 * h.val + 128 + l.val; omega

end LatentHeads

theorem plain_slices : ∀ h : Fin 8, S256x2048.Slices ![0, 256 * h.val] S256x128 := by decide
theorem turned_slices : ∀ h : Fin 8, S256x2048.Slices ![0, 256 * h.val + 128] S256x128 := by decide

/-- Both halves of a head, in front of the stores before them. -/
theorem latent_head_at (x : Vec Ideal S256x512 .bf16) (g : Vec Ideal S1x512 .f32) (w : Vec Ideal S512x2048 .bf16)
    (c s : Vec Ideal S256x128 .f32) (f : Fin 2048) (t : Fin 256) (h : Fin 8)
    (h₁ : ∀ a, (![256 * h.val + 128, 0] : Fin 2 → ℕ) a + S128x256.size a ≤ S2048x256.size a)
    (h₂ : ∀ a, (![256 * h.val, 0] : Fin 2 → ℕ) a + S128x256.size a ≤ S2048x256.size a)
    (L : List (View.Piece (Elt Ideal) S2048x256 .bf16)) (hL : View.AllAt L (ix2 f t) (latentQuery x g w c s f t)) :
    View.AllAt (⟨Rect.unit (s := S2048x256) ![256 * h.val + 128, 0] S128x256.size h₁,
        turnedColumns (extractStridedSlice S256x128 ![0, 256 * h.val + 128] (k0_pay60 x g w) (turned_slices h)) c s⟩ ::
      ⟨Rect.unit (s := S2048x256) ![256 * h.val, 0] S128x256.size h₂,
        plainColumns (extractStridedSlice S256x128 ![0, 256 * h.val] (k0_pay60 x g w) (plain_slices h))⟩ :: L)
      (ix2 f t) (latentQuery x g w c s f t) :=
  View.allAt_cons_unit _ _ _ _ _ (turned_at x g w c s f t h (turned_slices h))
    (View.allAt_cons_unit _ _ _ _ _ (plain_at x g w c s f t h (plain_slices h)) hL)

section Runs

variable (c : Dev nD) (i : grid0.Coords)
  (arg1 : Memref sig .tc .vmem S256x1024 .bf16) (harg1 : arg1.IsWhole) (arg2 : Memref sig .tc .vmem S256x512 .bf16) (harg2 : arg2.IsWhole)
  (arg3 : Memref sig .tc .vmem S1x128 .f32) (harg3 : arg3.IsWhole) (arg4 : Memref sig .tc .vmem S1x512 .f32) (harg4 : arg4.IsWhole)
  (arg5 : Memref sig .tc .vmem S512x2048 .bf16) (harg5 : arg5.IsWhole) (arg6 : Memref sig .tc .vmem S256x128 .f32) (harg6 : arg6.IsWhole)
  (arg7 : Memref sig .tc .vmem S256x128 .f32) (harg7 : arg7.IsWhole) (arg8 : Memref sig .tc .vmem S256x128 .f32) (harg8 : arg8.IsWhole)
  (arg9 : Memref sig .tc .vmem S256x128 .f32) (harg9 : arg9.IsWhole) (arg10 : Memref sig .tc .vmem S1024x256 .bf16) (harg10 : arg10.IsWhole)
  (arg11 : Memref sig .tc .vmem S2048x256 .bf16) (harg11 : arg11.IsWhole)
  (x0 : Vec Ideal S256x1024 .bf16) (x1 : Vec Ideal S256x512 .bf16) (x2 : Vec Ideal S1x128 .f32)
  (x3 : Vec Ideal S1x512 .f32) (x4 : Vec Ideal S512x2048 .bf16) (x5 x6 x7 x8 : Vec Ideal S256x128 .f32)

theorem queries_apply (f : Fin 1024) (t : Fin 256) :
    out0_A_9 c i arg1 harg1 arg2 harg2 arg3 harg3 arg4 harg4 arg5 harg5 arg6 harg6 arg7 harg7 arg8 harg8 arg9 harg9
      arg10 harg10 arg11 harg11 x0 x1 x2 x3 x4 x5 x6 x7 x8 (ix2 f t) = headQuery x0 x2 x5 x6 f t := by
  unfold out0_A_9
  rw [View.read_writes_junk_eq_canon]
  refine View.canon_eq_of_allAt _ _ _ (cover0_A_9 _ _ _ _ _ _ _ _ _ _ _ _ _ _ _ _ _ _ _ _ _ _ _ _ _ _ _ _ _ _ _ _ _ _) ?_
  unfold kernelRun0_A
  dsimp only
  sl_unfold_words
  simp (disch := decide) only [View.readAt_eq_ld, harg1.read_unread, harg3.read_unread, harg6.read_unread,
    harg7.read_unread, View.ld_unit_lit]
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_nil _ _
  · exact head_at x0 x2 x5 x6 f t 7 _
  · exact head_at x0 x2 x5 x6 f t 6 _
  · exact head_at x0 x2 x5 x6 f t 5 _
  · exact head_at x0 x2 x5 x6 f t 4 _
  · exact head_at x0 x2 x5 x6 f t 3 _
  · exact head_at x0 x2 x5 x6 f t 2 _
  · exact head_at x0 x2 x5 x6 f t 1 _
  · exact head_at x0 x2 x5 x6 f t 0 _

theorem latent_queries_apply (f : Fin 2048) (t : Fin 256) :
    out0_A_10 c i arg1 harg1 arg2 harg2 arg3 harg3 arg4 harg4 arg5 harg5 arg6 harg6 arg7 harg7 arg8 harg8 arg9 harg9
      arg10 harg10 arg11 harg11 x0 x1 x2 x3 x4 x5 x6 x7 x8 (ix2 f t) = latentQuery x1 x3 x4 x7 x8 f t := by
  unfold out0_A_10
  rw [View.read_writes_junk_eq_canon]
  refine View.canon_eq_of_allAt _ _ _ (cover0_A_10 _ _ _ _ _ _ _ _ _ _ _ _ _ _ _ _ _ _ _ _ _ _ _ _ _ _ _ _ _ _ _ _ _ _) ?_
  unfold kernelRun0_A
  dsimp only
  sl_unfold_words
  simp (disch := decide) only [View.readAt_eq_ld, harg2.read_unread, harg4.read_unread, harg5.read_unread,
    harg8.read_unread, harg9.read_unread, View.ld_unit_lit]
  exact latent_head_at x1 x3 x4 x7 x8 f t 7 _ _ _ <| latent_head_at x1 x3 x4 x7 x8 f t 6 _ _ _ <|
    latent_head_at x1 x3 x4 x7 x8 f t 5 _ _ _ <| latent_head_at x1 x3 x4 x7 x8 f t 4 _ _ _ <|
    latent_head_at x1 x3 x4 x7 x8 f t 3 _ _ _ <| latent_head_at x1 x3 x4 x7 x8 f t 2 _ _ _ <|
    latent_head_at x1 x3 x4 x7 x8 f t 1 _ _ _ <| latent_head_at x1 x3 x4 x7 x8 f t 0 _ _ _ <| View.allAt_nil _ _

end Runs

end Cert.QPrep

end
-- ==== Proof.QPrep.Tables.lean ====
/-
  What the host prepares for the queries' preparation: the tables of cosines and sines.
-/
module

public import proofs.«01_k».proof.Proof.Gen.Kernel14Ideal.Value
public import proofs.«01_k».proof.Proof.KvPrep.Tables

@[expose] public section

set_option maxRecDepth 16384

noncomputable section

namespace Cert.QPrep

open Cert.Kernel14Ideal Cert.Kernel14Ideal.Gen Cert.Kernel14Ideal.Value Cert.Rope
open Idealize.ShloMosaic Idealize.ShloMosaic.TcCoe Idealize.SL.Sem

variable (m : (ℓ : Loc nD τ sig) → Buf (Elt Ideal) ℓ) (c : Dev nD)

/-- The cosines of a head's lanes. -/
theorem cos_wide_eq : V m c main_v48 = (cosines 32 0x42800000#32 : FVec Ideal S8192x128 .f32) := by
  show StableHlo.after (List.flatten [hostOps0, hostOps0_1, hostOps0_2, hostOps0_3, hostOps0_4, hostOps0_5, hostOps0_6])
    _ (Proc.devRef .tc main_v48) = _
  simp only [hostOps0, hostOps0_1, hostOps0_2, hostOps0_3, hostOps0_4, hostOps0_5, hostOps0_6, List.flatten_cons,
    List.flatten_nil, List.append_nil, List.cons_append, List.nil_append]
  after_results
  refine cosines_eq (n := 32) (L := 128) _ _ _ _ _
    concatenates_S8192x32_S8192x32_S8192x32_S8192x32_S8192x128_d1 rfl fun row k => ⟨?_, ?_, ?_, ?_⟩
  · show (_ : Valuation τ sig (Elt Ideal)) (Proc.devRef .tc main_v36) (ix2 row k) = _
    after_results_simp
    exact (spread_rows_apply _ _ _ _ row k).trans rfl
  · show (_ : Valuation τ sig (Elt Ideal)) (Proc.devRef .tc main_v36) (ix2 row k) = _
    after_results_simp
    exact (spread_rows_apply _ _ _ _ row k).trans rfl
  · show (_ : Valuation τ sig (Elt Ideal)) (Proc.devRef .tc main_v39) (ix2 row k) = _
    after_results_simp
    exact (spread_columns_apply _ _ _ _ row k).trans rfl
  · show (_ : Valuation τ sig (Elt Ideal)) (Proc.devRef .tc main_v39) (ix2 row k) = _
    after_results_simp
    exact (spread_columns_apply _ _ _ _ row k).trans rfl

/-- The sines of a head's lanes. -/
theorem sin_wide_eq : V m c main_v51 = (sines 32 0x42800000#32 : FVec Ideal S8192x128 .f32) := by
  show StableHlo.after (List.flatten [hostOps0, hostOps0_1, hostOps0_2, hostOps0_3, hostOps0_4, hostOps0_5, hostOps0_6])
    _ (Proc.devRef .tc main_v51) = _
  simp only [hostOps0, hostOps0_1, hostOps0_2, hostOps0_3, hostOps0_4, hostOps0_5, hostOps0_6, List.flatten_cons,
    List.flatten_nil, List.append_nil, List.cons_append, List.nil_append]
  after_results
  refine sines_eq (n := 32) (L := 128) _ _ _ _ _
    concatenates_S8192x32_S8192x32_S8192x32_S8192x32_S8192x128_d1 rfl fun row k => ⟨?_, ?_, ?_, ?_⟩
  · show (_ : Valuation τ sig (Elt Ideal)) (Proc.devRef .tc main_v49) (ix2 row k) = _
    after_results_simp
    exact congrArg (FloatOps.hostNegf (F := Ideal) (φ := .f32)) ((spread_rows_apply _ _ _ _ row k).trans rfl)
  · show (_ : Valuation τ sig (Elt Ideal)) (Proc.devRef .tc main_v44) (ix2 row k) = _
    after_results_simp
    exact (spread_rows_apply _ _ _ _ row k).trans rfl
  · show (_ : Valuation τ sig (Elt Ideal)) (Proc.devRef .tc main_v50) (ix2 row k) = _
    after_results_simp
    exact congrArg (FloatOps.hostNegf (F := Ideal) (φ := .f32)) ((spread_columns_apply _ _ _ _ row k).trans rfl)
  · show (_ : Valuation τ sig (Elt Ideal)) (Proc.devRef .tc main_v47) (ix2 row k) = _
    after_results_simp
    exact (spread_columns_apply _ _ _ _ row k).trans rfl

/-- The cosines of the lanes that a latent head turns. -/
theorem cos_narrow_eq : V m c main_v86 = (cosines 16 0x42000000#32 : FVec Ideal S8192x64 .f32) := by
  show StableHlo.after (List.flatten [hostOps0, hostOps0_1, hostOps0_2, hostOps0_3, hostOps0_4, hostOps0_5, hostOps0_6])
    _ (Proc.devRef .tc main_v86) = _
  simp only [hostOps0, hostOps0_1, hostOps0_2, hostOps0_3, hostOps0_4, hostOps0_5, hostOps0_6, List.flatten_cons,
    List.flatten_nil, List.append_nil, List.cons_append, List.nil_append]
  after_results
  refine cosines_eq (n := 16) (L := 64) _ _ _ _ _
    concatenates_S8192x16_S8192x16_S8192x16_S8192x16_S8192x64_d1 rfl fun row k => ⟨?_, ?_, ?_, ?_⟩
  · show (_ : Valuation τ sig (Elt Ideal)) (Proc.devRef .tc main_v74) (ix2 row k) = _
    after_results_simp
    exact (spread_rows_apply _ _ _ _ row k).trans rfl
  · show (_ : Valuation τ sig (Elt Ideal)) (Proc.devRef .tc main_v74) (ix2 row k) = _
    after_results_simp
    exact (spread_rows_apply _ _ _ _ row k).trans rfl
  · show (_ : Valuation τ sig (Elt Ideal)) (Proc.devRef .tc main_v77) (ix2 row k) = _
    after_results_simp
    exact (spread_columns_apply _ _ _ _ row k).trans rfl
  · show (_ : Valuation τ sig (Elt Ideal)) (Proc.devRef .tc main_v77) (ix2 row k) = _
    after_results_simp
    exact (spread_columns_apply _ _ _ _ row k).trans rfl

/-- The sines of those lanes. -/
theorem sin_narrow_eq : V m c main_v89 = (sines 16 0x42000000#32 : FVec Ideal S8192x64 .f32) := by
  show StableHlo.after (List.flatten [hostOps0, hostOps0_1, hostOps0_2, hostOps0_3, hostOps0_4, hostOps0_5, hostOps0_6])
    _ (Proc.devRef .tc main_v89) = _
  simp only [hostOps0, hostOps0_1, hostOps0_2, hostOps0_3, hostOps0_4, hostOps0_5, hostOps0_6, List.flatten_cons,
    List.flatten_nil, List.append_nil, List.cons_append, List.nil_append]
  after_results
  refine sines_eq (n := 16) (L := 64) _ _ _ _ _
    concatenates_S8192x16_S8192x16_S8192x16_S8192x16_S8192x64_d1 rfl fun row k => ⟨?_, ?_, ?_, ?_⟩
  · show (_ : Valuation τ sig (Elt Ideal)) (Proc.devRef .tc main_v87) (ix2 row k) = _
    after_results_simp
    exact congrArg (FloatOps.hostNegf (F := Ideal) (φ := .f32)) ((spread_rows_apply _ _ _ _ row k).trans rfl)
  · show (_ : Valuation τ sig (Elt Ideal)) (Proc.devRef .tc main_v82) (ix2 row k) = _
    after_results_simp
    exact (spread_rows_apply _ _ _ _ row k).trans rfl
  · show (_ : Valuation τ sig (Elt Ideal)) (Proc.devRef .tc main_v88) (ix2 row k) = _
    after_results_simp
    exact congrArg (FloatOps.hostNegf (F := Ideal) (φ := .f32)) ((spread_columns_apply _ _ _ _ row k).trans rfl)
  · show (_ : Valuation τ sig (Elt Ideal)) (Proc.devRef .tc main_v85) (ix2 row k) = _
    after_results_simp
    exact (spread_columns_apply _ _ _ _ row k).trans rfl

/-- Those cosines, padded with zeros. -/
theorem cos_padded_apply (row : Fin 8192) (lane : Fin 128) : V m c main_v90 (ix2 row lane)
    = if hl : lane.val < 64 then (cosines 16 0x42000000#32 : FVec Ideal S8192x64 .f32) (ix2 row ⟨lane, hl⟩) else 0 := by
  have h : V m c main_v90 = pad S8192x128 ![0, 0] ![0, 64] ![0, 0] (V m c main_v86)
      (sitofp (F := Ideal) .f32 (constantI S_ 32 0#32)) pads_S8192x64_S8192x128_000_0640 h_S_ := by
    show StableHlo.after (List.flatten [hostOps0, hostOps0_1, hostOps0_2, hostOps0_3, hostOps0_4, hostOps0_5, hostOps0_6])
        _ (Proc.devRef .tc main_v90)
      = pad S8192x128 ![0, 0] ![0, 64] ![0, 0] (StableHlo.after (List.flatten [hostOps0, hostOps0_1, hostOps0_2,
          hostOps0_3, hostOps0_4, hostOps0_5, hostOps0_6]) _ (Proc.devRef .tc main_v86)) _ _ _
    simp only [hostOps0, hostOps0_1, hostOps0_2, hostOps0_3, hostOps0_4, hostOps0_5, hostOps0_6, List.flatten_cons,
      List.flatten_nil, List.append_nil, List.cons_append, List.nil_append]
    after_results
    rfl
  rw [h, cos_narrow_eq]
  exact padded_apply _ _ _ _ _ Cert.KvPrep.zero_apply row lane

/-- Those sines, padded with zeros. -/
theorem sin_padded_apply (row : Fin 8192) (lane : Fin 128) : V m c main_v91 (ix2 row lane)
    = if hl : lane.val < 64 then (sines 16 0x42000000#32 : FVec Ideal S8192x64 .f32) (ix2 row ⟨lane, hl⟩) else 0 := by
  have h : V m c main_v91 = pad S8192x128 ![0, 0] ![0, 64] ![0, 0] (V m c main_v89)
      (sitofp (F := Ideal) .f32 (constantI S_ 32 0#32)) pads_S8192x64_S8192x128_000_0640 h_S_ := by
    show StableHlo.after (List.flatten [hostOps0, hostOps0_1, hostOps0_2, hostOps0_3, hostOps0_4, hostOps0_5, hostOps0_6])
        _ (Proc.devRef .tc main_v91)
      = pad S8192x128 ![0, 0] ![0, 64] ![0, 0] (StableHlo.after (List.flatten [hostOps0, hostOps0_1, hostOps0_2,
          hostOps0_3, hostOps0_4, hostOps0_5, hostOps0_6]) _ (Proc.devRef .tc main_v89)) _ _ _
    simp only [hostOps0, hostOps0_1, hostOps0_2, hostOps0_3, hostOps0_4, hostOps0_5, hostOps0_6, List.flatten_cons,
      List.flatten_nil, List.append_nil, List.cons_append, List.nil_append]
    after_results
    rfl
  rw [h, sin_narrow_eq]
  exact padded_apply _ _ _ _ _ Cert.KvPrep.zero_apply row lane

end Cert.QPrep

end
-- ==== Proof.QPrep.Weights.lean ====
/-
  What the host prepares for the queries' preparation: the latent weights with 64 zero columns after each head's 192, and
  the gains as rows.
-/
module

public import proofs.«01_k».proof.Proof.Gen.Kernel14Ideal.Value
public import proofs.«01_k».proof.Proof.KvPrep.Tables

@[expose] public section

set_option maxRecDepth 16384

noncomputable section

namespace Cert.QPrep

open Cert.Kernel14Ideal Cert.Kernel14Ideal.Gen Cert.Kernel14Ideal.Value Cert.Rope
open Idealize.ShloMosaic Idealize.ShloMosaic.TcCoe Idealize.SL.Sem

variable (m : (ℓ : Loc nD τ sig) → Buf (Elt Ideal) ℓ) (c : Dev nD)

/-- A head's 192 columns of the weights and 64 zero columns after them. -/
theorem spread_weights_apply (w : Vec Ideal S2x512x1536 .f32) (k : Fin 512) (b : Fin 8) (l : Fin 256) :
    pad S2x512x8x256 ![0, 0, 0, 0] ![0, 0, 0, 64] ![0, 0, 0, 0] (shapeCast S2x512x8x192 w
      shapeCasts_S2x512x1536_S2x512x8x192) (sitofp (F := Ideal) .f32 (constantI S_ 32 0#32))
      pads_S2x512x8x192_S2x512x8x256_000_000_000_0640 h_S_ (ix4 0 k b l)
      = if hl : l.val < 192 then w (ix3 0 k ⟨192 * b.val + l.val, by omega⟩) else 0 := by
  by_cases hl : l.val < 192
  · rw [dif_pos hl]
    refine (pad_apply_of_inside _ _ _ _ _ _ _ _ (ix4 0 k b ⟨l, hl⟩) fun a => ?_).trans (shapeCast_apply _ _ _ _ ?_)
    · match a with
      | ⟨0, _⟩ => rfl
      | ⟨1, _⟩ => show k.val = 0 + k.val * (0 + 1); omega
      | ⟨2, _⟩ => show b.val = 0 + b.val * (0 + 1); omega
      | ⟨3, _⟩ => show l.val = 0 + l.val * (0 + 1); omega
    · rw [Shape.rowMajor_val_four, Shape.rowMajor_val_three]
      show (0 * 512 + k.val) * 1536 + (192 * b.val + l.val) = ((0 * 512 + k.val) * 8 + b.val) * 192 + l.val
      omega
  · rw [dif_neg hl]
    refine (pad_apply_of_not_inside _ _ _ _ _ _ _ _ 3 fun h => hl ?_).trans (Cert.KvPrep.zero_apply _)
    have h2 : (l.val - 0) / (0 + 1) < 192 := h.2.2
    omega

/-- The weights with 64 zero columns after each head's 192. -/
def padded (w : Vec Ideal S2x512x1536 .f32) (k : Fin 512) (j : Fin 2048) : EReal :=
  if hl : j.val % 256 < 192 then w (ix3 0 k ⟨192 * (j.val / 256) + j.val % 256, by omega⟩) else 0

/-- The latent weights as the kernel reads them. -/
theorem weights_apply (k : Fin 512) (j : Fin 2048) :
    V m c main_v9 (ix2 k j) = padded (m ((c : Thread nD τ).loc main_arg3)) k j := by
  have h : V m c main_v9 = shapeCast S512x2048 (extractStridedSlice S1x512x2048 ![0, 0, 0] (truncf (F := Ideal) .bf16
      (shapeCast S2x512x2048 (pad S2x512x8x256 ![0, 0, 0, 0] ![0, 0, 0, 64] ![0, 0, 0, 0] (shapeCast S2x512x8x192
        (m ((c : Thread nD τ).loc main_arg3)) shapeCasts_S2x512x1536_S2x512x8x192)
        (sitofp (F := Ideal) .f32 (constantI S_ 32 0#32)) pads_S2x512x8x192_S2x512x8x256_000_000_000_0640 h_S_)
        shapeCasts_S2x512x8x256_S2x512x2048) bitsLt_bf16_f32)
      slices_S2x512x2048_S1x512x2048_0_0_0) shapeCasts_S1x512x2048_S512x2048 := by
    show StableHlo.after (List.flatten [hostOps0, hostOps0_1, hostOps0_2, hostOps0_3, hostOps0_4, hostOps0_5, hostOps0_6])
      _ (Proc.devRef .tc main_v9) = _
    simp only [hostOps0, hostOps0_1, hostOps0_2, hostOps0_3, hostOps0_4, hostOps0_5, hostOps0_6, List.flatten_cons,
      List.flatten_nil, List.append_nil, List.cons_append, List.nil_append]
    after_results
    rfl
  rw [h]
  refine Eq.trans ?_ (spread_weights_apply (m ((c : Thread nD τ).loc main_arg3)) k ⟨j.val / 256, by omega⟩
    ⟨j.val % 256, by omega⟩)
  generalize pad S2x512x8x256 _ _ _ _ _ _ _ = u
  have hu : shapeCast S2x512x2048 u shapeCasts_S2x512x8x256_S2x512x2048 (ix3 0 k j)
      = u (ix4 0 k ⟨j.val / 256, by omega⟩ ⟨j.val % 256, by omega⟩) := shapeCast_apply _ _ _ _ (by
    rw [Shape.rowMajor_val_four, Shape.rowMajor_val_three]
    show ((0 * 512 + k.val) * 8 + j.val / 256) * 256 + j.val % 256 = (0 * 512 + k.val) * 2048 + j.val
    omega)
  rw [← hu]
  generalize shapeCast S2x512x2048 _ _ = v
  refine (shapeCast_apply _ _ (ix2 k j) (ix3 0 k j) ?_).trans
    ((extractStridedSlice_apply _ _ _ _ (ix3 0 k j) fun a => ?_).trans rfl)
  · rw [Shape.rowMajor_val_three, Shape.rowMajor_val_two]
    show (0 * 512 + k.val) * 2048 + j.val = k.val * 2048 + j.val
    omega
  · match a with
    | ⟨0, _⟩ => rfl
    | ⟨1, _⟩ => exact (Nat.zero_add _).symm
    | ⟨2, _⟩ => exact (Nat.zero_add _).symm

/-- The heads' gain. -/
theorem head_gain_apply (j : Fin 128) :
    V m c main_v92 (ix2 0 j) = m ((c : Thread nD τ).loc main_arg1) (ix2 0 j) := by
  have h : V m c main_v92 = shapeCast S1x128 (shapeCast S128 (extractStridedSlice S1x128 ![0, 0]
      (m ((c : Thread nD τ).loc main_arg1)) slices_S2x128_S1x128_0_0) shapeCasts_S1x128_S128) shapeCasts_S128_S1x128 := by
    show StableHlo.after (List.flatten [hostOps0, hostOps0_1, hostOps0_2, hostOps0_3, hostOps0_4, hostOps0_5, hostOps0_6])
      _ (Proc.devRef .tc main_v92) = _
    simp only [hostOps0, hostOps0_1, hostOps0_2, hostOps0_3, hostOps0_4, hostOps0_5, hostOps0_6, List.flatten_cons,
      List.flatten_nil, List.append_nil, List.cons_append, List.nil_append]
    after_results
    rfl
  rw [h]
  exact Cert.KvPrep.first_row_apply (n := 128) _ _ _ _ j

/-- The latent's gain. -/
theorem latent_gain_apply (j : Fin 512) :
    V m c main_v93 (ix2 0 j) = m ((c : Thread nD τ).loc main_arg2) (ix2 0 j) := by
  have h : V m c main_v93 = shapeCast S1x512 (shapeCast S512 (extractStridedSlice S1x512 ![0, 0]
      (m ((c : Thread nD τ).loc main_arg2)) slices_S2x512_S1x512_0_0) shapeCasts_S1x512_S512) shapeCasts_S512_S1x512 := by
    show StableHlo.after (List.flatten [hostOps0, hostOps0_1, hostOps0_2, hostOps0_3, hostOps0_4, hostOps0_5, hostOps0_6])
      _ (Proc.devRef .tc main_v93) = _
    simp only [hostOps0, hostOps0_1, hostOps0_2, hostOps0_3, hostOps0_4, hostOps0_5, hostOps0_6, List.flatten_cons,
      List.flatten_nil, List.append_nil, List.cons_append, List.nil_append]
    after_results
    rfl
  rw [h]
  exact Cert.KvPrep.first_row_apply (n := 512) _ _ _ _ j

end Cert.QPrep

end
-- ==== Proof.QPrep.Array.lean ====
/-
  What the two arrays of the queries' preparation hold after the run: the queries and the latent queries, a column for
  every token.
-/
module

public import proofs.«01_k».proof.Proof.QPrep.Points
public import proofs.«01_k».proof.Proof.QPrep.Tables
public import proofs.«01_k».proof.Proof.QPrep.Weights
public import Idealize.ShloMosaic.Lib.KernelVsHost

@[expose] public section

set_option maxRecDepth 16384

noncomputable section

namespace Cert.QPrep

open Cert.Kernel14Ideal Cert.Kernel14Ideal.Gen Cert.Kernel14Ideal.Value Cert.Rope
open Idealize.ShloMosaic Idealize.ShloMosaic.TcCoe Idealize.SL.Sem

/-! ## The results -/

/-- The queries: every head normed, turned and scaled. -/
def queries (p : Vec Ideal S8192x14848 .bf16) (g : Vec Ideal S2x128 .f32) (f : Fin 1024) (row : Fin 8192) : EReal :=
  turned 32 0x42800000#32 row (fun l => headed 0x43000000#32 (fun k : Fin 128 =>
    p (ix2 row ⟨128 * (f.val / 128) + k.val, by omega⟩)) (g (ix2 0 l)) l) ⟨f.val % 128, Nat.mod_lt _ (by decide)⟩
    * headScale

section LatentResults

variable (p : Vec Ideal S8192x14848 .bf16) (g : Vec Ideal S2x512 .f32) (w : Vec Ideal S2x512x1536 .f32)

/-- The normed latent by the weights, at one of their columns. -/
def spreadLatent (row : Fin 8192) (j : Fin 1536) : EReal :=
  ∑ k : Fin 512, headed 0x44000000#32 (fun l : Fin 512 => p (ix2 row ⟨1024 + l.val, by omega⟩)) (g (ix2 0 k)) k
    * w (ix3 0 k j)

/-- The lanes that a latent head turns: the last 64 of its 192 columns, and zeros. -/
def lanes (row : Fin 8192) (b : Fin 8) (l : Fin 128) : EReal :=
  if hl : l.val < 64 then spreadLatent p g w row ⟨192 * b.val + 128 + l.val, by omega⟩ else 0

/-- The latent queries: a head's first 128 columns, its 64 turned ones and 64 zeros, all of them scaled. -/
def latentQueries (f : Fin 2048) (row : Fin 8192) : EReal :=
  (if f.val % 256 < 128 then spreadLatent p g w row ⟨192 * (f.val / 256) + f.val % 128, by omega⟩
    else if f.val % 128 < 64 then
      turned 16 0x42000000#32 row (lanes p g w row ⟨f.val / 256, by omega⟩) ⟨f.val % 128, Nat.mod_lt _ (by decide)⟩
    else 0) * latentScale

end LatentResults

/-! ## The blocks a grid point reads -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 2] :=
  (by decide +kernel : ∀ t : Fin grid0.N, win0_1.index t = ![t.val, 2])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])
theorem index9 : ∀ t : Fin cfg0.N, win0_9.index t = ![0, t.val] :=
  (by decide +kernel : ∀ t : Fin grid0.N, win0_9.index t = ![0, t.val])
theorem index10 : ∀ t : Fin cfg0.N, win0_10.index t = ![0, t.val] :=
  (by decide +kernel : ∀ t : Fin grid0.N, win0_10.index t = ![0, t.val])

variable (m : (ℓ : Loc nD τ sig) → Buf (Elt Ideal) ℓ) (c : Dev nD) (t : Fin cfg0.N)

/-- The grid has 32 points. -/
theorem point_lt : t.val < 32 := t.isLt

/-- A row of a point's block, among all rows. -/
def tokenAt (i : Fin 256) : Fin 8192 := ⟨256 * t.val + i.val, by have := point_lt t; omega⟩

theorem heads_at (i : Fin 256) (j : Fin 1024) :
    X0_0 m c t (ix2 i j) = m ((c : Thread nD τ).loc main_arg0) (ix2 (tokenAt t i) ⟨j.val, by omega⟩) := by
  unfold X0_0 Pipeline.Window.fill
  rw [dif_pos (moved0_0 t _), ← V_main_arg0 m c]
  blk_ext! [iblk, index0 t, tokenAt]

theorem latents_at (i : Fin 256) (j : Fin 512) :
    iblk m c 1 t (ix2 i j) = m ((c : Thread nD τ).loc main_arg0) (ix2 (tokenAt t i) ⟨1024 + j.val, by omega⟩) := by
  rw [← V_main_arg0 m c]
  blk_ext! [iblk, index1 t, tokenAt]

theorem head_gain_at (j : Fin 128) : iblk m c 2 t (ix2 0 j) = m ((c : Thread nD τ).loc main_arg1) (ix2 0 j) := by
  refine Eq.trans ?_ (head_gain_apply m c j)
  blk_ext! [iblk, index2 t]

theorem latent_gain_at (j : Fin 512) : iblk m c 3 t (ix2 0 j) = m ((c : Thread nD τ).loc main_arg2) (ix2 0 j) := by
  refine Eq.trans ?_ (latent_gain_apply m c j)
  blk_ext! [iblk, index3 t]

theorem weights_at (k : Fin 512) (j : Fin 2048) :
    iblk m c 4 t (ix2 k j) = padded (m ((c : Thread nD τ).loc main_arg3)) k j := by
  refine Eq.trans ?_ (weights_apply m c k j)
  blk_ext! [iblk, index4 t]

theorem cos_wide_at (i : Fin 256) (j : Fin 128) :
    iblk m c 5 t (ix2 i j) = (cosines 32 0x42800000#32 : FVec Ideal S8192x128 .f32) (ix2 (tokenAt t i) j) := by
  refine Eq.trans ?_ (congrFun (cos_wide_eq m c) (ix2 (tokenAt t i) j))
  blk_ext! [iblk, index5 t, tokenAt]

theorem sin_wide_at (i : Fin 256) (j : Fin 128) :
    iblk m c 6 t (ix2 i j) = (sines 32 0x42800000#32 : FVec Ideal S8192x128 .f32) (ix2 (tokenAt t i) j) := by
  refine Eq.trans ?_ (congrFun (sin_wide_eq m c) (ix2 (tokenAt t i) j))
  blk_ext! [iblk, index6 t, tokenAt]

theorem cos_padded_at (i : Fin 256) (j : Fin 128) : iblk m c 7 t (ix2 i j) = if hl : j.val < 64
    then (cosines 16 0x42000000#32 : FVec Ideal S8192x64 .f32) (ix2 (tokenAt t i) ⟨j, hl⟩) else 0 := by
  refine Eq.trans ?_ (cos_padded_apply m c (tokenAt t i) j)
  blk_ext! [iblk, index7 t, tokenAt]

theorem sin_padded_at (i : Fin 256) (j : Fin 128) : iblk m c 8 t (ix2 i j) = if hl : j.val < 64
    then (sines 16 0x42000000#32 : FVec Ideal S8192x64 .f32) (ix2 (tokenAt t i) ⟨j, hl⟩) else 0 := by
  refine Eq.trans ?_ (sin_padded_apply m c (tokenAt t i) j)
  blk_ext! [iblk, index8 t, tokenAt]

/-! ## The blocks in terms of the arguments -/

theorem head_query_eq (f : Fin 1024) (i : Fin 256) :
    headQuery (X0_0 m c t) (iblk m c 2 t) (iblk m c 5 t) (iblk m c 6 t) f i
      = queries (m ((c : Thread nD τ).loc main_arg0)) (m ((c : Thread nD τ).loc main_arg1)) f (tokenAt t i) := by
  unfold headQuery mixed queries
  rw [cos_wide_at, sin_wide_at]
  refine congrArg (· * headScale) ((turned_eq (L := 128) 32 0x42800000#32 (tokenAt t i) (fun l => headed 0x43000000#32
    (fun k : Fin 128 => X0_0 m c t (ix2 i ⟨128 * (f.val / 128) + k.val, by omega⟩)) (iblk m c 2 t (ix2 0 l)) l)
    ⟨f.val % 128, Nat.mod_lt _ (by decide)⟩ ⟨f.val % 128, Nat.mod_lt _ (by decide)⟩ rfl).trans ?_)
  congr 1
  funext l
  rw [head_gain_at]
  congr 1
  funext k
  exact heads_at m c t i _

/-- A column of the block's product: a column of the weights, or zero. -/
theorem latent_eq (i : Fin 256) (j : Fin 2048) :
    latent (iblk m c 1 t) (iblk m c 3 t) (iblk m c 4 t) i j = if hl : j.val % 256 < 192
      then spreadLatent (m ((c : Thread nD τ).loc main_arg0)) (m ((c : Thread nD τ).loc main_arg2))
        (m ((c : Thread nD τ).loc main_arg3)) (tokenAt t i) ⟨192 * (j.val / 256) + j.val % 256, by omega⟩ else 0 := by
  unfold latent
  by_cases hl : j.val % 256 < 192
  · rw [dif_pos hl]
    refine Finset.sum_congr rfl fun k _ => ?_
    rw [weights_at, padded, dif_pos hl, latent_gain_at]
    congr 2
    funext l
    exact latents_at m c t i l
  · rw [dif_neg hl]
    refine Finset.sum_eq_zero fun k _ => ?_
    rw [weights_at, padded, dif_neg hl, mul_zero]

/-- The lanes that a head of the block turns. -/
theorem lanes_eq (i : Fin 256) (b : Fin 8) (l : Fin 128) :
    latent (iblk m c 1 t) (iblk m c 3 t) (iblk m c 4 t) i ⟨256 * b.val + 128 + l.val, by omega⟩
      = lanes (m ((c : Thread nD τ).loc main_arg0)) (m ((c : Thread nD τ).loc main_arg2))
        (m ((c : Thread nD τ).loc main_arg3)) (tokenAt t i) b l := by
  rw [latent_eq]
  unfold lanes
  by_cases hl : l.val < 64
  · rw [dif_pos hl, dif_pos (by show (256 * b.val + 128 + l.val) % 256 < 192; omega)]
    congr 1
    refine Fin.ext ?_
    show 192 * ((256 * b.val + 128 + l.val) / 256) + (256 * b.val + 128 + l.val) % 256 = 192 * b.val + 128 + l.val
    omega
  · rw [dif_neg hl, dif_neg (by show ¬ (256 * b.val + 128 + l.val) % 256 < 192; omega)]

theorem turned_lanes_eq (y z : Fin 128 → EReal) (hy : y = z) (i : Fin 256) (j : Fin 128) :
    mixed 16 y (iblk m c 7 t) (iblk m c 8 t) i j
      = if j.val < 64 then turned 16 0x42000000#32 (tokenAt t i) z j else 0 := by
  subst hy
  unfold mixed
  rw [cos_padded_at, sin_padded_at]
  by_cases hj : j.val < 64
  · rw [dif_pos hj, dif_pos hj, if_pos hj]
    exact turned_eq 16 0x42000000#32 (tokenAt t i) y j ⟨j, hj⟩ rfl
  · rw [dif_neg hj, dif_neg hj, if_neg hj]
    simp

theorem latent_query_eq (f : Fin 2048) (i : Fin 256) :
    latentQuery (iblk m c 1 t) (iblk m c 3 t) (iblk m c 4 t) (iblk m c 7 t) (iblk m c 8 t) f i
      = latentQueries (m ((c : Thread nD τ).loc main_arg0)) (m ((c : Thread nD τ).loc main_arg2))
        (m ((c : Thread nD τ).loc main_arg3)) f (tokenAt t i) := by
  unfold latentQuery latentQueries
  refine congrArg (· * latentScale) ?_
  by_cases hf : f.val % 256 < 128
  · rw [if_pos hf, if_pos hf, latent_eq, dif_pos (by omega)]
    congr 1
    exact Fin.ext (by show 192 * (f.val / 256) + f.val % 256 = 192 * (f.val / 256) + f.val % 128; omega)
  · rw [if_neg hf, if_neg hf]
    exact turned_lanes_eq m c t _ _ (funext fun l => lanes_eq m c t i ⟨f.val / 256, by omega⟩ l) i _

/-! ## The arrays after the run -/

/-- The point of a row, with the row's place in its block. -/
theorem point_of (row : Fin 8192) : ∃ t : Fin cfg0.N, t.val = row.val / 256
    ∧ tokenAt t ⟨row.val % 256, by omega⟩ = row :=
  ⟨⟨row.val / 256, by show _ < 32; omega⟩, rfl, Fin.ext (by show 256 * (row.val / 256) + row.val % 256 = row.val; omega)⟩

theorem queries_array_apply (f : Fin 1024) (row : Fin 8192) : (dats m 0 c).arrAt 9 cfg0.N (ix2 f row)
    = queries (m ((c : Thread nD τ).loc main_arg0)) (m ((c : Thread nD τ).loc main_arg1)) f row := by
  obtain ⟨t, ht, hrow⟩ := point_of row
  have hb := congrFun (blocks9 m c t (flush0_9 t)) (ix2 f ⟨row.val % 256, by omega⟩)
  rw [flushed9_A, Pipeline.Window.cut_apply] at hb
  replace hb := (hb.trans (queries_apply c _ _ _ _ _ _ _ _ _ _ _ _ _ _ _ _ _ _ _ _ _ _ _ _ _ _ _ _ _ _ _ _
    f ⟨row.val % 256, by omega⟩)).trans (head_query_eq m c t f _)
  have he : ((cfg0.win 9).blk t).view.read (Elt Ideal) ((dats m 0 c).arrAt 9 cfg0.N)
      (ix2 f ⟨row.val % 256, by omega⟩) = (dats m 0 c).arrAt 9 cfg0.N (ix2 f row) := by
    generalize (dats m 0 c).arrAt 9 cfg0.N = A
    blk_ext! [index9 t]
  rw [← he, hb, hrow]

theorem latent_queries_array_apply (f : Fin 2048) (row : Fin 8192) : (dats m 0 c).arrAt 10 cfg0.N (ix2 f row)
    = latentQueries (m ((c : Thread nD τ).loc main_arg0)) (m ((c : Thread nD τ).loc main_arg2))
      (m ((c : Thread nD τ).loc main_arg3)) f row := by
  obtain ⟨t, ht, hrow⟩ := point_of row
  have hb := congrFun (blocks10 m c t (flush0_10 t)) (ix2 f ⟨row.val % 256, by omega⟩)
  rw [flushed10_A, Pipeline.Window.cut_apply] at hb
  replace hb := (hb.trans (latent_queries_apply c _ _ _ _ _ _ _ _ _ _ _ _ _ _ _ _ _ _ _ _ _ _ _ _ _ _ _ _ _ _ _ _
    f ⟨row.val % 256, by omega⟩)).trans (latent_query_eq m c t f _)
  have he : ((cfg0.win 10).blk t).view.read (Elt Ideal) ((dats m 0 c).arrAt 10 cfg0.N)
      (ix2 f ⟨row.val % 256, by omega⟩) = (dats m 0 c).arrAt 10 cfg0.N (ix2 f row) := by
    generalize (dats m 0 c).arrAt 10 cfg0.N = A
    blk_ext! [index10 t]
  rw [← he, hb, hrow]

end Cert.QPrep

end
-- ==== Proof.QPrep.Reference.lean ====
/-
  The reference's queries, read at an index: the norms, the tables of angles, the two embeddings, and the two results.
-/
module

public import proofs.«01_k».proof.Proof.QPrep.Array
public import proofs.«01_k».proof.Proof.Rope.Host
public import proofs.«01_k».proof.Proof.Gen.Reference14Ideal.Read

@[expose] public section

set_option maxRecDepth 16384

noncomputable section

namespace Cert.QPrep

open Cert.Reference14Ideal Cert.Reference14Ideal.Read Cert.Rope
open Idealize.ShloMosaic Idealize.ShloMosaic.TcCoe Idealize.SL.Sem

variable (p : Vec Ideal Cert.Kernel14Ideal.S8192x14848 .bf16) (gq : Vec Ideal Cert.Kernel14Ideal.S2x128 .f32)
  (gl : Vec Ideal Cert.Kernel14Ideal.S2x512 .f32) (w : Vec Ideal Cert.Kernel14Ideal.S2x512x1536 .f32)

/-! ## The norms -/

/-- A head's columns. -/
theorem head_apply (row : Fin 8192) (b : Fin 8) (j : Fin 128) :
    val_main_v4 (F := Ideal) p (ix3 row b j) = p (ix2 row ⟨128 * b.val + j.val, by omega⟩) := by
  rw [val_main_v4_apply, val_main_v1_apply, val_main_v0_apply]
  refine congrArg p (funext fun a => Fin.ext ?_)
  match a with
  | ⟨0, _⟩ => show ((row.val * 8 + b.val) * 128 + j.val) / 1024 = row.val; omega
  | ⟨1, _⟩ => show ((row.val * 8 + b.val) * 128 + j.val) % 1024 = 128 * b.val + j.val; omega

/-- The scale of a head. -/
theorem head_scale_apply (row : Fin 8192) (b : Fin 8) (j : Fin 128) : val_main_v15 (F := Ideal) p (ix3 row b j)
    = rowScale 0x43000000#32 fun k : Fin 128 => p (ix2 row ⟨128 * b.val + k.val, by omega⟩) := by
  rw [val_main_v15_apply, val_main_v14_apply, val_main_v13_apply, val_main_v11_apply, val_main_v9_apply,
    val_main_v10_apply, val_main_v12_apply]
  have hs : val_main_v8 (F := Ideal) p (idx_main_v9 (idx_main_v15 (ix3 row b j)))
      = ∑ k : Fin 128, p (ix2 row ⟨128 * b.val + k.val, by omega⟩) * p (ix2 row ⟨128 * b.val + k.val, by omega⟩) := by
    refine (val_main_v8_apply p _).trans ?_
    rw [val_main_cst_apply, show FloatOps.ofBits (F := Ideal) .f32 0x00000000#32 = (0 : EReal)
      from Ideal.ofBits_zero_f32, zero_add]
    refine Finset.sum_congr rfl fun k _ => ?_
    rw [show idx_main_v8 (idx_main_v9 (idx_main_v15 (ix3 row b j))) k = ix3 row b k from funext fun a => by
      match a with
      | ⟨0, _⟩ => rfl
      | ⟨1, _⟩ => rfl
      | ⟨2, _⟩ => rfl, val_main_v7_apply, head_apply]
    rfl
  rw [hs]
  rfl

/-- The heads' gain. -/
theorem reference_head_gain (row : Fin 8192) (b : Fin 8) (j : Fin 128) :
    val_main_v18 (F := Ideal) gq (ix3 row b j) = gq (ix2 0 j) := by
  rw [val_main_v18_apply, val_main_v17_apply, val_main_v6_apply, val_main_v5_apply]
  refine congrArg gq (funext fun a => Fin.ext ?_)
  match a with
  | ⟨0, _⟩ => rfl
  | ⟨1, _⟩ => show j.val % 128 = j.val; omega

/-- A head after its norm. -/
theorem normed_head_apply (row : Fin 8192) (b : Fin 8) (j : Fin 128) : val_main_v19 (F := Ideal) p gq (ix3 row b j)
    = headed 0x43000000#32 (fun k : Fin 128 => p (ix2 row ⟨128 * b.val + k.val, by omega⟩)) (gq (ix2 0 j)) j := by
  rw [val_main_v19_apply, val_main_v16_apply, head_apply, head_scale_apply, reference_head_gain]
  rfl

/-- The latent's columns. -/
theorem latent_columns_apply (row : Fin 8192) (j : Fin 512) :
    val_main_v3 (F := Ideal) p (ix2 row j) = p (ix2 row ⟨1024 + j.val, by omega⟩) := by
  rw [val_main_v3_apply, val_main_v2_apply]
  refine congrArg p (funext fun a => ?_)
  match a with
  | ⟨0, _⟩ => rfl
  | ⟨1, _⟩ => rfl

/-- The scale of a latent. -/
theorem latent_scale_apply (row : Fin 8192) (j : Fin 512) : val_main_v30 (F := Ideal) p (ix2 row j)
    = rowScale 0x44000000#32 fun k : Fin 512 => p (ix2 row ⟨1024 + k.val, by omega⟩) := by
  rw [val_main_v30_apply, val_main_v29_apply, val_main_v28_apply, val_main_v26_apply, val_main_v24_apply,
    val_main_v25_apply, val_main_v27_apply]
  have hs : val_main_v23 (F := Ideal) p (idx_main_v24 (idx_main_v30 (ix2 row j)))
      = ∑ k : Fin 512, p (ix2 row ⟨1024 + k.val, by omega⟩) * p (ix2 row ⟨1024 + k.val, by omega⟩) := by
    refine (val_main_v23_apply p _).trans ?_
    rw [val_main_cst_2_apply, show FloatOps.ofBits (F := Ideal) .f32 0x00000000#32 = (0 : EReal)
      from Ideal.ofBits_zero_f32, zero_add]
    refine Finset.sum_congr rfl fun k _ => ?_
    rw [show idx_main_v23 (idx_main_v24 (idx_main_v30 (ix2 row j))) k = ix2 row k from funext fun a => by
      match a with
      | ⟨0, _⟩ => rfl
      | ⟨1, _⟩ => rfl, val_main_v22_apply, latent_columns_apply]
    rfl
  rw [hs]
  rfl

/-- The latent's gain. -/
theorem reference_latent_gain (row : Fin 8192) (j : Fin 512) :
    val_main_v33 (F := Ideal) gl (ix2 row j) = gl (ix2 0 j) := by
  rw [val_main_v33_apply, val_main_v32_apply, val_main_v21_apply, val_main_v20_apply]
  refine congrArg gl (funext fun a => Fin.ext ?_)
  match a with
  | ⟨0, _⟩ => rfl
  | ⟨1, _⟩ => show j.val % 512 = j.val; omega

/-- The normed latent by the weights. -/
theorem product_apply (row : Fin 8192) (j : Fin 1536) :
    val_main_v37 (F := Ideal) p gl w (ix2 row j) = spreadLatent p gl w row j := by
  refine (val_main_v37_apply p gl w _).trans (Finset.sum_congr rfl fun k _ => congrArg₂ (· * ·) ?_ ?_)
  · rw [show lidx_main_v37 (ix2 row j) k = ix2 row k from funext fun a => by
      match a with
      | ⟨0, _⟩ => rfl
      | ⟨1, _⟩ => rfl, val_main_v34_apply, val_main_v31_apply, latent_columns_apply, latent_scale_apply,
      reference_latent_gain]
    rfl
  · rw [val_main_v36_apply, val_main_v35_apply]
    refine congrArg w (funext fun a => Fin.ext ?_)
    match a with
    | ⟨0, _⟩ => rfl
    | ⟨1, _⟩ => show (k.val * 1536 + j.val) / 1536 % 512 = k.val; omega
    | ⟨2, _⟩ => show (k.val * 1536 + j.val) % 1536 = j.val; omega

/-- A latent head's columns. -/
theorem product_head_apply (row : Fin 8192) (b : Fin 8) (j : Fin 192) : val_main_v38 (F := Ideal) p gl w (ix3 row b j)
    = spreadLatent p gl w row ⟨192 * b.val + j.val, by omega⟩ := by
  rw [val_main_v38_apply, show idx_main_v38 (ix3 row b j) = ix2 row ⟨192 * b.val + j.val, by omega⟩ from
    funext fun a => Fin.ext (by
      match a with
      | ⟨0, _⟩ => show ((row.val * 8 + b.val) * 192 + j.val) / 1536 = row.val; omega
      | ⟨1, _⟩ => show ((row.val * 8 + b.val) * 192 + j.val) % 1536 = 192 * b.val + j.val; omega)]
  exact product_apply p gl w row _

/-! ## The angles -/

theorem row_angle_apply (row : Fin 8192) (k : Fin 32) :
    val_main_v64 (F := Ideal) (ix2 row k) = angle 0x42800000#32 (row / 64) k :=
  (outer_apply _ _ _ _ _ _ row k).trans
    (congrArg₂ (FloatOps.mulf (F := Ideal) (φ := .f32)) (image_row_apply _ _ row) rfl)

theorem column_angle_apply (row : Fin 8192) (k : Fin 32) :
    val_main_v69 (F := Ideal) (ix2 row k) = angle 0x42800000#32 (row % 64) k :=
  (outer_apply _ _ _ _ _ _ row k).trans
    (congrArg₂ (FloatOps.mulf (F := Ideal) (φ := .f32)) (image_column_apply _ _ _ row) rfl)

theorem narrow_row_angle_apply (row : Fin 8192) (k : Fin 16) :
    val_main_v130 (F := Ideal) (ix2 row k) = angle 0x42000000#32 (row / 64) k :=
  (outer_apply _ _ _ _ _ _ row k).trans
    (congrArg₂ (FloatOps.mulf (F := Ideal) (φ := .f32)) (image_row_apply _ _ row) rfl)

theorem narrow_column_angle_apply (row : Fin 8192) (k : Fin 16) :
    val_main_v135 (F := Ideal) (ix2 row k) = angle 0x42000000#32 (row % 64) k :=
  (outer_apply _ _ _ _ _ _ row k).trans
    (congrArg₂ (FloatOps.mulf (F := Ideal) (φ := .f32)) (image_column_apply _ _ _ row) rfl)

/-! ## The embeddings -/

/-- A head after the embedding. -/
theorem turned_head_apply (row : Fin 8192) (b : Fin 8) (j : Fin 128) : val_main_v106 (F := Ideal) p gq (ix3 row b j)
    = turned 32 0x42800000#32 row (fun l => headed 0x43000000#32 (fun k : Fin 128 =>
      p (ix2 row ⟨128 * b.val + k.val, by omega⟩)) (gq (ix2 0 l)) l) j :=
  rope_apply (H := 8) (L := 128) (M := 64) (n := 32) (val_main_v19 (F := Ideal) p gq) (val_main_v78 (F := Ideal))
    (val_main_v80 (F := Ideal)) (val_main_v95 (F := Ideal)) (val_main_v97 (F := Ideal)) 0x42800000#32 _ _ _ _ _ _
    rfl rfl (by decide) (by decide) row b _ (fun l => normed_head_apply p gq row b l)
    (fun k => (heads_apply _ _ _ row b k).trans (congrArg (FloatOps.hostUnary (F := Ideal) .cos) (row_angle_apply row k)))
    (fun k => (heads_apply _ _ _ row b k).trans (congrArg (FloatOps.hostUnary (F := Ideal) .sin) (row_angle_apply row k)))
    (fun k => (heads_apply _ _ _ row b k).trans (congrArg (FloatOps.hostUnary (F := Ideal) .cos) (column_angle_apply row k)))
    (fun k => (heads_apply _ _ _ row b k).trans (congrArg (FloatOps.hostUnary (F := Ideal) .sin) (column_angle_apply row k)))
    j

/-- The columns of a latent head that are turned. -/
theorem rotary_columns_apply (row : Fin 8192) (b : Fin 8) (l : Fin 64) :
    val_main_v40 (F := Ideal) p gl w (ix3 row b l) = lanes p gl w row b ⟨l, by omega⟩ := by
  unfold lanes
  rw [dif_pos (show l.val < 64 from l.isLt), val_main_v40_apply]
  refine (congrArg (val_main_v38 (F := Ideal) p gl w) (funext fun a => ?_)).trans
    ((product_head_apply p gl w row b ⟨128 + l.val, by omega⟩).trans (congrArg (spreadLatent p gl w row) (Fin.ext ?_)))
  · match a with
    | ⟨0, _⟩ => rfl
    | ⟨1, _⟩ => rfl
    | ⟨2, _⟩ => rfl
  · show 192 * b.val + (128 + l.val) = 192 * b.val + 128 + l.val
    omega

/-- Those columns after the embedding. -/
theorem turned_rotary_apply (row : Fin 8192) (b : Fin 8) (l : Fin 64) : val_main_v172 (F := Ideal) p gl w (ix3 row b l)
    = turned 16 0x42000000#32 row (lanes p gl w row b) ⟨l, by omega⟩ :=
  rope_apply (H := 8) (L := 64) (M := 32) (n := 16) (val_main_v40 (F := Ideal) p gl w) (val_main_v144 (F := Ideal))
    (val_main_v146 (F := Ideal)) (val_main_v161 (F := Ideal)) (val_main_v163 (F := Ideal)) 0x42000000#32 _ _ _ _ _ _
    rfl rfl (by decide) (by decide) row b _ (fun l => rotary_columns_apply p gl w row b l)
    (fun k => (heads_apply _ _ _ row b k).trans (congrArg (FloatOps.hostUnary (F := Ideal) .cos) (narrow_row_angle_apply row k)))
    (fun k => (heads_apply _ _ _ row b k).trans (congrArg (FloatOps.hostUnary (F := Ideal) .sin) (narrow_row_angle_apply row k)))
    (fun k => (heads_apply _ _ _ row b k).trans (congrArg (FloatOps.hostUnary (F := Ideal) .cos) (narrow_column_angle_apply row k)))
    (fun k => (heads_apply _ _ _ row b k).trans (congrArg (FloatOps.hostUnary (F := Ideal) .sin) (narrow_column_angle_apply row k)))
    l

/-! ## The results -/

theorem reference_queries_apply (f : Fin 1024) (row : Fin 8192) :
    val_main_v179 (F := Ideal) p gq (ix2 f row) = queries p gq f row := by
  show val_main_v178 (F := Ideal) p gq (ix2 f row) = _
  rw [val_main_v178_apply, val_main_v177_apply, show idx_main_v177 (idx_main_v178 (ix2 f row))
    = ix3 row ⟨f.val / 128, by omega⟩ ⟨f.val % 128, by omega⟩ from funext fun a => Fin.ext (by
      match a with
      | ⟨0, _⟩ => show (row.val * 1024 + f.val) / 1024 = row.val; omega
      | ⟨1, _⟩ => show (row.val * 1024 + f.val) / 128 % 8 = f.val / 128; omega
      | ⟨2, _⟩ => show (row.val * 1024 + f.val) % 128 = f.val % 128; omega), val_main_v176_apply,
    turned_head_apply p gq row ⟨f.val / 128, by omega⟩ ⟨f.val % 128, by omega⟩]
  rfl

/-- A latent head's 192 columns, the last 64 of them turned. -/
theorem joined_apply (row : Fin 8192) (b : Fin 8) (l : Fin 192) : val_main_v173 (F := Ideal) p gl w (ix3 row b l)
    = if hl : l.val < 128 then spreadLatent p gl w row ⟨192 * b.val + l.val, by omega⟩
      else turned 16 0x42000000#32 row (lanes p gl w row b) ⟨l.val - 128, by omega⟩ := by
  unfold val_main_v173
  by_cases hl : l.val < 128
  · rw [dif_pos hl]
    refine (concatenate_pair_apply_left 2 (val_main_v39 (F := Ideal) p gl w) (val_main_v172 (F := Ideal) p gl w) _
      (ix3 row b l) rfl (ix3 (n2 := 128) row b ⟨l, hl⟩) fun d => ?_).trans ?_
    · match d with
      | ⟨0, _⟩ => rfl
      | ⟨1, _⟩ => rfl
      | ⟨2, _⟩ => rfl
    · rw [val_main_v39_apply]
      refine (congrArg (val_main_v38 (F := Ideal) p gl w) (funext fun a => ?_)).trans (product_head_apply p gl w row b l)
      match a with
      | ⟨0, _⟩ => rfl
      | ⟨1, _⟩ => rfl
      | ⟨2, _⟩ => rfl
  · rw [dif_neg hl]
    refine (concatenate_pair_apply_right 2 (val_main_v39 (F := Ideal) p gl w) (val_main_v172 (F := Ideal) p gl w) _
      (ix3 row b l) rfl rfl (ix3 (n2 := 64) row b ⟨l.val - 128, by omega⟩)
      (fun d hd => ?_) (by show l.val - 128 + 128 = l.val; omega)).trans (turned_rotary_apply p gl w row b _)
    match d with
    | ⟨0, _⟩ => rfl
    | ⟨1, _⟩ => rfl
    | ⟨2, _⟩ => exact absurd rfl hd

/-- A latent head's columns, with its zeros. -/
theorem padded_head_apply (row : Fin 8192) (b : Fin 8) (l : Fin 256) : val_main_v174 (F := Ideal) p gl w (ix3 row b l)
    = if hl : l.val < 192 then val_main_v173 (F := Ideal) p gl w (ix3 row b ⟨l, hl⟩) else 0 := by
  unfold val_main_v174
  by_cases hl : l.val < 192
  · rw [dif_pos hl]
    refine pad_apply_of_inside _ _ _ _ _ _ _ _ (ix3 row b ⟨l, hl⟩) fun a => ?_
    match a with
    | ⟨0, _⟩ => show row.val = 0 + row.val * (0 + 1); omega
    | ⟨1, _⟩ => show b.val = 0 + b.val * (0 + 1); omega
    | ⟨2, _⟩ => show l.val = 0 + l.val * (0 + 1); omega
  · rw [dif_neg hl]
    refine (pad_apply_of_not_inside _ _ _ _ _ _ _ _ 2 fun h => hl ?_).trans (Cert.KvPrep.zero_apply _)
    have h2 : (l.val - 0) / (0 + 1) < 192 := h.2.2
    omega

theorem reference_latent_queries_apply (f : Fin 2048) (row : Fin 8192) :
    val_main_v184 (F := Ideal) p gl w (ix2 f row) = latentQueries p gl w f row := by
  show val_main_v183 (F := Ideal) p gl w (ix2 f row) = _
  rw [val_main_v183_apply, val_main_v182_apply, show idx_main_v182 (idx_main_v183 (ix2 f row))
    = ix3 row ⟨f.val / 256, by omega⟩ ⟨f.val % 256, by omega⟩ from funext fun a => Fin.ext (by
      match a with
      | ⟨0, _⟩ => show (row.val * 2048 + f.val) / 2048 = row.val; omega
      | ⟨1, _⟩ => show (row.val * 2048 + f.val) / 256 % 8 = f.val / 256; omega
      | ⟨2, _⟩ => show (row.val * 2048 + f.val) % 256 = f.val % 256; omega), val_main_v181_apply, padded_head_apply]
  unfold latentQueries
  refine congrArg (· * latentScale) ?_
  by_cases hf : f.val % 256 < 128
  · rw [if_pos hf, dif_pos (by show f.val % 256 < 192; omega), joined_apply, dif_pos hf]
    congr 1
    exact Fin.ext (by show 192 * (f.val / 256) + f.val % 256 = 192 * (f.val / 256) + f.val % 128; omega)
  · rw [if_neg hf]
    by_cases hg : f.val % 128 < 64
    · rw [if_pos hg, dif_pos (by show f.val % 256 < 192; omega), joined_apply, dif_neg hf]
      congr 1
      exact Fin.ext (by show f.val % 256 - 128 = f.val % 128; omega)
    · rw [if_neg hg, dif_neg (by show ¬ f.val % 256 < 192; omega)]

end Cert.QPrep

end
-- ==== Proof.QPrep.Claim.lean ====
/-
  The value claim of the preparation of the queries: both of the kernel's arrays and the reference's results are the same
  functions of the arguments.
-/
module

public import proofs.«01_k».proof.Proof.QPrep.Reference
public import proofs.«01_k».proof.Defs

@[expose] public section

set_option maxRecDepth 16384

noncomputable section

namespace Cert.QPrep

open Idealize.ShloMosaic Idealize.ShloMosaic.TcCoe Idealize.SL.Sem

/-! ## The kernel's arrays -/

section Arrays

open Cert.Kernel14Ideal Cert.Kernel14Ideal.Gen Cert.Kernel14Ideal.Value

variable (m : (ℓ : Loc nD τ sig) → Buf (Elt Ideal) ℓ) (c : Dev nD)

theorem queries_array : (dats m 0 c).arrAt 9 cfg0.N = fun i => queries
    (m ((c : Thread nD τ).loc main_arg0)) (m ((c : Thread nD τ).loc main_arg1)) (i 0) (i 1) := by
  funext i
  rw [show i = ix2 (i 0) (i 1) from (ix2_eta i).symm]
  exact queries_array_apply m c (i 0) (i 1)

theorem latent_queries_array : (dats m 0 c).arrAt 10 cfg0.N = fun i => latentQueries
    (m ((c : Thread nD τ).loc main_arg0)) (m ((c : Thread nD τ).loc main_arg2)) (m ((c : Thread nD τ).loc main_arg3))
    (i 0) (i 1) := by
  funext i
  rw [show i = ix2 (i 0) (i 1) from (ix2_eta i).symm]
  exact latent_queries_array_apply m c (i 0) (i 1)

end Arrays

theorem algebraic : Cert.algebraic_Kernel14Ideal_Reference14Ideal := by
  intro m g m' g' _ hargs
  refine ⟨fun c i => queries (m ((c.tc : Thread _ _).loc Cert.Kernel14Ideal.main_arg0))
      (m ((c.tc : Thread _ _).loc Cert.Kernel14Ideal.main_arg1)) (i 0) (i 1),
    fun c i => latentQueries (m ((c.tc : Thread _ _).loc Cert.Kernel14Ideal.main_arg0))
      (m ((c.tc : Thread _ _).loc Cert.Kernel14Ideal.main_arg2))
      (m ((c.tc : Thread _ _).loc Cert.Kernel14Ideal.main_arg3)) (i 0) (i 1),
    (θ_run _ _ _).mono (fun r h c => ⟨(h c).1.trans ?_, (h c).2.1.trans ?_, (h c).2.2⟩)
      (Cert.Kernel14Ideal.Value.run_blocks m g),
    (θ_run _ _ _).mono (fun r h c => ⟨(h c).1.trans ?_, (h c).2.1.trans ?_, (h c).2.2⟩)
      (Cert.Reference14Ideal.Value.run m' g')⟩
  · exact queries_array m c
  · exact latent_queries_array m c
  · obtain ⟨e0, e1, e2, e3⟩ := hargs c
    funext i
    refine (congrFun (Cert.Reference14Ideal.Read.val_main_v179_eq (StableHlo.launchContents m' c)) i).trans ?_
    rw [show StableHlo.launchContents m' c (Proc.devRef .tc Cert.Reference14Ideal.main_arg0)
        = m ((c.tc : Thread _ _).loc Cert.Kernel14Ideal.main_arg0) from e0,
      show StableHlo.launchContents m' c (Proc.devRef .tc Cert.Reference14Ideal.main_arg1)
        = m ((c.tc : Thread _ _).loc Cert.Kernel14Ideal.main_arg1) from e1]
    exact (congrArg _ (ix2_eta i).symm).trans (reference_queries_apply _ _ (i 0) (i 1))
  · obtain ⟨e0, e1, e2, e3⟩ := hargs c
    funext i
    refine (congrFun (Cert.Reference14Ideal.Read.val_main_v184_eq (StableHlo.launchContents m' c)) i).trans ?_
    rw [show StableHlo.launchContents m' c (Proc.devRef .tc Cert.Reference14Ideal.main_arg0)
        = m ((c.tc : Thread _ _).loc Cert.Kernel14Ideal.main_arg0) from e0,
      show StableHlo.launchContents m' c (Proc.devRef .tc Cert.Reference14Ideal.main_arg2)
        = m ((c.tc : Thread _ _).loc Cert.Kernel14Ideal.main_arg2) from e2,
      show StableHlo.launchContents m' c (Proc.devRef .tc Cert.Reference14Ideal.main_arg3)
        = m ((c.tc : Thread _ _).loc Cert.Kernel14Ideal.main_arg3) from e3]
    exact (congrArg _ (ix2_eta i).symm).trans (reference_latent_queries_apply _ _ _ (i 0) (i 1))

end Cert.QPrep

end
-- ==== Proof.lean ====
/-
  The certificate: twelve calls of the layer, each with its frames and its value claim. The value claims are proved under
  Proof/, one directory for each call; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Pre_finite2
public import proofs.«01_k».proof.Proof.Gqa.Claim
public import proofs.«01_k».proof.Proof.Mla.Claim
public import proofs.«01_k».proof.Proof.InProj.Claim
public import proofs.«01_k».proof.Proof.FfnUp.Claim
public import proofs.«01_k».proof.Proof.FfnDown.Claim
public import proofs.«01_k».proof.Proof.OutProj.Claim
public import proofs.«01_k».proof.Proof.Merge.Claim
public import proofs.«01_k».proof.Proof.FinalNorm.Claim
public import Idealize.ShloMosaic.Adequacy
public import Idealize.ShloMosaic.Init
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.InProjKv.Claim
public import proofs.«01_k».proof.Proof.MixNorm.Claim
public import proofs.«01_k».proof.Proof.KvPrep.Claim
public import proofs.«01_k».proof.Proof.QPrep.Claim

@[expose] public section

noncomputable section

namespace Cert.Proof

open Idealize.ShloMosaic Idealize.SL.Sem Cert.Kernel

/-! A reference declares no semaphore, so its run is its frame. -/

theorem reference_frame : quiescent_ReferenceIdeal (hReferenceIdeal := Cert.ReferenceIdeal.Gen.facts) := fun m ρ _ =>
  (θ_run _ _ _).mono (fun _ h => ⟨fun c => (h c).2, sem_eq_zero_of_no_sems rfl _⟩)
    (Cert.ReferenceIdeal.Value.run m ρ)

theorem reference2_frame : quiescent_Reference2Ideal (hReference2Ideal := Cert.Reference2Ideal.Gen.facts) := fun m ρ _ =>
  (θ_run _ _ _).mono (fun _ h => ⟨fun c => (h c).2, sem_eq_zero_of_no_sems rfl _⟩)
    (Cert.Reference2Ideal.Value.run m ρ)

theorem reference3_frame : quiescent_Reference3Ideal (hReference3Ideal := Cert.Reference3Ideal.Gen.facts) := fun m ρ _ =>
  (θ_run _ _ _).mono (fun _ h => ⟨fun c => (h c).2, sem_eq_zero_of_no_sems rfl _⟩)
    (Cert.Reference3Ideal.Value.run m ρ)

theorem reference4_frame : quiescent_Reference4Ideal (hReference4Ideal := Cert.Reference4Ideal.Gen.facts) := fun m ρ _ =>
  (θ_run _ _ _).mono (fun _ h => ⟨fun c => (h c).2, sem_eq_zero_of_no_sems rfl _⟩)
    (Cert.Reference4Ideal.Value.run m ρ)

theorem reference5_frame : quiescent_Reference5Ideal (hReference5Ideal := Cert.Reference5Ideal.Gen.facts) := fun m ρ _ =>
  (θ_run _ _ _).mono (fun _ h => ⟨fun c => (h c).2, sem_eq_zero_of_no_sems rfl _⟩)
    (Cert.Reference5Ideal.Value.run m ρ)

theorem reference6_frame : quiescent_Reference6Ideal (hReference6Ideal := Cert.Reference6Ideal.Gen.facts) := fun m ρ _ =>
  (θ_run _ _ _).mono (fun _ h => ⟨fun c => (h c).2.2, sem_eq_zero_of_no_sems rfl _⟩)
    (Cert.Reference6Ideal.Value.run m ρ)

theorem reference7_frame : quiescent_Reference7Ideal (hReference7Ideal := Cert.Reference7Ideal.Gen.facts) := fun m ρ _ =>
  (θ_run _ _ _).mono (fun _ h => ⟨fun c => (h c).2, sem_eq_zero_of_no_sems rfl _⟩)
    (Cert.Reference7Ideal.Value.run m ρ)

theorem reference8_frame : quiescent_Reference8Ideal (hReference8Ideal := Cert.Reference8Ideal.Gen.facts) := fun m ρ _ =>
  (θ_run _ _ _).mono (fun _ h => ⟨fun c => (h c).2, sem_eq_zero_of_no_sems rfl _⟩)
    (Cert.Reference8Ideal.Value.run m ρ)

theorem reference9_frame : quiescent_Reference9Ideal (hReference9Ideal := Cert.Reference9Ideal.Gen.facts) :=
  fun m ρ _ => (θ_run _ _ _).mono (fun _ h => ⟨fun c => (h c).2, sem_eq_zero_of_no_sems rfl _⟩)
    (Cert.Reference9Ideal.Value.run m ρ)

theorem reference10_frame : quiescent_Reference10Ideal (hReference10Ideal := Cert.Reference10Ideal.Gen.facts) :=
  fun m ρ _ => (θ_run _ _ _).mono (fun _ h => ⟨fun c => (h c).2, sem_eq_zero_of_no_sems rfl _⟩)
    (Cert.Reference10Ideal.Value.run m ρ)

theorem reference13_frame : quiescent_Reference13Ideal (hReference13Ideal := Cert.Reference13Ideal.Gen.facts) :=
  fun m ρ _ => (θ_run _ _ _).mono (fun _ h => ⟨fun c => (h c).2.2.2.2, sem_eq_zero_of_no_sems rfl _⟩)
    (Cert.Reference13Ideal.Value.run m ρ)

theorem reference14_frame : quiescent_Reference14Ideal (hReference14Ideal := Cert.Reference14Ideal.Gen.facts) :=
  fun m ρ _ => (θ_run _ _ _).mono (fun _ h => ⟨fun c => (h c).2.2, sem_eq_zero_of_no_sems rfl _⟩)
    (Cert.Reference14Ideal.Value.run m ρ)

/-- The facts that the programs state, their frames, and the values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_finite2.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ trivial,
    fun m ρ _ => Cert.Kernel3.Gen.frame m ρ, fun m ρ _ => Cert.Kernel3Ideal.Gen.frame m ρ,
    reference3_frame,
    fun m ρ _ => Cert.Kernel4.Gen.frame m ρ, fun m ρ _ => Cert.Kernel4Ideal.Gen.frame m ρ,
    reference4_frame,
    fun m ρ _ => Cert.Kernel5.Gen.frame m ρ, fun m ρ _ => Cert.Kernel5Ideal.Gen.frame m ρ,
    reference5_frame,
    fun m ρ _ => Cert.Kernel6.Gen.frame m ρ, fun m ρ _ => Cert.Kernel6Ideal.Gen.frame m ρ,
    reference6_frame,
    fun m ρ _ => Cert.Kernel7.Gen.frame m ρ, fun m ρ _ => Cert.Kernel7Ideal.Gen.frame m ρ,
    reference7_frame,
    fun m ρ _ => Cert.Kernel8.Gen.frame m ρ, fun m ρ _ => Cert.Kernel8Ideal.Gen.frame m ρ,
    reference8_frame,
    fun m ρ _ => Cert.Kernel9.Gen.frame m ρ, fun m ρ _ => Cert.Kernel9Ideal.Gen.frame m ρ,
    reference9_frame,
    fun m ρ _ => Cert.Kernel10.Gen.frame m ρ, fun m ρ _ => Cert.Kernel10Ideal.Gen.frame m ρ,
    reference10_frame,
    fun m ρ _ => Cert.Kernel13.Gen.frame m ρ, fun m ρ _ => Cert.Kernel13Ideal.Gen.frame m ρ,
    reference13_frame,
    fun m ρ _ => Cert.Kernel14.Gen.frame m ρ, fun m ρ _ => Cert.Kernel14Ideal.Gen.frame m ρ,
    reference14_frame,
    trivial, Cert.Gqa.algebraic, trivial, Cert.Mla.algebraic,
    trivial, Cert.InProj.algebraic, trivial, Cert.FfnUp.algebraic,
    trivial, Cert.FfnDown.algebraic, trivial, Cert.OutProj.algebraic,
    trivial, Cert.Merge.algebraic, trivial, Cert.FinalNorm.algebraic,
    trivial, Cert.InProjKv.algebraic,
    trivial, Cert.MixNorm.algebraic,
    trivial, Cert.KvPrep.algebraic,
    trivial, Cert.QPrep.algebraic⟩

end Cert.Proof

end
